-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "log2e" .f32 0x3FB8AA3B#32 (((Real.log 2)⁻¹ : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v24)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v55)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v55) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v97) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v86_0)) (v1 : (c : Dev Cert.Kernel6Ideal.nD) → Buf (Elt Ideal) ((c.tc : Thread Cert.Kernel6Ideal.nD Cert.Kernel6Ideal.τ).loc Cert.Kernel6Ideal.main_v86_1)) (v2 : (c : Dev Cert.Kernel6Ideal.nD) → Buf (Elt Ideal) ((c.tc : Thread Cert.Kernel6Ideal.nD Cert.Kernel6Ideal.τ).loc Cert.Kernel6Ideal.main_v86_2)) (v3 : (c : Dev Cert.Kernel6Ideal.nD) → Buf (Elt Ideal) ((c.tc : Thread Cert.Kernel6Ideal.nD Cert.Kernel6Ideal.τ).loc Cert.Kernel6Ideal.main_v86_3)) (v4 : (c : Dev Cert.Kernel6Ideal.nD) → Buf (Elt Ideal) ((c.tc : Thread Cert.Kernel6Ideal.nD Cert.Kernel6Ideal.τ).loc Cert.Kernel6Ideal.main_v86_4)) (v5 : (c : Dev Cert.Kernel6Ideal.nD) → Buf (Elt Ideal) ((c.tc : Thread Cert.Kernel6Ideal.nD Cert.Kernel6Ideal.τ).loc Cert.Kernel6Ideal.main_v86_5)) (v6 : (c : Dev Cert.Kernel6Ideal.nD) → Buf (Elt Ideal) ((c.tc : Thread Cert.Kernel6Ideal.nD Cert.Kernel6Ideal.τ).loc Cert.Kernel6Ideal.main_v86_6)) (v7 : (c : Dev Cert.Kernel6Ideal.nD) → Buf (Elt Ideal) ((c.tc : Thread Cert.Kernel6Ideal.nD Cert.Kernel6Ideal.τ).loc Cert.Kernel6Ideal.main_v86_7)) (v8 : (c : Dev Cert.Kernel6Ideal.nD) → Buf (Elt Ideal) ((c.tc : Thread Cert.Kernel6Ideal.nD Cert.Kernel6Ideal.τ).loc Cert.Kernel6Ideal.main_v86_8)) (v9 : (c : Dev Cert.Kernel6Ideal.nD) → Buf (Elt Ideal) ((c.tc : Thread Cert.Kernel6Ideal.nD Cert.Kernel6Ideal.τ).loc Cert.Kernel6Ideal.main_v86_9)) (v10 : (c : Dev Cert.Kernel6Ideal.nD) → Buf (Elt Ideal) ((c.tc : Thread Cert.Kernel6Ideal.nD Cert.Kernel6Ideal.τ).loc Cert.Kernel6Ideal.main_v86_10)) (v11 : (c : Dev Cert.Kernel6Ideal.nD) → Buf (Elt Ideal) ((c.tc : Thread Cert.Kernel6Ideal.nD Cert.Kernel6Ideal.τ).loc Cert.Kernel6Ideal.main_v86_11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v86_0) = v0 c
          ∧ r.2.mem ((c.tc : Thread Cert.Kernel6Ideal.nD Cert.Kernel6Ideal.τ).loc Cert.Kernel6Ideal.main_v86_1) = v1 c
          ∧ r.2.mem ((c.tc : Thread Cert.Kernel6Ideal.nD Cert.Kernel6Ideal.τ).loc Cert.Kernel6Ideal.main_v86_2) = v2 c
          ∧ r.2.mem ((c.tc : Thread Cert.Kernel6Ideal.nD Cert.Kernel6Ideal.τ).loc Cert.Kernel6Ideal.main_v86_3) = v3 c
          ∧ r.2.mem ((c.tc : Thread Cert.Kernel6Ideal.nD Cert.Kernel6Ideal.τ).loc Cert.Kernel6Ideal.main_v86_4) = v4 c
          ∧ r.2.mem ((c.tc : Thread Cert.Kernel6Ideal.nD Cert.Kernel6Ideal.τ).loc Cert.Kernel6Ideal.main_v86_5) = v5 c
          ∧ r.2.mem ((c.tc : Thread Cert.Kernel6Ideal.nD Cert.Kernel6Ideal.τ).loc Cert.Kernel6Ideal.main_v86_6) = v6 c
          ∧ r.2.mem ((c.tc : Thread Cert.Kernel6Ideal.nD Cert.Kernel6Ideal.τ).loc Cert.Kernel6Ideal.main_v86_7) = v7 c
          ∧ r.2.mem ((c.tc : Thread Cert.Kernel6Ideal.nD Cert.Kernel6Ideal.τ).loc Cert.Kernel6Ideal.main_v86_8) = v8 c
          ∧ r.2.mem ((c.tc : Thread Cert.Kernel6Ideal.nD Cert.Kernel6Ideal.τ).loc Cert.Kernel6Ideal.main_v86_9) = v9 c
          ∧ r.2.mem ((c.tc : Thread Cert.Kernel6Ideal.nD Cert.Kernel6Ideal.τ).loc Cert.Kernel6Ideal.main_v86_10) = v10 c
          ∧ r.2.mem ((c.tc : Thread Cert.Kernel6Ideal.nD Cert.Kernel6Ideal.τ).loc Cert.Kernel6Ideal.main_v86_11) = v11 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v193) = v0 c
          ∧ r.2.mem ((c.tc : Thread Cert.Reference6Ideal.nD Cert.Reference6Ideal.τ).loc Cert.Reference6Ideal.main_v197) = v1 c
          ∧ r.2.mem ((c.tc : Thread Cert.Reference6Ideal.nD Cert.Reference6Ideal.τ).loc Cert.Reference6Ideal.main_v201) = v2 c
          ∧ r.2.mem ((c.tc : Thread Cert.Reference6Ideal.nD Cert.Reference6Ideal.τ).loc Cert.Reference6Ideal.main_v205) = v3 c
          ∧ r.2.mem ((c.tc : Thread Cert.Reference6Ideal.nD Cert.Reference6Ideal.τ).loc Cert.Reference6Ideal.main_v206) = v4 c
          ∧ r.2.mem ((c.tc : Thread Cert.Reference6Ideal.nD Cert.Reference6Ideal.τ).loc Cert.Reference6Ideal.main_v207) = v5 c
          ∧ r.2.mem ((c.tc : Thread Cert.Reference6Ideal.nD Cert.Reference6Ideal.τ).loc Cert.Reference6Ideal.main_v208) = v6 c
          ∧ r.2.mem ((c.tc : Thread Cert.Reference6Ideal.nD Cert.Reference6Ideal.τ).loc Cert.Reference6Ideal.main_v210) = v7 c
          ∧ r.2.mem ((c.tc : Thread Cert.Reference6Ideal.nD Cert.Reference6Ideal.τ).loc Cert.Reference6Ideal.main_v211) = v8 c
          ∧ r.2.mem ((c.tc : Thread Cert.Reference6Ideal.nD Cert.Reference6Ideal.τ).loc Cert.Reference6Ideal.main_v212) = v9 c
          ∧ r.2.mem ((c.tc : Thread Cert.Reference6Ideal.nD Cert.Reference6Ideal.τ).loc Cert.Reference6Ideal.main_v214) = v10 c
          ∧ r.2.mem ((c.tc : Thread Cert.Reference6Ideal.nD Cert.Reference6Ideal.τ).loc Cert.Reference6Ideal.main_v216) = v11 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S4x4096x8x128 : Shape := ⟨4, ![4, 4096, 8, 128]⟩
abbrev S4x4096x8x32 : Shape := ⟨4, ![4, 4096, 8, 32]⟩
abbrev S4x4096x128 : Shape := ⟨3, ![4, 4096, 128]⟩
abbrev S4x4096x32 : Shape := ⟨3, ![4, 4096, 32]⟩
abbrev S_ : Shape := ⟨0, ![]⟩

class Facts : Prop where
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_
  h_S_ : 0 < S_.numel
  bcast_S_S4x4096x8x32 : S_.BroadcastsInDim S4x4096x8x32 (![] : Fin 0 → Fin S4x4096x8x32.rank)
  reducesTo_S4x4096x8x32_S_d0_1_2_3 : S4x4096x8x32.ReducesTo [0, 1, 2, 3] S_
  bcast_S_S4x4096x128 : S_.BroadcastsInDim S4x4096x128 (![] : Fin 0 → Fin S4x4096x128.rank)
  reducesTo_S4x4096x128_S_d0_1_2 : S4x4096x128.ReducesTo [0, 1, 2] S_
  bcast_S_S4x4096x32 : S_.BroadcastsInDim S4x4096x32 (![] : Fin 0 → Fin S4x4096x32.rank)
  reducesTo_S4x4096x32_S_d0_1_2 : S4x4096x32.ReducesTo [0, 1, 2] S_

variable [Facts]

def fn_part1 {F : FTy → Type} [FloatOps F] (main_v13 : IVec S_ 1) (main_v16 : IVec S4x4096x32 1) : IVec S_ 1 :=
  let main_c_5 : IVec S_ 1 := constantI S_ 1 1#1
  let main_v17 : IVec S_ 1 := (fun x v => Host.reduce IntOp.andi x v reducesTo_S4x4096x32_S_d0_1_2 h_S_) main_v16 main_c_5
  let main_v18 : IVec S_ 1 := andi main_v13 main_v17
  main_v18

def fn {F : FTy → Type} [FloatOps F] (main_arg0 : FVec F S4x4096x8x128 .f32) (main_arg1 : FVec F S4x4096x8x32 .f32) (main_arg2 : FVec F S4x4096x128 .f32) (main_arg3 : FVec F S4x4096x32 .f32) : IVec S_ 1 :=
  let main_v0 : FVec F S4x4096x8x128 .f32 := Host.absf main_arg0
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_c : IVec S_ 1 := constantI S_ 1 1#1
  let main_v3 : IVec S_ 1 := (fun x v => Host.reduce IntOp.andi x v reducesTo_S4x4096x8x128_S_d0_1_2_3 h_S_) main_v2 main_c
  let main_v4 : FVec F S4x4096x8x32 .f32 := Host.absf main_arg1
  let main_cst_0 : FVec F S_ .f32 := constant S_ .f32 0x7F800000#32
  let main_v5 : FVec F S4x4096x8x32 .f32 := broadcastInDim S4x4096x8x32 ![] bcast_S_S4x4096x8x32 main_cst_0
  let main_v6 : IVec S4x4096x8x32 1 := cmpf .olt main_v4 main_v5
  let main_c_1 : IVec S_ 1 := constantI S_ 1 1#1
  let main_v7 : IVec S_ 1 := (fun x v => Host.reduce IntOp.andi x v reducesTo_S4x4096x8x32_S_d0_1_2_3 h_S_) main_v6 main_c_1
  let main_v8 : IVec S_ 1 := andi main_v3 main_v7
  let main_v9 : FVec F S4x4096x128 .f32 := Host.absf main_arg2
  let main_cst_2 : FVec F S_ .f32 := constant S_ .f32 0x7F800000#32
  let main_v10 : FVec F S4x4096x128 .f32 := broadcastInDim S4x4096x128 ![] bcast_S_S4x4096x128 main_cst_2
  let main_v11 : IVec S4x4096x128 1 := cmpf .olt main_v9 main_v10
  let main_c_3 : IVec S_ 1 := constantI S_ 1 1#1
  let main_v12 : IVec S_ 1 := (fun x v => Host.reduce IntOp.andi x v reducesTo_S4x4096x128_S_d0_1_2 h_S_) main_v11 main_c_3
  let main_v13 : IVec S_ 1 := andi main_v8 main_v12
  let main_v14 : FVec F S4x4096x32 .f32 := Host.absf main_arg3
  let main_cst_4 : FVec F S_ .f32 := constant S_ .f32 0x7F800000#32
  let main_v15 : FVec F S4x4096x32 .f32 := broadcastInDim S4x4096x32 ![] bcast_S_S4x4096x32 main_cst_4
  let main_v16 : IVec S4x4096x32 1 := cmpf .olt main_v14 main_v15
  fn_part1 (F := F) main_v13 main_v16
-- ==== Pre_finite3.lean ====
abbrev S4x4096x4x2x32 : Shape := ⟨5, ![4, 4096, 4, 2, 32]⟩
abbrev S4x4096x2x64 : Shape := ⟨4, ![4, 4096, 2, 64]⟩
abbrev S_ : Shape := ⟨0, ![]⟩

class Facts : Prop where
  bcast_S_S4x4096x4x2x32 : S_.BroadcastsInDim S4x4096x4x2x32 (![] : Fin 0 → Fin S4x4096x4x2x32.rank)
  reducesTo_S4x4096x4x2x32_S_d0_1_2_3_4 : S4x4096x4x2x32.ReducesTo [0, 1, 2, 3, 4] S_
  h_S_ : 0 < S_.numel
  bcast_S_S4x4096x2x64 : S_.BroadcastsInDim S4x4096x2x64 (![] : Fin 0 → Fin S4x4096x2x64.rank)
  reducesTo_S4x4096x2x64_S_d0_1_2_3 : S4x4096x2x64.ReducesTo [0, 1, 2, 3] S_

variable [Facts]

def fn {F : FTy → Type} [FloatOps F] (main_arg0 : FVec F S4x4096x4x2x32 .f32) (main_arg1 : FVec F S4x4096x2x64 .f32) (main_arg2 : FVec F S4x4096x2x64 .f32) : IVec S_ 1 :=
  let main_v0 : FVec F S4x4096x4x2x32 .f32 := Host.absf main_arg0
  let main_cst : FVec F S_ .f32 := constant S_ .f32 0x7F800000#32
  let main_v1 : FVec F S4x4096x4x2x32 .f32 := broadcastInDim S4x4096x4x2x32 ![] bcast_S_S4x4096x4x2x32 main_cst
  let main_v2 : IVec S4x4096x4x2x32 1 := cmpf .olt main_v0 main_v1
  let main_c : IVec S_ 1 := constantI S_ 1 1#1
  let main_v3 : IVec S_ 1 := (fun x v => Host.reduce IntOp.andi x v reducesTo_S4x4096x4x2x32_S_d0_1_2_3_4 h_S_) main_v2 main_c
  let main_v4 : FVec F S4x4096x2x64 .f32 := Host.absf main_arg1
  let main_cst_0 : FVec F S_ .f32 := constant S_ .f32 0x7F800000#32
  let main_v5 : FVec F S4x4096x2x64 .f32 := broadcastInDim S4x4096x2x64 ![] bcast_S_S4x4096x2x64 main_cst_0
  let main_v6 : IVec S4x4096x2x64 1 := cmpf .olt main_v4 main_v5
  let main_c_1 : IVec S_ 1 := constantI S_ 1 1#1
  let main_v7 : IVec S_ 1 := (fun x v => Host.reduce IntOp.andi x v reducesTo_S4x4096x2x64_S_d0_1_2_3 h_S_) main_v6 main_c_1
  let main_v8 : IVec S_ 1 := andi main_v3 main_v7
  let main_v9 : FVec F S4x4096x2x64 .f32 := Host.absf main_arg2
  let main_cst_2 : FVec F S_ .f32 := constant S_ .f32 0x7F800000#32
  let main_v10 : FVec F S4x4096x2x64 .f32 := broadcastInDim S4x4096x2x64 ![] bcast_S_S4x4096x2x64 main_cst_2
  let main_v11 : IVec S4x4096x2x64 1 := cmpf .olt main_v9 main_v10
  let main_c_3 : IVec S_ 1 := constantI S_ 1 1#1
  let main_v12 : IVec S_ 1 := (fun x v => Host.reduce IntOp.andi x v reducesTo_S4x4096x2x64_S_d0_1_2_3 h_S_) main_v11 main_c_3
  let main_v13 : IVec S_ 1 := andi main_v8 main_v12
  main_v13
-- ==== Pre_finite4.lean ====
abbrev S4x4096x4x64 : Shape := ⟨4, ![4, 4096, 4, 64]⟩
abbrev S4x4096x2x64 : Shape := ⟨4, ![4, 4096, 2, 64]⟩
abbrev S4x4096x4 : Shape := ⟨3, ![4, 4096, 4]⟩
abbrev S_ : Shape := ⟨0, ![]⟩

class Facts : Prop where
  bcast_S_S4x4096x4x64 : S_.BroadcastsInDim S4x4096x4x64 (![] : Fin 0 → Fin S4x4096x4x64.rank)
  reducesTo_S4x4096x4x64_S_d0_1_2_3 : S4x4096x4x64.ReducesTo [0, 1, 2, 3] S_
  h_S_ : 0 < S_.numel
  bcast_S_S4x4096x2x64 : S_.BroadcastsInDim S4x4096x2x64 (![] : Fin 0 → Fin S4x4096x2x64.rank)
  reducesTo_S4x4096x2x64_S_d0_1_2_3 : S4x4096x2x64.ReducesTo [0, 1, 2, 3] S_
  bcast_S_S4x4096x4 : S_.BroadcastsInDim S4x4096x4 (![] : Fin 0 → Fin S4x4096x4.rank)
  reducesTo_S4x4096x4_S_d0_1_2 : S4x4096x4.ReducesTo [0, 1, 2] S_

variable [Facts]

def fn_part1 {F : FTy → Type} [FloatOps F] (main_v13 : IVec S_ 1) (main_v16 : IVec S4x4096x4 1) : IVec S_ 1 :=
  let main_c_5 : IVec S_ 1 := constantI S_ 1 1#1
  let main_v17 : IVec S_ 1 := (fun x v => Host.reduce IntOp.andi x v reducesTo_S4x4096x4_S_d0_1_2 h_S_) main_v16 main_c_5
  let main_v18 : IVec S_ 1 := andi main_v13 main_v17
  main_v18

def fn {F : FTy → Type} [FloatOps F] (main_arg0 : FVec F S4x4096x4x64 .f32) (main_arg1 : FVec F S4x4096x2x64 .f32) (main_arg2 : FVec F S4x4096x2x64 .f32) (main_arg3 : FVec F S4x4096x4 .f32) : IVec S_ 1 :=
  let main_v0 : FVec F S4x4096x4x64 .f32 := Host.absf main_arg0
  let main_cst : FVec F S_ .f32 := constant S_ .f32 0x7F800000#32
  let main_v1 : FVec F S4x4096x4x64 .f32 := broadcastInDim S4x4096x4x64 ![] bcast_S_S4x4096x4x64 main_cst
  let main_v2 : IVec S4x4096x4x64 1 := cmpf .olt main_v0 main_v1
  let main_c : IVec S_ 1 := constantI S_ 1 1#1
  let main_v3 : IVec S_ 1 := (fun x v => Host.reduce IntOp.andi x v reducesTo_S4x4096x4x64_S_d0_1_2_3 h_S_) main_v2 main_c
  let main_v4 : FVec F S4x4096x2x64 .f32 := Host.absf main_arg1
  let main_cst_0 : FVec F S_ .f32 := constant S_ .f32 0x7F800000#32
  let main_v5 : FVec F S4x4096x2x64 .f32 := broadcastInDim S4x4096x2x64 ![] bcast_S_S4x4096x2x64 main_cst_0
  let main_v6 : IVec S4x4096x2x64 1 := cmpf .olt main_v4 main_v5
  let main_c_1 : IVec S_ 1 := constantI S_ 1 1#1
  let main_v7 : IVec S_ 1 := (fun x v => Host.reduce IntOp.andi x v reducesTo_S4x4096x2x64_S_d0_1_2_3 h_S_) main_v6 main_c_1
  let main_v8 : IVec S_ 1 := andi main_v3 main_v7
  let main_v9 : FVec F S4x4096x2x64 .f32 := Host.absf main_arg2
  let main_cst_2 : FVec F S_ .f32 := constant S_ .f32 0x7F800000#32
  let main_v10 : FVec F S4x4096x2x64 .f32 := broadcastInDim S4x4096x2x64 ![] bcast_S_S4x4096x2x64 main_cst_2
  let main_v11 : IVec S4x4096x2x64 1 := cmpf .olt main_v9 main_v10
  let main_c_3 : IVec S_ 1 := constantI S_ 1 1#1
  let main_v12 : IVec S_ 1 := (fun x v => Host.reduce IntOp.andi x v reducesTo_S4x4096x2x64_S_d0_1_2_3 h_S_) main_v11 main_c_3
  let main_v13 : IVec S_ 1 := andi main_v8 main_v12
  let main_v14 : FVec F S4x4096x4 .f32 := Host.absf main_arg3
  let main_cst_4 : FVec F S_ .f32 := constant S_ .f32 0x7F800000#32
  let main_v15 : FVec F S4x4096x4 .f32 := broadcastInDim S4x4096x4 ![] bcast_S_S4x4096x4 main_cst_4
  let main_v16 : IVec S4x4096x4 1 := cmpf .olt main_v14 main_v15
  fn_part1 (F := F) main_v13 main_v16
-- ==== Kernel.lean ====
abbrev S4x4096x8x128 : Shape := ⟨4, ![4, 4096, 8, 128]⟩
abbrev S4x4096x8x32 : Shape := ⟨4, ![4, 4096, 8, 32]⟩
abbrev S4x4096x128 : Shape := ⟨3, ![4, 4096, 128]⟩
abbrev S4x4096x32 : Shape := ⟨3, ![4, 4096, 32]⟩
abbrev S_ : Shape := ⟨0, ![]⟩
abbrev S4x4096x8x16 : Shape := ⟨4, ![4, 4096, 8, 16]⟩
abbrev S4x4096x8x176 : Shape := ⟨4, ![4, 4096, 8, 176]⟩
abbrev S4x8x4096x176 : Shape := ⟨4, ![4, 8, 4096, 176]⟩
abbrev S4x128x4096 : Shape := ⟨3, ![4, 128, 4096]⟩
abbrev S4x32x4096 : Shape := ⟨3, ![4, 32, 4096]⟩
abbrev S4x16x4096 : Shape := ⟨3, ![4, 16, 4096]⟩
abbrev S4x176x4096 : Shape := ⟨3, ![4, 176, 4096]⟩
abbrev S4x176x4x1024 : Shape := ⟨4, ![4, 176, 4, 1024]⟩
abbrev S4x4x176x1024 : Shape := ⟨4, ![4, 4, 176, 1024]⟩
abbrev S16384x1024 : Shape := ⟨2, ![16384, 1024]⟩
abbrev S1x4x1024x176 : Shape := ⟨4, ![1, 4, 1024, 176]⟩
abbrev S1x4x176x1024 : Shape := ⟨4, ![1, 4, 176, 1024]⟩
abbrev S1x4x144x1024 : Shape := ⟨4, ![1, 4, 144, 1024]⟩
abbrev S1024x512 : Shape := ⟨2, ![1024, 512]⟩
abbrev S1x1x1024x176 : Shape := ⟨4, ![1, 1, 1024, 176]⟩
abbrev S1024x176 : Shape := ⟨2, ![1024, 176]⟩
abbrev S1024x1024 : Shape := ⟨2, ![1024, 1024]⟩
abbrev S1024x1 : Shape := ⟨2, ![1024, 1]⟩
abbrev S1024x144 : Shape := ⟨2, ![1024, 144]⟩
abbrev S1x1x176x1024 : Shape := ⟨4, ![1, 1, 176, 1024]⟩
abbrev S176x1024 : Shape := ⟨2, ![176, 1024]⟩
abbrev S1x1x144x1024 : Shape := ⟨4, ![1, 1, 144, 1024]⟩
abbrev S144x1024 : Shape := ⟨2, ![144, 1024]⟩
abbrev S1024 : Shape := ⟨1, ![1024]⟩
abbrev S1024x128 : Shape := ⟨2, ![1024, 128]⟩

abbrev nBuf : Space → Nat
  | .hbm => 36
  | .vmem => 8
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x8x32, .f32⟩
  | .hbm, ⟨2, _⟩ => ⟨S4x4096x128, .f32⟩
  | .hbm, ⟨3, _⟩ => ⟨S4x4096x32, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x4096x8x128, .f32⟩
  | .hbm, ⟨9, _⟩ => ⟨S4x4096x8x128, .f32⟩
  | .hbm, ⟨10, _⟩ => ⟨S4x4096x8x128, .bf16⟩
  | .hbm, ⟨11, _⟩ => ⟨S4x4096x8x32, .f32⟩
  | .hbm, ⟨12, _⟩ => ⟨S4x4096x8x32, .f32⟩
  | .hbm, ⟨13, _⟩ => ⟨S4x4096x8x32, .bf16⟩
  | .hbm, ⟨14, _⟩ => ⟨S_, .bf16⟩
  | .hbm, ⟨15, _⟩ => ⟨S4x4096x8x16, .bf16⟩
  | .hbm, ⟨16, _⟩ => ⟨S4x4096x8x176, .bf16⟩
  | .hbm, ⟨17, _⟩ => ⟨S4x8x4096x176, .bf16⟩
  | .hbm, ⟨18, _⟩ => ⟨S4x128x4096, .f32⟩
  | .hbm, ⟨19, _⟩ => ⟨S4x128x4096, .bf16⟩
  | .hbm, ⟨20, _⟩ => ⟨S4x32x4096, .f32⟩
  | .hbm, ⟨21, _⟩ => ⟨S4x32x4096, .bf16⟩
  | .hbm, ⟨22, _⟩ => ⟨S4x16x4096, .i32⟩
  | .hbm, ⟨23, _⟩ => ⟨S_, .i32⟩
  | .hbm, ⟨24, _⟩ => ⟨S4x16x4096, .i32⟩
  | .hbm, ⟨25, _⟩ => ⟨S4x16x4096, .i1⟩
  | .hbm, ⟨26, _⟩ => ⟨S_, .f32⟩
  | .hbm, ⟨27, _⟩ => ⟨S_, .f32⟩
  | .hbm, ⟨28, _⟩ => ⟨S4x16x4096, .f32⟩
  | .hbm, ⟨29, _⟩ => ⟨S4x16x4096, .f32⟩
  | .hbm, ⟨30, _⟩ => ⟨S4x16x4096, .f32⟩
  | .hbm, ⟨31, _⟩ => ⟨S4x16x4096, .bf16⟩
  | .hbm, ⟨32, _⟩ => ⟨S4x176x4096, .bf16⟩
  | .hbm, ⟨33, _⟩ => ⟨S4x176x4x1024, .bf16⟩
  | .hbm, ⟨34, _⟩ => ⟨S4x4x176x1024, .bf16⟩
  | .hbm, ⟨35, _⟩ => ⟨S16384x1024, .f32⟩
  | .local _ .vmem, ⟨0, _⟩ => ⟨S1x4x1024x176, .bf16⟩
  | .local _ .vmem, ⟨1, _⟩ => ⟨S1x4x1024x176, .bf16⟩
  | .local _ .vmem, ⟨2, _⟩ => ⟨S1x4x176x1024, .bf16⟩
  | .local _ .vmem, ⟨3, _⟩ => ⟨S1x4x176x1024, .bf16⟩
  | .local _ .vmem, ⟨4, _⟩ => ⟨S1x4x144x1024, .bf16⟩
  | .local _ .vmem, ⟨5, _⟩ => ⟨S1x4x144x1024, .bf16⟩
  | .local _ .vmem, ⟨6, _⟩ => ⟨S1024x512, .f32⟩
  | .local _ .vmem, ⟨7, _⟩ => ⟨S1024x512, .f32⟩
  | _, _ => ⟨S4x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

@[reducible] def k0_t1_loop (i : grid0.Coords) : Scf.Loop 32 :=
  let c0_i32 : BitVec 32 := 0#32
  let arg2 : BitVec 32 := BitVec.ofNat 32 (i 2).val
  let v18 : BitVec 32 := Scalar.subi arg2 c0_i32
  let c1_i32 : BitVec 32 := 1#32
  let v20 : BitVec 32 := Scalar.divsi v18 c1_i32
  let v21 : BitVec 32 := Scalar.muli v20 c1_i32
  let v22 : BitVec 32 := Scalar.addi c0_i32 v21
  let c1_i32_19 : BitVec 32 := 1#32
  ⟨c0_i32, v22, c1_i32_19⟩
def k0_off1 (i : grid0.Coords) (k0_t1 : Fin (k0_t1_loop i).trips) : Fin 4 → Nat :=
  let c0_45 : Index := 0#32
  let c0_i32 : BitVec 32 := 0#32
  let c1_i32_19 : BitVec 32 := 1#32
  let arg7 : BitVec 32 := Scf.iv c0_i32 c1_i32_19 k0_t1
  let v117 : Index := Scalar.indexCast arg7
  let c0_46 : Index := 0#32
  let c0_47 : Index := 0#32
  ![0, v117.toNat, 0, 0]
def k0_off2 (i : grid0.Coords) (k0_t1 : Fin (k0_t1_loop i).trips) : Fin 4 → Nat :=
  let c0_48 : Index := 0#32
  let c0_i32 : BitVec 32 := 0#32
  let c1_i32_19 : BitVec 32 := 1#32
  let arg7 : BitVec 32 := Scf.iv c0_i32 c1_i32_19 k0_t1
  let v120 : Index := Scalar.indexCast arg7
  let c0_49 : Index := 0#32
  let c0_50 : Index := 0#32
  ![0, v120.toNat, 0, 0]
@[reducible] def k0_t2_loop (i : grid0.Coords) : Scf.Loop 32 :=
  let c0_i32 : BitVec 32 := 0#32
  let arg2 : BitVec 32 := BitVec.ofNat 32 (i 2).val
  let v18 : BitVec 32 := Scalar.subi arg2 c0_i32
  let c1_i32 : BitVec 32 := 1#32
  let v20 : BitVec 32 := Scalar.divsi v18 c1_i32
  let v21 : BitVec 32 := Scalar.muli v20 c1_i32
  let v22 : BitVec 32 := Scalar.addi c0_i32 v21
  let v19 : BitVec 32 := Scalar.addi c0_i32 v18
  let c1_i32_20 : BitVec 32 := 1#32
  ⟨v22, v19, c1_i32_20⟩
def k0_off3 (i : grid0.Coords) (k0_t2 : Fin (k0_t2_loop i).trips) : Fin 4 → Nat :=
  let c0_45 : Index := 0#32
  let c0_i32 : BitVec 32 := 0#32
  let arg2 : BitVec 32 := BitVec.ofNat 32 (i 2).val
  let v18 : BitVec 32 := Scalar.subi arg2 c0_i32
  let c1_i32 : BitVec 32 := 1#32
  let v20 : BitVec 32 := Scalar.divsi v18 c1_i32
  let v21 : BitVec 32 := Scalar.muli v20 c1_i32
  let v22 : BitVec 32 := Scalar.addi c0_i32 v21
  let c1_i32_20 : BitVec 32 := 1#32
  let arg7 : BitVec 32 := Scf.iv v22 c1_i32_20 k0_t2
  let v117 : Index := Scalar.indexCast arg7
  let c0_46 : Index := 0#32
  let c0_47 : Index := 0#32
  ![0, v117.toNat, 0, 0]
def k0_off4 (i : grid0.Coords) (k0_t2 : Fin (k0_t2_loop i).trips) : Fin 4 → Nat :=
  let c0_48 : Index := 0#32
  let c0_i32 : BitVec 32 := 0#32
  let arg2 : BitVec 32 := BitVec.ofNat 32 (i 2).val
  let v18 : BitVec 32 := Scalar.subi arg2 c0_i32
  let c1_i32 : BitVec 32 := 1#32
  let v20 : BitVec 32 := Scalar.divsi v18 c1_i32
  let v21 : BitVec 32 := Scalar.muli v20 c1_i32
  let v22 : BitVec 32 := Scalar.addi c0_i32 v21
  let c1_i32_20 : BitVec 32 := 1#32
  let arg7 : BitVec 32 := Scf.iv v22 c1_i32_20 k0_t2
  let v120 : Index := Scalar.indexCast arg7
  let c0_49 : Index := 0#32
  let c0_50 : Index := 0#32
  ![0, v120.toNat, 0, 0]
def k0_off5 (i : grid0.Coords) : Fin 4 → Nat :=
  let c0_21 : Index := 0#32
  let arg2 : BitVec 32 := BitVec.ofNat 32 (i 2).val
  let v25 : Index := Scalar.indexCast arg2
  let c0_22 : Index := 0#32
  let c0_23 : Index := 0#32
  ![0, v25.toNat, 0, 0]
def k0_off6 (i : grid0.Coords) : Fin 4 → Nat :=
  let c0_24 : Index := 0#32
  let arg2 : BitVec 32 := BitVec.ofNat 32 (i 2).val
  let v28 : Index := Scalar.indexCast arg2
  let c0_25 : Index := 0#32
  let c0_26 : Index := 0#32
  ![0, v28.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1x4x1024x176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4x144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4096x8x128 : Shape := ⟨4, ![4, 4096, 8, 128]⟩
abbrev S4x4096x8x32 : Shape := ⟨4, ![4, 4096, 8, 32]⟩
abbrev S4x4096x128 : Shape := ⟨3, ![4, 4096, 128]⟩
abbrev S4x4096x32 : Shape := ⟨3, ![4, 4096, 32]⟩
abbrev S4x4096x4096x8 : Shape := ⟨4, ![4, 4096, 4096, 8]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S4x128x8x4096 : Shape := ⟨4, ![4, 128, 8, 4096]⟩
abbrev S16384x1024 : Shape := ⟨2, ![16384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x8x32, .f32⟩
  | .hbm, ⟨2, _⟩ => ⟨S4x4096x128, .f32⟩
  | .hbm, ⟨3, _⟩ => ⟨S4x4096x32, .f32⟩
  | .hbm, ⟨4, _⟩ => ⟨S4x4096x4096x8, .f32⟩
  | .hbm, ⟨5, _⟩ => ⟨S4x8x4096x4096, .f32⟩
  | .hbm, ⟨6, _⟩ => ⟨S4x4096x4096x8, .f32⟩
  | .hbm, ⟨7, _⟩ => ⟨S4x8x4096x4096, .f32⟩
  | .hbm, ⟨8, _⟩ => ⟨S4x8x4096x4096, .f32⟩
  | .hbm, ⟨9, _⟩ => ⟨S_, .f32⟩
  | .hbm, ⟨10, _⟩ => ⟨S4x8x4096x4096, .f32⟩
  | .hbm, ⟨11, _⟩ => ⟨S4x8x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S4x8x4096x4096, .i1⟩
  | .hbm, ⟨21, _⟩ => ⟨S4x8x4096x4096, .f32⟩
  | .hbm, ⟨22, _⟩ => ⟨S4x8x4096x4096, .f32⟩
  | .hbm, ⟨23, _⟩ => ⟨S_, .f32⟩
  | .hbm, ⟨24, _⟩ => ⟨S4x8x4096, .f32⟩
  | .hbm, ⟨25, _⟩ => ⟨S_, .f32⟩
  | .hbm, ⟨26, _⟩ => ⟨S4x8x4096, .f32⟩
  | .hbm, ⟨27, _⟩ => ⟨S4x8x4096, .f32⟩
  | .hbm, ⟨28, _⟩ => ⟨S4x8x4096x1, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S_, .f32⟩
  | .hbm, ⟨33, _⟩ => ⟨S4x8x4096, .f32⟩
  | .hbm, ⟨34, _⟩ => ⟨S4x8x4096x1, .f32⟩
  | .hbm, ⟨35, _⟩ => ⟨S4x8x4096x4096, .f32⟩
  | .hbm, ⟨36, _⟩ => ⟨S4x8x4096x4096, .f32⟩
  | .hbm, ⟨37, _⟩ => ⟨S4x128x8x4096, .f32⟩
  | .hbm, ⟨38, _⟩ => ⟨S4x4096x8x128, .f32⟩
  | .hbm, ⟨39, _⟩ => ⟨S16384x1024, .f32⟩
  | _, _ => ⟨S4x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel2.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩

abbrev nD : Nat := 1
abbrev τ : Topo := Topo.v7x

variable {F : FTy → Type} [FloatOps F]
-- ==== Kernel3.lean ====
abbrev S4x4096x4x2x32 : Shape := ⟨5, ![4, 4096, 4, 2, 32]⟩
abbrev S4x4096x2x64 : Shape := ⟨4, ![4, 4096, 2, 64]⟩
abbrev S_ : Shape := ⟨0, ![]⟩
abbrev S4x4096x8x32 : Shape := ⟨4, ![4, 4096, 8, 32]⟩
abbrev S4x8x4096x32 : Shape := ⟨4, ![4, 8, 4096, 32]⟩
abbrev S4x4096x128 : Shape := ⟨3, ![4, 4096, 128]⟩
abbrev S4x128x4096 : Shape := ⟨3, ![4, 128, 4096]⟩
abbrev S4x128x4x1024 : Shape := ⟨4, ![4, 128, 4, 1024]⟩
abbrev S4x4x128x1024 : Shape := ⟨4, ![4, 4, 128, 1024]⟩
abbrev S4x2x64x4096 : Shape := ⟨4, ![4, 2, 64, 4096]⟩
abbrev S4x2x16x4096 : Shape := ⟨4, ![4, 2, 16, 4096]⟩
abbrev S4x2x80x4096 : Shape := ⟨4, ![4, 2, 80, 4096]⟩
abbrev S4x160x4096 : Shape := ⟨3, ![4, 160, 4096]⟩
abbrev S4x160x4x1024 : Shape := ⟨4, ![4, 160, 4, 1024]⟩
abbrev S4x4x160x1024 : Shape := ⟨4, ![4, 4, 160, 1024]⟩
abbrev S16384x512 : Shape := ⟨2, ![16384, 512]⟩
abbrev S1x2x1024x32 : Shape := ⟨4, ![1, 2, 1024, 32]⟩
abbrev S1x4x64x1024 : Shape := ⟨4, ![1, 4, 64, 1024]⟩
abbrev S1x4x80x1024 : Shape := ⟨4, ![1, 4, 80, 1024]⟩
abbrev S1024x128 : Shape := ⟨2, ![1024, 128]⟩
abbrev S1x1x1024x32 : Shape := ⟨4, ![1, 1, 1024, 32]⟩
abbrev S1024x32 : Shape := ⟨2, ![1024, 32]⟩
abbrev S1024x1024 : Shape := ⟨2, ![1024, 1024]⟩
abbrev S1024x1 : Shape := ⟨2, ![1024, 1]⟩
abbrev S1024x80 : Shape := ⟨2, ![1024, 80]⟩
abbrev S1x1x64x1024 : Shape := ⟨4, ![1, 1, 64, 1024]⟩
abbrev S64x1024 : Shape := ⟨2, ![64, 1024]⟩
abbrev S1x1x80x1024 : Shape := ⟨4, ![1, 1, 80, 1024]⟩
abbrev S80x1024 : Shape := ⟨2, ![80, 1024]⟩
abbrev S32x1024 : Shape := ⟨2, ![32, 1024]⟩
abbrev S1024 : Shape := ⟨1, ![1024]⟩
abbrev S1024x64 : Shape := ⟨2, ![1024, 64]⟩

abbrev nBuf : Space → Nat
  | .hbm => 34
  | .vmem => 8
  | .smem => 0
  | _ => 0

abbrev bufTy : (tb : Table) → Fin (tcTables nBuf tb) → BufTy
  | .hbm, ⟨0, _⟩ => ⟨S4x4096x4x2x32, .f32⟩
  | .hbm, ⟨1, _⟩ => ⟨S4x4096x2x64, .f32⟩
  | .hbm, ⟨2, _⟩ => ⟨S4x4096x2x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x4096x4x2x32, .f32⟩
  | .hbm, ⟨8, _⟩ => ⟨S4x4096x4x2x32, .f32⟩
  | .hbm, ⟨9, _⟩ => ⟨S4x4096x4x2x32, .bf16⟩
  | .hbm, ⟨10, _⟩ => ⟨S4x4096x8x32, .bf16⟩
  | .hbm, ⟨11, _⟩ => ⟨S4x8x4096x32, .bf16⟩
  | .hbm, ⟨12, _⟩ => ⟨S4x4096x128, .f32⟩
  | .hbm, ⟨13, _⟩ => ⟨S4x128x4096, .f32⟩
  | .hbm, ⟨14, _⟩ => ⟨S4x128x4096, .bf16⟩
  | .hbm, ⟨15, _⟩ => ⟨S4x128x4x1024, .bf16⟩
  | .hbm, ⟨16, _⟩ => ⟨S4x4x128x1024, .bf16⟩
  | .hbm, ⟨17, _⟩ => ⟨S4x2x64x4096, .f32⟩
  | .hbm, ⟨18, _⟩ => ⟨S4x2x64x4096, .bf16⟩
  | .hbm, ⟨19, _⟩ => ⟨S4x2x16x4096, .i32⟩
  | .hbm, ⟨20, _⟩ => ⟨S_, .i32⟩
  | .hbm, ⟨21, _⟩ => ⟨S4x2x16x4096, .i32⟩
  | .hbm, ⟨22, _⟩ => ⟨S4x2x16x4096, .i1⟩
  | .hbm, ⟨23, _⟩ => ⟨S_, .f32⟩
  | .hbm, ⟨24, _⟩ => ⟨S_, .f32⟩
  | .hbm, ⟨25, _⟩ => ⟨S4x2x16x4096, .f32⟩
  | .hbm, ⟨26, _⟩ => ⟨S4x2x16x4096, .f32⟩
  | .hbm, ⟨27, _⟩ => ⟨S4x2x16x4096, .f32⟩
  | .hbm, ⟨28, _⟩ => ⟨S4x2x16x4096, .bf16⟩
  | .hbm, ⟨29, _⟩ => ⟨S4x2x80x4096, .bf16⟩
  | .hbm, ⟨30, _⟩ => ⟨S4x160x4096, .bf16⟩
  | .hbm, ⟨31, _⟩ => ⟨S4x160x4x1024, .bf16⟩
  | .hbm, ⟨32, _⟩ => ⟨S4x4x160x1024, .bf16⟩
  | .hbm, ⟨33, _⟩ => ⟨S16384x512, .f32⟩
  | .local _ .vmem, ⟨0, _⟩ => ⟨S1x2x1024x32, .bf16⟩
  | .local _ .vmem, ⟨1, _⟩ => ⟨S1x2x1024x32, .bf16⟩
  | .local _ .vmem, ⟨2, _⟩ => ⟨S1x4x64x1024, .bf16⟩
  | .local _ .vmem, ⟨3, _⟩ => ⟨S1x4x64x1024, .bf16⟩
  | .local _ .vmem, ⟨4, _⟩ => ⟨S1x4x80x1024, .bf16⟩
  | .local _ .vmem, ⟨5, _⟩ => ⟨S1x4x80x1024, .bf16⟩
  | .local _ .vmem, ⟨6, _⟩ => ⟨S1024x128, .f32⟩
  | .local _ .vmem, ⟨7, _⟩ => ⟨S1024x128, .f32⟩
  | _, _ => ⟨S4x4096x4x2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

@[reducible] def k0_t1_loop (i : grid0.Coords) : Scf.Loop 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_9 : BitVec 32 := 1#32
  ⟨c0_i32, v14, c1_i32_9⟩
def k0_off1 (i : grid0.Coords) (k0_t1 : Fin (k0_t1_loop i).trips) : Fin 4 → Nat :=
  let c0_27 : Index := 0#32
  let c0_i32 : BitVec 32 := 0#32
  let c1_i32_9 : BitVec 32 := 1#32
  let arg7 : BitVec 32 := Scf.iv c0_i32 c1_i32_9 k0_t1
  let v69 : Index := Scalar.indexCast arg7
  let c0_28 : Index := 0#32
  let c0_29 : Index := 0#32
  ![0, v69.toNat, 0, 0]
def k0_off2 (i : grid0.Coords) (k0_t1 : Fin (k0_t1_loop i).trips) : Fin 4 → Nat :=
  let c0_30 : Index := 0#32
  let c0_i32 : BitVec 32 := 0#32
  let c1_i32_9 : BitVec 32 := 1#32
  let arg7 : BitVec 32 := Scf.iv c0_i32 c1_i32_9 k0_t1
  let v72 : Index := Scalar.indexCast arg7
  let c0_31 : Index := 0#32
  let c0_32 : Index := 0#32
  ![0, v72.toNat, 0, 0]
@[reducible] def k0_t2_loop (i : grid0.Coords) : Scf.Loop 32 :=
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let v11 : BitVec 32 := Scalar.addi c0_i32 v10
  let c1_i32_10 : BitVec 32 := 1#32
  ⟨v14, v11, c1_i32_10⟩
def k0_off3 (i : grid0.Coords) (k0_t2 : Fin (k0_t2_loop i).trips) : Fin 4 → Nat :=
  let c0_27 : Index := 0#32
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v69 : Index := Scalar.indexCast arg7
  let c0_28 : Index := 0#32
  let c0_29 : Index := 0#32
  ![0, v69.toNat, 0, 0]
def k0_off4 (i : grid0.Coords) (k0_t2 : Fin (k0_t2_loop i).trips) : Fin 4 → Nat :=
  let c0_30 : Index := 0#32
  let c0_i32 : BitVec 32 := 0#32
  let arg2 : BitVec 32 := BitVec.ofNat 32 (i 2).val
  let v10 : BitVec 32 := Scalar.subi arg2 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v72 : Index := Scalar.indexCast arg7
  let c0_31 : Index := 0#32
  let c0_32 : Index := 0#32
  ![0, v72.toNat, 0, 0]
def k0_off5 (i : grid0.Coords) : Fin 4 → Nat :=
  let c0_11 : Index := 0#32
  let arg2 : BitVec 32 := BitVec.ofNat 32 (i 2).val
  let v17 : Index := Scalar.indexCast arg2
  let c0_12 : Index := 0#32
  let c0_13 : Index := 0#32
  ![0, v17.toNat, 0, 0]
def k0_off6 (i : grid0.Coords) : Fin 4 → Nat :=
  let c0_14 : Index := 0#32
  let arg2 : BitVec 32 := BitVec.ofNat 32 (i 2).val
  let v20 : Index := Scalar.indexCast arg2
  let c0_15 : Index := 0#32
  let c0_16 : Index := 0#32
  ![0, v20.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, c0_i32_4.toNat, v16.toNat, c0_i32_5.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, c0_i32_4.toNat, v16.toNat, c0_i32_5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1x2x1024x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x80x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference3Ideal.lean ====
abbrev S4x4096x4x2x32 : Shape := ⟨5, ![4, 4096, 4, 2, 32]⟩
abbrev S4x4096x2x64 : Shape := ⟨4, ![4, 4096, 2, 64]⟩
abbrev S4x4096x2x2x2x32 : Shape := ⟨6, ![4, 4096, 2, 2, 2, 32]⟩
abbrev S4x4096x2x2x32 : Shape := ⟨5, ![4, 4096, 2, 2, 32]⟩
abbrev S4x2x2x4096x4096x2 : Shape := ⟨6, ![4, 2, 2, 4096, 4096, 2]⟩
abbrev S4x2x2x2x4096x4096 : Shape := ⟨6, ![4, 2, 2, 2, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x2x2x2x4096 : Shape := ⟨5, ![4, 2, 2, 2, 4096]⟩
abbrev S4x2x2x2x4096x1 : Shape := ⟨6, ![4, 2, 2, 2, 4096, 1]⟩
abbrev S4x2x64x2x2x4096 : Shape := ⟨6, ![4, 2, 64, 2, 2, 4096]⟩
abbrev S4x4096x2x2x2x64 : Shape := ⟨6, ![4, 4096, 2, 2, 2, 64]⟩
abbrev S16384x512 : Shape := ⟨2, ![16384, 512]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x4x2x32, .f32⟩
  | .hbm, ⟨1, _⟩ => ⟨S4x4096x2x64, .f32⟩
  | .hbm, ⟨2, _⟩ => ⟨S4x4096x2x64, .f32⟩
  | .hbm, ⟨3, _⟩ => ⟨S4x4096x2x2x2x32, .f32⟩
  | .hbm, ⟨4, _⟩ => ⟨S4x4096x2x2x32, .f32⟩
  | .hbm, ⟨5, _⟩ => ⟨S4x2x2x4096x4096x2, .f32⟩
  | .hbm, ⟨6, _⟩ => ⟨S4x2x2x2x4096x4096, .f32⟩
  | .hbm, ⟨7, _⟩ => ⟨S_, .f32⟩
  | .hbm, ⟨8, _⟩ => ⟨S4x2x2x2x4096x4096, .f32⟩
  | .hbm, ⟨9, _⟩ => ⟨S4x2x2x2x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S4x2x2x2x4096x4096, .i1⟩
  | .hbm, ⟨19, _⟩ => ⟨S4x2x2x2x4096x4096, .f32⟩
  | .hbm, ⟨20, _⟩ => ⟨S4x2x2x2x4096x4096, .f32⟩
  | .hbm, ⟨21, _⟩ => ⟨S_, .f32⟩
  | .hbm, ⟨22, _⟩ => ⟨S4x2x2x2x4096, .f32⟩
  | .hbm, ⟨23, _⟩ => ⟨S_, .f32⟩
  | .hbm, ⟨24, _⟩ => ⟨S4x2x2x2x4096, .f32⟩
  | .hbm, ⟨25, _⟩ => ⟨S4x2x2x2x4096, .f32⟩
  | .hbm, ⟨26, _⟩ => ⟨S4x2x2x2x4096x1, .f32⟩
  | .hbm, ⟨27, _⟩ => ⟨S4x2x2x2x4096x4096, .f32⟩
  | .hbm, ⟨28, _⟩ => ⟨S4x2x2x2x4096x4096, .f32⟩
  | .hbm, ⟨29, _⟩ => ⟨S4x2x2x2x4096x4096, .f32⟩
  | .hbm, ⟨30, _⟩ => ⟨S_, .f32⟩
  | .hbm, ⟨31, _⟩ => ⟨S4x2x2x2x4096, .f32⟩
  | .hbm, ⟨32, _⟩ => ⟨S4x2x2x2x4096x1, .f32⟩
  | .hbm, ⟨33, _⟩ => ⟨S4x2x2x2x4096x4096, .f32⟩
  | .hbm, ⟨34, _⟩ => ⟨S4x2x2x2x4096x4096, .f32⟩
  | .hbm, ⟨35, _⟩ => ⟨S4x2x64x2x2x4096, .f32⟩
  | .hbm, ⟨36, _⟩ => ⟨S4x4096x2x2x2x64, .f32⟩
  | .hbm, ⟨37, _⟩ => ⟨S16384x512, .f32⟩
  | _, _ => ⟨S4x4096x4x2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel4.lean ====
abbrev S4x4096x4x64 : Shape := ⟨4, ![4, 4096, 4, 64]⟩
abbrev S4x4096x2x64 : Shape := ⟨4, ![4, 4096, 2, 64]⟩
abbrev S4x4096x4 : Shape := ⟨3, ![4, 4096, 4]⟩
abbrev S_ : Shape := ⟨0, ![]⟩
abbrev S4x4x4096x64 : Shape := ⟨4, ![4, 4, 4096, 64]⟩
abbrev S4x4096x128 : Shape := ⟨3, ![4, 4096, 128]⟩
abbrev S4x128x4096 : Shape := ⟨3, ![4, 128, 4096]⟩
abbrev S4x128x4x1024 : Shape := ⟨4, ![4, 128, 4, 1024]⟩
abbrev S4x4x128x1024 : Shape := ⟨4, ![4, 4, 128, 1024]⟩
abbrev S4x4x4096 : Shape := ⟨3, ![4, 4, 4096]⟩
abbrev S4x4x4x1x1024 : Shape := ⟨5, ![4, 4, 4, 1, 1024]⟩
abbrev S4x2x64x4096 : Shape := ⟨4, ![4, 2, 64, 4096]⟩
abbrev S4x2x16x4096 : Shape := ⟨4, ![4, 2, 16, 4096]⟩
abbrev S4x2x80x4096 : Shape := ⟨4, ![4, 2, 80, 4096]⟩
abbrev S4x160x4096 : Shape := ⟨3, ![4, 160, 4096]⟩
abbrev S4x160x4x1024 : Shape := ⟨4, ![4, 160, 4, 1024]⟩
abbrev S4x4x160x1024 : Shape := ⟨4, ![4, 4, 160, 1024]⟩
abbrev S16384x256 : Shape := ⟨2, ![16384, 256]⟩
abbrev S1x2x1024x64 : Shape := ⟨4, ![1, 2, 1024, 64]⟩
abbrev S1x4x64x1024 : Shape := ⟨4, ![1, 4, 64, 1024]⟩
abbrev S1x4x80x1024 : Shape := ⟨4, ![1, 4, 80, 1024]⟩
abbrev S1x2x4x1x1024 : Shape := ⟨5, ![1, 2, 4, 1, 1024]⟩
abbrev S1024x128 : Shape := ⟨2, ![1024, 128]⟩
abbrev S1x1x1024x64 : Shape := ⟨4, ![1, 1, 1024, 64]⟩
abbrev S1024x64 : Shape := ⟨2, ![1024, 64]⟩
abbrev S1024x1024 : Shape := ⟨2, ![1024, 1024]⟩
abbrev S1x1x1x1x1024 : Shape := ⟨5, ![1, 1, 1, 1, 1024]⟩
abbrev S1x1024 : Shape := ⟨2, ![1, 1024]⟩
abbrev S1024 : Shape := ⟨1, ![1024]⟩
abbrev S1024x1 : Shape := ⟨2, ![1024, 1]⟩
abbrev S1024x80 : Shape := ⟨2, ![1024, 80]⟩
abbrev S1x1x64x1024 : Shape := ⟨4, ![1, 1, 64, 1024]⟩
abbrev S64x1024 : Shape := ⟨2, ![64, 1024]⟩
abbrev S1x1x80x1024 : Shape := ⟨4, ![1, 1, 80, 1024]⟩
abbrev S80x1024 : Shape := ⟨2, ![80, 1024]⟩

abbrev nBuf : Space → Nat
  | .hbm => 36
  | .vmem => 10
  | .smem => 0
  | _ => 0

abbrev bufTy : (tb : Table) → Fin (tcTables nBuf tb) → BufTy
  | .hbm, ⟨0, _⟩ => ⟨S4x4096x4x64, .f32⟩
  | .hbm, ⟨1, _⟩ => ⟨S4x4096x2x64, .f32⟩
  | .hbm, ⟨2, _⟩ => ⟨S4x4096x2x64, .f32⟩
  | .hbm, ⟨3, _⟩ => ⟨S4x4096x4, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x4096x4x64, .f32⟩
  | .hbm, ⟨9, _⟩ => ⟨S4x4096x4x64, .f32⟩
  | .hbm, ⟨10, _⟩ => ⟨S4x4096x4x64, .bf16⟩
  | .hbm, ⟨11, _⟩ => ⟨S4x4x4096x64, .bf16⟩
  | .hbm, ⟨12, _⟩ => ⟨S4x4096x128, .f32⟩
  | .hbm, ⟨13, _⟩ => ⟨S4x128x4096, .f32⟩
  | .hbm, ⟨14, _⟩ => ⟨S4x128x4096, .bf16⟩
  | .hbm, ⟨15, _⟩ => ⟨S4x128x4x1024, .bf16⟩
  | .hbm, ⟨16, _⟩ => ⟨S4x4x128x1024, .bf16⟩
  | .hbm, ⟨17, _⟩ => ⟨S4x4x4096, .f32⟩
  | .hbm, ⟨18, _⟩ => ⟨S4x4x4x1x1024, .f32⟩
  | .hbm, ⟨19, _⟩ => ⟨S4x2x64x4096, .f32⟩
  | .hbm, ⟨20, _⟩ => ⟨S4x2x64x4096, .bf16⟩
  | .hbm, ⟨21, _⟩ => ⟨S4x2x16x4096, .i32⟩
  | .hbm, ⟨22, _⟩ => ⟨S_, .i32⟩
  | .hbm, ⟨23, _⟩ => ⟨S4x2x16x4096, .i32⟩
  | .hbm, ⟨24, _⟩ => ⟨S4x2x16x4096, .i1⟩
  | .hbm, ⟨25, _⟩ => ⟨S_, .f32⟩
  | .hbm, ⟨26, _⟩ => ⟨S_, .f32⟩
  | .hbm, ⟨27, _⟩ => ⟨S4x2x16x4096, .f32⟩
  | .hbm, ⟨28, _⟩ => ⟨S4x2x16x4096, .f32⟩
  | .hbm, ⟨29, _⟩ => ⟨S4x2x16x4096, .f32⟩
  | .hbm, ⟨30, _⟩ => ⟨S4x2x16x4096, .bf16⟩
  | .hbm, ⟨31, _⟩ => ⟨S4x2x80x4096, .bf16⟩
  | .hbm, ⟨32, _⟩ => ⟨S4x160x4096, .bf16⟩
  | .hbm, ⟨33, _⟩ => ⟨S4x160x4x1024, .bf16⟩
  | .hbm, ⟨34, _⟩ => ⟨S4x4x160x1024, .bf16⟩
  | .hbm, ⟨35, _⟩ => ⟨S16384x256, .f32⟩
  | .local _ .vmem, ⟨0, _⟩ => ⟨S1x2x1024x64, .bf16⟩
  | .local _ .vmem, ⟨1, _⟩ => ⟨S1x2x1024x64, .bf16⟩
  | .local _ .vmem, ⟨2, _⟩ => ⟨S1x4x64x1024, .bf16⟩
  | .local _ .vmem, ⟨3, _⟩ => ⟨S1x4x64x1024, .bf16⟩
  | .local _ .vmem, ⟨4, _⟩ => ⟨S1x4x80x1024, .bf16⟩
  | .local _ .vmem, ⟨5, _⟩ => ⟨S1x4x80x1024, .bf16⟩
  | .local _ .vmem, ⟨6, _⟩ => ⟨S1x2x4x1x1024, .f32⟩
  | .local _ .vmem, ⟨7, _⟩ => ⟨S1x2x4x1x1024, .f32⟩
  | .local _ .vmem, ⟨8, _⟩ => ⟨S1024x128, .f32⟩
  | .local _ .vmem, ⟨9, _⟩ => ⟨S1024x128, .f32⟩
  | _, _ => ⟨S4x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_off1 (i : grid0.Coords) : Fin 5 → Nat :=
  let c0_6 : Index := 0#32
  let c0_7 : Index := 0#32
  let arg2 : BitVec 32 := BitVec.ofNat 32 (i 2).val
  let v7 : Index := Scalar.indexCast arg2
  let c0_8 : Index := 0#32
  let c0_9 : Index := 0#32
  ![0, 0, v7.toNat, 0, 0]
def k0_off2 (i : grid0.Coords) : Fin 5 → Nat :=
  let c0_12 : Index := 0#32
  let c1_13 : Index := 1#32
  let arg2 : BitVec 32 := BitVec.ofNat 32 (i 2).val
  let v19 : Index := Scalar.indexCast arg2
  let c0_14 : Index := 0#32
  let c0_15 : Index := 0#32
  ![0, 1, v19.toNat, 0, 0]
@[reducible] def k0_t1_loop (i : grid0.Coords) : Scf.Loop 32 :=
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_23 : BitVec 32 := 1#32
  ⟨c0_i32, v38, c1_i32_23⟩
def k0_off3 (i : grid0.Coords) (k0_t1 : Fin (k0_t1_loop i).trips) : Fin 4 → Nat :=
  let c0_51 : Index := 0#32
  let c0_i32 : BitVec 32 := 0#32
  let c1_i32_23 : BitVec 32 := 1#32
  let arg8 : BitVec 32 := Scf.iv c0_i32 c1_i32_23 k0_t1
  let v109 : Index := Scalar.indexCast arg8
  let c0_52 : Index := 0#32
  let c0_53 : Index := 0#32
  ![0, v109.toNat, 0, 0]
def k0_off4 (i : grid0.Coords) (k0_t1 : Fin (k0_t1_loop i).trips) : Fin 4 → Nat :=
  let c0_54 : Index := 0#32
  let c0_i32 : BitVec 32 := 0#32
  let c1_i32_23 : BitVec 32 := 1#32
  let arg8 : BitVec 32 := Scf.iv c0_i32 c1_i32_23 k0_t1
  let v112 : Index := Scalar.indexCast arg8
  let c0_55 : Index := 0#32
  let c0_56 : Index := 0#32
  ![0, v112.toNat, 0, 0]
def k0_off5 (i : grid0.Coords) (k0_t1 : Fin (k0_t1_loop i).trips) : Fin 5 → Nat :=
  let c0_58 : Index := 0#32
  let c0_59 : Index := 0#32
  let c0_i32 : BitVec 32 := 0#32
  let c1_i32_23 : BitVec 32 := 1#32
  let arg8 : BitVec 32 := Scf.iv c0_i32 c1_i32_23 k0_t1
  let v116 : Index := Scalar.indexCast arg8
  let c0_60 : Index := 0#32
  let c0_61 : Index := 0#32
  ![0, 0, v116.toNat, 0, 0]
def k0_off6 (i : grid0.Coords) (k0_t1 : Fin (k0_t1_loop i).trips) : Fin 5 → Nat :=
  let c0_66 : Index := 0#32
  let c1_67 : Index := 1#32
  let c0_i32 : BitVec 32 := 0#32
  let c1_i32_23 : BitVec 32 := 1#32
  let arg8 : BitVec 32 := Scf.iv c0_i32 c1_i32_23 k0_t1
  let v139 : Index := Scalar.indexCast arg8
  let c0_68 : Index := 0#32
  let c0_69 : Index := 0#32
  ![0, 1, v139.toNat, 0, 0]
@[reducible] def k0_t2_loop (i : grid0.Coords) : Scf.Loop 32 :=
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let v35 : BitVec 32 := Scalar.addi c0_i32 v34
  let c1_i32_24 : BitVec 32 := 1#32
  ⟨v38, v35, c1_i32_24⟩
def k0_off7 (i : grid0.Coords) (k0_t2 : Fin (k0_t2_loop i).trips) : Fin 4 → Nat :=
  let c0_51 : Index := 0#32
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_24 : BitVec 32 := 1#32
  let arg8 : BitVec 32 := Scf.iv v38 c1_i32_24 k0_t2
  let v109 : Index := Scalar.indexCast arg8
  let c0_52 : Index := 0#32
  let c0_53 : Index := 0#32
  ![0, v109.toNat, 0, 0]
def k0_off8 (i : grid0.Coords) (k0_t2 : Fin (k0_t2_loop i).trips) : Fin 4 → Nat :=
  let c0_54 : Index := 0#32
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_24 : BitVec 32 := 1#32
  let arg8 : BitVec 32 := Scf.iv v38 c1_i32_24 k0_t2
  let v112 : Index := Scalar.indexCast arg8
  let c0_55 : Index := 0#32
  let c0_56 : Index := 0#32
  ![0, v112.toNat, 0, 0]
def k0_off9 (i : grid0.Coords) (k0_t2 : Fin (k0_t2_loop i).trips) : Fin 5 → Nat :=
  let c0_58 : Index := 0#32
  let c0_59 : Index := 0#32
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_24 : BitVec 32 := 1#32
  let arg8 : BitVec 32 := Scf.iv v38 c1_i32_24 k0_t2
  let v116 : Index := Scalar.indexCast arg8
  let c0_60 : Index := 0#32
  let c0_61 : Index := 0#32
  ![0, 0, v116.toNat, 0, 0]
def k0_off10 (i : grid0.Coords) (k0_t2 : Fin (k0_t2_loop i).trips) : Fin 5 → Nat :=
  let c0_66 : Index := 0#32
  let c1_67 : Index := 1#32
  let c0_i32 : BitVec 32 := 0#32
  let arg2 : BitVec 32 := BitVec.ofNat 32 (i 2).val
  let v34 : BitVec 32 := Scalar.subi arg2 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_24 : BitVec 32 := 1#32
  let arg8 : BitVec 32 := Scf.iv v38 c1_i32_24 k0_t2
  let v139 : Index := Scalar.indexCast arg8
  let c0_68 : Index := 0#32
  let c0_69 : Index := 0#32
  ![0, 1, v139.toNat, 0, 0]
def k0_off11 (i : grid0.Coords) : Fin 4 → Nat :=
  let c0_25 : Index := 0#32
  let arg2 : BitVec 32 := BitVec.ofNat 32 (i 2).val
  let v41 : Index := Scalar.indexCast arg2
  let c0_26 : Index := 0#32
  let c0_27 : Index := 0#32
  ![0, v41.toNat, 0, 0]
def k0_off12 (i : grid0.Coords) : Fin 4 → Nat :=
  let c0_28 : Index := 0#32
  let arg2 : BitVec 32 := BitVec.ofNat 32 (i 2).val
  let v44 : Index := Scalar.indexCast arg2
  let c0_29 : Index := 0#32
  let c0_30 : Index := 0#32
  ![0, v44.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1x2x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x80x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x4x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel4Ideal.lean ====
variable {F : FTy → Type} [FloatOps F] [Named F]
def κ : String → Option EReal := fun
  | "log2e" => some (((Real.log 2)⁻¹ : ℝ) : EReal)
  | _ => none
-- ==== Reference4Ideal.lean ====
abbrev S4x4096x4x64 : Shape := ⟨4, ![4, 4096, 4, 64]⟩
abbrev S4x4096x2x64 : Shape := ⟨4, ![4, 4096, 2, 64]⟩
abbrev S4x4096x4 : Shape := ⟨3, ![4, 4096, 4]⟩
abbrev S4x4096x2x2x64 : Shape := ⟨5, ![4, 4096, 2, 2, 64]⟩
abbrev S4x2x4096x4096x2 : Shape := ⟨5, ![4, 2, 4096, 4096, 2]⟩
abbrev S4x2x2x4096x4096 : Shape := ⟨5, ![4, 2, 2, 4096, 4096]⟩
abbrev S_ : Shape := ⟨0, ![]⟩
abbrev S4x4096x2x2 : Shape := ⟨4, ![4, 4096, 2, 2]⟩
abbrev S4x2x2x4096 : Shape := ⟨4, ![4, 2, 2, 4096]⟩
abbrev S4x2x2x4096x1 : Shape := ⟨5, ![4, 2, 2, 4096, 1]⟩
abbrev S4x2x2x1x4096 : Shape := ⟨5, ![4, 2, 2, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x2x64x2x4096 : Shape := ⟨5, ![4, 2, 64, 2, 4096]⟩
abbrev S16384x256 : Shape := ⟨2, ![16384, 256]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x4x64, .f32⟩
  | .hbm, ⟨1, _⟩ => ⟨S4x4096x2x64, .f32⟩
  | .hbm, ⟨2, _⟩ => ⟨S4x4096x2x64, .f32⟩
  | .hbm, ⟨3, _⟩ => ⟨S4x4096x4, .f32⟩
  | .hbm, ⟨4, _⟩ => ⟨S4x4096x2x2x64, .f32⟩
  | .hbm, ⟨5, _⟩ => ⟨S4x2x4096x4096x2, .f32⟩
  | .hbm, ⟨6, _⟩ => ⟨S4x2x2x4096x4096, .f32⟩
  | .hbm, ⟨7, _⟩ => ⟨S_, .f32⟩
  | .hbm, ⟨8, _⟩ => ⟨S4x2x2x4096x4096, .f32⟩
  | .hbm, ⟨9, _⟩ => ⟨S4x2x2x4096x4096, .f32⟩
  | .hbm, ⟨10, _⟩ => ⟨S4x4096x2x2, .f32⟩
  | .hbm, ⟨11, _⟩ => ⟨S4x2x2x4096, .f32⟩
  | .hbm, ⟨12, _⟩ => ⟨S4x2x2x4096x1, .f32⟩
  | .hbm, ⟨13, _⟩ => ⟨S4x2x2x1x4096, .f32⟩
  | .hbm, ⟨14, _⟩ => ⟨S4x2x2x4096x4096, .f32⟩
  | .hbm, ⟨15, _⟩ => ⟨S4x2x2x4096x4096, .f32⟩
  | .hbm, ⟨16, _⟩ => ⟨S4x2x2x4096x4096, .f32⟩
  | .hbm, ⟨17, _⟩ => ⟨S4096, .i32⟩
  | .hbm, ⟨18, _⟩ => ⟨S1x4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S4x2x2x4096x4096, .f32⟩
  | .hbm, ⟨24, _⟩ => ⟨S_, .f32⟩
  | .hbm, ⟨25, _⟩ => ⟨S_, .f32⟩
  | .hbm, ⟨26, _⟩ => ⟨S4x2x2x4096x4096, .i1⟩
  | .hbm, ⟨27, _⟩ => ⟨S4x2x2x4096x4096, .f32⟩
  | .hbm, ⟨28, _⟩ => ⟨S4x2x2x4096x4096, .f32⟩
  | .hbm, ⟨29, _⟩ => ⟨S_, .f32⟩
  | .hbm, ⟨30, _⟩ => ⟨S4x2x2x4096, .f32⟩
  | .hbm, ⟨31, _⟩ => ⟨S_, .f32⟩
  | .hbm, ⟨32, _⟩ => ⟨S4x2x2x4096, .f32⟩
  | .hbm, ⟨33, _⟩ => ⟨S4x2x2x4096, .f32⟩
  | .hbm, ⟨34, _⟩ => ⟨S4x2x2x4096x1, .f32⟩
  | .hbm, ⟨35, _⟩ => ⟨S4x2x2x4096x4096, .f32⟩
  | .hbm, ⟨36, _⟩ => ⟨S4x2x2x4096x4096, .f32⟩
  | .hbm, ⟨37, _⟩ => ⟨S4x2x2x4096x4096, .f32⟩
  | .hbm, ⟨38, _⟩ => ⟨S_, .f32⟩
  | .hbm, ⟨39, _⟩ => ⟨S4x2x2x4096, .f32⟩
  | .hbm, ⟨40, _⟩ => ⟨S4x2x2x4096x1, .f32⟩
  | .hbm, ⟨41, _⟩ => ⟨S4x2x2x4096x4096, .f32⟩
  | .hbm, ⟨42, _⟩ => ⟨S4x2x2x4096x4096, .f32⟩
  | .hbm, ⟨43, _⟩ => ⟨S4x2x64x2x4096, .f32⟩
  | .hbm, ⟨44, _⟩ => ⟨S4x4096x2x2x64, .f32⟩
  | .hbm, ⟨45, _⟩ => ⟨S16384x256, .f32⟩
  | _, _ => ⟨S4x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel5.lean ====
abbrev S16384x1024 : Shape := ⟨2, ![16384, 1024]⟩
abbrev S16384x512 : Shape := ⟨2, ![16384, 512]⟩
abbrev S16384x256 : Shape := ⟨2, ![16384, 256]⟩
abbrev S4x32 : Shape := ⟨2, ![4, 32]⟩
abbrev S64 : Shape := ⟨1, ![64]⟩
abbrev S128x512 : Shape := ⟨2, ![128, 512]⟩
abbrev S512 : Shape := ⟨1, ![512]⟩
abbrev S256 : Shape := ⟨1, ![256]⟩
abbrev S1024x1024 : Shape := ⟨2, ![1024, 1024]⟩
abbrev S1024 : Shape := ⟨1, ![1024]⟩
abbrev S128x8x64 : Shape := ⟨3, ![128, 8, 64]⟩
abbrev S8x128x64 : Shape := ⟨3, ![8, 128, 64]⟩
abbrev S8x8 : Shape := ⟨2, ![8, 8]⟩
abbrev S_ : Shape := ⟨0, ![]⟩
abbrev S8x128x1x64 : Shape := ⟨4, ![8, 128, 1, 64]⟩
abbrev S8x1x8x1 : Shape := ⟨4, ![8, 1, 8, 1]⟩
abbrev S8x128x8x64 : Shape := ⟨4, ![8, 128, 8, 64]⟩
abbrev S1024x512 : Shape := ⟨2, ![1024, 512]⟩
abbrev S128 : Shape := ⟨1, ![128]⟩
abbrev S1x128 : Shape := ⟨2, ![1, 128]⟩
abbrev S4x128 : Shape := ⟨2, ![4, 128]⟩
abbrev S1x512 : Shape := ⟨2, ![1, 512]⟩
abbrev S4x4 : Shape := ⟨2, ![4, 4]⟩
abbrev S128x1 : Shape := ⟨2, ![128, 1]⟩
abbrev S128x128 : Shape := ⟨2, ![128, 128]⟩
abbrev S4x1x4x1 : Shape := ⟨4, ![4, 1, 4, 1]⟩
abbrev S1x128x1x128 : Shape := ⟨4, ![1, 128, 1, 128]⟩
abbrev S4x128x4x128 : Shape := ⟨4, ![4, 128, 4, 128]⟩
abbrev S512x512 : Shape := ⟨2, ![512, 512]⟩
abbrev S256x1024 : Shape := ⟨2, ![256, 1024]⟩
abbrev S4x64x1024 : Shape := ⟨3, ![4, 64, 1024]⟩
abbrev S4x128x1024 : Shape := ⟨3, ![4, 128, 1024]⟩
abbrev S512x1024 : Shape := ⟨2, ![512, 1024]⟩
abbrev S1x256 : Shape := ⟨2, ![1, 256]⟩
abbrev S1x1024 : Shape := ⟨2, ![1, 1024]⟩
abbrev S512x256 : Shape := ⟨2, ![512, 256]⟩
abbrev S1x32 : Shape := ⟨2, ![1, 32]⟩
abbrev S1 : Shape := ⟨1, ![1]⟩
abbrev S1x1 : Shape := ⟨2, ![1, 1]⟩
abbrev S512x1 : Shape := ⟨2, ![512, 1]⟩

abbrev nBuf : Space → Nat
  | .hbm => 81
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x1024, .f32⟩
  | .hbm, ⟨3, _⟩ => ⟨S16384x256, .f32⟩
  | .hbm, ⟨4, _⟩ => ⟨S4x32, .f32⟩
  | .hbm, ⟨5, _⟩ => ⟨S64, .f32⟩
  | .hbm, ⟨6, _⟩ => ⟨S128x512, .f32⟩
  | .hbm, ⟨7, _⟩ => ⟨S512, .f32⟩
  | .hbm, ⟨8, _⟩ => ⟨S256, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S128x8x64, .f32⟩
  | .hbm, ⟨13, _⟩ => ⟨S8x128x64, .f32⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S8x8, .f32⟩
  | .hbm, ⟨21, _⟩ => ⟨S8x128x1x64, .f32⟩
  | .hbm, ⟨22, _⟩ => ⟨S8x1x8x1, .f32⟩
  | .hbm, ⟨23, _⟩ => ⟨S8x128x8x64, .f32⟩
  | .hbm, ⟨24, _⟩ => ⟨S8x128x8x64, .f32⟩
  | .hbm, ⟨25, _⟩ => ⟨S8x128x8x64, .f32⟩
  | .hbm, ⟨26, _⟩ => ⟨S1024x512, .f32⟩
  | .hbm, ⟨27, _⟩ => ⟨S1024x512, .bf16⟩
  | .hbm, ⟨28, _⟩ => ⟨S_, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S128, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S128, .f32⟩
  | .hbm, ⟨39, _⟩ => ⟨S1x128, .f32⟩
  | .hbm, ⟨40, _⟩ => ⟨S4x128, .f32⟩
  | .hbm, ⟨41, _⟩ => ⟨S512, .f32⟩
  | .hbm, ⟨42, _⟩ => ⟨S1x512, .f32⟩
  | .hbm, ⟨43, _⟩ => ⟨S4x4, .i32⟩
  | .hbm, ⟨44, _⟩ => ⟨S4x4, .i32⟩
  | .hbm, ⟨45, _⟩ => ⟨S_, .i32⟩
  | .hbm, ⟨46, _⟩ => ⟨S4x4, .i32⟩
  | .hbm, ⟨47, _⟩ => ⟨S4x4, .i32⟩
  | .hbm, ⟨48, _⟩ => ⟨S4x4, .i1⟩
  | .hbm, ⟨49, _⟩ => ⟨S4x4, .f32⟩
  | .hbm, ⟨50, _⟩ => ⟨S128x1, .f32⟩
  | .hbm, ⟨51, _⟩ => ⟨S1x128, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S_, .f32⟩
  | .hbm, ⟨56, _⟩ => ⟨S128x128, .f32⟩
  | .hbm, ⟨57, _⟩ => ⟨S128x128, .f32⟩
  | .hbm, ⟨58, _⟩ => ⟨S4x1x4x1, .f32⟩
  | .hbm, ⟨59, _⟩ => ⟨S1x128x1x128, .f32⟩
  | .hbm, ⟨60, _⟩ => ⟨S4x128x4x128, .f32⟩
  | .hbm, ⟨61, _⟩ => ⟨S4x128x4x128, .f32⟩
  | .hbm, ⟨62, _⟩ => ⟨S4x128x4x128, .f32⟩
  | .hbm, ⟨63, _⟩ => ⟨S512x512, .f32⟩
  | .hbm, ⟨64, _⟩ => ⟨S512x512, .bf16⟩
  | .hbm, ⟨65, _⟩ => ⟨S256x1024, .f32⟩
  | .hbm, ⟨66, _⟩ => ⟨S4x64x1024, .f32⟩
  | .hbm, ⟨67, _⟩ => ⟨S_, .f32⟩
  | .hbm, ⟨68, _⟩ => ⟨S4x64x1024, .f32⟩
  | .hbm, ⟨69, _⟩ => ⟨S4x128x1024, .f32⟩
  | .hbm, ⟨70, _⟩ => ⟨S512x1024, .f32⟩
  | .hbm, ⟨71, _⟩ => ⟨S512x1024, .bf16⟩
  | .hbm, ⟨72, _⟩ => ⟨S512x1024, .f32⟩
  | .hbm, ⟨73, _⟩ => ⟨S512x1024, .bf16⟩
  | .hbm, ⟨74, _⟩ => ⟨S256x1024, .f32⟩
  | .hbm, ⟨75, _⟩ => ⟨S256x1024, .bf16⟩
  | .hbm, ⟨76, _⟩ => ⟨S1x512, .f32⟩
  | .hbm, ⟨77, _⟩ => ⟨S1x256, .f32⟩
  | .hbm, ⟨78, _⟩ => ⟨S1x1024, .f32⟩
  | .hbm, ⟨79, _⟩ => ⟨S1x1024, .f32⟩
  | .hbm, ⟨80, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x256, .f32⟩
  | .local _ .vmem, ⟨7, _⟩ => ⟨S512x256, .f32⟩
  | .local _ .vmem, ⟨8, _⟩ => ⟨S4x32, .f32⟩
  | .local _ .vmem, ⟨9, _⟩ => ⟨S1x512, .f32⟩
  | .local _ .vmem, ⟨10, _⟩ => ⟨S512x512, .bf16⟩
  | .local _ .vmem, ⟨11, _⟩ => ⟨S1024x512, .bf16⟩
  | .local _ .vmem, ⟨12, _⟩ => ⟨S1x512, .f32⟩
  | .local _ .vmem, ⟨13, _⟩ => ⟨S1x256, .f32⟩
  | .local _ .vmem, ⟨14, _⟩ => ⟨S512x1024, .bf16⟩
  | .local _ .vmem, ⟨15, _⟩ => ⟨S512x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S16384x1024 : Shape := ⟨2, ![16384, 1024]⟩
abbrev S16384x512 : Shape := ⟨2, ![16384, 512]⟩
abbrev S16384x256 : Shape := ⟨2, ![16384, 256]⟩
abbrev S4x32 : Shape := ⟨2, ![4, 32]⟩
abbrev S64 : Shape := ⟨1, ![64]⟩
abbrev S128x512 : Shape := ⟨2, ![128, 512]⟩
abbrev S512 : Shape := ⟨1, ![512]⟩
abbrev S256 : Shape := ⟨1, ![256]⟩
abbrev S1024x1024 : Shape := ⟨2, ![1024, 1024]⟩
abbrev S1024 : Shape := ⟨1, ![1024]⟩
abbrev S1x32 : Shape := ⟨2, ![1, 32]⟩
abbrev S32 : Shape := ⟨1, ![32]⟩
abbrev S_ : Shape := ⟨0, ![]⟩
abbrev S16384x4x2x64 : Shape := ⟨4, ![16384, 4, 2, 64]⟩
abbrev S16384x4x1x64 : Shape := ⟨4, ![16384, 4, 1, 64]⟩
abbrev S16384x4x64 : Shape := ⟨3, ![16384, 4, 64]⟩
abbrev S16384x4 : Shape := ⟨2, ![16384, 4]⟩
abbrev S16384x4x1 : Shape := ⟨3, ![16384, 4, 1]⟩
abbrev S1x1x64 : Shape := ⟨3, ![1, 1, 64]⟩
abbrev S16384x8x128 : Shape := ⟨3, ![16384, 8, 128]⟩
abbrev S128x8x64 : Shape := ⟨3, ![128, 8, 64]⟩
abbrev S8x64x16384 : Shape := ⟨3, ![8, 64, 16384]⟩
abbrev S16384x8x64 : Shape := ⟨3, ![16384, 8, 64]⟩
abbrev S16384 : Shape := ⟨1, ![16384]⟩
abbrev S16384x1 : Shape := ⟨2, ![16384, 1]⟩
abbrev S1x512 : Shape := ⟨2, ![1, 512]⟩
abbrev S1x256 : Shape := ⟨2, ![1, 256]⟩
abbrev S1x1024 : Shape := ⟨2, ![1, 1024]⟩

abbrev nBuf : Space → Nat
  | .hbm => 129
  | .vmem => 0
  | .smem => 0
  | _ => 0

abbrev hbmTy0_0 (i : Nat) : BufTy := match i % 128 with
  | 0 => ⟨S16384x1024, .f32⟩
  | 1 => ⟨S16384x512, .f32⟩
  | 2 => ⟨S16384x1024, .f32⟩
  | 3 => ⟨S16384x256, .f32⟩
  | 4 => ⟨S4x32, .f32⟩
  | 5 => ⟨S64, .f32⟩
  | 6 => ⟨S128x512, .f32⟩
  | 7 => ⟨S512, .f32⟩
  | 8 => ⟨S256, .f32⟩
  | 9 => ⟨S1024x1024, .f32⟩
  | 10 => ⟨S1024, .f32⟩
  | 11 => ⟨S1024, .f32⟩
  | 12 => ⟨S1x32, .f32⟩
  | 13 => ⟨S32, .f32⟩
  | 14 => ⟨S1x32, .f32⟩
  | 15 => ⟨S32, .f32⟩
  | 16 => ⟨S32, .f32⟩
  | 17 => ⟨S_, .f32⟩
  | 18 => ⟨S_, .f32⟩
  | 19 => ⟨S_, .f32⟩
  | 20 => ⟨S1x32, .f32⟩
  | 21 => ⟨S32, .f32⟩
  | 22 => ⟨S1x32, .f32⟩
  | 23 => ⟨S32, .f32⟩
  | 24 => ⟨S32, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S16384x4x2x64, .f32⟩
  | 32 => ⟨S16384x4x1x64, .f32⟩
  | 33 => ⟨S16384x4x64, .f32⟩
  | 34 => ⟨S16384x4x1x64, .f32⟩
  | 35 => ⟨S16384x4x64, .f32⟩
  | 36 => ⟨S16384x4x64, .f32⟩
  | 37 => ⟨S16384x4x64, .f32⟩
  | 38 => ⟨S16384x4x64, .f32⟩
  | 39 => ⟨S16384x4x64, .f32⟩
  | 40 => ⟨S_, .f32⟩
  | 41 => ⟨S16384x4, .f32⟩
  | 42 => ⟨S16384x4x1, .f32⟩
  | 43 => ⟨S_, .f32⟩
  | 44 => ⟨S16384x4x1, .f32⟩
  | 45 => ⟨S16384x4x1, .f32⟩
  | 46 => ⟨S_, .f32⟩
  | 47 => ⟨S16384x4x1, .f32⟩
  | 48 => ⟨S16384x4x1, .f32⟩
  | 49 => ⟨S16384x4x1, .f32⟩
  | 50 => ⟨S16384x4x64, .f32⟩
  | 51 => ⟨S16384x4x64, .f32⟩
  | 52 => ⟨S1x1x64, .f32⟩
  | 53 => ⟨S16384x4x64, .f32⟩
  | 54 => ⟨S16384x4x64, .f32⟩
  | 55 => ⟨S_, .f32⟩
  | 56 => ⟨S16384x4x64, .f32⟩
  | 57 => ⟨S16384x4x64, .f32⟩
  | 58 => ⟨S16384x256, .f32⟩
  | 59 => ⟨S16384x8x128, .f32⟩
  | 60 => ⟨S128x8x64, .f32⟩
  | 61 => ⟨S8x64x16384, .f32⟩
  | 62 => ⟨S16384x8x64, .f32⟩
  | 63 => ⟨S16384x512, .f32⟩
  | 64 => ⟨S16384x512, .f32⟩
  | 65 => ⟨S_, .f32⟩
  | 66 => ⟨S16384, .f32⟩
  | 67 => ⟨S16384x1, .f32⟩
  | 68 => ⟨S_, .f32⟩
  | 69 => ⟨S16384x1, .f32⟩
  | 70 => ⟨S16384x1, .f32⟩
  | 71 => ⟨S_, .f32⟩
  | 72 => ⟨S16384x1, .f32⟩
  | 73 => ⟨S16384x1, .f32⟩
  | 74 => ⟨S16384x1, .f32⟩
  | 75 => ⟨S16384x512, .f32⟩
  | 76 => ⟨S16384x512, .f32⟩
  | 77 => ⟨S1x512, .f32⟩
  | 78 => ⟨S16384x512, .f32⟩
  | 79 => ⟨S16384x512, .f32⟩
  | 80 => ⟨S16384x256, .f32⟩
  | 81 => ⟨S_, .f32⟩
  | 82 => ⟨S16384, .f32⟩
  | 83 => ⟨S16384x1, .f32⟩
  | 84 => ⟨S_, .f32⟩
  | 85 => ⟨S16384x1, .f32⟩
  | 86 => ⟨S16384x1, .f32⟩
  | 87 => ⟨S_, .f32⟩
  | 88 => ⟨S16384x1, .f32⟩
  | 89 => ⟨S16384x1, .f32⟩
  | 90 => ⟨S16384x1, .f32⟩
  | 91 => ⟨S16384x256, .f32⟩
  | 92 => ⟨S16384x256, .f32⟩
  | 93 => ⟨S1x256, .f32⟩
  | 94 => ⟨S16384x256, .f32⟩
  | 95 => ⟨S16384x256, .f32⟩
  | 96 => ⟨S_, .f32⟩
  | 97 => ⟨S16384x1024, .f32⟩
  | 98 => ⟨S16384x1024, .f32⟩
  | 99 => ⟨S16384x1024, .f32⟩
  | 100 => ⟨S16384x1024, .f32⟩
  | 101 => ⟨S16384x1024, .f32⟩
  | 102 => ⟨S_, .f32⟩
  | 103 => ⟨S16384, .f32⟩
  | 104 => ⟨S16384x1, .f32⟩
  | 105 => ⟨S_, .f32⟩
  | 106 => ⟨S16384x1, .f32⟩
  | 107 => ⟨S16384x1, .f32⟩
  | 108 => ⟨S16384x1024, .f32⟩
  | 109 => ⟨S16384x1024, .f32⟩
  | 110 => ⟨S16384x1024, .f32⟩
  | 111 => ⟨S_, .f32⟩
  | 112 => ⟨S16384, .f32⟩
  | 113 => ⟨S16384x1, .f32⟩
  | 114 => ⟨S_, .f32⟩
  | 115 => ⟨S16384x1, .f32⟩
  | 116 => ⟨S16384x1, .f32⟩
  | 117 => ⟨S_, .f32⟩
  | 118 => ⟨S16384x1, .f32⟩
  | 119 => ⟨S16384x1, .f32⟩
  | 120 => ⟨S16384x1, .f32⟩
  | 121 => ⟨S16384x1024, .f32⟩
  | 122 => ⟨S16384x1024, .f32⟩
  | 123 => ⟨S1x1024, .f32⟩
  | 124 => ⟨S16384x1024, .f32⟩
  | 125 => ⟨S16384x1024, .f32⟩
  | 126 => ⟨S1x1024, .f32⟩
  | 127 => ⟨S16384x1024, .f32⟩
  | _ => ⟨S16384x1024, .f32⟩

abbrev hbmTy0_1 (i : Nat) : BufTy := match i % 128 with
  | 0 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_15 : Ref sig .tc := ⟨.hbm, 111, rfl⟩
abbrev main_v83 : Ref sig .tc := ⟨.hbm, 112, rfl⟩
abbrev main_v84 : Ref sig .tc := ⟨.hbm, 113, rfl⟩
abbrev main_cst_16 : Ref sig .tc := ⟨.hbm, 114, rfl⟩
abbrev main_v85 : Ref sig .tc := ⟨.hbm, 115, rfl⟩
abbrev main_v86 : Ref sig .tc := ⟨.hbm, 116, rfl⟩
abbrev main_cst_17 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩

abbrev nD : Nat := 1
abbrev τ : Topo := Topo.v7x

variable {F : FTy → Type} [FloatOps F]
-- ==== Kernel6.lean ====
abbrev S1024x1024 : Shape := ⟨2, ![1024, 1024]⟩
abbrev S1024x1444 : Shape := ⟨2, ![1024, 1444]⟩
abbrev S4 : Shape := ⟨1, ![4]⟩
abbrev S256 : Shape := ⟨1, ![256]⟩
abbrev S256x768 : Shape := ⟨2, ![256, 768]⟩
abbrev S128 : Shape := ⟨1, ![128]⟩
abbrev S128x512 : Shape := ⟨2, ![128, 512]⟩
abbrev S8 : Shape := ⟨1, ![8]⟩
abbrev S_ : Shape := ⟨0, ![]⟩
abbrev S16 : Shape := ⟨1, ![16]⟩
abbrev S8x1 : Shape := ⟨2, ![8, 1]⟩
abbrev S1x16 : Shape := ⟨2, ![1, 16]⟩
abbrev S8x16 : Shape := ⟨2, ![8, 16]⟩
abbrev S8x32 : Shape := ⟨2, ![8, 32]⟩
abbrev S1x8x1x32 : Shape := ⟨4, ![1, 8, 1, 32]⟩
abbrev S1x8x8x32 : Shape := ⟨4, ![1, 8, 8, 32]⟩
abbrev S8x256 : Shape := ⟨2, ![8, 256]⟩
abbrev S1x8x1x256 : Shape := ⟨4, ![1, 8, 1, 256]⟩
abbrev S64x8x1x256 : Shape := ⟨4, ![64, 8, 1, 256]⟩
abbrev S512x256 : Shape := ⟨2, ![512, 256]⟩
abbrev S1024x256 : Shape := ⟨2, ![1024, 256]⟩
abbrev S1024x128 : Shape := ⟨2, ![1024, 128]⟩
abbrev S1024x160 : Shape := ⟨2, ![1024, 160]⟩
abbrev S1024x4 : Shape := ⟨2, ![1024, 4]⟩
abbrev S1024x32 : Shape := ⟨2, ![1024, 32]⟩
abbrev S1024x8x2x16 : Shape := ⟨4, ![1024, 8, 2, 16]⟩
abbrev S1024x4x2x16 : Shape := ⟨4, ![1024, 4, 2, 16]⟩
abbrev S1024x1x2x16 : Shape := ⟨4, ![1024, 1, 2, 16]⟩
abbrev S1024x2176 : Shape := ⟨2, ![1024, 2176]⟩
abbrev S256x8x96 : Shape := ⟨3, ![256, 8, 96]⟩
abbrev S256x8x64 : Shape := ⟨3, ![256, 8, 64]⟩
abbrev S256x512 : Shape := ⟨2, ![256, 512]⟩
abbrev S256x8x32 : Shape := ⟨3, ![256, 8, 32]⟩
abbrev S256x256 : Shape := ⟨2, ![256, 256]⟩
abbrev S256x8x2x16 : Shape := ⟨4, ![256, 8, 2, 16]⟩
abbrev S256x1024 : Shape := ⟨2, ![256, 1024]⟩
abbrev S128x8x64 : Shape := ⟨3, ![128, 8, 64]⟩
abbrev S8x64x128 : Shape := ⟨3, ![8, 64, 128]⟩
abbrev S8x8 : Shape := ⟨2, ![8, 8]⟩
abbrev S8x64x1x128 : Shape := ⟨4, ![8, 64, 1, 128]⟩
abbrev S8x1x8x1 : Shape := ⟨4, ![8, 1, 8, 1]⟩
abbrev S8x64x8x128 : Shape := ⟨4, ![8, 64, 8, 128]⟩
abbrev S512x1024 : Shape := ⟨2, ![512, 1024]⟩
abbrev S1x4 : Shape := ⟨2, ![1, 4]⟩
abbrev S1x128 : Shape := ⟨2, ![1, 128]⟩
abbrev S1x256 : Shape := ⟨2, ![1, 256]⟩
abbrev S512x128 : Shape := ⟨2, ![512, 128]⟩
abbrev S512x2176 : Shape := ⟨2, ![512, 2176]⟩
abbrev S512 : Shape := ⟨1, ![512]⟩
abbrev S512x1 : Shape := ⟨2, ![512, 1]⟩
abbrev S512x512 : Shape := ⟨2, ![512, 512]⟩

abbrev nBuf : Space → Nat
  | .hbm => 117
  | .vmem => 34
  | .smem => 0
  | _ => 0

abbrev bufTy : (tb : Table) → Fin (tcTables nBuf tb) → BufTy
  | .hbm, ⟨0, _⟩ => ⟨S1024x1024, .f32⟩
  | .hbm, ⟨1, _⟩ => ⟨S1024x1444, .f32⟩
  | .hbm, ⟨2, _⟩ => ⟨S4, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x512, .f32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S8, .f32⟩
  | .hbm, ⟨20, _⟩ => ⟨S8x1, .f32⟩
  | .hbm, ⟨21, _⟩ => ⟨S1x16, .f32⟩
  | .hbm, ⟨22, _⟩ => ⟨S8x16, .f32⟩
  | .hbm, ⟨23, _⟩ => ⟨S8x16, .f32⟩
  | .hbm, ⟨24, _⟩ => ⟨S8x16, .f32⟩
  | .hbm, ⟨25, _⟩ => ⟨S8x16, .f32⟩
  | .hbm, ⟨26, _⟩ => ⟨S8x16, .f32⟩
  | .hbm, ⟨27, _⟩ => ⟨S8x32, .f32⟩
  | .hbm, ⟨28, _⟩ => ⟨S1x8x1x32, .f32⟩
  | .hbm, ⟨29, _⟩ => ⟨S1x8x8x32, .f32⟩
  | .hbm, ⟨30, _⟩ => ⟨S8x256, .f32⟩
  | .hbm, ⟨31, _⟩ => ⟨S8x16, .f32⟩
  | .hbm, ⟨32, _⟩ => ⟨S8x32, .f32⟩
  | .hbm, ⟨33, _⟩ => ⟨S1x8x1x32, .f32⟩
  | .hbm, ⟨34, _⟩ => ⟨S1x8x8x32, .f32⟩
  | .hbm, ⟨35, _⟩ => ⟨S8x256, .f32⟩
  | .hbm, ⟨36, _⟩ => ⟨S1x8x1x256, .f32⟩
  | .hbm, ⟨37, _⟩ => ⟨S64x8x1x256, .f32⟩
  | .hbm, ⟨38, _⟩ => ⟨S512x256, .f32⟩
  | .hbm, ⟨39, _⟩ => ⟨S1x8x1x256, .f32⟩
  | .hbm, ⟨40, _⟩ => ⟨S64x8x1x256, .f32⟩
  | .hbm, ⟨41, _⟩ => ⟨S512x256, .f32⟩
  | .hbm, ⟨42, _⟩ => ⟨S1024x256, .f32⟩
  | .hbm, ⟨43, _⟩ => ⟨S1024x128, .f32⟩
  | .hbm, ⟨44, _⟩ => ⟨S1024x128, .f32⟩
  | .hbm, ⟨45, _⟩ => ⟨S1024x256, .f32⟩
  | .hbm, ⟨46, _⟩ => ⟨S1024x160, .f32⟩
  | .hbm, ⟨47, _⟩ => ⟨S1024x256, .f32⟩
  | .hbm, ⟨48, _⟩ => ⟨S1024x128, .f32⟩
  | .hbm, ⟨49, _⟩ => ⟨S1024x128, .f32⟩
  | .hbm, ⟨50, _⟩ => ⟨S1024x4, .f32⟩
  | .hbm, ⟨51, _⟩ => ⟨S1024x128, .f32⟩
  | .hbm, ⟨52, _⟩ => ⟨S1024x32, .f32⟩
  | .hbm, ⟨53, _⟩ => ⟨S1024x8x2x16, .f32⟩
  | .hbm, ⟨54, _⟩ => ⟨S1024x8x2x16, .f32⟩
  | .hbm, ⟨55, _⟩ => ⟨S1024x256, .f32⟩
  | .hbm, ⟨56, _⟩ => ⟨S1024x4x2x16, .f32⟩
  | .hbm, ⟨57, _⟩ => ⟨S1024x4x2x16, .f32⟩
  | .hbm, ⟨58, _⟩ => ⟨S1024x128, .f32⟩
  | .hbm, ⟨59, _⟩ => ⟨S_, .i32⟩
  | .hbm, ⟨60, _⟩ => ⟨S_, .f32⟩
  | .hbm, ⟨61, _⟩ => ⟨S1024x128, .f32⟩
  | .hbm, ⟨62, _⟩ => ⟨S1024x1x2x16, .f32⟩
  | .hbm, ⟨63, _⟩ => ⟨S1024x1x2x16, .f32⟩
  | .hbm, ⟨64, _⟩ => ⟨S1024x32, .f32⟩
  | .hbm, ⟨65, _⟩ => ⟨S_, .i32⟩
  | .hbm, ⟨66, _⟩ => ⟨S_, .f32⟩
  | .hbm, ⟨67, _⟩ => ⟨S1024x128, .f32⟩
  | .hbm, ⟨68, _⟩ => ⟨S_, .i32⟩
  | .hbm, ⟨69, _⟩ => ⟨S_, .f32⟩
  | .hbm, ⟨70, _⟩ => ⟨S1024x128, .f32⟩
  | .hbm, ⟨71, _⟩ => ⟨S1024x2176, .f32⟩
  | .hbm, ⟨72, _⟩ => ⟨S1024x2176, .bf16⟩
  | .hbm, ⟨73, _⟩ => ⟨S256x8x96, .f32⟩
  | .hbm, ⟨74, _⟩ => ⟨S256x8x64, .f32⟩
  | .hbm, ⟨75, _⟩ => ⟨S256x512, .f32⟩
  | .hbm, ⟨76, _⟩ => ⟨S256x8x32, .f32⟩
  | .hbm, ⟨77, _⟩ => ⟨S256x256, .f32⟩
  | .hbm, ⟨78, _⟩ => ⟨S256x8x2x16, .f32⟩
  | .hbm, ⟨79, _⟩ => ⟨S256x8x2x16, .f32⟩
  | .hbm, ⟨80, _⟩ => ⟨S256x256, .f32⟩
  | .hbm, ⟨81, _⟩ => ⟨S256x1024, .f32⟩
  | .hbm, ⟨82, _⟩ => ⟨S256x1024, .bf16⟩
  | .hbm, ⟨83, _⟩ => ⟨S128x8x64, .f32⟩
  | .hbm, ⟨84, _⟩ => ⟨S8x64x128, .f32⟩
  | .hbm, ⟨85, _⟩ => ⟨S8x8, .i32⟩
  | .hbm, ⟨86, _⟩ => ⟨S8x8, .i32⟩
  | .hbm, ⟨87, _⟩ => ⟨S_, .i32⟩
  | .hbm, ⟨88, _⟩ => ⟨S8x8, .i32⟩
  | .hbm, ⟨89, _⟩ => ⟨S8x8, .i32⟩
  | .hbm, ⟨90, _⟩ => ⟨S8x8, .i1⟩
  | .hbm, ⟨91, _⟩ => ⟨S8x8, .f32⟩
  | .hbm, ⟨92, _⟩ => ⟨S8x64x1x128, .f32⟩
  | .hbm, ⟨93, _⟩ => ⟨S8x1x8x1, .f32⟩
  | .hbm, ⟨94, _⟩ => ⟨S8x64x8x128, .f32⟩
  | .hbm, ⟨95, _⟩ => ⟨S8x64x8x128, .f32⟩
  | .hbm, ⟨96, _⟩ => ⟨S8x64x8x128, .f32⟩
  | .hbm, ⟨97, _⟩ => ⟨S512x1024, .f32⟩
  | .hbm, ⟨98, _⟩ => ⟨S512x1024, .bf16⟩
  | .hbm, ⟨99, _⟩ => ⟨S1x4, .f32⟩
  | .hbm, ⟨100, _⟩ => ⟨S_, .i32⟩
  | .hbm, ⟨101, _⟩ => ⟨S_, .f32⟩
  | .hbm, ⟨102, _⟩ => ⟨S1x128, .f32⟩
  | .hbm, ⟨103, _⟩ => ⟨S1x256, .f32⟩
  | .hbm, ⟨104, _⟩ => ⟨S1x128, .f32⟩
  | .hbm, ⟨105, _⟩ => ⟨S1024x256, .bf16⟩
  | .hbm, ⟨106, _⟩ => ⟨S1024x1024, .bf16⟩
  | .hbm, ⟨107, _⟩ => ⟨S1024x256, .bf16⟩
  | .hbm, ⟨108, _⟩ => ⟨S1024x256, .bf16⟩
  | .hbm, ⟨109, _⟩ => ⟨S1024x128, .f32⟩
  | .hbm, ⟨110, _⟩ => ⟨S1024x128, .f32⟩
  | .hbm, ⟨111, _⟩ => ⟨S1024x128, .f32⟩
  | .hbm, ⟨112, _⟩ => ⟨S1024x128, .f32⟩
  | .hbm, ⟨113, _⟩ => ⟨S1024x128, .f32⟩
  | .hbm, ⟨114, _⟩ => ⟨S1024x128, .f32⟩
  | .hbm, ⟨115, _⟩ => ⟨S1024x128, .f32⟩
  | .hbm, ⟨116, _⟩ => ⟨S1024x128, .f32⟩
  | .local _ .vmem, ⟨0, _⟩ => ⟨S512x1024, .f32⟩
  | .local _ .vmem, ⟨1, _⟩ => ⟨S512x1024, .f32⟩
  | .local _ .vmem, ⟨2, _⟩ => ⟨S1024x2176, .bf16⟩
  | .local _ .vmem, ⟨3, _⟩ => ⟨S512x256, .f32⟩
  | .local _ .vmem, ⟨4, _⟩ => ⟨S512x256, .f32⟩
  | .local _ .vmem, ⟨5, _⟩ => ⟨S1x256, .f32⟩
  | .local _ .vmem, ⟨6, _⟩ => ⟨S256x1024, .bf16⟩
  | .local _ .vmem, ⟨7, _⟩ => ⟨S512x1024, .bf16⟩
  | .local _ .vmem, ⟨8, _⟩ => ⟨S1x128, .f32⟩
  | .local _ .vmem, ⟨9, _⟩ => ⟨S1x128, .f32⟩
  | .local _ .vmem, ⟨10, _⟩ => ⟨S512x256, .bf16⟩
  | .local _ .vmem, ⟨11, _⟩ => ⟨S512x256, .bf16⟩
  | .local _ .vmem, ⟨12, _⟩ => ⟨S512x1024, .bf16⟩
  | .local _ .vmem, ⟨13, _⟩ => ⟨S512x1024, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_1 : Ref sig .tc := ⟨.hbm, 59, rfl⟩
abbrev main_call2_v0 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_c_2 : Ref sig .tc := ⟨.hbm, 65, rfl⟩
abbrev main_call4_v0 : Ref sig .tc := ⟨.hbm, 66, rfl⟩
abbrev main_v53 : Ref sig .tc := ⟨.hbm, 67, rfl⟩
abbrev main_c_3 : Ref sig .tc := ⟨.hbm, 68, rfl⟩
abbrev main_call5_v0 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_c_4 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_c_5 : Ref sig .tc := ⟨.hbm, 100, rfl⟩
abbrev main_call7_v0 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86_0 : Ref sig .tc := ⟨.hbm, 105, rfl⟩
abbrev main_v86_1 : Ref sig .tc := ⟨.hbm, 106, rfl⟩
abbrev main_v86_2 : Ref sig .tc := ⟨.hbm, 107, rfl⟩
abbrev main_v86_3 : Ref sig .tc := ⟨.hbm, 108, rfl⟩
abbrev main_v86_4 : Ref sig .tc := ⟨.hbm, 109, rfl⟩
abbrev main_v86_5 : Ref sig .tc := ⟨.hbm, 110, rfl⟩
abbrev main_v86_6 : Ref sig .tc := ⟨.hbm, 111, rfl⟩
abbrev main_v86_7 : Ref sig .tc := ⟨.hbm, 112, rfl⟩
abbrev main_v86_8 : Ref sig .tc := ⟨.hbm, 113, rfl⟩
abbrev main_v86_9 : Ref sig .tc := ⟨.hbm, 114, rfl⟩
abbrev main_v86_10 : Ref sig .tc := ⟨.hbm, 115, rfl⟩
abbrev main_v86_11 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference6Ideal.lean ====
abbrev S1024x1024 : Shape := ⟨2, ![1024, 1024]⟩
abbrev S1024x1444 : Shape := ⟨2, ![1024, 1444]⟩
abbrev S4 : Shape := ⟨1, ![4]⟩
abbrev S256 : Shape := ⟨1, ![256]⟩
abbrev S256x768 : Shape := ⟨2, ![256, 768]⟩
abbrev S128 : Shape := ⟨1, ![128]⟩
abbrev S128x512 : Shape := ⟨2, ![128, 512]⟩
abbrev S8 : Shape := ⟨1, ![8]⟩
abbrev S_ : Shape := ⟨0, ![]⟩
abbrev S128x8x1024 : Shape := ⟨3, ![128, 8, 1024]⟩
abbrev S128x8x1444 : Shape := ⟨3, ![128, 8, 1444]⟩
abbrev S128x8x256 : Shape := ⟨3, ![128, 8, 256]⟩
abbrev S128x8x128 : Shape := ⟨3, ![128, 8, 128]⟩
abbrev S128x8x160 : Shape := ⟨3, ![128, 8, 160]⟩
abbrev S128x8x4 : Shape := ⟨3, ![128, 8, 4]⟩
abbrev S128x8x8x32 : Shape := ⟨4, ![128, 8, 8, 32]⟩
abbrev S16 : Shape := ⟨1, ![16]⟩
abbrev S8x1 : Shape := ⟨2, ![8, 1]⟩
abbrev S1x16 : Shape := ⟨2, ![1, 16]⟩
abbrev S8x16 : Shape := ⟨2, ![8, 16]⟩
abbrev S8x1x16 : Shape := ⟨3, ![8, 1, 16]⟩
abbrev S128x8x8x16 : Shape := ⟨4, ![128, 8, 8, 16]⟩
abbrev S1x8x1x16 : Shape := ⟨4, ![1, 8, 1, 16]⟩
abbrev S128x8x4x32 : Shape := ⟨4, ![128, 8, 4, 32]⟩
abbrev S128x8x4x16 : Shape := ⟨4, ![128, 8, 4, 16]⟩
abbrev S128x8 : Shape := ⟨2, ![128, 8]⟩
abbrev S128x8x1 : Shape := ⟨3, ![128, 8, 1]⟩
abbrev S1x1x256 : Shape := ⟨3, ![1, 1, 256]⟩
abbrev S128x8x768 : Shape := ⟨3, ![128, 8, 768]⟩
abbrev S128x8x8x96 : Shape := ⟨4, ![128, 8, 8, 96]⟩
abbrev S128x8x8x64 : Shape := ⟨4, ![128, 8, 8, 64]⟩
abbrev S128x8x64 : Shape := ⟨3, ![128, 8, 64]⟩
abbrev S8x128x128x8 : Shape := ⟨4, ![8, 128, 128, 8]⟩
abbrev S128x8x8x128 : Shape := ⟨4, ![128, 8, 8, 128]⟩
abbrev S1x1x128 : Shape := ⟨3, ![1, 1, 128]⟩
abbrev S128x8x32 : Shape := ⟨3, ![128, 8, 32]⟩
abbrev S128x8x1x32 : Shape := ⟨4, ![128, 8, 1, 32]⟩
abbrev S128x8x1x16 : Shape := ⟨4, ![128, 8, 1, 16]⟩
abbrev S1x1x4 : Shape := ⟨3, ![1, 1, 4]⟩
abbrev S1024x256 : Shape := ⟨2, ![1024, 256]⟩
abbrev S1024x128 : Shape := ⟨2, ![1024, 128]⟩
abbrev S1024x32 : Shape := ⟨2, ![1024, 32]⟩
abbrev S1024x4 : Shape := ⟨2, ![1024, 4]⟩

abbrev nBuf : Space → Nat
  | .hbm => 266
  | .vmem => 0
  | .smem => 0
  | _ => 0

abbrev hbmTy0_0 (i : Nat) : BufTy := match i % 128 with
  | 0 => ⟨S1024x1024, .f32⟩
  | 1 => ⟨S1024x1444, .f32⟩
  | 2 => ⟨S4, .f32⟩
  | 3 => ⟨S256, .f32⟩
  | 4 => ⟨S256x768, .f32⟩
  | 5 => ⟨S128, .f32⟩
  | 6 => ⟨S128x512, .f32⟩
  | 7 => ⟨S8, .i32⟩
  | 8 => ⟨S_, .i32⟩
  | 9 => ⟨S8, .i32⟩
  | 10 => ⟨S8, .i32⟩
  | 11 => ⟨S128x8x1024, .f32⟩
  | 12 => ⟨S128x8x1444, .f32⟩
  | 13 => ⟨S128x8x256, .f32⟩
  | 14 => ⟨S128x8x128, .f32⟩
  | 15 => ⟨S128x8x128, .f32⟩
  | 16 => ⟨S128x8x256, .f32⟩
  | 17 => ⟨S128x8x160, .f32⟩
  | 18 => ⟨S128x8x256, .f32⟩
  | 19 => ⟨S128x8x128, .f32⟩
  | 20 => ⟨S128x8x128, .f32⟩
  | 21 => ⟨S128x8x4, .f32⟩
  | 22 => ⟨S128x8x8x32, .f32⟩
  | 23 => ⟨S16, .f32⟩
  | 24 => ⟨S16, .f32⟩
  | 25 => ⟨S_, .f32⟩
  | 26 => ⟨S16, .f32⟩
  | 27 => ⟨S16, .f32⟩
  | 28 => ⟨S_, .f32⟩
  | 29 => ⟨S16, .f32⟩
  | 30 => ⟨S16, .f32⟩
  | 31 => ⟨S8, .f32⟩
  | 32 => ⟨S8x1, .f32⟩
  | 33 => ⟨S1x16, .f32⟩
  | 34 => ⟨S8x16, .f32⟩
  | 35 => ⟨S8x16, .f32⟩
  | 36 => ⟨S8x16, .f32⟩
  | 37 => ⟨S8x16, .f32⟩
  | 38 => ⟨S8x1x16, .f32⟩
  | 39 => ⟨S8x16, .f32⟩
  | 40 => ⟨S8x1x16, .f32⟩
  | 41 => ⟨S128x8x8x16, .f32⟩
  | 42 => ⟨S128x8x8x16, .f32⟩
  | 43 => ⟨S1x8x1x16, .f32⟩
  | 44 => ⟨S128x8x8x16, .f32⟩
  | 45 => ⟨S128x8x8x16, .f32⟩
  | 46 => ⟨S1x8x1x16, .f32⟩
  | 47 => ⟨S128x8x8x16, .f32⟩
  | 48 => ⟨S128x8x8x16, .f32⟩
  | 49 => ⟨S128x8x8x16, .f32⟩
  | 50 => ⟨S1x8x1x16, .f32⟩
  | 51 => ⟨S128x8x8x16, .f32⟩
  | 52 => ⟨S128x8x8x16, .f32⟩
  | 53 => ⟨S1x8x1x16, .f32⟩
  | 54 => ⟨S128x8x8x16, .f32⟩
  | 55 => ⟨S128x8x8x16, .f32⟩
  | 56 => ⟨S128x8x8x16, .f32⟩
  | 57 => ⟨S128x8x8x32, .f32⟩
  | 58 => ⟨S128x8x4x32, .f32⟩
  | 59 => ⟨S16, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S8, .f32⟩
  | 68 => ⟨S8x1, .f32⟩
  | 69 => ⟨S1x16, .f32⟩
  | 70 => ⟨S8x16, .f32⟩
  | 71 => ⟨S8x16, .f32⟩
  | 72 => ⟨S8x16, .f32⟩
  | 73 => ⟨S8x16, .f32⟩
  | 74 => ⟨S8x1x16, .f32⟩
  | 75 => ⟨S8x16, .f32⟩
  | 76 => ⟨S8x1x16, .f32⟩
  | 77 => ⟨S128x8x4x16, .f32⟩
  | 78 => ⟨S128x8x4x16, .f32⟩
  | 79 => ⟨S1x8x1x16, .f32⟩
  | 80 => ⟨S128x8x4x16, .f32⟩
  | 81 => ⟨S128x8x4x16, .f32⟩
  | 82 => ⟨S1x8x1x16, .f32⟩
  | 83 => ⟨S128x8x4x16, .f32⟩
  | 84 => ⟨S128x8x4x16, .f32⟩
  | 85 => ⟨S128x8x4x16, .f32⟩
  | 86 => ⟨S1x8x1x16, .f32⟩
  | 87 => ⟨S128x8x4x16, .f32⟩
  | 88 => ⟨S128x8x4x16, .f32⟩
  | 89 => ⟨S1x8x1x16, .f32⟩
  | 90 => ⟨S128x8x4x16, .f32⟩
  | 91 => ⟨S128x8x4x16, .f32⟩
  | 92 => ⟨S128x8x4x16, .f32⟩
  | 93 => ⟨S128x8x4x32, .f32⟩
  | 94 => ⟨S128x8x256, .f32⟩
  | 95 => ⟨S_, .f32⟩
  | 96 => ⟨S128x8, .f32⟩
  | 97 => ⟨S128x8x1, .f32⟩
  | 98 => ⟨S_, .f32⟩
  | 99 => ⟨S128x8x1, .f32⟩
  | 100 => ⟨S128x8x1, .f32⟩
  | 101 => ⟨S_, .f32⟩
  | 102 => ⟨S128x8x1, .f32⟩
  | 103 => ⟨S128x8x1, .f32⟩
  | 104 => ⟨S128x8x1, .f32⟩
  | 105 => ⟨S128x8x256, .f32⟩
  | 106 => ⟨S128x8x256, .f32⟩
  | 107 => ⟨S1x1x256, .f32⟩
  | 108 => ⟨S128x8x256, .f32⟩
  | 109 => ⟨S128x8x256, .f32⟩
  | 110 => ⟨S128x8x768, .f32⟩
  | 111 => ⟨S128x8x8x96, .f32⟩
  | 112 => ⟨S128x8x8x64, .f32⟩
  | 113 => ⟨S128x8x8x32, .f32⟩
  | 114 => ⟨S16, .f32⟩
  | 115 => ⟨S16, .f32⟩
  | 116 => ⟨S_, .f32⟩
  | 117 => ⟨S16, .f32⟩
  | 118 => ⟨S16, .f32⟩
  | 119 => ⟨S_, .f32⟩
  | 120 => ⟨S16, .f32⟩
  | 121 => ⟨S16, .f32⟩
  | 122 => ⟨S8, .f32⟩
  | 123 => ⟨S8x1, .f32⟩
  | 124 => ⟨S1x16, .f32⟩
  | 125 => ⟨S8x16, .f32⟩
  | 126 => ⟨S8x16, .f32⟩
  | 127 => ⟨S8x16, .f32⟩
  | _ => ⟨S1024x1024, .f32⟩

abbrev hbmTy0_1 (i : Nat) : BufTy := match i % 128 with
  | 0 => ⟨S8x16, .f32⟩
  | 1 => ⟨S8x1x16, .f32⟩
  | 2 => ⟨S8x16, .f32⟩
  | 3 => ⟨S8x1x16, .f32⟩
  | 4 => ⟨S128x8x8x16, .f32⟩
  | 5 => ⟨S128x8x8x16, .f32⟩
  | 6 => ⟨S1x8x1x16, .f32⟩
  | 7 => ⟨S128x8x8x16, .f32⟩
  | 8 => ⟨S128x8x8x16, .f32⟩
  | 9 => ⟨S1x8x1x16, .f32⟩
  | 10 => ⟨S128x8x8x16, .f32⟩
  | 11 => ⟨S128x8x8x16, .f32⟩
  | 12 => ⟨S128x8x8x16, .f32⟩
  | 13 => ⟨S1x8x1x16, .f32⟩
  | 14 => ⟨S128x8x8x16, .f32⟩
  | 15 => ⟨S128x8x8x16, .f32⟩
  | 16 => ⟨S1x8x1x16, .f32⟩
  | 17 => ⟨S128x8x8x16, .f32⟩
  | 18 => ⟨S128x8x8x16, .f32⟩
  | 19 => ⟨S128x8x8x16, .f32⟩
  | 20 => ⟨S128x8x8x32, .f32⟩
  | 21 => ⟨S128x8x64, .f32⟩
  | 22 => ⟨S8x128x128x8, .f32⟩
  | 23 => ⟨S128x8x8x128, .f32⟩
  | 24 => ⟨S128x8x128, .f32⟩
  | 25 => ⟨S128x8x128, .f32⟩
  | 26 => ⟨S_, .f32⟩
  | 27 => ⟨S128x8, .f32⟩
  | 28 => ⟨S128x8x1, .f32⟩
  | 29 => ⟨S_, .f32⟩
  | 30 => ⟨S128x8x1, .f32⟩
  | 31 => ⟨S128x8x1, .f32⟩
  | 32 => ⟨S_, .f32⟩
  | 33 => ⟨S128x8x1, .f32⟩
  | 34 => ⟨S128x8x1, .f32⟩
  | 35 => ⟨S128x8x1, .f32⟩
  | 36 => ⟨S128x8x128, .f32⟩
  | 37 => ⟨S128x8x128, .f32⟩
  | 38 => ⟨S1x1x128, .f32⟩
  | 39 => ⟨S128x8x128, .f32⟩
  | 40 => ⟨S128x8x128, .f32⟩
  | 41 => ⟨S128x8x32, .f32⟩
  | 42 => ⟨S128x8x1x32, .f32⟩
  | 43 => ⟨S16, .f32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S8, .f32⟩
  | 52 => ⟨S8x1, .f32⟩
  | 53 => ⟨S1x16, .f32⟩
  | 54 => ⟨S8x16, .f32⟩
  | 55 => ⟨S8x16, .f32⟩
  | 56 => ⟨S8x16, .f32⟩
  | 57 => ⟨S8x16, .f32⟩
  | 58 => ⟨S8x1x16, .f32⟩
  | 59 => ⟨S8x16, .f32⟩
  | 60 => ⟨S8x1x16, .f32⟩
  | 61 => ⟨S128x8x1x16, .f32⟩
  | 62 => ⟨S128x8x1x16, .f32⟩
  | 63 => ⟨S1x8x1x16, .f32⟩
  | 64 => ⟨S128x8x1x16, .f32⟩
  | 65 => ⟨S128x8x1x16, .f32⟩
  | 66 => ⟨S1x8x1x16, .f32⟩
  | 67 => ⟨S128x8x1x16, .f32⟩
  | 68 => ⟨S128x8x1x16, .f32⟩
  | 69 => ⟨S128x8x1x16, .f32⟩
  | 70 => ⟨S1x8x1x16, .f32⟩
  | 71 => ⟨S128x8x1x16, .f32⟩
  | 72 => ⟨S128x8x1x16, .f32⟩
  | 73 => ⟨S1x8x1x16, .f32⟩
  | 74 => ⟨S128x8x1x16, .f32⟩
  | 75 => ⟨S128x8x1x16, .f32⟩
  | 76 => ⟨S128x8x1x16, .f32⟩
  | 77 => ⟨S128x8x1x32, .f32⟩
  | 78 => ⟨S128x8x32, .f32⟩
  | 79 => ⟨S1x1x4, .f32⟩
  | 80 => ⟨S128x8x4, .f32⟩
  | 81 => ⟨S128x8x4, .f32⟩
  | 82 => ⟨S128x8x4, .f32⟩
  | 83 => ⟨S_, .f32⟩
  | 84 => ⟨S128x8x4, .f32⟩
  | 85 => ⟨S128x8x4, .f32⟩
  | 86 => ⟨S128x8x4, .f32⟩
  | 87 => ⟨S128x8x4, .f32⟩
  | 88 => ⟨S128x8x4, .i1⟩
  | 89 => ⟨S128x8x4, .f32⟩
  | 90 => ⟨S128x8x4, .f32⟩
  | 91 => ⟨S128x8x4, .f32⟩
  | 92 => ⟨S128x8x4, .f32⟩
  | 93 => ⟨S128x8x4, .f32⟩
  | 94 => ⟨S128x8x4, .f32⟩
  | 95 => ⟨S128x8x4, .f32⟩
  | 96 => ⟨S128x8x4, .f32⟩
  | 97 => ⟨S128x8x4, .f32⟩
  | 98 => ⟨S_, .f32⟩
  | 99 => ⟨S_, .f32⟩
  | 100 => ⟨S128x8x4, .f32⟩
  | 101 => ⟨S_, .f32⟩
  | 102 => ⟨S128x8x8x32, .f32⟩
  | 103 => ⟨S128x8x8x32, .f32⟩
  | 104 => ⟨S1024x256, .f32⟩
  | 105 => ⟨S1024x256, .bf16⟩
  | 106 => ⟨S_, .f32⟩
  | 107 => ⟨S128x8x8x128, .f32⟩
  | 108 => ⟨S128x8x8x128, .f32⟩
  | 109 => ⟨S1024x1024, .f32⟩
  | 110 => ⟨S1024x1024, .bf16⟩
  | 111 => ⟨S_, .f32⟩
  | 112 => ⟨S128x8x8x32, .f32⟩
  | 113 => ⟨S128x8x8x32, .f32⟩
  | 114 => ⟨S1024x256, .f32⟩
  | 115 => ⟨S1024x256, .bf16⟩
  | 116 => ⟨S_, .f32⟩
  | 117 => ⟨S128x8x256, .f32⟩
  | 118 => ⟨S128x8x256, .f32⟩
  | 119 => ⟨S1024x256, .f32⟩
  | 120 => ⟨S1024x256, .bf16⟩
  | 121 => ⟨S1024x128, .f32⟩
  | 122 => ⟨S1024x128, .f32⟩
  | 123 => ⟨S1024x128, .f32⟩
  | 124 => ⟨S1024x32, .f32⟩
  | 125 => ⟨S_, .i32⟩
  | 126 => ⟨S_, .f32⟩
  | 127 => ⟨S1024x128, .f32⟩
  | _ => ⟨S1024x1024, .f32⟩

abbrev hbmTy0_2 (i : Nat) : BufTy := match i % 128 with
  | 0 => ⟨S1024x128, .f32⟩
  | 1 => ⟨S1024x128, .f32⟩
  | 2 => ⟨S1024x4, .f32⟩
  | 3 => ⟨S_, .i32⟩
  | 4 => ⟨S_, .f32⟩
  | 5 => ⟨S1024x128, .f32⟩
  | 6 => ⟨S1024x4, .f32⟩
  | 7 => ⟨S_, .i32⟩
  | 8 => ⟨S_, .f32⟩
  | 9 => ⟨S1024x128, .f32⟩
  | _ => ⟨S1024x1024, .f32⟩

abbrev hbmTy (i : Nat) : BufTy := match i / 128 with
  | 0 => hbmTy0_0 i
  | 1 => hbmTy0_1 i
  | 2 => hbmTy0_2 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_1 : Ref sig .tc := ⟨.hbm, 61, rfl⟩
abbrev main_v51 : Ref sig .tc := ⟨.hbm, 62, rfl⟩
abbrev main_v52 : Ref sig .tc := ⟨.hbm, 63, rfl⟩
abbrev main_cst_2 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_cst_3 : Ref sig .tc := ⟨.hbm, 95, rfl⟩
abbrev main_v83 : Ref sig .tc := ⟨.hbm, 96, rfl⟩
abbrev main_v84 : Ref sig .tc := ⟨.hbm, 97, rfl⟩
abbrev main_cst_4 : Ref sig .tc := ⟨.hbm, 98, rfl⟩
abbrev main_v85 : Ref sig .tc := ⟨.hbm, 99, rfl⟩
abbrev main_v86 : Ref sig .tc := ⟨.hbm, 100, rfl⟩
abbrev main_cst_5 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_cst_6 : Ref sig .tc := ⟨.hbm, 116, rfl⟩
abbrev main_v101 : Ref sig .tc := ⟨.hbm, 117, rfl⟩
abbrev main_v102 : Ref sig .tc := ⟨.hbm, 118, rfl⟩
abbrev main_cst_7 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_cst_8 : Ref sig .tc := ⟨.hbm, 154, rfl⟩
abbrev main_v137 : Ref sig .tc := ⟨.hbm, 155, rfl⟩
abbrev main_v138 : Ref sig .tc := ⟨.hbm, 156, rfl⟩
abbrev main_cst_9 : Ref sig .tc := ⟨.hbm, 157, rfl⟩
abbrev main_v139 : Ref sig .tc := ⟨.hbm, 158, rfl⟩
abbrev main_v140 : Ref sig .tc := ⟨.hbm, 159, rfl⟩
abbrev main_cst_10 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_cst_11 : Ref sig .tc := ⟨.hbm, 173, rfl⟩
abbrev main_v153 : Ref sig .tc := ⟨.hbm, 174, rfl⟩
abbrev main_v154 : Ref sig .tc := ⟨.hbm, 175, rfl⟩
abbrev main_cst_12 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_call0_v0 : Ref sig .tc := ⟨.hbm, 210, rfl⟩
abbrev main_call0_call0_cst : Ref sig .tc := ⟨.hbm, 211, rfl⟩
abbrev main_call0_call0_v0 : Ref sig .tc := ⟨.hbm, 212, rfl⟩
abbrev main_call0_call0_v1 : Ref sig .tc := ⟨.hbm, 213, rfl⟩
abbrev main_call0_call0_v2 : Ref sig .tc := ⟨.hbm, 214, rfl⟩
abbrev main_call0_call0_v3 : Ref sig .tc := ⟨.hbm, 215, rfl⟩
abbrev main_call0_call0_v4 : Ref sig .tc := ⟨.hbm, 216, rfl⟩
abbrev main_call0_call0_v5 : Ref sig .tc := ⟨.hbm, 217, rfl⟩
abbrev main_call0_call0_v6 : Ref sig .tc := ⟨.hbm, 218, rfl⟩
abbrev main_call0_call0_v7 : Ref sig .tc := ⟨.hbm, 219, rfl⟩
abbrev main_call0_call0_v8 : Ref sig .tc := ⟨.hbm, 220, rfl⟩
abbrev main_call0_call0_v9 : Ref sig .tc := ⟨.hbm, 221, rfl⟩
abbrev main_call0_call0_v10 : Ref sig .tc := ⟨.hbm, 222, rfl⟩
abbrev main_call0_call0_v11 : Ref sig .tc := ⟨.hbm, 223, rfl⟩
abbrev main_call0_v1 : Ref sig .tc := ⟨.hbm, 224, rfl⟩
abbrev main_v188 : Ref sig .tc := ⟨.hbm, 225, rfl⟩
abbrev main_call1_cst : Ref sig .tc := ⟨.hbm, 226, rfl⟩
abbrev main_call1_v0 : Ref sig .tc := ⟨.hbm, 227, rfl⟩
abbrev main_v189 : Ref sig .tc := ⟨.hbm, 228, rfl⟩
abbrev main_cst_13 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_cst_14 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_cst_15 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_cst_16 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_c_17 : Ref sig .tc := ⟨.hbm, 253, rfl⟩
abbrev main_call2_v0 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_c_18 : Ref sig .tc := ⟨.hbm, 259, rfl⟩
abbrev main_call3_v0 : Ref sig .tc := ⟨.hbm, 260, rfl⟩
abbrev main_v214 : Ref sig .tc := ⟨.hbm, 261, rfl⟩
abbrev main_v215 : Ref sig .tc := ⟨.hbm, 262, rfl⟩
abbrev main_c_19 : Ref sig .tc := ⟨.hbm, 263, rfl⟩
abbrev main_call4_v0 : Ref sig .tc := ⟨.hbm, 264, rfl⟩
abbrev main_v216 : Ref sig .tc := ⟨.hbm, 265, rfl⟩

abbrev nD : Nat := 1
abbrev τ : Topo := Topo.v7x

variable {F : FTy → Type} [FloatOps F]
-- ==== Proof.FlashMath.lean ====
/- The online softmax, row by row, over the extended reals.

   A query row meets its keys block by block. The row's state is the running maximum `m` of its scores and, for each
   channel, the running sum `a` of `2 ^ (score - m) * value`; a new block rescales what is there to the new maximum.
   After the last block the channel's sum is divided by the sum of the weights alone (the channel whose values are
   all one). This module proves that quotient to be the softmax-weighted sum of the values over every key, for scores
   that are real numbers or, where a key is masked, `⊥`, and for any values. -/
module

public import Idealize.ShloMosaic.PureOps.Ideal

@[expose] public section

noncomputable section

namespace Cert.FlashMath

open Idealize.ShloMosaic

/-! ## The extended reals -/

/-- A nonnegative real factor passes through a finite sum. -/
theorem coe_mul_sum {ι : Type} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha,
      EReal.left_distrib_of_nonneg_of_ne_top (by exact_mod_cast hc) (EReal.coe_ne_top _), ih]

/-- The maximum of scores below `⊤`, not all `⊥`, is a real number. -/
theorem foldMax_real {ι : Type} [Fintype ι] (s : ι → EReal) (hs : ∀ k, s k ≠ ⊤) (hne : ∃ k, s k ≠ ⊥) :
    ∃ μ : ℝ, Finset.univ.fold max (⊥ : EReal) s = (μ : EReal) := by
  have h1 : Finset.univ.fold max (⊥ : EReal) s < ⊤ := by
    rw [Finset.fold_max_lt]; exact ⟨bot_lt_top, fun k _ => lt_top_iff_ne_top.2 (hs k)⟩
  have h2 : ⊥ < Finset.univ.fold max (⊥ : EReal) s := by
    rw [Finset.lt_fold_max]; obtain ⟨k, hk⟩ := hne; exact .inr ⟨k, Finset.mem_univ _, bot_lt_iff_ne_bot.2 hk⟩
  exact ⟨_, (EReal.coe_toReal h1.ne h2.ne').symm⟩

theorem two_rpow_pos (x : ℝ) : 0 < Real.rpow 2 x := Real.rpow_pos_of_pos (by norm_num) x

/-- A power of two of a difference, the subtrahend real. -/
theorem exp2_sub (x : EReal) (hx : x ≠ ⊤) (μ : ℝ) :
    Ideal.exp2 (x - (μ : EReal)) = ((Real.rpow 2 (-μ) : ℝ) : EReal) * Ideal.exp2 x := by
  induction x using EReal.rec with
  | bot => rw [EReal.bot_sub, Ideal.exp2_bot, mul_zero]
  | coe r =>
    rw [← EReal.coe_sub, Ideal.exp2_coe, Ideal.exp2_coe, ← EReal.coe_mul]
    congr 1
    show (2 : ℝ) ^ (r - μ) = (2 : ℝ) ^ (-μ) * (2 : ℝ) ^ r
    rw [← Real.rpow_add (by norm_num)]; congr 1; ring
  | top => exact absurd rfl hx

/-- The exponential of a difference, the subtrahend real. -/
theorem exp_sub (x : EReal) (hx : x ≠ ⊤) (μ : ℝ) :
    Ideal.exp (x - (μ : EReal)) = ((Real.exp (-μ) : ℝ) : EReal) * Ideal.exp x := by
  induction x using EReal.rec with
  | bot => rw [EReal.bot_sub, Ideal.exp_bot, mul_zero]
  | coe r =>
    rw [← EReal.coe_sub, Ideal.exp_coe, Ideal.exp_coe, ← EReal.coe_mul]
    congr 1
    rw [← Real.exp_add]; congr 1; ring
  | top => exact absurd rfl hx

/-- The exponential of a score below `⊤` is a nonnegative real, positive off `⊥`. -/
theorem exp_real (x : EReal) (hx : x ≠ ⊤) : ∃ r : ℝ, Ideal.exp x = (r : EReal) ∧ 0 ≤ r ∧ (x ≠ ⊥ → 0 < r) := by
  induction x using EReal.rec with
  | bot => exact ⟨0, Ideal.exp_bot, le_rfl, fun h => absurd rfl h⟩
  | coe r => exact ⟨Real.exp r, Ideal.exp_coe _, (Real.exp_pos r).le, fun _ => Real.exp_pos r⟩
  | top => exact absurd rfl hx

/-- Base two and base e: the score divided by `log 2` gives the same weight. -/
theorem exp2_eq_exp (r : ℝ) : Ideal.exp2 ((r * (1 / Real.log 2) : ℝ) : EReal) = Ideal.exp (r : EReal) := by
  rw [Ideal.exp2_coe, Ideal.exp_coe]
  congr 1
  show (2 : ℝ) ^ (r * (1 / Real.log 2)) = Real.exp r
  have h : Real.log 2 ≠ 0 := (Real.log_pos (by norm_num)).ne'
  rw [Real.rpow_def_of_pos (by norm_num)]
  congr 1
  field_simp

/-! ## The row's state, block by block -/

variable {B : ℕ}

/-- The running maximum after a block of scores. -/
def stepM (m : EReal) (s : Fin B → EReal) : EReal := max m (Finset.univ.fold max (⊥ : EReal) s)

/-- A channel's running sum after a block of scores and that channel's values. -/
def stepA (m a : EReal) (s v : Fin B → EReal) : EReal :=
  Ideal.exp2 (m - stepM m s) * a + ∑ k : Fin B, Ideal.exp2 (s k - stepM m s) * v k

/-- The running maximum after `n` blocks. -/
def stM (s : ℕ → Fin B → EReal) : ℕ → EReal
  | 0 => ⊥
  | n + 1 => stepM (stM s n) (s n)

/-- A channel's running sum after `n` blocks. -/
def stA (s v : ℕ → Fin B → EReal) : ℕ → EReal
  | 0 => 0
  | n + 1 => stepA (stM s n) (stA s v n) (s n) (v n)

/-- What `n` blocks contribute, unscaled: the weights `2 ^ score` times the values. -/
def total (s v : ℕ → Fin B → EReal) (n : ℕ) : EReal :=
  ∑ j ∈ Finset.range n, ∑ k : Fin B, Ideal.exp2 (s j k) * v j k

/-- The state is nothing yet, or the total scaled by two to the minus the running maximum. -/
def Inv (m a T : EReal) : Prop :=
  (m = ⊥ ∧ a = 0 ∧ T = 0) ∨ ∃ μ : ℝ, m = (μ : EReal) ∧ a = ((Real.rpow 2 (-μ) : ℝ) : EReal) * T

theorem inv_step (m a T : EReal) (s v : Fin B → EReal) (hs : ∀ k, s k ≠ ⊤) (hne : ∃ k, s k ≠ ⊥) (h : Inv m a T) :
    ∃ μ : ℝ, stepM m s = (μ : EReal) ∧
      stepA m a s v = ((Real.rpow 2 (-μ) : ℝ) : EReal) * (T + ∑ k : Fin B, Ideal.exp2 (s k) * v k) := by
  obtain ⟨β, hβ⟩ := foldMax_real s hs hne
  have hm : ∃ μ : ℝ, stepM m s = (μ : EReal) := by
    rcases h with ⟨hm, -, -⟩ | ⟨μ, hm, -⟩
    · exact ⟨β, by rw [stepM, hβ, hm]; exact max_eq_right bot_le⟩
    · exact ⟨max μ β, by rw [stepM, hβ, hm]; exact (EReal.coe_strictMono.monotone.map_max).symm⟩
  obtain ⟨μ', hμ'⟩ := hm
  refine ⟨μ', hμ', ?_⟩
  have hsum : ∑ k : Fin B, Ideal.exp2 (s k - (μ' : EReal)) * v k
      = ((Real.rpow 2 (-μ') : ℝ) : EReal) * ∑ k : Fin B, Ideal.exp2 (s k) * v k := by
    rw [coe_mul_sum _ _ (two_rpow_pos _).le]
    exact Finset.sum_congr rfl fun k _ => by rw [exp2_sub _ (hs k), mul_assoc]
  rw [stepA, hμ', hsum]
  rcases h with ⟨hm, ha, hT⟩ | ⟨μ, hm, ha⟩
  · rw [ha, hT, mul_zero, zero_add, zero_add]
  · rw [EReal.left_distrib_of_nonneg_of_ne_top (by exact_mod_cast (two_rpow_pos _).le) (EReal.coe_ne_top _)]
    congr 1
    rw [hm, ha, ← mul_assoc, exp2_sub _ (EReal.coe_ne_top _), Ideal.exp2_coe, ← EReal.coe_mul, ← EReal.coe_mul]
    congr 2
    show (2 : ℝ) ^ (-μ') * (2 : ℝ) ^ μ * (2 : ℝ) ^ (-μ) = (2 : ℝ) ^ (-μ')
    rw [mul_assoc, ← Real.rpow_add (by norm_num)]; simp

theorem inv_all (s v : ℕ → Fin B → EReal) (n : ℕ) (hs : ∀ j < n, ∀ k, s j k ≠ ⊤) (hne : ∀ j < n, ∃ k, s j k ≠ ⊥) :
    Inv (stM s n) (stA s v n) (total s v n) := by
  induction n with
  | zero => exact .inl ⟨rfl, rfl, by simp [total]⟩
  | succ n ih =>
    obtain ⟨μ, h1, h2⟩ := inv_step _ _ _ (s n) (v n) (hs n (Nat.lt_succ_self n)) (hne n (Nat.lt_succ_self n))
      (ih (fun j hj => hs j (by omega)) (fun j hj => hne j (by omega)))
    exact .inr ⟨μ, h1, by rw [total, Finset.sum_range_succ]; exact h2⟩

/-- The quotient after `n + 1` blocks: the weighted total over the total weight, `l`. -/
theorem flash_row (s v : ℕ → Fin B → EReal) (n : ℕ) (hs : ∀ j < n + 1, ∀ k, s j k ≠ ⊤)
    (hne : ∀ j < n + 1, ∃ k, s j k ≠ ⊥) (l : ℝ) (hl : 0 < l) (h1 : total s (fun _ _ => 1) (n + 1) = (l : EReal)) :
    Ideal.div (stA s v (n + 1)) (stA s (fun _ _ => 1) (n + 1)) = total s v (n + 1) * ((1 / l : ℝ) : EReal) := by
  have hi := inv_all s v n (fun j hj => hs j (by omega)) (fun j hj => hne j (by omega))
  have hi1 := inv_all s (fun _ _ => 1) n (fun j hj => hs j (by omega)) (fun j hj => hne j (by omega))
  obtain ⟨μ, hμ, ha⟩ := inv_step _ _ _ (s n) (v n) (hs n (Nat.lt_succ_self n)) (hne n (Nat.lt_succ_self n)) hi
  obtain ⟨μ', hμ', ha'⟩ := inv_step _ _ _ (s n) (fun _ => 1) (hs n (Nat.lt_succ_self n)) (hne n (Nat.lt_succ_self n)) hi1
  have hμμ : μ = μ' := by exact_mod_cast hμ.symm.trans hμ'
  subst hμμ
  have e : stA s v (n + 1) = ((Real.rpow 2 (-μ) : ℝ) : EReal) * total s v (n + 1) := by
    rw [total, Finset.sum_range_succ]; exact ha
  have e' : stA s (fun _ _ => 1) (n + 1) = ((Real.rpow 2 (-μ) * l : ℝ) : EReal) := by
    rw [EReal.coe_mul, ← h1, total, Finset.sum_range_succ]; exact ha'
  have hp := two_rpow_pos (-μ)
  rw [e, e', Ideal.div_coe (mul_pos hp hl).ne', mul_comm _ (total s v (n + 1)), mul_assoc, ← EReal.coe_mul]
  congr 2
  field_simp

/-! ## The softmax over every key -/

/-- The softmax-weighted sum, its weights shifted by the maximum: the weighted total over the total weight. -/
theorem softmax_row {ι : Type} [Fintype ι] (S V : ι → EReal) (hS : ∀ k, S k ≠ ⊤) (hne : ∃ k, S k ≠ ⊥) (l : ℝ) (hl : 0 < l)
    (h1 : ∑ k, Ideal.exp (S k) = (l : EReal)) :
    ∑ k, V k * Ideal.div (Ideal.exp (S k - Finset.univ.fold max (⊥ : EReal) S))
        (∑ k', Ideal.exp (S k' - Finset.univ.fold max (⊥ : EReal) S))
      = (∑ k, Ideal.exp (S k) * V k) * ((1 / l : ℝ) : EReal) := by
  obtain ⟨M, hM⟩ := foldMax_real S hS hne
  rw [hM]
  have hp := Real.exp_pos (-M)
  have hd : ∑ k', Ideal.exp (S k' - (M : EReal)) = ((Real.exp (-M) * l : ℝ) : EReal) := by
    rw [EReal.coe_mul, ← h1, coe_mul_sum _ _ hp.le]
    exact Finset.sum_congr rfl fun k _ => exp_sub _ (hS k) M
  rw [hd, mul_comm (∑ k, Ideal.exp (S k) * V k), coe_mul_sum _ _ (by positivity)]
  refine Finset.sum_congr rfl fun k _ => ?_
  have hc : ((Real.exp (-M) : ℝ) : EReal) * ((1 / (Real.exp (-M) * l) : ℝ) : EReal) = ((1 / l : ℝ) : EReal) := by
    rw [← EReal.coe_mul]; congr 1; field_simp
  rw [Ideal.div_coe (mul_pos hp hl).ne', exp_sub _ (hS k), ← hc]
  ac_rfl

/-- The total weight is a positive real. -/
theorem weight_real {ι : Type} [Fintype ι] (S : ι → EReal) (hS : ∀ k, S k ≠ ⊤) (hne : ∃ k, S k ≠ ⊥) :
    ∃ l : ℝ, 0 < l ∧ ∑ k, Ideal.exp (S k) = (l : EReal) := by
  choose r hr hr0 hrp using fun k => exp_real (S k) (hS k)
  refine ⟨∑ k, r k, ?_, ?_⟩
  · obtain ⟨k, hk⟩ := hne
    exact Finset.sum_pos' (fun k _ => hr0 k) ⟨k, Finset.mem_univ _, hrp k hk⟩
  · rw [Finset.sum_congr rfl fun k _ => hr k]
    exact (map_sum (⟨⟨Real.toEReal, EReal.coe_zero⟩, EReal.coe_add⟩ : ℝ →+ EReal) r Finset.univ).symm

/-! ## The two together -/

/-- A sum over `nb * B` keys, block by block. -/
theorem sum_blocks (nb : ℕ) (f : Fin (nb * B) → EReal) (g : ℕ → Fin B → EReal)
    (hg : ∀ (j : ℕ) (hj : j < nb) (k : Fin B) (h : j * B + k.val < nb * B), g j k = f ⟨j * B + k.val, h⟩) :
    ∑ κ, f κ = ∑ j ∈ Finset.range nb, ∑ k : Fin B, g j k := by
  rw [← (finProdFinEquiv (m := nb) (n := B)).sum_comp f, Fintype.sum_prod_type, Finset.sum_range]
  refine Finset.sum_congr rfl fun j _ => Finset.sum_congr rfl fun k _ => ?_
  have hlt : j.val * B + k.val < nb * B := by
    have h1 := j.isLt; have h2 := k.isLt
    calc j.val * B + k.val < j.val * B + B := by omega
      _ = (j.val + 1) * B := by ring
      _ ≤ nb * B := Nat.mul_le_mul_right _ h1
  rw [hg j.val j.isLt k hlt]
  congr 1
  apply Fin.ext
  show k.val + B * j.val = j.val * B + k.val
  ring

/-- The causal row: blocks `0 … i` of the kernel's scores and values are the keys' (base two against base e), the keys
    after them are masked; the kernel's quotient is the softmax-weighted sum over all the keys. -/
theorem flash_eq_softmax (nb i : ℕ) (hi : i < nb) (S V : Fin (nb * B) → EReal) (s v : ℕ → Fin B → EReal)
    (hS : ∀ κ, S κ ≠ ⊤)
    (hs : ∀ j ≤ i, ∀ k, s j k ≠ ⊤) (hne : ∀ j ≤ i, ∃ k, s j k ≠ ⊥)
    (hw : ∀ j ≤ i, ∀ (k : Fin B) (h : j * B + k.val < nb * B), Ideal.exp2 (s j k) = Ideal.exp (S ⟨j * B + k.val, h⟩))
    (hv : ∀ j ≤ i, ∀ (k : Fin B) (h : j * B + k.val < nb * B), v j k = V ⟨j * B + k.val, h⟩)
    (hmask : ∀ j, i < j → ∀ (k : Fin B) (h : j * B + k.val < nb * B), S ⟨j * B + k.val, h⟩ = ⊥) :
    Ideal.div (stA s v (i + 1)) (stA s (fun _ _ => 1) (i + 1))
      = ∑ κ, V κ * Ideal.div (Ideal.exp (S κ - Finset.univ.fold max (⊥ : EReal) S))
          (∑ κ', Ideal.exp (S κ' - Finset.univ.fold max (⊥ : EReal) S)) := by
  have hlt : ∀ j ≤ i, ∀ k : Fin B, j * B + k.val < nb * B := fun j hj k => by
    have h2 := k.isLt
    calc j * B + k.val < j * B + B := by omega
      _ = (j + 1) * B := by ring
      _ ≤ nb * B := Nat.mul_le_mul_right _ (by omega)
  have hneS : ∃ κ, S κ ≠ ⊥ := by
    obtain ⟨k, hk⟩ := hne 0 (Nat.zero_le _)
    refine ⟨⟨0 * B + k.val, hlt 0 (Nat.zero_le _) k⟩, fun h => ?_⟩
    have h0 := hw 0 (Nat.zero_le _) k (hlt 0 (Nat.zero_le _) k)
    rw [h, Ideal.exp_bot] at h0
    have hx := hs 0 (Nat.zero_le _) k
    revert hk h0 hx
    induction s 0 k using EReal.rec with
    | bot => intro hk; exact absurd rfl hk
    | coe r =>
      intro _ h0 _
      rw [Ideal.exp2_coe] at h0
      exact absurd (by exact_mod_cast h0) (two_rpow_pos r).ne'
    | top => intro _ _ hx; exact absurd rfl hx
  have htot : ∀ (v' : ℕ → Fin B → EReal) (V' : Fin (nb * B) → EReal),
      (∀ j ≤ i, ∀ (k : Fin B) (h : j * B + k.val < nb * B), v' j k = V' ⟨j * B + k.val, h⟩) →
      total s v' (i + 1) = ∑ κ, Ideal.exp (S κ) * V' κ := by
    intro v' V' hv'
    rw [sum_blocks nb (fun κ => Ideal.exp (S κ) * V' κ)
      (fun j k => if h : j * B + k.val < nb * B then Ideal.exp (S ⟨j * B + k.val, h⟩) * V' ⟨j * B + k.val, h⟩ else 0)
      (fun j _ k h => dif_pos h), total, ← Finset.sum_range_add_sum_Ico _ (show i + 1 ≤ nb by omega)]
    rw [show (∑ j ∈ Finset.Ico (i + 1) nb, ∑ k : Fin B, if h : j * B + k.val < nb * B
        then Ideal.exp (S ⟨j * B + k.val, h⟩) * V' ⟨j * B + k.val, h⟩ else 0) = 0 from
      Finset.sum_eq_zero fun j hj => Finset.sum_eq_zero fun k _ => by
        split
        · rename_i h
          rw [hmask j (by have := Finset.mem_Ico.1 hj; omega) k h, Ideal.exp_bot, zero_mul]
        · rfl, add_zero]
    refine Finset.sum_congr rfl fun j hj => Finset.sum_congr rfl fun k _ => ?_
    have hj' : j ≤ i := by have := Finset.mem_range.1 hj; omega
    rw [dif_pos (hlt j hj' k), hw j hj' k (hlt j hj' k), hv' j hj' k (hlt j hj' k)]
  obtain ⟨l, hl, h1⟩ := weight_real S hS hneS
  rw [softmax_row S V hS hneS l hl h1, ← htot v V hv]
  refine flash_row s v i (fun j hj => hs j (by omega)) (fun j hj => hne j (by omega)) l hl ?_
  rw [htot (fun _ _ => 1) (fun _ => 1) (fun _ _ _ _ => rfl), ← h1]
  simp only [mul_one]

end Cert.FlashMath

end
-- ==== Proof.DiffRows.lean ====
/- The differential attention's payloads: a tile of 1024 queries of one map against a block of 1024 keys.

   The two maps of a head run the same arithmetic on their own queries and their own rows of the keys. It is written here
   once, as functions of a tile's scores, and read at an index. -/
module
public import proofs.«01_k».proof.Proof.Gen.Kernel3Ideal.Value
public import proofs.«01_k».proof.Proof.FlashMath
public import Idealize.ShloMosaic.Lib.Pipeline.ValueKit
public import Idealize.ShloMosaic.Lib.Pointwise
@[expose] public section
set_option maxRecDepth 16384
noncomputable section
namespace Cert.Kernel3Ideal.Diff
open Cert.Kernel3Ideal Cert.Kernel3Ideal.Gen Idealize.ShloMosaic Idealize.ShloMosaic.TcCoe Idealize.SL.Sem
open Cert.FlashMath

section Vectors
variable {F : FTy → Type} [FloatOps F]
/-- The scores of a tile of queries against a block of keys. -/
def vS (q : FVec F S1024x32 .bf16) (kb : FVec F S32x1024 .bf16) : FVec F S1024x1024 .f32 :=
  have cst : FVec F S1024x1024 .f32 := constant S1024x1024 .f32 0x00000000#32
  matmul dot_S1024x32_S32x1024_S1024x1024_1_0_0_1_n_n none q kb cst
/-- The scores with the keys after the query left out. -/
def vMask (s : FVec F S1024x1024 .f32) : FVec F S1024x1024 .f32 :=
  have v83 : IVec S1024x1024 1 := cmpi .sle (iota .tc S1024x1024 32 [1] iota_S1024x1024_d1_w32) (iota .tc S1024x1024 32 [0] iota_S1024x1024_d0_w32)
  have cst : F .f32 := Scalar.ofBits .f32 0xFF800000#32
  have v84 : FVec F S1024x1024 .f32 := broadcast S1024x1024 cst
  select v83 s v84
/-- The running maxima after a block. -/
def vM (s : FVec F S1024x1024 .f32) (m : FVec F S1024x1 .f32) : FVec F S1024x1 .f32 :=
  have v86 : FVec F S1024 .f32 := multiReduction .maximumf [1] S1024 s 0xFF800000#32 reduces_S1024x1024_S1024 (.inl rfl) rfl
  have v87 : FVec F S1024x1 .f32 := shapeCast S1024x1 v86 shapeCasts_S1024_S1024x1
  maximumf m v87
/-- The running sums after a block. -/
def vA (s : FVec F S1024x1024 .f32) (m : FVec F S1024x1 .f32) (a : FVec F S1024x80 .f32) (vb : FVec F S80x1024 .bf16) : FVec F S1024x80 .f32 :=
  have cst : FVec F S1024x80 .f32 := constant S1024x80 .f32 0x00000000#32
  addf (mulf (broadcastTo S1024x80 (exp2 (subf m (vM s m))) broadcasts_S1024x1_S1024x80) a)
    (matmul dot_S1024x1024_S80x1024_S1024x80_1_1_0_0_n_n none (truncf .bf16 (exp2 (subf s (broadcastTo S1024x1024 (vM s m) broadcasts_S1024x1_S1024x1024))) bitsLt_bf16_f32) vb cst)
/-- The quotient of a head: its channels' sums by the sum of the weights. -/
def vQ (a : FVec F S1024x80 .f32) : FVec F S1024x64 .f32 :=
  have v99 : FVec F S1024x64 .f32 := extractStridedSlice S1024x64 ![0, 0] a slices_S1024x80_o0_0_S1024x64
  have v100 : FVec F S1024x1 .f32 := extractStridedSlice S1024x1 ![0, 64] a slices_S1024x80_o0_64_S1024x1
  have v101 : FVec F S1024x64 .f32 := broadcastTo S1024x64 v100 broadcasts_S1024x1_S1024x64
  divf v99 v101
/-- The rows of a key block that are the first map's, and the second's. -/
def vK0 (kb : FVec F S64x1024 .bf16) : FVec F S32x1024 .bf16 := extractStridedSlice S32x1024 ![0, 0] kb slices_S64x1024_o0_0_S32x1024
def vK1 (kb : FVec F S64x1024 .bf16) : FVec F S32x1024 .bf16 := extractStridedSlice S32x1024 ![32, 0] kb slices_S64x1024_o32_0_S32x1024
/-- Two maps' channels side by side. -/
def vC (a b : FVec F S1024x64 .f32) : FVec F S1024x128 .f32 :=
  concatenate S1024x128 1 [⟨S1024x64, a⟩, ⟨S1024x64, b⟩] concatenates_S1024x64_S1024x64_S1024x128_d1

/-- The last payload is the functions above. -/
theorem pay1_eq (v0 v2 : Vec F S1x1x1024x32 .bf16) (m0 m1 : FVec F S1024x1 .f32) (a0 a1 : FVec F S1024x80 .f32)
    (kb : Vec F S1x1x64x1024 .bf16) (vb : Vec F S1x1x80x1024 .bf16) :
    k0_pay1 (k0_pay3 v2) (iota .tc S1024x1024 32 [0] iota_S1024x1024_d0_w32) (iota .tc S1024x1024 32 [1] iota_S1024x1024_d1_w32) m0 a0 m1 a1
        (k0_pay24 kb) (k0_pay25 vb) (k0_pay26 v0 kb) (k0_pay27 v0 m0 kb) (k0_pay28 v0 m0 kb)
      = vC (vQ (vA (vMask (vS (k0_pay2 v0) (vK0 (k0_pay8 kb)))) m0 a0 (k0_pay9 vb)))
          (vQ (vA (vMask (vS (k0_pay2 v2) (vK1 (k0_pay8 kb)))) m1 a1 (k0_pay9 vb))) := rfl
end Vectors

/-! ## At an index -/

theorem ofBits_neg_inf : Ideal.ofBits FTy.f32 0xFF800000#32 = ⊥ := by simp [Ideal.ofBits, Ideal.ieee]

theorem vS_apply (q : FVec Ideal S1024x32 .bf16) (kb : FVec Ideal S32x1024 .bf16) (r k : Fin 1024) :
    vS q kb (ix2 r k) = ∑ e : Fin 32, q (ix2 r e) * kb (ix2 e k) := by
  pointwise [vS]

theorem vMask_apply (s : FVec Ideal S1024x1024 .f32) (r k : Fin 1024) :
    vMask s (ix2 r k) = if k.val ≤ r.val then s (ix2 r k) else ⊥ := by
  pointwise [vMask, ofBits_neg_inf]
  have hk := k.isLt
  have hr := r.isLt
  have h : (BitVec.ofNat 32 k.val).sle (BitVec.ofNat 32 r.val) = decide (k.val ≤ r.val) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  by_cases hkr : k.val ≤ r.val
  · simp [Scalar.select, IntOp.cmpi, h, hkr]
  · simp [Scalar.select, IntOp.cmpi, h, hkr]

theorem vM_apply (s : FVec Ideal S1024x1024 .f32) (m : FVec Ideal S1024x1 .f32) (r : Fin 1024) :
    vM s m (ix2 r 0) = stepM (m (ix2 r 0)) (fun k => s (ix2 r k)) := by
  pointwise [vM, stepM, ofBits_neg_inf]

theorem vA_apply (s : FVec Ideal S1024x1024 .f32) (m : FVec Ideal S1024x1 .f32) (a : FVec Ideal S1024x80 .f32)
    (vb : FVec Ideal S80x1024 .bf16) (r : Fin 1024) (c : Fin 80) :
    vA s m a vb (ix2 r c) = stepA (m (ix2 r 0)) (a (ix2 r c)) (fun k => s (ix2 r k)) (fun k => vb (ix2 c k)) := by
  unfold vA
  pointwise [stepA, vM_apply]
  rfl

theorem vQ_apply (a : FVec Ideal S1024x80 .f32) (r : Fin 1024) (c : Fin 64) :
    vQ a (ix2 r c) = Ideal.div (a (ix2 r ⟨c.val, by omega⟩)) (a (ix2 r 64)) := by
  pointwise [vQ]

theorem vC_apply (a : Fin 2 → FVec Ideal S1024x64 .f32) (r : Fin 1024) (C : Fin 128) (g : Fin 2) (ch : Fin 64) (hC : C.val = g.val * 64 + ch.val) :
    vC (a 0) (a 1) (ix2 r C) = a g (ix2 r ch) := by
  pointwise [vC]
  have hch := ch.isLt
  fin_cases g
  · rw [dif_pos (by simp at hC; omega)]
    congr 2; apply Fin.ext; simp at hC ⊢; omega
  · rw [dif_neg (by simp at hC; omega)]
    congr 2; apply Fin.ext; simp at hC ⊢; omega

theorem key0_apply (kb : FVec Ideal S1x1x64x1024 .bf16) (e : Fin 32) (k : Fin 1024) :
    vK0 (k0_pay8 kb) (ix2 e k) = kb (ix4 0 0 ⟨e.val, by omega⟩ k) := by
  pointwise [vK0, k0_pay8]

theorem key1_apply (kb : FVec Ideal S1x1x64x1024 .bf16) (e : Fin 32) (k : Fin 1024) :
    vK1 (k0_pay8 kb) (ix2 e k) = kb (ix4 0 0 ⟨32 + e.val, by omega⟩ k) := by
  pointwise [vK1, k0_pay8]

theorem val_apply (vb : FVec Ideal S1x1x80x1024 .bf16) (c : Fin 80) (k : Fin 1024) :
    k0_pay9 vb (ix2 c k) = vb (ix4 0 0 c k) := by
  pointwise [k0_pay9]

theorem qry_apply (q : FVec Ideal S1x1x1024x32 .bf16) (r : Fin 1024) (e : Fin 32) :
    k0_pay2 q (ix2 r e) = q (ix4 0 0 r e) := by
  pointwise [k0_pay2]

end Cert.Kernel3Ideal.Diff
-- ==== Proof.DiffBlocks.lean ====
/- The differential attention's blocks: what each window holds at a grid point, from the host's buffers. -/
module
public import proofs.«01_k».proof.Proof.DiffRows
@[expose] public section
set_option maxRecDepth 16384
noncomputable section
namespace Cert.Kernel3Ideal.Diff
open Cert.Kernel3Ideal Cert.Kernel3Ideal.Gen Idealize.ShloMosaic Idealize.ShloMosaic.TcCoe Idealize.SL.Sem
open Cert.FlashMath
variable (m : (ℓ : Loc nD τ sig) → Buf (Elt Ideal) ℓ) (c : Dev nD)

theorem idx0 : ∀ t : Fin cfg0.N, win0_0.index t = ![(grid0.coords t 0).val, (grid0.coords t 1).val, (grid0.coords t 2).val, 0] := by decide +kernel
theorem idx1 : ∀ t : Fin cfg0.N, win0_1.index t = ![(grid0.coords t 0).val, 0, (grid0.coords t 1).val / 2, 0] := by decide +kernel
theorem idx2 : ∀ t : Fin cfg0.N, win0_2.index t = ![(grid0.coords t 0).val, 0, (grid0.coords t 1).val / 2, 0] := by decide +kernel
theorem idx3 : ∀ t : Fin cfg0.N, win0_3.index t = ![(grid0.coords t 0).val * 4 + (grid0.coords t 2).val, (grid0.coords t 1).val] := by decide +kernel

/-- A block of each window, read off any array. -/
theorem rd0 (A : FVec Ideal S4x8x4096x32 .bf16) (t : Fin cfg0.N) (g : Fin 2) (r : Fin 1024) (e : Fin 32) (b : Fin 4) (h : Fin 8) (q : Fin 4096)
    (hb : b.val = (grid0.coords t 0).val) (hh : h.val = (grid0.coords t 1).val * 2 + g.val) (hq : q.val = (grid0.coords t 2).val * 1024 + r.val) :
    ((cfg0.win 0).blk t).view.read (Elt Ideal) A (ix4 0 g r e) = A (ix4 b h q e) := by
  blk_ext [idx0 t]
theorem rd1 (A : FVec Ideal S4x4x128x1024 .bf16) (t : Fin cfg0.N) (j : Fin 4) (e : Fin 64) (k : Fin 1024) (b : Fin 4) (f : Fin 128)
    (hb : b.val = (grid0.coords t 0).val) (hf : f.val = (grid0.coords t 1).val / 2 * 64 + e.val) :
    ((cfg0.win 1).blk t).view.read (Elt Ideal) A (ix4 0 j e k) = A (ix4 b j f k) := by
  blk_ext [idx1 t]
theorem rd2 (A : FVec Ideal S4x4x160x1024 .bf16) (t : Fin cfg0.N) (j : Fin 4) (e : Fin 80) (k : Fin 1024) (b : Fin 4) (f : Fin 160)
    (hb : b.val = (grid0.coords t 0).val) (hf : f.val = (grid0.coords t 1).val / 2 * 80 + e.val) :
    ((cfg0.win 2).blk t).view.read (Elt Ideal) A (ix4 0 j e k) = A (ix4 b j f k) := by
  blk_ext [idx2 t]
/-- The blocks of the run's windows. -/
theorem blk0 (t : Fin cfg0.N) (g : Fin 2) (r : Fin 1024) (e : Fin 32) (b : Fin 4) (h : Fin 8) (q : Fin 4096)
    (hb : b.val = (grid0.coords t 0).val) (hh : h.val = (grid0.coords t 1).val * 2 + g.val) (hq : q.val = (grid0.coords t 2).val * 1024 + r.val) :
    iblk m c 0 t (ix4 0 g r e) = V m c main_v6 (ix4 b h q e) :=
  rd0 (V m c main_v6) t g r e b h q hb hh hq
theorem blk1 (t : Fin cfg0.N) (j : Fin 4) (e : Fin 64) (k : Fin 1024) (b : Fin 4) (f : Fin 128)
    (hb : b.val = (grid0.coords t 0).val) (hf : f.val = (grid0.coords t 1).val / 2 * 64 + e.val) :
    iblk m c 1 t (ix4 0 j e k) = V m c main_v11 (ix4 b j f k) :=
  rd1 (V m c main_v11) t j e k b f hb hf
theorem blk2 (t : Fin cfg0.N) (j : Fin 4) (e : Fin 80) (k : Fin 1024) (b : Fin 4) (f : Fin 160)
    (hb : b.val = (grid0.coords t 0).val) (hf : f.val = (grid0.coords t 1).val / 2 * 80 + e.val) :
    iblk m c 2 t (ix4 0 j e k) = V m c main_v22 (ix4 b j f k) :=
  rd2 (V m c main_v22) t j e k b f hb hf
end Cert.Kernel3Ideal.Diff
-- ==== Proof.DiffLoop.lean ====
/- The differential attention's loop: a tile of queries walks over the key blocks before its own, then meets its own
   block under the mask. The carried state is, map by map, the online softmax's state after that many blocks, and the
   tile left in the output is the two maps' quotients side by side. -/
module
public import proofs.«01_k».proof.Proof.DiffRows
@[expose] public section
set_option maxRecDepth 16384
noncomputable section
namespace Cert.Kernel3Ideal.Diff
open Cert.Kernel3Ideal Cert.Kernel3Ideal.Gen Idealize.ShloMosaic Idealize.ShloMosaic.TcCoe Idealize.SL.Sem
open Cert.FlashMath

/-! ## The blocks read -/

/-- The rows of map `g` of block `n` of the keys, and zero past the last. -/
def kblk (x1 : Vec Ideal S1x4x64x1024 .bf16) (g : Fin 2) (n : ℕ) : FVec Ideal S32x1024 .bf16 :=
  fun p => if h : n < 4 then x1 (ix4 0 ⟨n, h⟩ ⟨g.val * 32 + (p 0).val, by have h1 := g.isLt; have h2 : (p 0).val < 32 := (p 0).isLt; omega⟩ (p 1)) else 0
/-- Block `n` of the values, and zero past the last. -/
def vblk (x2 : Vec Ideal S1x4x80x1024 .bf16) (n : ℕ) : FVec Ideal S80x1024 .bf16 :=
  fun p => if h : n < 4 then x2 (ix4 0 ⟨n, h⟩ (p 0) (p 1)) else 0
/-- Map `g`'s queries. -/
def qhd (x0 : Vec Ideal S1x2x1024x32 .bf16) (g : Fin 2) : FVec Ideal S1024x32 .bf16 :=
  fun p => x0 (ix4 0 g (p 0) (p 1))

theorem key0_ld (x1 : Vec Ideal S1x4x64x1024 .bf16) (n : ℕ) (hn : n < 4) (off : Fin 4 → ℕ) (ho : off = ![0, n, 0, 0]) (h) :
    vK0 (k0_pay8 (View.ld x1 (Rect.unit off ![1, 1, 64, 1024] h))) = kblk x1 0 n := by
  subst ho
  funext p
  obtain ⟨e, k, rfl⟩ : ∃ e k, p = ix2 e k := ⟨p 0, p 1, by funext a; fin_cases a <;> rfl⟩
  rw [key0_apply]
  unfold kblk
  rw [dif_pos hn]
  apply View.ld_unit_apply_of
  intro a; fin_cases a <;> simp
theorem key1_ld (x1 : Vec Ideal S1x4x64x1024 .bf16) (n : ℕ) (hn : n < 4) (off : Fin 4 → ℕ) (ho : off = ![0, n, 0, 0]) (h) :
    vK1 (k0_pay8 (View.ld x1 (Rect.unit off ![1, 1, 64, 1024] h))) = kblk x1 1 n := by
  subst ho
  funext p
  obtain ⟨e, k, rfl⟩ : ∃ e k, p = ix2 e k := ⟨p 0, p 1, by funext a; fin_cases a <;> rfl⟩
  rw [key1_apply]
  unfold kblk
  rw [dif_pos hn]
  apply View.ld_unit_apply_of
  intro a; fin_cases a <;> simp
theorem val_ld (x2 : Vec Ideal S1x4x80x1024 .bf16) (n : ℕ) (hn : n < 4) (off : Fin 4 → ℕ) (ho : off = ![0, n, 0, 0]) (h) :
    k0_pay9 (View.ld x2 (Rect.unit off ![1, 1, 80, 1024] h)) = vblk x2 n := by
  subst ho
  funext p
  obtain ⟨e, k, rfl⟩ : ∃ e k, p = ix2 e k := ⟨p 0, p 1, by funext a; fin_cases a <;> rfl⟩
  rw [val_apply]
  unfold vblk
  rw [dif_pos hn]
  apply View.ld_unit_apply_of
  intro a; fin_cases a <;> simp
theorem qry_ld (x0 : Vec Ideal S1x2x1024x32 .bf16) (g : Fin 2) (off : Fin 4 → ℕ) (ho : off = ![0, g.val, 0, 0]) (h) :
    k0_pay2 (View.ld x0 (Rect.unit off ![1, 1, 1024, 32] h)) = qhd x0 g := by
  subst ho
  funext p
  obtain ⟨e, k, rfl⟩ : ∃ e k, p = ix2 e k := ⟨p 0, p 1, by funext a; fin_cases a <;> rfl⟩
  rw [qry_apply]
  unfold qhd
  apply View.ld_unit_apply_of
  intro a; fin_cases a <;> simp

theorem qry0 (x0 : Vec Ideal S1x2x1024x32 .bf16) :
    k0_pay2 (View.ld x0 (Rect.unit ![0, 0, 0, 0] ![1, 1, 1024, 32] inb_S1x2x1024x32_S1x1x1024x32_0_0_0_0)) = qhd x0 0 :=
  qry_ld x0 0 _ rfl _
theorem qry1 (x0 : Vec Ideal S1x2x1024x32 .bf16) :
    k0_pay2 (View.ld x0 (Rect.unit ![0, 1, 0, 0] ![1, 1, 1024, 32] inb_S1x2x1024x32_S1x1x1024x32_0_1_0_0)) = qhd x0 1 :=
  qry_ld x0 1 _ rfl _
/-! ## One map's state, block by block -/

/-- The running maxima and sums after `n` blocks of scores `S` and values `W`. -/
def hst (S : ℕ → FVec Ideal S1024x1024 .f32) (W : ℕ → FVec Ideal S80x1024 .bf16) : ℕ → FVec Ideal S1024x1 .f32 × FVec Ideal S1024x80 .f32
  | 0 => (k0_pay4, k0_pay5)
  | n + 1 => (vM (S n) (hst S W n).1, vA (S n) (hst S W n).1 (hst S W n).2 (W n))

theorem hst_row (S : ℕ → FVec Ideal S1024x1024 .f32) (W : ℕ → FVec Ideal S80x1024 .bf16) (n : ℕ) (r : Fin 1024) :
    (hst S W n).1 (ix2 r 0) = stM (fun j k => S j (ix2 r k)) n
      ∧ ∀ c, (hst S W n).2 (ix2 r c) = stA (fun j k => S j (ix2 r k)) (fun j k => W j (ix2 c k)) n := by
  induction n with
  | zero =>
    refine ⟨?_, fun c => ?_⟩
    · show k0_pay4 (F := Ideal) (ix2 r 0) = ⊥
      pointwise [k0_pay4, ofBits_neg_inf]
    · show k0_pay5 (F := Ideal) (ix2 r c) = 0
      pointwise [k0_pay5]
  | succ n ih =>
    refine ⟨?_, fun c => ?_⟩
    · show vM (S n) (hst S W n).1 (ix2 r 0) = _
      rw [vM_apply, ih.1]; rfl
    · show vA (S n) (hst S W n).1 (hst S W n).2 (W n) (ix2 r c) = _
      rw [vA_apply, ih.1, ih.2 c]; rfl

/-- The scores of map `g` in the tile at row block `n`: whole before block `n`, masked at it. -/
def sblk (x0 : Vec Ideal S1x2x1024x32 .bf16) (x1 : Vec Ideal S1x4x64x1024 .bf16) (g : Fin 2) (n j : ℕ) : FVec Ideal S1024x1024 .f32 :=
  if j < n then vS (qhd x0 g) (kblk x1 g j) else vMask (vS (qhd x0 g) (kblk x1 g j))

/-- Map `g`'s state after `j` blocks. -/
def head (x0 : Vec Ideal S1x2x1024x32 .bf16) (x1 : Vec Ideal S1x4x64x1024 .bf16) (x2 : Vec Ideal S1x4x80x1024 .bf16) (n : ℕ) (g : Fin 2) (j : ℕ) :
    FVec Ideal S1024x1 .f32 × FVec Ideal S1024x80 .f32 :=
  hst (sblk x0 x1 g n) (vblk x2) j

theorem head_lt (x0 : Vec Ideal S1x2x1024x32 .bf16) (x1 : Vec Ideal S1x4x64x1024 .bf16) (x2 : Vec Ideal S1x4x80x1024 .bf16) (n : ℕ) (g : Fin 2) (j : ℕ) (h : j < n) :
    head x0 x1 x2 n g (j + 1) = (vM (vS (qhd x0 g) (kblk x1 g j)) (head x0 x1 x2 n g j).1,
      vA (vS (qhd x0 g) (kblk x1 g j)) (head x0 x1 x2 n g j).1 (head x0 x1 x2 n g j).2 (vblk x2 j)) := by
  show (vM (sblk x0 x1 g n j) _, vA (sblk x0 x1 g n j) _ _ _) = _
  unfold sblk; rw [if_pos h]; rfl
theorem head_last (x0 : Vec Ideal S1x2x1024x32 .bf16) (x1 : Vec Ideal S1x4x64x1024 .bf16) (x2 : Vec Ideal S1x4x80x1024 .bf16) (n : ℕ) (g : Fin 2) :
    (head x0 x1 x2 n g (n + 1)).2 = vA (vMask (vS (qhd x0 g) (kblk x1 g n))) (head x0 x1 x2 n g n).1 (head x0 x1 x2 n g n).2 (vblk x2 n) := by
  show vA (sblk x0 x1 g n n) _ _ _ = _
  unfold sblk; rw [if_neg (lt_irrefl n)]; rfl

section Body
variable (c : Dev nD) (i : grid0.Coords) (arg3 : Memref sig .tc .vmem S1x2x1024x32 .bf16) (harg3 : arg3.IsWhole) (arg4 : Memref sig .tc .vmem S1x4x64x1024 .bf16) (harg4 : arg4.IsWhole) (arg5 : Memref sig .tc .vmem S1x4x80x1024 .bf16) (harg5 : arg5.IsWhole) (arg6 : Memref sig .tc .vmem S1024x128 .f32) (harg6 : arg6.IsWhole)
  (x0 : Vec Ideal S1x2x1024x32 .bf16) (x1 : Vec Ideal S1x4x64x1024 .bf16) (x2 : Vec Ideal S1x4x80x1024 .bf16)

theorem trips1 : Scf.trips (0#32) (Scalar.addi (0#32) (Scalar.muli (Scalar.divsi (Scalar.subi (BitVec.ofNat 32 ↑(i 2)) 0#32) 1#32) 1#32)) 1#32 = (i 2).val := by
  have : ∀ i : grid0.Coords, (k0_t1_loop i).trips = (i 2).val := by decide +kernel
  exact this i
theorem trips2 : Scf.trips (Scalar.addi (0#32) (Scalar.muli (Scalar.divsi (Scalar.subi (BitVec.ofNat 32 ↑(i 2)) 0#32) 1#32) 1#32)) (Scalar.addi (0#32) (Scalar.subi (BitVec.ofNat 32 ↑(i 2)) 0#32)) 1#32 = 0 := by
  have : ∀ i : grid0.Coords, (k0_t2_loop i).trips = 0 := by decide +kernel
  exact this i
theorem i2_lt : (i 2).val < 4 := (i 2).isLt

theorem trip_eq (v0 v2 : Vec Ideal S1x1x1024x32 .bf16) (k : Fin (k0_t1_loop i).trips)
   (m0 m1 : FVec Ideal S1024x1 .f32) (a0 a1 : FVec Ideal S1024x80 .f32) :
   tripR_k0_t1 (F := Ideal) Variants.none c none i arg3 harg3 arg4 harg4 arg5 harg5 arg6 harg6 v0 v2 (harg4.unread x1) (harg5.unread x2) k
     (m0, a0, m1, a1) =
    (vM (vS (k0_pay2 v0) (kblk x1 0 k)) m0, vA (vS (k0_pay2 v0) (kblk x1 0 k)) m0 a0 (vblk x2 k),
     vM (vS (k0_pay2 v2) (kblk x1 1 k)) m1, vA (vS (k0_pay2 v2) (kblk x1 1 k)) m1 a1 (vblk x2 k)) := by
  have hk : k.val < 4 := lt_trans (lt_of_lt_of_eq k.isLt (trips1 i)) (i2_lt i)
  rw [← key0_ld x1 k hk _ (k0_off1_eq i k) (k0_off1_inb i k), ← key1_ld x1 k hk _ (k0_off1_eq i k) (k0_off1_inb i k),
    ← val_ld x2 k hk _ (k0_off2_eq i k) (k0_off2_inb i k)]
  unfold tripR_k0_t1 trip_k0_t1
  dsimp only
  sl_unfold_words
  simp only [View.readAt_eq_ld, harg4.read_unread, harg5.read_unread]
  rfl

theorem loop_eq (n : ℕ) (hn : n ≤ (i 2).val) :
    st_k0_t1 (F := Ideal) Variants.none c none i arg3 harg3 arg4 harg4 arg5 harg5 arg6 harg6
      (View.ld x0 (Rect.unit ![0, 0, 0, 0] ![1, 1, 1024, 32] inb_S1x2x1024x32_S1x1x1024x32_0_0_0_0))
      (View.ld x0 (Rect.unit ![0, 1, 0, 0] ![1, 1, 1024, 32] inb_S1x2x1024x32_S1x1x1024x32_0_1_0_0))
      (harg4.unread x1) (harg5.unread x2) (k0_pay4, k0_pay5, k0_pay6, k0_pay7) n
     = ((head x0 x1 x2 (i 2).val 0 n).1, (head x0 x1 x2 (i 2).val 0 n).2, (head x0 x1 x2 (i 2).val 1 n).1, (head x0 x1 x2 (i 2).val 1 n).2) := by
  induction n with
  | zero => rfl
  | succ n ih =>
    have hk : n < (k0_t1_loop i).trips := by rw [show (k0_t1_loop i).trips = (i 2).val from trips1 i]; omega
    have h := st_k0_t1_succ (F := Ideal) Variants.none c none i arg3 harg3 arg4 harg4 arg5 harg5 arg6 harg6
      (View.ld x0 (Rect.unit ![0, 0, 0, 0] ![1, 1, 1024, 32] inb_S1x2x1024x32_S1x1x1024x32_0_0_0_0))
      (View.ld x0 (Rect.unit ![0, 1, 0, 0] ![1, 1, 1024, 32] inb_S1x2x1024x32_S1x1x1024x32_0_1_0_0))
      (harg4.unread x1) (harg5.unread x2) (k0_pay4, k0_pay5, k0_pay6, k0_pay7) ⟨n, hk⟩
    rw [h, ih (by omega), trip_eq, qry0 x0, qry1 x0, head_lt _ _ _ _ 0 n (by omega), head_lt _ _ _ _ 1 n (by omega)]

/-- The tile a point leaves: the two maps' quotients after the last block. -/
theorem out_eq :
    out0_A_3 (F := Ideal) c i arg3 harg3 arg4 harg4 arg5 harg5 arg6 harg6 x0 x1 x2
      = vC (vQ (head x0 x1 x2 (i 2).val 0 ((i 2).val + 1)).2) (vQ (head x0 x1 x2 (i 2).val 1 ((i 2).val + 1)).2) := by
  frame_out
  simp only [trips1, trips2, st_k0_t2_zero, loop_eq c i arg3 harg3 arg4 harg4 arg5 harg5 arg6 harg6 x0 x1 x2 _ le_rfl]
  rw [head_last, head_last, ← qry0 x0, ← qry1 x0,
    ← key0_ld x1 (i 2).val (i2_lt i) _ (k0_off5_eq i) (k0_off5_inb i), ← key1_ld x1 (i 2).val (i2_lt i) _ (k0_off5_eq i) (k0_off5_inb i),
    ← val_ld x2 (i 2).val (i2_lt i) _ (k0_off6_eq i) (k0_off6_inb i)]
  exact pay1_eq _ _ _ _ _ _ _ _
end Body
end Cert.Kernel3Ideal.Diff
-- ==== Proof.DiffHost.lean ====
/- What the host computes before the differential attention's call: the buffers of queries, keys and values, at an index. -/
module
public import proofs.«01_k».proof.Proof.DiffRows
@[expose] public section
set_option maxRecDepth 16384
noncomputable section
namespace Cert.Kernel3Ideal.Diff
open Cert.Kernel3Ideal Cert.Kernel3Ideal.Gen Idealize.ShloMosaic Idealize.ShloMosaic.TcCoe Idealize.SL.Sem
open Cert.FlashMath Idealize.ShloMosaic.StableHlo

section Vectors
variable {F : FTy → Type} [FloatOps F]
/-- The queries' scale. -/
def hScale : FVec F S_ .f32 := Host.divf (constant S_ .f32 0x3E3504F3#32) (Host.log (constant S_ .f32 0x40000000#32))
/-- The buffer of queries: each head's two maps, scaled. -/
def hQ (q : FVec F S4x4096x4x2x32 .f32) : FVec F S4x8x4096x32 .bf16 :=
  transpose S4x8x4096x32 [0, 2, 1, 3] (shapeCast S4x4096x8x32 (truncf .bf16 (mulf q (broadcastInDim S4x4096x4x2x32 ![] bcast_S_S4x4096x4x2x32 hScale)) bitsLt_bf16_f32)
    shapeCasts_S4x4096x4x2x32_S4x4096x8x32) transposes_S4x4096x8x32_S4x8x4096x32_0_2_1_3
/-- The buffer of keys, a block per 1024 of them. -/
def hK (k : FVec F S4x4096x2x64 .f32) : FVec F S4x4x128x1024 .bf16 :=
  transpose S4x4x128x1024 [0, 2, 1, 3] (shapeCast S4x128x4x1024 (truncf .bf16 (transpose S4x128x4096 [0, 2, 1]
    (shapeCast S4x4096x128 k shapeCasts_S4x4096x2x64_S4x4096x128) transposes_S4x4096x128_S4x128x4096_0_2_1) bitsLt_bf16_f32) shapeCasts_S4x128x4096_S4x128x4x1024)
    transposes_S4x128x4x1024_S4x4x128x1024_0_2_1_3
/-- A head's channels, a row of ones, fifteen of zeros. -/
def hVc (v : FVec F S4x4096x2x64 .f32) : FVec F S4x2x80x4096 .bf16 :=
  concatenate S4x2x80x4096 2
    [⟨S4x2x64x4096, truncf .bf16 (transpose S4x2x64x4096 [0, 2, 3, 1] v transposes_S4x4096x2x64_S4x2x64x4096_0_2_3_1) bitsLt_bf16_f32⟩,
     ⟨S4x2x16x4096, truncf .bf16 (select (cmpi .eq (iotaInDim S4x2x16x4096 32 2) (broadcastInDim S4x2x16x4096 ![] bcast_S_S4x2x16x4096 (constantI S_ 32 0#32)))
        (broadcastInDim S4x2x16x4096 ![] bcast_S_S4x2x16x4096 (constant S_ .f32 0x3F800000#32))
        (broadcastInDim S4x2x16x4096 ![] bcast_S_S4x2x16x4096 (constant S_ .f32 0x00000000#32))) bitsLt_bf16_f32⟩]
    concatenates_S4x2x64x4096_S4x2x16x4096_S4x2x80x4096_d2
/-- The rows of both heads, a block per 1024 keys. -/
def hVb (w : FVec F S4x2x80x4096 .bf16) : FVec F S4x4x160x1024 .bf16 :=
  transpose S4x4x160x1024 [0, 2, 1, 3] (shapeCast S4x160x4x1024 (shapeCast S4x160x4096 w shapeCasts_S4x2x80x4096_S4x160x4096) shapeCasts_S4x160x4096_S4x160x4x1024)
    transposes_S4x160x4x1024_S4x4x160x1024_0_2_1_3
/-- The buffer of values. -/
def hV (v : FVec F S4x4096x2x64 .f32) : FVec F S4x4x160x1024 .bf16 := hVb (hVc v)

theorem V_queries (m : (ℓ : Loc nD τ sig) → Buf (Elt F) ℓ) (c : Dev nD) : V m c main_v6 = hQ (m (c, Proc.tc.devRef main_arg0)) := by
  show StableHlo.after (hostOps0 ++ (hostOps0_1 ++ (hostOps0_2 ++ []))) (fun b => m (c, b)) (Proc.tc.devRef main_v6) = _
  simp only [List.cons_append, List.nil_append]
  after_results
  rfl
theorem V_keys (m : (ℓ : Loc nD τ sig) → Buf (Elt F) ℓ) (c : Dev nD) : V m c main_v11 = hK (m (c, Proc.tc.devRef main_arg1)) := by
  show StableHlo.after (hostOps0 ++ (hostOps0_1 ++ (hostOps0_2 ++ []))) (fun b => m (c, b)) (Proc.tc.devRef main_v11) = _
  simp only [List.cons_append, List.nil_append]
  after_results
  rfl
theorem V_values (m : (ℓ : Loc nD τ sig) → Buf (Elt F) ℓ) (c : Dev nD) : V m c main_v22 = hV (m (c, Proc.tc.devRef main_arg2)) := by
  show StableHlo.after (hostOps0 ++ (hostOps0_1 ++ (hostOps0_2 ++ []))) (fun b => m (c, b)) (Proc.tc.devRef main_v22) = _
  simp only [List.cons_append, List.nil_append]
  after_results
  rfl
end Vectors

/-- The scale the queries are multiplied by before the call. -/
def scale : EReal := Ideal.div (Ideal.ofBits FTy.f32 0x3E3504F3#32) (Ideal.log (Ideal.ofBits FTy.f32 0x40000000#32))

theorem hQ_apply (q : FVec Ideal S4x4096x4x2x32 .f32) (b : Fin 4) (hd : Fin 8) (s : Fin 4096) (e : Fin 32) (h : Fin 4) (g : Fin 2) (hg : hd.val = h.val * 2 + g.val) :
    hQ q (ix4 b hd s e) = q (ix5 b s h g e) * scale := by
  pointwise [hQ, hScale, scale]
  have h1 : (⟨hd.val / 2, by omega⟩ : Fin 4) = h := by apply Fin.ext; show hd.val / 2 = h.val; omega
  have h2 : (⟨hd.val % 2, by omega⟩ : Fin 2) = g := by apply Fin.ext; show hd.val % 2 = g.val; omega
  simp only [h1, h2]
theorem hK_apply (k : FVec Ideal S4x4096x2x64 .f32) (b j : Fin 4) (f : Fin 128) (κ : Fin 1024) (kv : Fin 2) (e : Fin 64) (hf : f.val = kv.val * 64 + e.val) :
    hK k (ix4 b j f κ) = k (ix4 b ⟨j.val * 1024 + κ.val, by omega⟩ kv e) := by
  pointwise [hK]
  congr 2 <;> apply Fin.ext <;> simp <;> omega
theorem hVc_apply (v : FVec Ideal S4x4096x2x64 .f32) (b : Fin 4) (kv : Fin 2) (e : Fin 80) (s : Fin 4096) :
    hVc v (ix4 b kv e s) = if h : e.val < 64 then v (ix4 b s kv ⟨e.val, h⟩) else if e.val = 64 then 1 else 0 := by
  pointwise [hVc]
  by_cases h : e.val < 64
  · rw [dif_pos h, dif_pos h]
  · rw [dif_neg h, dif_neg h]
    by_cases h2 : e.val = 64
    · rw [if_pos h2, h2]; rfl
    · rw [if_neg h2]
      have h3 : (BitVec.ofNat 32 (e.val - 64) == 0#32) = false := by
        rw [beq_eq_false_iff_ne]
        intro hh
        have := congrArg BitVec.toNat hh
        simp only [BitVec.toNat_ofNat] at this
        omega
      simp [Scalar.select, IntOp.cmpi, h3]
theorem hVb_apply (w : FVec Ideal S4x2x80x4096 .bf16) (b j : Fin 4) (f : Fin 160) (κ : Fin 1024) (kv : Fin 2) (e : Fin 80) (hf : f.val = kv.val * 80 + e.val) :
    hVb w (ix4 b j f κ) = w (ix4 b kv e ⟨j.val * 1024 + κ.val, by omega⟩) := by
  pointwise [hVb]
  congr 2 <;> apply Fin.ext <;> simp <;> omega
theorem hV_apply (v : FVec Ideal S4x4096x2x64 .f32) (b j : Fin 4) (f : Fin 160) (κ : Fin 1024) (kv : Fin 2) (e : Fin 80) (hf : f.val = kv.val * 80 + e.val) :
    hV v (ix4 b j f κ) = if h : e.val < 64 then v (ix4 b ⟨j.val * 1024 + κ.val, by omega⟩ kv ⟨e.val, h⟩) else if e.val = 64 then 1 else 0 := by
  rw [hV, hVb_apply _ b j f κ kv e hf, hVc_apply]

/-- The scale in the reals. -/
theorem scale_real : ∃ σ : ℝ, Ideal.ofBits FTy.f32 0x3E3504F3#32 = (σ : EReal) ∧ scale = ((σ * (1 / Real.log 2) : ℝ) : EReal) := by
  have h1 : ∃ σ : ℝ, Ideal.ofBits FTy.f32 0x3E3504F3#32 = (σ : EReal) := by
    simp only [Ideal.ofBits, Ideal.ieee]
    simp
    exact ⟨_, by rw [EReal.coe_mul]⟩
  have h2 : Ideal.ofBits FTy.f32 0x40000000#32 = ((2 : ℝ) : EReal) := by
    simp only [Ideal.ofBits, Ideal.ieee]
    simp
    refine (show _ = (((8388608 : ℝ) * (2 ^ 22)⁻¹ : ℝ) : EReal) by rw [EReal.coe_mul]).trans ?_
    congr 1
    norm_num
  obtain ⟨σ, hσ⟩ := h1
  refine ⟨σ, hσ, ?_⟩
  unfold scale
  rw [hσ, h2, Ideal.log_coe, if_neg (by norm_num), Ideal.div_coe (Real.log_pos (by norm_num)).ne', ← EReal.coe_mul]
end Cert.Kernel3Ideal.Diff
-- ==== Proof.DiffRef.lean ====
/- The differential attention's reference at an index: each map's causal softmax of the scaled scores, weighing the values. -/
module
public import proofs.«01_k».proof.Proof.FlashMath
public import Idealize.ShloMosaic.Lib.Pipeline.ValueKit
public import Idealize.ShloMosaic.Lib.Pointwise
public import Idealize.ShloMosaic.Lib.KernelVsHost
public import proofs.«01_k».proof.Proof.Gen.Reference3Ideal.Run
@[expose] public section
set_option maxRecDepth 16384
noncomputable section
namespace Cert.Reference3Ideal.Diff
open Cert.Reference3Ideal Cert.Reference3Ideal.Gen Idealize.ShloMosaic Idealize.ShloMosaic.TcCoe Idealize.SL.Sem

section Vectors
variable {F : FTy → Type} [FloatOps F]
/-- The masked, scaled scores. -/
def rS (q : FVec F S4x4096x4x2x32 .f32) (k : FVec F S4x4096x2x64 .f32) : FVec F S4x2x2x2x4096x4096 .f32 :=
  select (broadcastInDim S4x2x2x2x4096x4096 ![4, 5] bcast_S4096x4096_S4x2x2x2x4096x4096_4_5 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (mulf (transpose S4x2x2x2x4096x4096 [0, 1, 5, 2, 4, 3] (Host.dotGeneral dot_S4x4096x2x2x32_S4x4096x2x2x2x32_S4x2x2x4096x4096x2_4_5_1_13_023_024 none
        (shapeCast _ k shapeCasts_S4x4096x2x64_S4x4096x2x2x32) (shapeCast _ q shapeCasts_S4x4096x4x2x32_S4x4096x2x2x2x32)) transposes_S4x2x2x4096x4096x2_S4x2x2x2x4096x4096_0_1_5_2_4_3)
      (broadcastInDim S4x2x2x2x4096x4096 ![] bcast_S_S4x2x2x2x4096x4096 (constant S_ .f32 0x3E3504F3#32)))
    (broadcastInDim S4x2x2x2x4096x4096 ![] bcast_S_S4x2x2x2x4096x4096 (id (constant S_ .f32 0xFF800000#32)))
theorem reduces_last : S4x2x2x2x4096x4096.Reduces [5] S4x2x2x2x4096 := by decide
/-- A row's largest score. -/
def rM (s : FVec F S4x2x2x2x4096x4096 .f32) : FVec F S4x2x2x2x4096 .f32 :=
  Host.reduce FloatOps.maximumf s (constant S_ .f32 0xFF800000#32) reducesTo_S4x2x2x2x4096x4096_S4x2x2x2x4096_d5 h_S_
theorem rM_eq (s : FVec F S4x2x2x2x4096x4096 .f32) :
    rM s = multiReduction .maximumf [5] S4x2x2x2x4096 s 0xFF800000#32 reduces_last (.inl rfl) rfl :=
  hostReduce_maximumf_eq_multiReduction s _ _ _ reduces_last (.inl rfl) rfl
/-- The weights before their sum divides them, of scores and their rows' largest. -/
def rX (s : FVec F S4x2x2x2x4096x4096 .f32) (mx : FVec F S4x2x2x2x4096 .f32) : FVec F S4x2x2x2x4096x4096 .f32 :=
  Host.exp (subf s (broadcastInDim S4x2x2x2x4096x4096 ![0, 1, 2, 3, 4, 5] bcast_S4x2x2x2x4096x1_S4x2x2x2x4096x4096_0_1_2_3_4_5 (broadcastInDim S4x2x2x2x4096x1 ![0, 1, 2, 3, 4] bcast_S4x2x2x2x4096_S4x2x2x2x4096x1_0_1_2_3_4 (maximumf (broadcastInDim S4x2x2x2x4096 ![] bcast_S_S4x2x2x2x4096 (constant S_ .f32 0xFF800000#32)) mx))))
/-- The weights before their sum divides them. -/
def rE (s : FVec F S4x2x2x2x4096x4096 .f32) : FVec F S4x2x2x2x4096x4096 .f32 := rX s (rM s)
/-- The weighted sum of the values, a row per query. -/
def rO (e : FVec F S4x2x2x2x4096x4096 .f32) (v : FVec F S4x4096x2x64 .f32) : FVec F S16384x512 .f32 :=
  shapeCast _ (transpose S4x4096x2x2x2x64 [0, 5, 1, 3, 4, 2] (Host.dotGeneral dot_S4x4096x2x64_S4x2x2x2x4096x4096_S4x2x64x2x2x4096_1_5_3_234_02_01 none v
    (Host.divf e (broadcastInDim S4x2x2x2x4096x4096 ![0, 1, 2, 3, 4, 5] bcast_S4x2x2x2x4096x1_S4x2x2x2x4096x4096_0_1_2_3_4_5 (broadcastInDim S4x2x2x2x4096x1 ![0, 1, 2, 3, 4] bcast_S4x2x2x2x4096_S4x2x2x2x4096x1_0_1_2_3_4 (Host.reduceAdd e (constant S_ .f32 0x00000000#32) reducesTo_S4x2x2x2x4096x4096_S4x2x2x2x4096_d5 h_S_))))) transposes_S4x2x64x2x2x4096_S4x4096x2x2x2x64_0_5_1_3_4_2) shapeCasts_S4x4096x2x2x2x64_S16384x512

theorem res_eq (m : (ℓ : Loc nD τ sig) → Buf (Elt F) ℓ) (c : Dev nD) :
    Value.res_out0 m c = rO (rE (rS (m ((c.tc : Thread nD τ).loc main_arg0)) (m ((c.tc : Thread nD τ).loc main_arg1))))
      (m ((c.tc : Thread nD τ).loc main_arg2)) := rfl
end Vectors

theorem ofBits_neg_inf : Ideal.ofBits FTy.f32 0xFF800000#32 = ⊥ := by simp [Ideal.ofBits, Ideal.ieee]

/-- One score of one map: the query against the map's channels of the key, scaled. -/
def score (Q : FVec Ideal S4x4096x4x2x32 .f32) (K : FVec Ideal S4x4096x2x64 .f32)
    (b : Fin 4) (kv gr mp : Fin 2) (q κ : Fin 4096) : EReal :=
  (∑ e : Fin 32, K (ix4 b κ kv ⟨mp.val * 32 + e.val, by omega⟩) * Q (ix5 b q ⟨kv.val * 2 + gr.val, by omega⟩ mp e)) * Ideal.ofBits FTy.f32 0x3E3504F3#32

theorem sle_iff (n k : ℕ) (hn : n < 4096) (hk : k < 4096) :
    (BitVec.ofNat 32 n).sle (BitVec.ofNat 32 k) = decide (n ≤ k) := by
  rw [BitVec.sle_eq_decide, BitVec.toInt_eq_toNat_of_lt (by simp; omega), BitVec.toInt_eq_toNat_of_lt (by simp; omega)]
  simp only [BitVec.toNat_ofNat]
  rw [Nat.mod_eq_of_lt (by omega), Nat.mod_eq_of_lt (by omega)]
  simp

theorem rS_apply (Q : FVec Ideal S4x4096x4x2x32 .f32) (K : FVec Ideal S4x4096x2x64 .f32)
    (b : Fin 4) (kv gr mp : Fin 2) (q κ : Fin 4096) :
    rS Q K (ix6 b kv gr mp q κ) = if κ.val ≤ q.val then score Q K b kv gr mp q κ else ⊥ := by
  unfold rS
  simp only [id_eq]
  pointwise [score, ofBits_neg_inf]
  by_cases hk : κ.val ≤ q.val
  · simp [Scalar.select, IntOp.cmpi, sle_iff, hk]
  · simp [Scalar.select, IntOp.cmpi, sle_iff, hk]

/-- The index a row's reduction reads. -/
theorem lift_eq (b : Fin 4) (kv gr mp : Fin 2) (q κ : Fin 4096) : reduces_last.lift (ix5 b kv gr mp q) κ = ix6 b kv gr mp q κ := by
  funext a; fin_cases a <;> rfl

theorem rM_apply (s : FVec Ideal S4x2x2x2x4096x4096 .f32) (b : Fin 4) (kv gr mp : Fin 2) (q : Fin 4096) :
    rM s (ix5 b kv gr mp q) = Finset.univ.fold max ⊥ fun κ' => s (ix6 b kv gr mp q κ') := by
  rw [rM_eq]
  refine (Ideal.multiReduction_maximumf_single s _ reduces_last (.inl rfl) rfl (ix5 b kv gr mp q)).trans ?_
  show Finset.univ.fold max (Ideal.ofBits FTy.f32 0xFF800000#32) _ = _
  rw [ofBits_neg_inf]
  refine congrArg (fun f => Finset.fold max ⊥ f Finset.univ) (funext fun κ' => ?_)
  exact congrArg s (lift_eq b kv gr mp q κ')

theorem rX_apply (s : FVec Ideal S4x2x2x2x4096x4096 .f32) (mx : FVec Ideal S4x2x2x2x4096 .f32) (b : Fin 4) (kv gr mp : Fin 2) (q κ : Fin 4096) :
    rX s mx (ix6 b kv gr mp q κ) = Ideal.exp (s (ix6 b kv gr mp q κ) - mx (ix5 b kv gr mp q)) := by
  pointwise [rX, ofBits_neg_inf]
  rw [max_eq_right bot_le]

theorem rE_apply (s : FVec Ideal S4x2x2x2x4096x4096 .f32) (b : Fin 4) (kv gr mp : Fin 2) (q κ : Fin 4096) :
    rE s (ix6 b kv gr mp q κ) = Ideal.exp (s (ix6 b kv gr mp q κ) - Finset.univ.fold max ⊥ fun κ' => s (ix6 b kv gr mp q κ')) := by
  rw [rE, rX_apply, rM_apply]

theorem rO_apply (e : FVec Ideal S4x2x2x2x4096x4096 .f32) (v : FVec Ideal S4x4096x2x64 .f32) (R : Fin 16384) (C : Fin 512)
    (b : Fin 4) (kv gr mp : Fin 2) (q : Fin 4096) (ch : Fin 64) (hR : R.val = b.val * 4096 + q.val) (hC : C.val = ((kv.val * 2 + gr.val) * 2 + mp.val) * 64 + ch.val) :
    rO e v (ix2 R C) = ∑ κ, v (ix4 b κ kv ch) * Ideal.div (e (ix6 b kv gr mp q κ)) (∑ κ', e (ix6 b kv gr mp q κ')) := by
  pointwise [rO]
  have h1 : (⟨R.val / 4096, by omega⟩ : Fin 4) = b := by apply Fin.ext; show R.val / 4096 = b.val; omega
  have h2 : (⟨R.val % 4096, by omega⟩ : Fin 4096) = q := by apply Fin.ext; show R.val % 4096 = q.val; omega
  have h3 : (⟨C.val / 256, by omega⟩ : Fin 2) = kv := by apply Fin.ext; show C.val / 256 = kv.val; omega
  have h4 : (⟨C.val / 128 % 2, by omega⟩ : Fin 2) = gr := by apply Fin.ext; show C.val / 128 % 2 = gr.val; omega
  have h5 : (⟨C.val / 64 % 2, by omega⟩ : Fin 2) = mp := by apply Fin.ext; show C.val / 64 % 2 = mp.val; omega
  have h6 : (⟨C.val % 64, by omega⟩ : Fin 64) = ch := by apply Fin.ext; show C.val % 64 = ch.val; omega
  simp only [h1, h2, h3, h4, h5, h6]
  rw [Ideal.hostReduceAdd_single _ reduces_last, zero_add]
  refine Finset.sum_congr rfl fun κ _ => congrArg (fun d => _ * Ideal.div _ d) (Finset.sum_congr rfl fun κ' _ => ?_)
  exact congrArg e (lift_eq b kv gr mp q κ')
end Cert.Reference3Ideal.Diff
-- ==== Proof.FlashCausal.lean ====
/- A causal row in blocks of 1024 keys: scores that are real up to the query and masked after it, in base two, give the
   softmax in base e over every key. -/
module
public import proofs.«01_k».proof.Proof.FlashMath
@[expose] public section
noncomputable section
namespace Cert.FlashMath
open Idealize.ShloMosaic

theorem sum_real {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The running sums see the blocks before `n` only. -/
theorem stM_congr (s s' : ℕ → Fin 1024 → EReal) (n : ℕ) (h : ∀ j < n, s j = s' j) : stM s n = stM s' n := by
  induction n with
  | zero => rfl
  | succ n ih => rw [stM, stM, ih fun j hj => h j (by omega), h n (by omega)]
theorem stA_congr (s s' v v' : ℕ → Fin 1024 → EReal) (n : ℕ) (h : ∀ j < n, s j = s' j) (hv : ∀ j < n, v j = v' j) :
    stA s v n = stA s' v' n := by
  induction n with
  | zero => rfl
  | succ n ih =>
    rw [stA, stA, ih (fun j hj => h j (by omega)) (fun j hj => hv j (by omega)), stM_congr s s' n fun j hj => h j (by omega),
      h n (by omega), hv n (by omega)]

/-- The row of query `q` of tile `n`: `D` its scores, `V` its values, `s` and `v` the kernel's, block by block, `o` the channel of ones. -/
theorem causal_row (n : Fin 4) (r : Fin 1024) (q : Fin 4096) (hq : q.val = n.val * 1024 + r.val) (D : Fin 4096 → ℝ) (V : Fin 4096 → EReal)
    (s v o : ℕ → Fin 1024 → EReal)
    (hs : ∀ j ≤ n.val, ∀ (k : Fin 1024) (hk : j * 1024 + k.val < 4096), s j k
      = if j * 1024 + k.val ≤ q.val then ((D ⟨j * 1024 + k.val, hk⟩ * (1 / Real.log 2) : ℝ) : EReal) else ⊥)
    (hv : ∀ j ≤ n.val, ∀ (k : Fin 1024) (hk : j * 1024 + k.val < 4096), v j k = V ⟨j * 1024 + k.val, hk⟩)
    (ho : ∀ j ≤ n.val, ∀ k : Fin 1024, o j k = 1) :
    Ideal.div (stA s v (n.val + 1)) (stA s o (n.val + 1))
      = ∑ κ, V κ * Ideal.div
          (Ideal.exp ((if κ.val ≤ q.val then (D κ : EReal) else ⊥) - Finset.univ.fold max ⊥ fun κ' : Fin 4096 => if κ'.val ≤ q.val then (D κ' : EReal) else ⊥))
          (∑ κ'' : Fin 4096, Ideal.exp ((if κ''.val ≤ q.val then (D κ'' : EReal) else ⊥) - Finset.univ.fold max ⊥ fun κ' : Fin 4096 => if κ'.val ≤ q.val then (D κ' : EReal) else ⊥)) := by
  have hn := n.isLt
  have hr := r.isLt
  have hone : stA s o (n.val + 1) = stA s (fun _ _ => 1) (n.val + 1) :=
    stA_congr _ _ _ _ _ (fun _ _ => rfl) fun j hj => funext fun k => ho j (by omega) k
  rw [hone]
  refine flash_eq_softmax (B := 1024) 4 n.val hn (fun κ => if κ.val ≤ q.val then (D κ : EReal) else ⊥) V s v ?_ ?_ ?_ ?_ ?_ ?_
  · intro κ
    show (if _ then _ else _) ≠ _
    split
    · exact EReal.coe_ne_top _
    · exact bot_ne_top
  · intro j hj k
    rw [hs j hj k (by omega)]
    split
    · exact EReal.coe_ne_top _
    · exact bot_ne_top
  · intro j hj
    refine ⟨0, ?_⟩
    rw [hs j hj 0 (by show j * 1024 + 0 < 4096; omega), if_pos (by show j * 1024 + 0 ≤ q.val; nlinarith)]
    exact EReal.coe_ne_bot _
  · intro j hj k hk
    show Ideal.exp2 (s j k) = Ideal.exp (if _ then _ else _)
    rw [hs j hj k (by omega)]
    split
    · exact exp2_eq_exp _
    · rw [Ideal.exp2_bot, Ideal.exp_bot]
  · intro j hj k hk
    exact hv j hj k hk
  · intro j hj k hk
    show (if _ then _ else _) = _
    rw [if_neg]
    show ¬ j * 1024 + k.val ≤ q.val
    nlinarith
end Cert.FlashMath
-- ==== Proof.DiffRow.lean ====
/- One row of one map of the differential attention: the kernel's quotient is the reference's causal softmax against the values. -/
module
public import proofs.«01_k».proof.Proof.DiffLoop
public import proofs.«01_k».proof.Proof.DiffHost
public import proofs.«01_k».proof.Proof.DiffRef
public import proofs.«01_k».proof.Proof.FlashCausal
@[expose] public section
set_option maxRecDepth 16384
noncomputable section
namespace Cert.Kernel3Ideal.Diff
open Cert.Kernel3Ideal Cert.Kernel3Ideal.Gen Idealize.ShloMosaic Idealize.ShloMosaic.TcCoe Idealize.SL.Sem
open Cert.FlashMath

section Row
variable (Q : S4x4096x4x2x32.Idx → ℝ) (K V : S4x4096x2x64.Idx → ℝ)
/-- A score before its scale, in the reals. -/
def dot (b : Fin 4) (kv gr mp : Fin 2) (q κ : Fin 4096) : ℝ :=
  ∑ e : Fin 32, K (ix4 b κ kv ⟨mp.val * 32 + e.val, by omega⟩) * Q (ix5 b q ⟨kv.val * 2 + gr.val, by omega⟩ mp e)

theorem ref_score (σ : ℝ) (hσ : Ideal.ofBits FTy.f32 0x3E3504F3#32 = (σ : EReal)) (b : Fin 4) (kv gr mp : Fin 2) (q κ : Fin 4096) :
    Reference3Ideal.Diff.score (fun i => (Q i : EReal)) (fun i => (K i : EReal)) b kv gr mp q κ
      = ((dot Q K b kv gr mp q κ * σ : ℝ) : EReal) := by
  unfold Reference3Ideal.Diff.score dot
  rw [hσ]
  simp only [← EReal.coe_mul, sum_real]

variable (x0 : Vec Ideal S1x2x1024x32 .bf16) (x1 : Vec Ideal S1x4x64x1024 .bf16) (x2 : Vec Ideal S1x4x80x1024 .bf16)

/-- A tile's row: its quotient at a channel is the softmax over all keys. -/
theorem row_eq (n : Fin 4) (mp : Fin 2) (r : Fin 1024) (b : Fin 4) (kv gr : Fin 2) (q : Fin 4096) (ch : Fin 64) (hq : q.val = n.val * 1024 + r.val)
    (h0 : ∀ e, x0 (ix4 0 mp r e) = hQ (F := Ideal) (fun i => (Q i : EReal)) (ix4 b ⟨(kv.val * 2 + gr.val) * 2 + mp.val, by omega⟩ q e))
    (h1 : ∀ j (e : Fin 64) k, x1 (ix4 0 j e k) = hK (F := Ideal) (fun i => (K i : EReal)) (ix4 b j ⟨kv.val * 64 + e.val, by omega⟩ k))
    (h2 : ∀ j (e : Fin 80) k, x2 (ix4 0 j e k) = hV (F := Ideal) (fun i => (V i : EReal)) (ix4 b j ⟨kv.val * 80 + e.val, by omega⟩ k)) :
    Ideal.div ((head x0 x1 x2 n.val mp (n.val + 1)).2 (ix2 r ⟨ch.val, by omega⟩)) ((head x0 x1 x2 n.val mp (n.val + 1)).2 (ix2 r 64))
      = ∑ κ, (V (ix4 b κ kv ch) : EReal) * Ideal.div
          (Reference3Ideal.Diff.rE (F := Ideal) (Reference3Ideal.Diff.rS (F := Ideal) (fun i => (Q i : EReal)) (fun i => (K i : EReal))) (ix6 b kv gr mp q κ))
          (∑ κ', Reference3Ideal.Diff.rE (F := Ideal) (Reference3Ideal.Diff.rS (F := Ideal) (fun i => (Q i : EReal)) (fun i => (K i : EReal))) (ix6 b kv gr mp q κ')) := by
  obtain ⟨σ, hσ, hsc⟩ := scale_real
  have hn := n.isLt
  have hr := r.isLt
  have hrow := (hst_row (sblk x0 x1 mp n.val) (vblk x2) (n.val + 1) r).2
  rw [head, hrow, hrow]
  simp only [Reference3Ideal.Diff.rE_apply, Reference3Ideal.Diff.rS_apply, ref_score Q K σ hσ]
  have hvS : ∀ j (hj : j < 4) (k : Fin 1024), vS (qhd x0 mp) (kblk x1 mp j) (ix2 r k)
      = ((dot Q K b kv gr mp q ⟨j * 1024 + k.val, by omega⟩ * σ * (1 / Real.log 2) : ℝ) : EReal) := fun j hj k => by
    rw [vS_apply]
    have hterm : ∀ e : Fin 32, qhd x0 mp (ix2 r e) * kblk x1 mp j (ix2 e k)
        = ((K (ix4 b ⟨j * 1024 + k.val, by omega⟩ kv ⟨mp.val * 32 + e.val, by omega⟩) * Q (ix5 b q ⟨kv.val * 2 + gr.val, by omega⟩ mp e) * (σ * (1 / Real.log 2)) : ℝ) : EReal) := fun e => by
      have e0 : qhd x0 mp (ix2 r e) = _ := (h0 e).trans (hQ_apply _ b _ q e ⟨kv.val * 2 + gr.val, by omega⟩ mp rfl)
      have e1 : kblk x1 mp j (ix2 e k) = ((K (ix4 b ⟨j * 1024 + k.val, by omega⟩ kv ⟨mp.val * 32 + e.val, by omega⟩) : ℝ) : EReal) := by
        unfold kblk
        rw [dif_pos hj]
        exact (h1 ⟨j, hj⟩ ⟨mp.val * 32 + e.val, by omega⟩ k).trans (hK_apply _ b ⟨j, hj⟩ _ k kv ⟨mp.val * 32 + e.val, by omega⟩ rfl)
      rw [e0, e1, hsc]
      rw [← EReal.coe_mul, ← EReal.coe_mul]
      congr 1
      ring
    simp only [hterm, sum_real]
    congr 1
    unfold dot
    rw [← Finset.sum_mul, mul_assoc]
  refine causal_row n r q hq (fun κ => dot Q K b kv gr mp q κ * σ) (fun κ => (V (ix4 b κ kv ch) : EReal))
    (fun j k => sblk x0 x1 mp n.val j (ix2 r k)) (fun j k => vblk x2 j (ix2 ⟨ch.val, by omega⟩ k)) (fun j k => vblk x2 j (ix2 64 k)) ?_ ?_ ?_
  · intro j hj k hk
    show sblk x0 x1 mp n.val j (ix2 r k) = _
    unfold sblk
    by_cases hjn : j < n.val
    · rw [if_pos hjn, hvS j (by omega) k, if_pos (by omega)]
    · rw [if_neg hjn, vMask_apply, hvS j (by omega) k]
      by_cases hkr : k.val ≤ r.val
      · rw [if_pos hkr, if_pos (by omega)]
      · rw [if_neg hkr, if_neg (by omega)]
  · intro j hj k hk
    show vblk x2 j (ix2 ⟨ch.val, _⟩ k) = _
    unfold vblk
    rw [dif_pos (by omega)]
    refine (h2 ⟨j, by omega⟩ ⟨ch.val, by omega⟩ k).trans ?_
    rw [hV_apply _ b _ _ k kv ⟨ch.val, by omega⟩ rfl, dif_pos ch.isLt]
  · intro j hj k
    show vblk x2 j (ix2 64 k) = 1
    unfold vblk
    rw [dif_pos (by omega)]
    refine (h2 ⟨j, by omega⟩ ⟨64, by omega⟩ k).trans ?_
    rw [hV_apply _ b _ _ k kv ⟨64, by omega⟩ rfl, dif_neg (by simp), if_pos rfl]
end Row
end Cert.Kernel3Ideal.Diff
-- ==== Proof.DiffValue.lean ====
/- The differential attention's output array is the reference's result, the arguments finite. -/
module
public import proofs.«01_k».proof.Proof.DiffBlocks
public import proofs.«01_k».proof.Proof.DiffRow
@[expose] public section
set_option maxRecDepth 16384
noncomputable section
namespace Cert.Kernel3Ideal.Diff
open Cert.Kernel3Ideal Cert.Kernel3Ideal.Gen Idealize.ShloMosaic Idealize.ShloMosaic.TcCoe Idealize.SL.Sem
open Cert.FlashMath
variable (m : (ℓ : Loc nD τ sig) → Buf (Elt Ideal) ℓ) (c : Dev nD)

/-- What the call leaves, as a function of real arguments: the reference's result. -/
theorem tile_eq (Q : S4x4096x4x2x32.Idx → ℝ) (K V : S4x4096x2x64.Idx → ℝ)
    (x0 : Vec Ideal S1x2x1024x32 .bf16) (x1 : Vec Ideal S1x4x64x1024 .bf16) (x2 : Vec Ideal S1x4x80x1024 .bf16)
    (b n hg : Fin 4) (r : Fin 1024) (C : Fin 128) (R : Fin 16384) (C' : Fin 512)
    (hR : R.val = (b.val * 4 + n.val) * 1024 + r.val) (hC : C'.val = hg.val * 128 + C.val)
    (h0 : ∀ (g : Fin 2) (r : Fin 1024) e, x0 (ix4 0 g r e) = hQ (F := Ideal) (fun i => (Q i : EReal)) (ix4 b ⟨hg.val * 2 + g.val, by omega⟩ ⟨n.val * 1024 + r.val, by omega⟩ e))
    (h1 : ∀ j (e : Fin 64) k, x1 (ix4 0 j e k) = hK (F := Ideal) (fun i => (K i : EReal)) (ix4 b j ⟨hg.val / 2 * 64 + e.val, by omega⟩ k))
    (h2 : ∀ j (e : Fin 80) k, x2 (ix4 0 j e k) = hV (F := Ideal) (fun i => (V i : EReal)) (ix4 b j ⟨hg.val / 2 * 80 + e.val, by omega⟩ k)) :
    vC (vQ (head x0 x1 x2 n.val 0 (n.val + 1)).2) (vQ (head x0 x1 x2 n.val 1 (n.val + 1)).2) (ix2 r C)
      = Reference3Ideal.Diff.rO (F := Ideal) (Reference3Ideal.Diff.rE (F := Ideal) (Reference3Ideal.Diff.rS (F := Ideal) (fun i => (Q i : EReal)) (fun i => (K i : EReal)))) (fun i => (V i : EReal)) (ix2 R C') := by
  have hCl := C.isLt
  have hn := n.isLt
  have hr := r.isLt
  have hgl := hg.isLt
  obtain ⟨kv, gr, hkg⟩ : ∃ kv gr : Fin 2, hg.val = kv.val * 2 + gr.val :=
    ⟨⟨hg.val / 2, by omega⟩, ⟨hg.val % 2, by omega⟩, by show hg.val = hg.val / 2 * 2 + hg.val % 2; omega⟩
  have hgr := gr.isLt
  have hdiv : hg.val / 2 = kv.val := by omega
  have e1 := vC_apply (fun g => vQ (head x0 x1 x2 n.val g (n.val + 1)).2) r C ⟨C.val / 64, by omega⟩ ⟨C.val % 64, by omega⟩ (by show C.val = C.val / 64 * 64 + C.val % 64; omega)
  refine e1.trans ?_
  show vQ (head x0 x1 x2 n.val ⟨C.val / 64, _⟩ (n.val + 1)).2 (ix2 r ⟨C.val % 64, _⟩) = _
  rw [vQ_apply, Reference3Ideal.Diff.rO_apply _ _ R C' b kv gr ⟨C.val / 64, by omega⟩ ⟨n.val * 1024 + r.val, by omega⟩ ⟨C.val % 64, by omega⟩
    (by show R.val = b.val * 4096 + (n.val * 1024 + r.val); omega) (by show C'.val = ((kv.val * 2 + gr.val) * 2 + C.val / 64) * 64 + C.val % 64; omega)]
  refine row_eq Q K V x0 x1 x2 n ⟨C.val / 64, by omega⟩ r b kv gr ⟨n.val * 1024 + r.val, by omega⟩ ⟨C.val % 64, by omega⟩ rfl
    (fun e => (h0 ⟨C.val / 64, by omega⟩ r e).trans ?_) (fun j e k => (h1 j e k).trans ?_) (fun j e k => (h2 j e k).trans ?_)
  · simp only [hkg]
  · simp only [hdiv]
  · simp only [hdiv]

theorem arr_eq (Q : S4x4096x4x2x32.Idx → ℝ) (K W : S4x4096x2x64.Idx → ℝ)
    (h0 : m (c, Proc.tc.devRef main_arg0) = fun i => (Q i : EReal)) (h1 : m (c, Proc.tc.devRef main_arg1) = fun i => (K i : EReal))
    (h2 : m (c, Proc.tc.devRef main_arg2) = fun i => (W i : EReal)) :
    (dats m 0 c).arrAt 3 cfg0.N = Reference3Ideal.Diff.rO (F := Ideal) (Reference3Ideal.Diff.rE (F := Ideal) (Reference3Ideal.Diff.rS (F := Ideal) (fun i => (Q i : EReal)) (fun i => (K i : EReal)))) (fun i => (W i : EReal)) := by
  have hQ' := V_queries m c
  have hK' := V_keys m c
  have hV' := V_values m c
  rw [h0] at hQ'
  rw [h1] at hK'
  rw [h2] at hV'
  refine (dats m 0 c).arrAt_eq_of_covers 3 _ (by decide +kernel) fun t hf y => ?_
  blk_simp
  rw [after0_3]
  unfold outsAt0
  rw [out_eq]
  obtain ⟨r, C, rfl⟩ : ∃ (r : Fin 1024) (C : Fin 128), y = ix2 r C := ⟨y 0, y 1, by funext a; fin_cases a <;> rfl⟩
  have b0 : (grid0.coords t 0).val < 4 := (grid0.coords t 0).isLt
  have b1 : (grid0.coords t 1).val < 4 := (grid0.coords t 1).isLt
  have b2 : (grid0.coords t 2).val < 4 := (grid0.coords t 2).isLt
  have e : ((cfg0.win 3).blk t).view.emb (ix2 r C) = ix2 (⟨((grid0.coords t 0).val * 4 + (grid0.coords t 2).val) * 1024 + r.val, by
      omega⟩ : Fin 16384) (⟨(grid0.coords t 1).val * 128 + C.val, by omega⟩ : Fin 512) := by
    blk_ext [idx3 t]
  refine (tile_eq Q K W (iblk m c 0 t) (iblk m c 1 t) (iblk m c 2 t) ⟨_, b0⟩ ⟨_, b2⟩ ⟨_, b1⟩ r C _ _ rfl rfl
    (fun g r e => ?_) (fun j e k => ?_) (fun j e k => ?_)).trans (congrArg _ e.symm)
  · rw [← hQ']
    exact blk0 m c t g r e _ _ _ rfl rfl rfl
  · rw [← hK']
    exact blk1 m c t j e k _ _ rfl rfl
  · rw [← hV']
    exact blk2 m c t j e k _ _ rfl rfl
end Cert.Kernel3Ideal.Diff
-- ==== Proof.FlashPre.lean ====
/- The precondition read: every argument is an array of real numbers. -/
module
public import proofs.«01_k».proof.Proof.Gen.Pre_finite
public import Idealize.ShloMosaic.Lib.ReduceAll
public import Idealize.ShloMosaic.Lib.Pointwise
@[expose] public section
set_option maxRecDepth 16384
noncomputable section
namespace Cert.Pre_finite.Flash
open Cert.Pre_finite Idealize.ShloMosaic Idealize.SL.Sem

/-- Below infinity in size is real. -/
theorem real_of_abs_lt {S : Shape} (a : FVec Ideal S .f32) (b : S_.BroadcastsInDim S ![]) (i : S.Idx)
    (h : cmpf .olt (Host.absf a) (broadcastInDim S ![] b (constant S_ .f32 0x7F800000#32)) i = 1#1) : ∃ r : ℝ, a i = (r : EReal) := by
  pointwise at h
  change BitVec.ofBool (decide (max (a i : EReal) (-(a i : EReal)) < Ideal.ofBits FTy.f32 2139095040#32)) = 1#1 at h
  have h' : max (a i) (-(a i)) < (⊤ : EReal) := by
    have : Ideal.ofBits FTy.f32 2139095040#32 = ⊤ := by simp [Ideal.ofBits, Ideal.ieee]
    rw [this] at h
    by_contra hn
    rw [decide_eq_false hn] at h
    exact absurd h (by decide)
  generalize (a i : EReal) = x at h'
  induction x using EReal.rec with
  | bot => simp at h'
  | coe r => exact ⟨r, rfl⟩
  | top => simp at h'
theorem real_of_all {S : Shape} (a : FVec Ideal S .f32) (b : S_.BroadcastsInDim S ![]) {axes} (hr : S.ReducesTo axes S_) (hu : 0 < S_.numel) (j : S_.Idx)
    (h : Host.reduce IntOp.andi (cmpf .olt (Host.absf a) (broadcastInDim S ![] b (constant S_ .f32 0x7F800000#32))) (constantI S_ 1 1#1) hr hu j = 1#1) :
    ∃ f : S.Idx → ℝ, a = fun i => (f i : EReal) := by
  haveI : Subsingleton S_.Idx := ⟨fun x y => funext fun k => Fin.elim0 k⟩
  choose f hf using fun i => real_of_abs_lt a b i (Host.reduce_andi_all _ _ _ _ j h i)
  exact ⟨f, funext hf⟩

theorem finite_apply [Facts] (a0 : FVec Ideal S4x4096x8x128 .f32) (a1 : FVec Ideal S4x4096x8x32 .f32) (a2 : FVec Ideal S4x4096x128 .f32) (a3 : FVec Ideal S4x4096x32 .f32)
    (j : S_.Idx) (h : fn (F := Ideal) a0 a1 a2 a3 j = 1#1) :
    (∃ f : _ → ℝ, a0 = fun i => (f i : EReal)) ∧ (∃ f : _ → ℝ, a1 = fun i => (f i : EReal))
      ∧ (∃ f : _ → ℝ, a2 = fun i => (f i : EReal)) ∧ (∃ f : _ → ℝ, a3 = fun i => (f i : EReal)) := by
  dsimp only [fn, fn_part1] at h
  obtain ⟨h, h3⟩ := IntOp.andi_eq_one.1 h
  obtain ⟨h, h2⟩ := IntOp.andi_eq_one.1 h
  obtain ⟨h0, h1⟩ := IntOp.andi_eq_one.1 h
  exact ⟨real_of_all a0 _ _ _ j h0, real_of_all a1 _ _ _ j h1, real_of_all a2 _ _ _ j h2, real_of_all a3 _ _ _ j h3⟩
end Cert.Pre_finite.Flash
-- ==== Proof.DiffPre.lean ====
/- The differential attention's precondition read: every argument is an array of real numbers. -/
module
public import proofs.«01_k».proof.Proof.Gen.Pre_finite3
public import proofs.«01_k».proof.Proof.FlashPre
@[expose] public section
set_option maxRecDepth 16384
noncomputable section
namespace Cert.Pre_finite3.Diff
open Cert.Pre_finite3 Idealize.ShloMosaic Idealize.SL.Sem

theorem finite_apply [Facts] (a0 : FVec Ideal S4x4096x4x2x32 .f32) (a1 a2 : FVec Ideal S4x4096x2x64 .f32)
    (j : S_.Idx) (h : fn (F := Ideal) a0 a1 a2 j = 1#1) :
    (∃ f : _ → ℝ, a0 = fun i => (f i : EReal)) ∧ (∃ f : _ → ℝ, a1 = fun i => (f i : EReal)) ∧ (∃ f : _ → ℝ, a2 = fun i => (f i : EReal)) := by
  dsimp only [fn] at h
  obtain ⟨h, h2⟩ := IntOp.andi_eq_one.1 h
  obtain ⟨h0, h1⟩ := IntOp.andi_eq_one.1 h
  exact ⟨Cert.Pre_finite.Flash.real_of_all a0 _ _ _ j h0, Cert.Pre_finite.Flash.real_of_all a1 _ _ _ j h1, Cert.Pre_finite.Flash.real_of_all a2 _ _ _ j h2⟩
end Cert.Pre_finite3.Diff
-- ==== Proof.InFrame.lean ====
/- The run of the input projections' call: what each window's block and each output's buffer hold at a grid point, the body's
   triple, the launch, and that the arguments end unchanged. -/
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel6Ideal.In

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1260000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel6Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's accesses -/

abbrev r0_0 : Rect S512x1024 := Rect.unit (s := S512x1024) ![0, 0] S512x1024.size inb_S512x1024_S512x1024_0_0
abbrev r0_1 : Rect S1024x2176 := Rect.unit (s := S1024x2176) ![0, 0] S1024x2176.size inb_S1024x2176_S1024x2176_0_0
abbrev r0_2 : Rect S512x256 := Rect.unit (s := S512x256) ![0, 0] S512x256.size inb_S512x256_S512x256_0_0
abbrev r0_3 : Rect S1x256 := Rect.unit (s := S1x256) ![0, 0] S1x256.size inb_S1x256_S1x256_0_0
abbrev r0_4 : Rect S256x1024 := Rect.unit (s := S256x1024) ![0, 0] S256x1024.size inb_S256x1024_S256x1024_0_0
abbrev r0_5 : Rect S1x128 := Rect.unit (s := S1x128) ![0, 0] S1x128.size inb_S1x128_S1x128_0_0
abbrev r0_6 : Rect S512x128 := Rect.unit (s := S512x128) ![0, 0] S512x128.size inb_S512x128_S512x128_0_0

/-! ## What the body leaves in each output window's buffer -/

/-! ### Values of the body that the stores' payloads, spelt out, would write more than once

    Each is a vector the body binds (often a part call's result), stated over the input windows' blocks and
    numbered on from the skeleton's payload functions (`k0_pay25` …, after `k0_pay24`), so that
    `out0_W` and the values after it name it instead of spelling it out (`unfold_out out0_W` opens a canon
    with them, `unfold_payloads` opens them with the payloads); the comment after each is the printed function's
    name for the value (a count appended where that name is bound again). -/

def k0_pay25 (x0 : Vec F S512x1024 .f32) (x1 : Vec F S1024x2176 .bf16) (x2 : Vec F S512x256 .f32) (x3 : Vec F S512x256 .f32) (x4 : Vec F S1x256 .f32) (x5 : Vec F S256x1024 .bf16) (x6 : Vec F S512x1024 .bf16) (x7 : Vec F S1x128 .f32) (x8 : Vec F S1x128 .f32) : FVec F S512x2176 .f32 :=
  k0_pay1 (View.ld x0 r0_0) (View.ld x1 r0_1) -- `v4`
def k0_pay26 (x0 : Vec F S512x1024 .f32) (x1 : Vec F S1024x2176 .bf16) (x2 : Vec F S512x256 .f32) (x3 : Vec F S512x256 .f32) (x4 : Vec F S1x256 .f32) (x5 : Vec F S256x1024 .bf16) (x6 : Vec F S512x1024 .bf16) (x7 : Vec F S1x128 .f32) (x8 : Vec F S1x128 .f32) : FVec F S512x256 .bf16 :=
  k0_pay12 (View.ld x0 r0_0) (View.ld x1 r0_1) (View.ld x4 r0_3) -- `v44`
def k0_pay27 (x0 : Vec F S512x1024 .f32) (x1 : Vec F S1024x2176 .bf16) (x2 : Vec F S512x256 .f32) (x3 : Vec F S512x256 .f32) (x4 : Vec F S1x256 .f32) (x5 : Vec F S256x1024 .bf16) (x6 : Vec F S512x1024 .bf16) (x7 : Vec F S1x128 .f32) (x8 : Vec F S1x128 .f32) : FVec F S512x128 .f32 :=
  k0_pay19 k0_pay17 (k0_pay18 (k0_pay25 x0 x1 x2 x3 x4 x5 x6 x7 x8) (View.ld x8 r0_5)) -- `v90`

/-- Window 9's staging buffer after the body, from the input windows' blocks: its 1 store as pieces, LAST
    FIRST (Lib/Pipeline/FrameBody.lean `View.canon`; the payloads are the skeleton's and the values stated above). -/
def out0_9 (x0 : Vec F S512x1024 .f32) (x1 : Vec F S1024x2176 .bf16) (x2 : Vec F S512x256 .f32) (x3 : Vec F S512x256 .f32) (x4 : Vec F S1x256 .f32) (x5 : Vec F S256x1024 .bf16) (x6 : Vec F S512x1024 .bf16) (x7 : Vec F S1x128 .f32) (x8 : Vec F S1x128 .f32) : Vec F S512x256 .bf16 :=
  View.canon [⟨r0_2, k0_pay20 (k0_pay6 (View.ld x0 r0_0) (View.ld x1 r0_1) (View.ld x2 r0_2) (View.ld x3 r0_2))⟩]

/-- Its stores tile the buffer (checked by evaluation), so they cover it. -/
theorem cover0_9 (p0 : Vec F S512x256 .bf16) (y : S512x256.Idx) :
    ∃ pc ∈ ([⟨r0_2, p0⟩] : List (View.Piece (Elt F) S512x256 .bf16)), y ∈ pc.1.set :=
  View.cover_of_tiled [⟨r0_2, p0⟩] S512x256.size (by rfl) y

/-- Window 10's staging buffer after the body, from the input windows' blocks: its 1 store as pieces, LAST
    FIRST (Lib/Pipeline/FrameBody.lean `View.canon`; the payloads are the skeleton's and the values stated above). -/
def out0_10 (x0 : Vec F S512x1024 .f32) (x1 : Vec F S1024x2176 .bf16) (x2 : Vec F S512x256 .f32) (x3 : Vec F S512x256 .f32) (x4 : Vec F S1x256 .f32) (x5 : Vec F S256x1024 .bf16) (x6 : Vec F S512x1024 .bf16) (x7 : Vec F S1x128 .f32) (x8 : Vec F S1x128 .f32) : Vec F S512x1024 .bf16 :=
  View.canon [⟨r0_0, k0_pay21 (k0_pay15 (k0_pay26 x0 x1 x2 x3 x4 x5 x6 x7 x8) (View.ld x5 r0_4) (View.ld x6 r0_0))⟩]

/-- Its stores tile the buffer (checked by evaluation), so they cover it. -/
theorem cover0_10 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Window 11's staging buffer after the body, from the input windows' blocks: its 1 store as pieces, LAST
    FIRST (Lib/Pipeline/FrameBody.lean `View.canon`; the payloads are the skeleton's and the values stated above). -/
def out0_11 (x0 : Vec F S512x1024 .f32) (x1 : Vec F S1024x2176 .bf16) (x2 : Vec F S512x256 .f32) (x3 : Vec F S512x256 .f32) (x4 : Vec F S1x256 .f32) (x5 : Vec F S256x1024 .bf16) (x6 : Vec F S512x1024 .bf16) (x7 : Vec F S1x128 .f32) (x8 : Vec F S1x128 .f32) : Vec F S512x256 .bf16 :=
  View.canon [⟨r0_2, k0_pay22 (k0_pay14 (k0_pay2 (View.ld x2 r0_2)) (k0_pay3 (View.ld x3 r0_2)) (k0_pay26 x0 x1 x2 x3 x4 x5 x6 x7 x8) (View.ld x5 r0_4))⟩]

/-- Its stores tile the buffer (checked by evaluation), so they cover it. -/
theorem cover0_11 (p0 : Vec F S512x256 .bf16) (y : S512x256.Idx) :
    ∃ pc ∈ ([⟨r0_2, p0⟩] : List (View.Piece (Elt F) S512x256 .bf16)), y ∈ pc.1.set :=
  View.cover_of_tiled [⟨r0_2, p0⟩] S512x256.size (by rfl) y

/-- Window 12's staging buffer after the body, from the input windows' blocks: its 1 store as pieces, LAST
    FIRST (Lib/Pipeline/FrameBody.lean `View.canon`; the payloads are the skeleton's and the values stated above). -/
def out0_12 (x0 : Vec F S512x1024 .f32) (x1 : Vec F S1024x2176 .bf16) (x2 : Vec F S512x256 .f32) (x3 : Vec F S512x256 .f32) (x4 : Vec F S1x256 .f32) (x5 : Vec F S256x1024 .bf16) (x6 : Vec F S512x1024 .bf16) (x7 : Vec F S1x128 .f32) (x8 : Vec F S1x128 .f32) : Vec F S512x256 .bf16 :=
  View.canon [⟨r0_2, k0_pay23 (k0_pay25 x0 x1 x2 x3 x4 x5 x6 x7 x8)⟩]

/-- Its stores tile the buffer (checked by evaluation), so they cover it. -/
theorem cover0_12 (p0 : Vec F S512x256 .bf16) (y : S512x256.Idx) :
    ∃ pc ∈ ([⟨r0_2, p0⟩] : List (View.Piece (Elt F) S512x256 .bf16)), y ∈ pc.1.set :=
  View.cover_of_tiled [⟨r0_2, p0⟩] S512x256.size (by rfl) y

/-- Window 13's staging buffer after the body, from the input windows' blocks: its 1 store as pieces, LAST
    FIRST (Lib/Pipeline/FrameBody.lean `View.canon`; the payloads are the skeleton's and the values stated above). -/
def out0_13 (x0 : Vec F S512x1024 .f32) (x1 : Vec F S1024x2176 .bf16) (x2 : Vec F S512x256 .f32) (x3 : Vec F S512x256 .f32) (x4 : Vec F S1x256 .f32) (x5 : Vec F S256x1024 .bf16) (x6 : Vec F S512x1024 .bf16) (x7 : Vec F S1x128 .f32) (x8 : Vec F S1x128 .f32) : Vec F S512x128 .f32 :=
  View.canon [⟨r0_6, k0_pay7 (View.ld x0 r0_0) (View.ld x1 r0_1) (View.ld x2 r0_2) (View.ld x3 r0_2)⟩]

/-- Its stores tile the buffer (checked by evaluation), so they cover it. -/
theorem cover0_13 (p0 : Vec F S512x128 .f32) (y : S512x128.Idx) :
    ∃ pc ∈ ([⟨r0_6, p0⟩] : List (View.Piece (Elt F) S512x128 .f32)), y ∈ pc.1.set :=
  View.cover_of_tiled [⟨r0_6, p0⟩] S512x128.size (by rfl) y

/-- Window 14's staging buffer after the body, from the input windows' blocks: its 1 store as pieces, LAST
    FIRST (Lib/Pipeline/FrameBody.lean `View.canon`; the payloads are the skeleton's and the values stated above). -/
def out0_14 (x0 : Vec F S512x1024 .f32) (x1 : Vec F S1024x2176 .bf16) (x2 : Vec F S512x256 .f32) (x3 : Vec F S512x256 .f32) (x4 : Vec F S1x256 .f32) (x5 : Vec F S256x1024 .bf16) (x6 : Vec F S512x1024 .bf16) (x7 : Vec F S1x128 .f32) (x8 : Vec F S1x128 .f32) : Vec F S512x128 .f32 :=
  View.canon [⟨r0_6, k0_pay8 (View.ld x0 r0_0) (View.ld x1 r0_1)⟩]

/-- Its stores tile the buffer (checked by evaluation), so they cover it. -/
theorem cover0_14 (p0 : Vec F S512x128 .f32) (y : S512x128.Idx) :
    ∃ pc ∈ ([⟨r0_6, p0⟩] : List (View.Piece (Elt F) S512x128 .f32)), y ∈ pc.1.set :=
  View.cover_of_tiled [⟨r0_6, p0⟩] S512x128.size (by rfl) y

/-- Window 15's staging buffer after the body, from the input windows' blocks: its 1 store as pieces, LAST
    FIRST (Lib/Pipeline/FrameBody.lean `View.canon`; the payloads are the skeleton's and the values stated above). -/
def out0_15 (x0 : Vec F S512x1024 .f32) (x1 : Vec F S1024x2176 .bf16) (x2 : Vec F S512x256 .f32) (x3 : Vec F S512x256 .f32) (x4 : Vec F S1x256 .f32) (x5 : Vec F S256x1024 .bf16) (x6 : Vec F S512x1024 .bf16) (x7 : Vec F S1x128 .f32) (x8 : Vec F S1x128 .f32) : Vec F S512x128 .f32 :=
  View.canon [⟨r0_6, k0_pay16 (k0_pay25 x0 x1 x2 x3 x4 x5 x6 x7 x8) (View.ld x7 r0_5)⟩]

/-- Its stores tile the buffer (checked by evaluation), so they cover it. -/
theorem cover0_15 (p0 : Vec F S512x128 .f32) (y : S512x128.Idx) :
    ∃ pc ∈ ([⟨r0_6, p0⟩] : List (View.Piece (Elt F) S512x128 .f32)), y ∈ pc.1.set :=
  View.cover_of_tiled [⟨r0_6, p0⟩] S512x128.size (by rfl) y

/-- Window 16's staging buffer after the body, from the input windows' blocks: its 1 store as pieces, LAST
    FIRST (Lib/Pipeline/FrameBody.lean `View.canon`; the payloads are the skeleton's and the values stated above). -/
def out0_16 (x0 : Vec F S512x1024 .f32) (x1 : Vec F S1024x2176 .bf16) (x2 : Vec F S512x256 .f32) (x3 : Vec F S512x256 .f32) (x4 : Vec F S1x256 .f32) (x5 : Vec F S256x1024 .bf16) (x6 : Vec F S512x1024 .bf16) (x7 : Vec F S1x128 .f32) (x8 : Vec F S1x128 .f32) : Vec F S512x128 .f32 :=
  View.canon [⟨r0_6, k0_pay9 (View.ld x0 r0_0) (View.ld x1 r0_1) (View.ld x2 r0_2) (View.ld x3 r0_2)⟩]

/-- Its stores tile the buffer (checked by evaluation), so they cover it. -/
theorem cover0_16 (p0 : Vec F S512x128 .f32) (y : S512x128.Idx) :
    ∃ pc ∈ ([⟨r0_6, p0⟩] : List (View.Piece (Elt F) S512x128 .f32)), y ∈ pc.1.set :=
  View.cover_of_tiled [⟨r0_6, p0⟩] S512x128.size (by rfl) y

/-- Window 17's staging buffer after the body, from the input windows' blocks: its 1 store as pieces, LAST
    FIRST (Lib/Pipeline/FrameBody.lean `View.canon`; the payloads are the skeleton's and the values stated above). -/
def out0_17 (x0 : Vec F S512x1024 .f32) (x1 : Vec F S1024x2176 .bf16) (x2 : Vec F S512x256 .f32) (x3 : Vec F S512x256 .f32) (x4 : Vec F S1x256 .f32) (x5 : Vec F S256x1024 .bf16) (x6 : Vec F S512x1024 .bf16) (x7 : Vec F S1x128 .f32) (x8 : Vec F S1x128 .f32) : Vec F S512x128 .f32 :=
  View.canon [⟨r0_6, k0_pay10 (View.ld x0 r0_0) (View.ld x1 r0_1)⟩]

/-- Its stores tile the buffer (checked by evaluation), so they cover it. -/
theorem cover0_17 (p0 : Vec F S512x128 .f32) (y : S512x128.Idx) :
    ∃ pc ∈ ([⟨r0_6, p0⟩] : List (View.Piece (Elt F) S512x128 .f32)), y ∈ pc.1.set :=
  View.cover_of_tiled [⟨r0_6, p0⟩] S512x128.size (by rfl) y

/-- Window 18's staging buffer after the body, from the input windows' blocks: its 1 store as pieces, LAST
    FIRST (Lib/Pipeline/FrameBody.lean `View.canon`; the payloads are the skeleton's and the values stated above). -/
def out0_18 (x0 : Vec F S512x1024 .f32) (x1 : Vec F S1024x2176 .bf16) (x2 : Vec F S512x256 .f32) (x3 : Vec F S512x256 .f32) (x4 : Vec F S1x256 .f32) (x5 : Vec F S256x1024 .bf16) (x6 : Vec F S512x1024 .bf16) (x7 : Vec F S1x128 .f32) (x8 : Vec F S1x128 .f32) : Vec F S512x128 .f32 :=
  View.canon [⟨r0_6, k0_pay11 (View.ld x0 r0_0) (View.ld x1 r0_1)⟩]

/-- Its stores tile the buffer (checked by evaluation), so they cover it. -/
theorem cover0_18 (p0 : Vec F S512x128 .f32) (y : S512x128.Idx) :
    ∃ pc ∈ ([⟨r0_6, p0⟩] : List (View.Piece (Elt F) S512x128 .f32)), y ∈ pc.1.set :=
  View.cover_of_tiled [⟨r0_6, p0⟩] S512x128.size (by rfl) y

/-- Window 19's staging buffer after the body, from the input windows' blocks: its 1 store as pieces, LAST
    FIRST (Lib/Pipeline/FrameBody.lean `View.canon`; the payloads are the skeleton's and the values stated above). -/
def out0_19 (x0 : Vec F S512x1024 .f32) (x1 : Vec F S1024x2176 .bf16) (x2 : Vec F S512x256 .f32) (x3 : Vec F S512x256 .f32) (x4 : Vec F S1x256 .f32) (x5 : Vec F S256x1024 .bf16) (x6 : Vec F S512x1024 .bf16) (x7 : Vec F S1x128 .f32) (x8 : Vec F S1x128 .f32) : Vec F S512x128 .f32 :=
  View.canon [⟨r0_6, k0_pay27 x0 x1 x2 x3 x4 x5 x6 x7 x8⟩]

/-- Its stores tile the buffer (checked by evaluation), so they cover it. -/
theorem cover0_19 (p0 : Vec F S512x128 .f32) (y : S512x128.Idx) :
    ∃ pc ∈ ([⟨r0_6, p0⟩] : List (View.Piece (Elt F) S512x128 .f32)), y ∈ pc.1.set :=
  View.cover_of_tiled [⟨r0_6, p0⟩] S512x128.size (by rfl) y

/-- Window 20's staging buffer after the body, from the input windows' blocks: its 1 store as pieces, LAST
    FIRST (Lib/Pipeline/FrameBody.lean `View.canon`; the payloads are the skeleton's and the values stated above). -/
def out0_20 (x0 : Vec F S512x1024 .f32) (x1 : Vec F S1024x2176 .bf16) (x2 : Vec F S512x256 .f32) (x3 : Vec F S512x256 .f32) (x4 : Vec F S1x256 .f32) (x5 : Vec F S256x1024 .bf16) (x6 : Vec F S512x1024 .bf16) (x7 : Vec F S1x128 .f32) (x8 : Vec F S1x128 .f32) : Vec F S512x128 .f32 :=
  View.canon [⟨r0_6, k0_pay24 (k0_pay27 x0 x1 x2 x3 x4 x5 x6 x7 x8)⟩]

/-- Its stores tile the buffer (checked by evaluation), so they cover it. -/
theorem cover0_20 (p0 : Vec F S512x128 .f32) (y : S512x128.Idx) :
    ∃ pc ∈ ([⟨r0_6, p0⟩] : List (View.Piece (Elt F) S512x128 .f32)), y ∈ pc.1.set :=
  View.cover_of_tiled [⟨r0_6, p0⟩] S512x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1024x2176 .bf16) (harg2 : arg2.IsWhole) (arg3 : Memref sig .tc .vmem S512x256 .f32) (harg3 : arg3.IsWhole) (arg4 : Memref sig .tc .vmem S512x256 .f32) (harg4 : arg4.IsWhole) (arg5 : Memref sig .tc .vmem S1x256 .f32) (harg5 : arg5.IsWhole) (arg6 : Memref sig .tc .vmem S256x1024 .bf16) (harg6 : arg6.IsWhole) (arg7 : Memref sig .tc .vmem S512x1024 .bf16) (harg7 : arg7.IsWhole) (arg8 : Memref sig .tc .vmem S1x128 .f32) (harg8 : arg8.IsWhole) (arg9 : Memref sig .tc .vmem S1x128 .f32) (harg9 : arg9.IsWhole) (arg10 : Memref sig .tc .vmem S512x256 .bf16) (harg10 : arg10.IsWhole) (arg11 : Memref sig .tc .vmem S512x1024 .bf16) (harg11 : arg11.IsWhole) (arg12 : Memref sig .tc .vmem S512x256 .bf16) (harg12 : arg12.IsWhole) (arg13 : Memref sig .tc .vmem S512x256 .bf16) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S512x128 .f32) (harg21 : arg21.IsWhole)
    (x0 : Vec F S512x1024 .f32) (x1 : Vec F S1024x2176 .bf16) (x2 : Vec F S512x256 .f32) (x3 : Vec F S512x256 .f32) (x4 : Vec F S1x256 .f32) (x5 : Vec F S256x1024 .bf16) (x6 : Vec F S512x1024 .bf16) (x7 : Vec F S1x128 .f32) (x8 : Vec F S1x128 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8) ∗ owns (c : Thread nD τ) arg13 fullShare (out0_12 x0 x1 x2 x3 x4 x5 x6 x7 x8) ∗ owns (c : Thread nD τ) arg14 fullShare (out0_13 x0 x1 x2 x3 x4 x5 x6 x7 x8) ∗ owns (c : Thread nD τ) arg15 fullShare (out0_14 x0 x1 x2 x3 x4 x5 x6 x7 x8) ∗ owns (c : Thread nD τ) arg16 fullShare (out0_15 x0 x1 x2 x3 x4 x5 x6 x7 x8) ∗ owns (c : Thread nD τ) arg17 fullShare (out0_16 x0 x1 x2 x3 x4 x5 x6 x7 x8) ∗ owns (c : Thread nD τ) arg18 fullShare (out0_17 x0 x1 x2 x3 x4 x5 x6 x7 x8) ∗ owns (c : Thread nD τ) arg19 fullShare (out0_18 x0 x1 x2 x3 x4 x5 x6 x7 x8) ∗ owns (c : Thread nD τ) arg20 fullShare (out0_19 x0 x1 x2 x3 x4 x5 x6 x7 x8) ∗ owns (c : Thread nD τ) arg21 fullShare (out0_20 x0 x1 x2 x3 x4 x5 x6 x7 x8)) -∗ K ⟨⟩))
      ⊢ wp frame (wpE (defs₀ (F := F)) Variants.none c none) E (cc0_mix_in_sample i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_mix_in_sample_eq_skeleton]; unfold cc0_mix_in_sample_skel
  simp only [k0_part4_eq_skeleton, k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  iexists _; isplitr
  swap; · iexact H20
  ipureintro
  refine (View.read_writes_eq_canon _ _ _ (cover0_20 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
    | ⟨10, _⟩ => out0_10 (iblk m c 0 t) (iblk m c 1 t) (iblk m c 2 t) (iblk m c 3 t) (iblk m c 4 t) (iblk m c 5 t) (iblk m c 6 t) (iblk m c 7 t) (iblk m c 8 t)
    | ⟨11, _⟩ => out0_11 (iblk m c 0 t) (iblk m c 1 t) (iblk m c 2 t) (iblk m c 3 t) (iblk m c 4 t) (iblk m c 5 t) (iblk m c 6 t) (iblk m c 7 t) (iblk m c 8 t)
    | ⟨12, _⟩ => out0_12 (iblk m c 0 t) (iblk m c 1 t) (iblk m c 2 t) (iblk m c 3 t) (iblk m c 4 t) (iblk m c 5 t) (iblk m c 6 t) (iblk m c 7 t) (iblk m c 8 t)
    | ⟨13, _⟩ => out0_13 (iblk m c 0 t) (iblk m c 1 t) (iblk m c 2 t) (iblk m c 3 t) (iblk m c 4 t) (iblk m c 5 t) (iblk m c 6 t) (iblk m c 7 t) (iblk m c 8 t)
    | ⟨14, _⟩ => out0_14 (iblk m c 0 t) (iblk m c 1 t) (iblk m c 2 t) (iblk m c 3 t) (iblk m c 4 t) (iblk m c 5 t) (iblk m c 6 t) (iblk m c 7 t) (iblk m c 8 t)
    | ⟨15, _⟩ => out0_15 (iblk m c 0 t) (iblk m c 1 t) (iblk m c 2 t) (iblk m c 3 t) (iblk m c 4 t) (iblk m c 5 t) (iblk m c 6 t) (iblk m c 7 t) (iblk m c 8 t)
    | ⟨16, _⟩ => out0_16 (iblk m c 0 t) (iblk m c 1 t) (iblk m c 2 t) (iblk m c 3 t) (iblk m c 4 t) (iblk m c 5 t) (iblk m c 6 t) (iblk m c 7 t) (iblk m c 8 t)
    | ⟨17, _⟩ => out0_17 (iblk m c 0 t) (iblk m c 1 t) (iblk m c 2 t) (iblk m c 3 t) (iblk m c 4 t) (iblk m c 5 t) (iblk m c 6 t) (iblk m c 7 t) (iblk m c 8 t)
    | ⟨18, _⟩ => out0_18 (iblk m c 0 t) (iblk m c 1 t) (iblk m c 2 t) (iblk m c 3 t) (iblk m c 4 t) (iblk m c 5 t) (iblk m c 6 t) (iblk m c 7 t) (iblk m c 8 t)
    | ⟨19, _⟩ => out0_19 (iblk m c 0 t) (iblk m c 1 t) (iblk m c 2 t) (iblk m c 3 t) (iblk m c 4 t) (iblk m c 5 t) (iblk m c 6 t) (iblk m c 7 t) (iblk m c 8 t)
    | ⟨20, _⟩ => out0_20 (iblk m c 0 t) (iblk m c 1 t) (iblk m c 2 t) (iblk m c 3 t) (iblk m c 4 t) (iblk m c 5 t) (iblk m c 6 t) (iblk m c 7 t) (iblk m c 8 t)
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 800000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame, with every semaphore counter at zero at the end. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

set_option maxHeartbeats 800000 in
/-- After the run, each output's array as the library computes it from the points' results, the arguments unchanged. -/
theorem run_blocks : θ_run defs (onTc (τ := τ) (main (F := F))) ⟨m, fun _ => 0, ρ⟩ fun r => ∀ c : Dev nD,
      r.2.mem ((c : Thread nD τ).loc main_v86_0) = (dats m 0 c).arrAt 9 cfg0.N
      ∧ r.2.mem ((c : Thread nD τ).loc main_v86_1) = (dats m 0 c).arrAt 10 cfg0.N
      ∧ r.2.mem ((c : Thread nD τ).loc main_v86_2) = (dats m 0 c).arrAt 11 cfg0.N
      ∧ r.2.mem ((c : Thread nD τ).loc main_v86_3) = (dats m 0 c).arrAt 12 cfg0.N
      ∧ r.2.mem ((c : Thread nD τ).loc main_v86_4) = (dats m 0 c).arrAt 13 cfg0.N
      ∧ r.2.mem ((c : Thread nD τ).loc main_v86_5) = (dats m 0 c).arrAt 14 cfg0.N
      ∧ r.2.mem ((c : Thread nD τ).loc main_v86_6) = (dats m 0 c).arrAt 15 cfg0.N
      ∧ r.2.mem ((c : Thread nD τ).loc main_v86_7) = (dats m 0 c).arrAt 16 cfg0.N
      ∧ r.2.mem ((c : Thread nD τ).loc main_v86_8) = (dats m 0 c).arrAt 17 cfg0.N
      ∧ r.2.mem ((c : Thread nD τ).loc main_v86_9) = (dats m 0 c).arrAt 18 cfg0.N
      ∧ r.2.mem ((c : Thread nD τ).loc main_v86_10) = (dats m 0 c).arrAt 19 cfg0.N
      ∧ r.2.mem ((c : Thread nD τ).loc main_v86_11) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 9,
    (h c).1 10,
    (h c).1 11,
    (h c).1 12,
    (h c).1 13,
    (h c).1 14,
    (h c).1 15,
    (h c).1 16,
    (h c).1 17,
    (h c).1 18,
    (h c).1 19,
    (h c).1 20,
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩) (run_main m ρ)

end Cert.Kernel6Ideal.In

end
-- ==== Proof.MixMath.lean ====
/- The output projection's value at one element: the maps' difference and the group norms, the projection's three parts, the
   residual's layer norm; and the sums that the kernel's padded columns and block-diagonal weights make, brought to it. -/
module
public import proofs.«01_k».proof.Proof.FlashMath
public import Idealize.ShloMosaic.Lib.Pipeline.ValueKit
public import Idealize.ShloMosaic.Lib.Pointwise
@[expose] public section
noncomputable section
namespace Cert.MixMath
open Idealize.ShloMosaic

/-- The weight of the second map: from the learned vectors and the layer's first value. -/
def lam (dl : Fin 4 → Fin 32 → EReal) : EReal :=
  Ideal.exp (∑ i, dl 0 i * dl 1 i) - Ideal.exp (∑ i, dl 2 i * dl 3 i) + Ideal.ofBits FTy.f32 0x3E4CCCCD#32
/-- An entry over the root mean square of its row. -/
def nrm {n : ℕ} (N : EReal) (y : Fin n → EReal) (k : Fin n) : EReal :=
  y k * Ideal.rsqrt (Ideal.div (∑ e, y e * y e) N + Ideal.ofBits FTy.f32 0x358637BD#32)
/-- The difference of a head's two maps. -/
def dif (od : Fin 512 → EReal) (l : EReal) (hd : Fin 4) (ch : Fin 64) : EReal :=
  od ⟨hd.val * 128 + ch.val, by omega⟩ - l * od ⟨hd.val * 128 + 64 + ch.val, by omega⟩
/-- The differential group's entry. -/
def yD (od : Fin 512 → EReal) (l : EReal) (sg : Fin 64 → EReal) (hd : Fin 4) (ch : Fin 64) : EReal :=
  nrm (Ideal.ofBits FTy.f32 0x42800000#32) (dif od l hd) ch * sg ch * Ideal.ofBits FTy.f32 0x3F4CCCCD#32
/-- The latent group's entry before its norm. -/
def lat (om : Fin 1024 → EReal) (wuv : Fin 128 → Fin 512 → EReal) (f : Fin 512) : EReal :=
  ∑ r : Fin 128, wuv r f * om ⟨f.val / 64 * 128 + r.val, by omega⟩
/-- The three groups against their rows of the output projection. -/
def prod (od : Fin 512 → EReal) (l : EReal) (sg : Fin 64 → EReal) (om : Fin 1024 → EReal) (wuv : Fin 128 → Fin 512 → EReal) (mg : Fin 512 → EReal)
    (of fg : Fin 256 → EReal) (wo : Fin 1024 → EReal) : EReal :=
  (∑ k : Fin 256, yD od l sg ⟨k.val / 64, by omega⟩ ⟨k.val % 64, by omega⟩ * wo ⟨k.val, by omega⟩)
    + (∑ f : Fin 512, nrm (Ideal.ofBits FTy.f32 0x44000000#32) (lat om wuv) f * mg f * wo ⟨256 + f.val, by omega⟩)
    + ∑ f : Fin 256, nrm (Ideal.ofBits FTy.f32 0x43800000#32) of f * fg f * wo ⟨768 + f.val, by omega⟩
/-- A row's mean. -/
def mean (y : Fin 1024 → EReal) : EReal := Ideal.div (∑ e, y e) (Ideal.ofBits FTy.f32 0x44800000#32)
/-- One element of a centred row, normalized. -/
def norm (y : Fin 1024 → EReal) (c : Fin 1024) (g b : EReal) : EReal :=
  y c * Ideal.rsqrt (mean (fun e => y e * y e) + Ideal.ofBits FTy.f32 0x3727C5AC#32) * g + b
/-- One element of a row's layer norm: the residual of `x` and the product `p`. -/
def fin (x p : Fin 1024 → EReal) (c : Fin 1024) (g b : EReal) : EReal :=
  norm (fun k => (Ideal.ofBits FTy.f32 0x3FB504F3#32 * x k + p k) - mean fun e => Ideal.ofBits FTy.f32 0x3FB504F3#32 * x e + p e) c g b

/-- A sum over the projection's rows is its three groups' sums. -/
theorem sum_groups (f : Fin 1024 → EReal) :
    ∑ k, f k = (∑ k : Fin 256, f ⟨k.val, by omega⟩) + (∑ k : Fin 512, f ⟨256 + k.val, by omega⟩) + ∑ k : Fin 256, f ⟨768 + k.val, by omega⟩ := by
  have h1 : ∑ k, f k = (∑ k : Fin 256, f ⟨k.val, by omega⟩) + ∑ k : Fin 768, f ⟨256 + k.val, by omega⟩ :=
    Fin.sum_univ_add (a := 256) (b := 768) f
  have h2 : ∑ k : Fin 768, f ⟨256 + k.val, by omega⟩ = (∑ k : Fin 512, f ⟨256 + k.val, by omega⟩) + ∑ k : Fin 256, f ⟨256 + (512 + k.val), by omega⟩ :=
    Fin.sum_univ_add (a := 512) (b := 256) (fun k : Fin (512 + 256) => f ⟨256 + k.val, by omega⟩)
  rw [h1, h2, add_assoc]
  refine congrArg _ (congrArg _ (Finset.sum_congr rfl fun k _ => congrArg f (Fin.ext ?_)))
  show 256 + (512 + k.val) = 768 + k.val
  omega

/-- A sum whose odd blocks of 64 are zero is the sum of its even ones. -/
theorem sum_even (f : Fin 512 → EReal) (g : Fin 4 → Fin 64 → EReal)
    (h : ∀ j : Fin 512, f j = if h : j.val % 128 < 64 then g ⟨j.val / 128, by omega⟩ ⟨j.val % 128, h⟩ else 0) :
    ∑ j, f j = ∑ hd : Fin 4, ∑ ch : Fin 64, g hd ch := by
  rw [FlashMath.sum_blocks (B := 64) 8 f (fun n k => if h : n < 8 then f ⟨n * 64 + k.val, by omega⟩ else 0) (fun j hj k h => dif_pos hj)]
  have he : ∀ (n : Fin 4), ∑ k : Fin 64, f ⟨2 * n.val * 64 + k.val, by omega⟩ = ∑ k : Fin 64, g n k := fun n => by
    refine Finset.sum_congr rfl fun k _ => ?_
    rw [h, dif_pos (show (2 * n.val * 64 + k.val) % 128 < 64 by omega)]
    congr 1 <;> apply Fin.ext <;> simp <;> omega
  have ho : ∀ (n : Fin 4), ∑ k : Fin 64, f ⟨(2 * n.val + 1) * 64 + k.val, by omega⟩ = 0 := fun n => by
    refine Finset.sum_eq_zero fun k _ => ?_
    rw [h, dif_neg (show ¬ ((2 * n.val + 1) * 64 + k.val) % 128 < 64 by omega)]
  have e0 := he 0; have e1 := he 1; have e2 := he 2; have e3 := he 3
  have o0 := ho 0; have o1 := ho 1; have o2 := ho 2; have o3 := ho 3
  simp at e0 e1 e2 e3 o0 o1 o2 o3
  simp [Finset.sum_range_succ, Fin.sum_univ_four, e0, e1, e2, e3, o0, o1, o2, o3]

theorem sum_heads (g : Fin 256 → EReal) : ∑ k, g k = ∑ hd : Fin 4, ∑ ch : Fin 64, g ⟨hd.val * 64 + ch.val, by omega⟩ := by
  rw [FlashMath.sum_blocks (B := 64) 4 g (fun n k => if h : n < 4 then g ⟨n * 64 + k.val, by omega⟩ else 0) (fun j hj k h => dif_pos hj), Finset.sum_range]
  exact Finset.sum_congr rfl fun n _ => Finset.sum_congr rfl fun k _ => dif_pos n.isLt

/-- A sum over the latent buffer against a block-diagonal column is its head's sum. -/
theorem lat_eq (om : Fin 1024 → EReal) (wuv : Fin 128 → Fin 512 → EReal) (w : Fin 1024 → EReal) (f : Fin 512)
    (hw : ∀ e : Fin 1024, w e = if e.val / 128 = f.val / 64 then wuv ⟨e.val % 128, by omega⟩ f else 0) :
    ∑ e, om e * w e = lat om wuv f := by
  rw [FlashMath.sum_blocks (B := 128) 8 (fun e => om e * w e)
    (fun n k => if h : n < 8 then om ⟨n * 128 + k.val, by omega⟩ * w ⟨n * 128 + k.val, by omega⟩ else 0) (fun j hj k h => dif_pos hj), Finset.sum_range]
  rw [Finset.sum_eq_single (⟨f.val / 64, by omega⟩ : Fin 8)]
  · refine Finset.sum_congr rfl fun k _ => ?_
    have hb : f.val / 64 < 8 := by omega
    rw [dif_pos hb, hw, if_pos (show (f.val / 64 * 128 + k.val) / 128 = f.val / 64 by omega), mul_comm]
    congr 2
    apply Fin.ext
    show (f.val / 64 * 128 + k.val) % 128 = k.val
    omega
  · intro n _ hn
    refine Finset.sum_eq_zero fun k _ => ?_
    have hne : ¬ (n.val * 128 + k.val) / 128 = f.val / 64 := fun hh => hn (Fin.ext (by show n.val = f.val / 64; omega))
    rw [dif_pos n.isLt, hw, if_neg hne, mul_zero]
  · exact fun h => absurd (Finset.mem_univ _) h

theorem ofBits_64 : Ideal.ofBits FTy.f32 0x42800000#32 = ((64 : ℝ) : EReal) := by
  simp only [Ideal.ofBits, Ideal.ieee]
  simp
  refine (show _ = (((8388608 : ℝ) * (2 ^ 17)⁻¹ : ℝ) : EReal) by rw [EReal.coe_mul]).trans ?_
  congr 1
  norm_num
theorem div_64 (x : EReal) : Ideal.div x (Ideal.ofBits FTy.f32 0x42800000#32) = x * ((1 / 64 : ℝ) : EReal) := by
  rw [ofBits_64, Ideal.div_coe (by norm_num)]

/-- A finite nonnegative factor comes out of a sum. -/
theorem sum_mul {n : ℕ} (s : Finset (Fin n)) (f : Fin n → EReal) (r : ℝ) (hr : 0 ≤ r) : ∑ k ∈ s, f k * (r : EReal) = (∑ k ∈ s, f k) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

/-- The difference at a column of the kernel's rows, whose odd blocks hold nothing that is used. -/
def kd (od : Fin 512 → EReal) (l : EReal) (j : Fin 512) : EReal := od j - l * od ⟨(j.val + 64) % 512, by omega⟩
/-- The differential group's entry as the kernel makes it. -/
def kyD (od : Fin 512 → EReal) (l : EReal) (bmd : Fin 512 → Fin 512 → EReal) (gd : Fin 512 → EReal) (j : Fin 512) : EReal :=
  kd od l j * Ideal.rsqrt ((∑ i, kd od l i * kd od l i * bmd i j) + Ideal.ofBits FTy.f32 0x358637BD#32) * gd j

theorem kd_even (od : Fin 512 → EReal) (l : EReal) (j : Fin 512) (h : j.val % 128 < 64) :
    kd od l j = dif od l ⟨j.val / 128, by omega⟩ ⟨j.val % 128, h⟩ := by
  unfold kd dif
  have e1 : j = ⟨j.val / 128 * 128 + j.val % 128, by omega⟩ := Fin.ext (by show j.val = j.val / 128 * 128 + j.val % 128; omega)
  have e2 : (⟨(j.val + 64) % 512, by omega⟩ : Fin 512) = ⟨j.val / 128 * 128 + 64 + j.val % 128, by omega⟩ :=
    Fin.ext (by show (j.val + 64) % 512 = j.val / 128 * 128 + 64 + j.val % 128; omega)
  rw [e2]
  exact congrArg (fun k => od k - _) e1

theorem kms (od : Fin 512 → EReal) (l : EReal) (w : Fin 512 → EReal) (hd : Fin 4)
    (hw : ∀ i : Fin 512, w i = if i.val / 128 = hd.val ∧ i.val % 128 < 64 then ((1 / 64 : ℝ) : EReal) else 0) :
    ∑ i, kd od l i * kd od l i * w i = Ideal.div (∑ ch, dif od l hd ch * dif od l hd ch) (Ideal.ofBits FTy.f32 0x42800000#32) := by
  rw [div_64, ← sum_mul _ _ _ (by norm_num), sum_even _ (fun h ch => if h = hd then dif od l hd ch * dif od l hd ch * ((1 / 64 : ℝ) : EReal) else 0)]
  · rw [Finset.sum_eq_single hd]
    · simp
    · intro b _ hb; simp [hb]
    · exact fun h => absurd (Finset.mem_univ _) h
  · intro j
    rw [hw]
    by_cases h1 : j.val % 128 < 64
    · rw [dif_pos h1]
      by_cases h2 : j.val / 128 = hd.val
      · have h3 : (⟨j.val / 128, by omega⟩ : Fin 4) = hd := Fin.ext h2
        rw [if_pos ⟨h2, h1⟩, if_pos h3, kd_even _ _ _ h1, h3]
      · rw [if_neg (fun h => h2 h.1), if_neg (fun h => h2 (congrArg Fin.val h)), mul_zero]
    · rw [dif_neg h1, if_neg (fun h => h1 h.2), mul_zero]

/-- The differential group's part of the product, from the padded columns. -/
theorem diff_part (od : Fin 512 → EReal) (l : EReal) (sg : Fin 64 → EReal) (bmd : Fin 512 → Fin 512 → EReal) (gd wod : Fin 512 → EReal) (wo : Fin 1024 → EReal)
    (hb : ∀ i j : Fin 512, j.val % 128 < 64 → bmd i j = if i.val / 128 = j.val / 128 ∧ i.val % 128 < 64 then ((1 / 64 : ℝ) : EReal) else 0)
    (hg : ∀ j : Fin 512, gd j = if h : j.val % 128 < 64 then sg ⟨j.val % 128, h⟩ * Ideal.ofBits FTy.f32 0x3F4CCCCD#32 else 0)
    (hw : ∀ j : Fin 512, j.val % 128 < 64 → wod j = wo ⟨j.val / 128 * 64 + j.val % 128, by omega⟩) :
    ∑ j, kyD od l bmd gd j * wod j
      = ∑ k : Fin 256, yD od l sg ⟨k.val / 64, by omega⟩ ⟨k.val % 64, by omega⟩ * wo ⟨k.val, by omega⟩ := by
  rw [sum_heads, sum_even _ (fun hd ch => yD od l sg hd ch * wo ⟨hd.val * 64 + ch.val, by omega⟩)]
  · refine Finset.sum_congr rfl fun hd _ => Finset.sum_congr rfl fun ch _ => ?_
    congr 2 <;> apply Fin.ext <;> simp <;> omega
  · intro j
    by_cases h : j.val % 128 < 64
    · rw [dif_pos h, hw j h]
      refine congrArg (· * _) ?_
      unfold kyD yD nrm
      rw [hg, dif_pos h, kms od l (fun i => bmd i j) ⟨j.val / 128, by omega⟩ (fun i => hb i j h), kd_even _ _ _ h, mul_assoc, mul_assoc]
      rw [mul_assoc]
    · unfold kyD
      rw [dif_neg h, hg, dif_neg h, mul_zero, zero_mul]
end Cert.MixMath
-- ==== Proof.InMath.lean ====
/- The input projections' values at one element: a row against a column, a rotated pair, a normed row, the log of a gate. -/
module
public import proofs.«01_k».proof.Proof.MixMath
@[expose] public section
noncomputable section
namespace Cert.InMath
open Idealize.ShloMosaic

/-- A rotated entry: with its partner of the other half subtracted in the first half, added in the second. -/
def rot (a b c s : EReal) (i : ℕ) : EReal := if i < 16 then a * c - b * s else a * c + b * s
/-- The rotation with the sign carried by the table. -/
theorem rot_eq (a b c s : EReal) (i : ℕ) : a * c + b * (if i < 16 then -s else s) = rot a b c s i := by
  unfold rot
  split_ifs
  · rw [mul_neg, ← sub_eq_add_neg]
  · rfl
/-- Nothing rotated is nothing. -/
theorem rot_zero (c s : EReal) : (0 : EReal) * c + 0 * s = 0 := by rw [zero_mul, zero_mul, add_zero]
/-- The partner's place: the other half of its chunk of 32. -/
def sw (j : ℕ) : ℕ := j / 32 * 32 + (j % 32 + 16) % 32
theorem sw_lt {n j : ℕ} (h : j < n * 32) : sw j < n * 32 := by unfold sw; omega
theorem sw_eq (j : ℕ) : j / 32 * 32 + (1 - j / 16 % 2) * 16 + j % 16 = sw j := by unfold sw; omega

/-- A row against a column of the projection. -/
def pr (x : Fin 1024 → EReal) (w : Fin 1024 → Fin 1444 → EReal) (k : Fin 1444) : EReal := ∑ e, x e * w e k
/-- A normed row of latent queries against a column of their weights. -/
def qq (p : Fin 256 → EReal) (g : Fin 256 → EReal) (wq : Fin 256 → Fin 768 → EReal) (k : Fin 768) : EReal :=
  ∑ i, MixMath.nrm (Ideal.ofBits FTy.f32 0x43800000#32) p i * g i * wq i k

/-- The log of a gate. -/
def lsg (u : EReal) : EReal := min u 0 - Ideal.log1p (Ideal.exp (0 - max u (-u)))
theorem log1p_exp_ne_bot (n : EReal) : Ideal.log1p (Ideal.exp n) ≠ ⊥ := by
  have key : ∀ r : ℝ, 0 ≤ r → Ideal.log1p (r : EReal) ≠ ⊥ := by
    intro r hr
    have e : (1 : EReal) + (r : EReal) = ((1 + r : ℝ) : EReal) := by rw [EReal.coe_add]; rfl
    show Ideal.log (1 + (r : EReal)) ≠ ⊥
    rw [e]
    show (if 1 + r ≤ 0 then (⊥ : EReal) else (Real.log (1 + r) : EReal)) ≠ ⊥
    rw [if_neg (by linarith)]
    exact EReal.coe_ne_bot _
  induction n with
  | bot => exact key 0 le_rfl
  | coe r => exact key (Real.exp r) (Real.exp_pos r).le
  | top =>
    have e : (1 : EReal) + ⊤ = ⊤ := by
      have := EReal.coe_add_top 1
      exact this
    show Ideal.log (1 + ⊤) ≠ ⊥
    rw [e]
    exact fun h => nomatch h
theorem neg_max (u : EReal) : -max (-u) 0 = min u 0 := by
  rcases le_total u 0 with h | h
  · have h' : (0 : EReal) ≤ -u := EReal.neg_nonneg.mpr h
    rw [max_eq_left h', min_eq_left h, neg_neg]
  · have h' : -u ≤ (0 : EReal) := by rwa [EReal.neg_le, neg_zero]
    rw [max_eq_right h', min_eq_right h, neg_zero]
/-- As the reference writes it: less the log of a sum of exponentials. -/
theorem lsg_eq (u : EReal) : -(max (-u) 0 + Ideal.log1p (Ideal.exp (-max (-u) (- -u)))) = lsg u := by
  have h : max (-u) 0 ≠ ⊥ := ne_of_gt (lt_of_lt_of_le EReal.bot_lt_zero (le_max_right _ _))
  rw [EReal.neg_add (.inl h) (.inr (log1p_exp_ne_bot _)), neg_max, neg_neg, max_comm (-u) u, lsg, zero_sub]

/-- A sum over the heads' columns against a block-diagonal column is its head's sum. -/
theorem head_eq (q K : Fin 512 → EReal) (wk : Fin 64 → EReal) (h : Fin 8)
    (hK : ∀ f : Fin 512, K f = if f.val / 64 = h.val then wk ⟨f.val % 64, by omega⟩ else 0) :
    ∑ f, q f * K f = ∑ d : Fin 64, wk d * q ⟨h.val * 64 + d.val, by omega⟩ := by
  rw [FlashMath.sum_blocks (B := 64) 8 (fun e => q e * K e)
    (fun n k => if h : n < 8 then q ⟨n * 64 + k.val, by omega⟩ * K ⟨n * 64 + k.val, by omega⟩ else 0) (fun j hj k h => dif_pos hj), Finset.sum_range]
  rw [Finset.sum_eq_single h]
  · refine Finset.sum_congr rfl fun k _ => ?_
    rw [dif_pos h.isLt, hK, if_pos (show (h.val * 64 + k.val) / 64 = h.val by omega), mul_comm]
    congr 2
    apply Fin.ext
    show (h.val * 64 + k.val) % 64 = k.val
    omega
  · intro n _ hn
    refine Finset.sum_eq_zero fun k _ => ?_
    have hne : ¬ (n.val * 64 + k.val) / 64 = h.val := fun hh => hn (Fin.ext (by show n.val = h.val; omega))
    rw [dif_pos n.isLt, hK, if_neg hne, mul_zero]
  · exact fun h => absurd (Finset.mem_univ _) h

/-- Eight values' running sum, made in three doubling steps. -/
theorem scan_eq (g : Fin 8 → EReal) (s1 s2 s4 : Fin 8 → EReal)
    (h1 : ∀ p : Fin 8, s1 p = g p + if h : 1 ≤ p.val then g ⟨p.val - 1, by omega⟩ else 0)
    (h2 : ∀ p : Fin 8, s2 p = s1 p + if h : 2 ≤ p.val then s1 ⟨p.val - 2, by omega⟩ else 0)
    (h4 : ∀ p : Fin 8, s4 p = s2 p + if h : 4 ≤ p.val then s2 ⟨p.val - 4, by omega⟩ else 0) (p : Fin 8) :
    s4 p = ∑ i : Fin 8, if i ≤ p then g i else 0 := by
  rw [h4]
  simp only [h2, h1]
  fin_cases p <;> simp [Fin.sum_univ_eight] <;> abel
end Cert.InMath
-- ==== Proof.InTile.lean ====
/- The input projections' payload: a tile of 512 rows, each of its twelve outputs read at an index. -/
module
public import proofs.«01_k».proof.Proof.InFrame
public import proofs.«01_k».proof.Proof.InMath
@[expose] public section
set_option maxRecDepth 16384
noncomputable section
namespace Cert.Kernel6Ideal.In
open Cert.Kernel6Ideal Cert.Kernel6Ideal.Gen Idealize.ShloMosaic Idealize.ShloMosaic.TcCoe Idealize.SL.Sem
open Cert.InMath (lsg)
open Cert.MixMath (nrm)

/-- A row against a column of the projection as the kernel reads it. -/
def pk (x : Fin 1024 → EReal) (w : Fin 1024 → Fin 2176 → EReal) (k : Fin 2176) : EReal := ∑ e, x e * w e k
/-- A tile's row against a column. -/
abbrev tP (x : Vec Ideal S512x1024 .f32) (w : Vec Ideal S1024x2176 .bf16) (r : Fin 512) (k : Fin 2176) : EReal := pk (fun e => x (ix2 r e)) (fun e k => w (ix2 e k)) k
/-- A normed row of latent queries against a column of their weights as the kernel reads them. -/
def qk (p g : Fin 256 → EReal) (wq : Fin 256 → Fin 1024 → EReal) (k : Fin 1024) : EReal := ∑ i, nrm (Ideal.ofBits FTy.f32 0x43800000#32) p i * g i * wq i k

theorem pay1_apply (x : Vec Ideal S512x1024 .f32) (w : Vec Ideal S1024x2176 .bf16) (r : Fin 512) (k : Fin 2176) : k0_pay1 x w (ix2 r k) = tP x w r k := by
  pointwise [k0_pay1, pk]
theorem pay6_apply (x : Vec Ideal S512x1024 .f32) (w : Vec Ideal S1024x2176 .bf16) (c : Vec Ideal S512x256 .f32) (s : Vec Ideal S512x256 .f32) (r : Fin 512) (j : Fin 256) :
    k0_pay6 x w c s (ix2 r j) = tP x w r ⟨j.val, by omega⟩ * c (ix2 r j) + tP x w r ⟨256 + j.val, by omega⟩ * s (ix2 r j) := by
  pointwise [k0_pay6, k0_pay2, k0_pay3, pay1_apply]
theorem pay7_apply (x : Vec Ideal S512x1024 .f32) (w : Vec Ideal S1024x2176 .bf16) (c : Vec Ideal S512x256 .f32) (s : Vec Ideal S512x256 .f32) (r : Fin 512) (j : Fin 128) :
    k0_pay7 x w c s (ix2 r j) = tP x w r ⟨512 + j.val, by omega⟩ * c (ix2 r ⟨j.val, by omega⟩) + tP x w r ⟨640 + j.val, by omega⟩ * s (ix2 r ⟨j.val, by omega⟩) := by
  pointwise [k0_pay7, k0_pay4, k0_pay5, k0_pay2, k0_pay3, pay1_apply]
theorem pay8_apply (x : Vec Ideal S512x1024 .f32) (w : Vec Ideal S1024x2176 .bf16) (r : Fin 512) (j : Fin 128) :
    k0_pay8 x w (ix2 r j) = tP x w r ⟨768 + j.val, by omega⟩ := by
  pointwise [k0_pay8, pay1_apply]
theorem pay9_apply (x : Vec Ideal S512x1024 .f32) (w : Vec Ideal S1024x2176 .bf16) (c : Vec Ideal S512x256 .f32) (s : Vec Ideal S512x256 .f32) (r : Fin 512) (j : Fin 128) :
    k0_pay9 x w c s (ix2 r j) = tP x w r ⟨1280 + j.val, by omega⟩ * c (ix2 r ⟨j.val, by omega⟩) + tP x w r ⟨1408 + j.val, by omega⟩ * s (ix2 r ⟨j.val, by omega⟩) := by
  pointwise [k0_pay9, k0_pay4, k0_pay5, k0_pay2, k0_pay3, pay1_apply]
theorem pay10_apply (x : Vec Ideal S512x1024 .f32) (w : Vec Ideal S1024x2176 .bf16) (r : Fin 512) (j : Fin 128) :
    k0_pay10 x w (ix2 r j) = tP x w r ⟨1920 + j.val, by omega⟩ := by
  pointwise [k0_pay10, pay1_apply]
theorem pay11_apply (x : Vec Ideal S512x1024 .f32) (w : Vec Ideal S1024x2176 .bf16) (r : Fin 512) (j : Fin 128) :
    k0_pay11 x w (ix2 r j) = tP x w r ⟨2048 + j.val, by omega⟩ := by
  pointwise [k0_pay11, pay1_apply]
theorem pay12_apply (x : Vec Ideal S512x1024 .f32) (w : Vec Ideal S1024x2176 .bf16) (g : Vec Ideal S1x256 .f32) (r : Fin 512) (i : Fin 256) :
    k0_pay12 x w g (ix2 r i) = nrm (Ideal.ofBits FTy.f32 0x43800000#32) (fun i : Fin 256 => tP x w r ⟨896 + i.val, by omega⟩) i * g (ix2 0 i) := by
  pointwise [k0_pay12, pay1_apply]
  rfl
theorem pay13_apply (v : FVec Ideal S512x256 .bf16) (w : Vec Ideal S256x1024 .bf16) (r : Fin 512) (k : Fin 1024) :
    k0_pay13 v w (ix2 r k) = ∑ i : Fin 256, v (ix2 r i) * w (ix2 i k) := by
  pointwise [k0_pay13]
theorem pay14_apply (c : FVec Ideal S512x256 .f32) (s : FVec Ideal S512x256 .f32) (v : FVec Ideal S512x256 .bf16) (w : Vec Ideal S256x1024 .bf16) (r : Fin 512) (j : Fin 256) :
    k0_pay14 c s v w (ix2 r j) = (∑ i : Fin 256, v (ix2 r i) * w (ix2 i ⟨512 + j.val, by omega⟩)) * c (ix2 r j) + (∑ i : Fin 256, v (ix2 r i) * w (ix2 i ⟨768 + j.val, by omega⟩)) * s (ix2 r j) := by
  pointwise [k0_pay14, pay13_apply]
theorem pay15_apply (v : FVec Ideal S512x256 .bf16) (w : Vec Ideal S256x1024 .bf16) (u : Vec Ideal S512x1024 .bf16) (r : Fin 512) (j : Fin 1024) :
    k0_pay15 v w u (ix2 r j) = ∑ f : Fin 512, (∑ i : Fin 256, v (ix2 r i) * w (ix2 i ⟨f.val, by omega⟩)) * u (ix2 f j) := by
  pointwise [k0_pay15, pay13_apply]
theorem pay16_apply (x : Vec Ideal S512x1024 .f32) (w : Vec Ideal S1024x2176 .bf16) (g : Vec Ideal S1x128 .f32) (r : Fin 512) (i : Fin 128) :
    k0_pay16 (k0_pay1 x w) g (ix2 r i) = nrm (Ideal.ofBits FTy.f32 0x43000000#32) (fun i : Fin 128 => tP x w r ⟨1152 + i.val, by omega⟩) i * g (ix2 0 i) := by
  pointwise [k0_pay16, pay1_apply]
  rfl
theorem pay19_apply (x : Vec Ideal S512x1024 .f32) (w : Vec Ideal S1024x2176 .bf16) (g : Vec Ideal S1x128 .f32) (r : Fin 512) (j : Fin 128) :
    k0_pay19 k0_pay17 (k0_pay18 (k0_pay1 x w) g) (ix2 r j) = if j.val < 4 then lsg (tP x w r ⟨1536 + j.val, by omega⟩ + g (ix2 0 j)) else 0 := by
  have e : IntOp.cmpi CmpIPredicate.slt (BitVec.ofNat 32 j.val) 4#32 = if j.val < 4 then 1#1 else 0#1 := by
    revert j; decide +kernel
  pointwise [k0_pay19, k0_pay17, k0_pay18, pay1_apply]
  rw [e]
  by_cases h : j.val < 4
  · rw [if_pos h, if_pos h]
    rfl
  · rw [if_neg h, if_neg h]
    rfl

section Vectors
variable {F : FTy → Type} [FloatOps F]
/-- A row's place in its chunk of eight. -/
def tR : IVec S512x128 32 :=
  have v115 : IVec S512x128 32 := iota .tc S512x128 32 [0] iota_S512x128_d0_w32
  let v116 : BitVec 1 := Scalar.cmpi .eq 8#32 0#32
  let v117 : BitVec 32 := Scalar.select v116 1#32 8#32
  have v119 : IVec S512x128 32 := remsi v115 (broadcast S512x128 v117)
  select (andi (xori (cmpi .slt v119 (broadcast S512x128 0#32)) (broadcastTo S512x128 (broadcast S512x128 (Scalar.cmpi .slt v117 0#32)) broadcasts_S512x128_S512x128)) (cmpi .ne v119 (broadcast S512x128 0#32)))
    (addi v119 (broadcast S512x128 v117)) v119
/-- One doubling step of the running sum. -/
def tS (k : BitVec 32) (x : FVec F S512x128 .f32) : FVec F S512x128 .f32 :=
  addf x (select (cmpi .sge tR (broadcast S512x128 k)) (dynamicRotate 0 k none x rotates_S512x128_d0) (broadcast S512x128 (Scalar.ofBits .f32 0x00000000#32)))
theorem pay24_eq (x : FVec F S512x128 .f32) : k0_pay24 x = tS 4#32 (tS 2#32 (tS 1#32 x)) := rfl
end Vectors
theorem tR_apply (r : Fin 512) (j : Fin 128) : tR (ix2 r j) = BitVec.ofNat 32 (r.val % 8) := by
  pointwise [tR]
  revert r
  decide +kernel
theorem tS1_apply (x : FVec Ideal S512x128 .f32) (r : Fin 512) (j : Fin 128) : tS 1#32 x (ix2 r j) = x (ix2 r j) + if h : 1 ≤ r.val % 8 then x (ix2 ⟨r.val - 1, by omega⟩ j) else 0 := by
  have e : IntOp.cmpi CmpIPredicate.sge (BitVec.ofNat 32 (r.val % 8)) 1#32 = if 1 ≤ r.val % 8 then 1#1 else 0#1 := by
    revert r; decide +kernel
  pointwise [tS, tR_apply]
  rw [e]
  refine congrArg (x (ix2 r j) + ·) ?_
  by_cases h : 1 ≤ r.val % 8
  · rw [if_pos h]
    refine Eq.trans ?_ (dif_pos h).symm
    exact congrArg (fun z : Fin 512 => x (ix2 z j)) (Fin.ext (by show (r.val + 512 - 1) % 512 = r.val - 1; omega))
  · rw [if_neg h]
    refine Eq.trans ?_ (dif_neg h).symm
    rfl
theorem tS2_apply (x : FVec Ideal S512x128 .f32) (r : Fin 512) (j : Fin 128) : tS 2#32 x (ix2 r j) = x (ix2 r j) + if h : 2 ≤ r.val % 8 then x (ix2 ⟨r.val - 2, by omega⟩ j) else 0 := by
  have e : IntOp.cmpi CmpIPredicate.sge (BitVec.ofNat 32 (r.val % 8)) 2#32 = if 2 ≤ r.val % 8 then 1#1 else 0#1 := by
    revert r; decide +kernel
  pointwise [tS, tR_apply]
  rw [e]
  refine congrArg (x (ix2 r j) + ·) ?_
  by_cases h : 2 ≤ r.val % 8
  · rw [if_pos h]
    refine Eq.trans ?_ (dif_pos h).symm
    exact congrArg (fun z : Fin 512 => x (ix2 z j)) (Fin.ext (by show (r.val + 512 - 2) % 512 = r.val - 2; omega))
  · rw [if_neg h]
    refine Eq.trans ?_ (dif_neg h).symm
    rfl
theorem tS4_apply (x : FVec Ideal S512x128 .f32) (r : Fin 512) (j : Fin 128) : tS 4#32 x (ix2 r j) = x (ix2 r j) + if h : 4 ≤ r.val % 8 then x (ix2 ⟨r.val - 4, by omega⟩ j) else 0 := by
  have e : IntOp.cmpi CmpIPredicate.sge (BitVec.ofNat 32 (r.val % 8)) 4#32 = if 4 ≤ r.val % 8 then 1#1 else 0#1 := by
    revert r; decide +kernel
  pointwise [tS, tR_apply]
  rw [e]
  refine congrArg (x (ix2 r j) + ·) ?_
  by_cases h : 4 ≤ r.val % 8
  · rw [if_pos h]
    refine Eq.trans ?_ (dif_pos h).symm
    exact congrArg (fun z : Fin 512 => x (ix2 z j)) (Fin.ext (by show (r.val + 512 - 4) % 512 = r.val - 4; omega))
  · rw [if_neg h]
    refine Eq.trans ?_ (dif_neg h).symm
    rfl
/-- A chunk's running sum. -/
theorem pay24_apply (x : FVec Ideal S512x128 .f32) (r : Fin 512) (j : Fin 128) :
    k0_pay24 x (ix2 r j) = ∑ i : Fin 8, if i ≤ (⟨r.val % 8, by omega⟩ : Fin 8) then x (ix2 ⟨r.val / 8 * 8 + i.val, by omega⟩ j) else 0 := by
  have hr : (⟨r.val / 8 * 8 + r.val % 8, by omega⟩ : Fin 512) = r := Fin.ext (by show r.val / 8 * 8 + r.val % 8 = r.val; omega)
  have st : ∀ (k : ℕ) (y z : FVec Ideal S512x128 .f32),
      (∀ q : Fin 512, z (ix2 q j) = y (ix2 q j) + if h : k ≤ q.val % 8 then y (ix2 ⟨q.val - k, by omega⟩ j) else 0) →
      ∀ p : Fin 8, z (ix2 ⟨r.val / 8 * 8 + p.val, by omega⟩ j) = y (ix2 ⟨r.val / 8 * 8 + p.val, by omega⟩ j) + if h : k ≤ p.val then y (ix2 ⟨r.val / 8 * 8 + (p.val - k), by omega⟩ j) else 0 := by
    intro k y z hz p
    refine (hz _).trans (congrArg (y (ix2 ⟨r.val / 8 * 8 + p.val, by omega⟩ j) + ·) ?_)
    by_cases h : k ≤ p.val
    · have h' : k ≤ (r.val / 8 * 8 + p.val) % 8 := by omega
      refine (dif_pos h').trans (Eq.trans ?_ (dif_pos h).symm)
      exact congrArg (fun q : Fin 512 => y (ix2 q j)) (Fin.ext (by show r.val / 8 * 8 + p.val - k = r.val / 8 * 8 + (p.val - k); omega))
    · have h' : ¬ k ≤ (r.val / 8 * 8 + p.val) % 8 := by omega
      refine (dif_neg h').trans (Eq.trans ?_ (dif_neg h).symm)
      rfl
  have key := InMath.scan_eq (fun i => x (ix2 ⟨r.val / 8 * 8 + i.val, by omega⟩ j)) (fun i => tS 1#32 x (ix2 ⟨r.val / 8 * 8 + i.val, by omega⟩ j))
    (fun i => tS 2#32 (tS 1#32 x) (ix2 ⟨r.val / 8 * 8 + i.val, by omega⟩ j)) (fun i => tS 4#32 (tS 2#32 (tS 1#32 x)) (ix2 ⟨r.val / 8 * 8 + i.val, by omega⟩ j))
    (st 1 _ _ fun q => tS1_apply _ q j) (st 2 _ _ fun q => tS2_apply _ q j) (st 4 _ _ fun q => tS4_apply _ q j) ⟨r.val % 8, by omega⟩
  rw [pay24_eq]
  refine Eq.trans ?_ key
  exact congrArg (fun q : Fin 512 => tS 4#32 (tS 2#32 (tS 1#32 x)) (ix2 q j)) hr.symm

/-! A whole window read is the window. -/
theorem ld0 (x : Vec Ideal S512x1024 .f32) : View.ld x r0_0 = x := by funext p; apply View.ld_unit_apply_of; intro a; fin_cases a <;> simp
theorem ld1 (x : Vec Ideal S1024x2176 .bf16) : View.ld x r0_1 = x := by funext p; apply View.ld_unit_apply_of; intro a; fin_cases a <;> simp
theorem ld2 (x : Vec Ideal S512x256 .f32) : View.ld x r0_2 = x := by funext p; apply View.ld_unit_apply_of; intro a; fin_cases a <;> simp
theorem ld4 (x : Vec Ideal S1x256 .f32) : View.ld x r0_3 = x := by funext p; apply View.ld_unit_apply_of; intro a; fin_cases a <;> simp
theorem ld5 (x : Vec Ideal S256x1024 .bf16) : View.ld x r0_4 = x := by funext p; apply View.ld_unit_apply_of; intro a; fin_cases a <;> simp
theorem ld6 (x : Vec Ideal S512x1024 .bf16) : View.ld x r0_0 = x := by funext p; apply View.ld_unit_apply_of; intro a; fin_cases a <;> simp
theorem ld7 (x : Vec Ideal S1x128 .f32) : View.ld x r0_5 = x := by funext p; apply View.ld_unit_apply_of; intro a; fin_cases a <;> simp
variable (x0 : Vec Ideal S512x1024 .f32) (x1 : Vec Ideal S1024x2176 .bf16) (x2 : Vec Ideal S512x256 .f32) (x3 : Vec Ideal S512x256 .f32) (x4 : Vec Ideal S1x256 .f32) (x5 : Vec Ideal S256x1024 .bf16) (x6 : Vec Ideal S512x1024 .bf16) (x7 : Vec Ideal S1x128 .f32) (x8 : Vec Ideal S1x128 .f32)
theorem out9_apply (r : Fin 512) (j : Fin 256) : out0_9 x0 x1 x2 x3 x4 x5 x6 x7 x8 (ix2 r j)
    = (tP x0 x1 r ⟨j.val, by omega⟩ * x2 (ix2 r j) + tP x0 x1 r ⟨256 + j.val, by omega⟩ * x3 (ix2 r j)) * Ideal.ofBits FTy.f32 0x3E8293EE#32 := by
  have e : out0_9 x0 x1 x2 x3 x4 x5 x6 x7 x8 = k0_pay20 (k0_pay6 x0 x1 x2 x3) := by
    unfold out0_9
    rw [View.canon_unit_zero (by funext a; fin_cases a <;> rfl)]
    simp only [k0_pay25, k0_pay26, k0_pay27, ld0, ld1, ld2, ld4, ld5, ld6, ld7]
  rw [e]
  pointwise [k0_pay20, pay6_apply]
theorem out10_apply (r : Fin 512) (j : Fin 1024) : out0_10 x0 x1 x2 x3 x4 x5 x6 x7 x8 (ix2 r j)
    = (∑ f : Fin 512, qk (fun i : Fin 256 => tP x0 x1 r ⟨896 + i.val, by omega⟩) (fun i => x4 (ix2 0 i)) (fun i k => x5 (ix2 i k)) ⟨f.val, by omega⟩ * x6 (ix2 f j)) * Ideal.ofBits FTy.f32 0x3E16C740#32 := by
  have e : out0_10 x0 x1 x2 x3 x4 x5 x6 x7 x8 = k0_pay21 (k0_pay15 (k0_pay12 x0 x1 x4) x5 x6) := by
    unfold out0_10
    rw [View.canon_unit_zero (by funext a; fin_cases a <;> rfl)]
    simp only [k0_pay25, k0_pay26, k0_pay27, ld0, ld1, ld2, ld4, ld5, ld6, ld7]
  rw [e]
  pointwise [k0_pay21, pay15_apply, pay12_apply]
  rfl
theorem out11_apply (r : Fin 512) (j : Fin 256) : out0_11 x0 x1 x2 x3 x4 x5 x6 x7 x8 (ix2 r j)
    = (qk (fun i : Fin 256 => tP x0 x1 r ⟨896 + i.val, by omega⟩) (fun i => x4 (ix2 0 i)) (fun i k => x5 (ix2 i k)) ⟨512 + j.val, by omega⟩ * x2 (ix2 r j) + qk (fun i : Fin 256 => tP x0 x1 r ⟨896 + i.val, by omega⟩) (fun i => x4 (ix2 0 i)) (fun i k => x5 (ix2 i k)) ⟨768 + j.val, by omega⟩ * x3 (ix2 r j)) * Ideal.ofBits FTy.f32 0x3E16C740#32 := by
  have e : out0_11 x0 x1 x2 x3 x4 x5 x6 x7 x8 = k0_pay22 (k0_pay14 (k0_pay2 x2) (k0_pay3 x3) (k0_pay12 x0 x1 x4) x5) := by
    unfold out0_11
    rw [View.canon_unit_zero (by funext a; fin_cases a <;> rfl)]
    simp only [k0_pay25, k0_pay26, k0_pay27, ld0, ld1, ld2, ld4, ld5, ld6, ld7]
  rw [e]
  pointwise [k0_pay22, pay14_apply, pay12_apply, k0_pay2, k0_pay3]
  rfl
theorem out12_apply (r : Fin 512) (j : Fin 256) : out0_12 x0 x1 x2 x3 x4 x5 x6 x7 x8 (ix2 r j)
    = tP x0 x1 r ⟨1664 + j.val, by omega⟩ * Ideal.ofBits FTy.f32 0x3E38AA3B#32 := by
  have e : out0_12 x0 x1 x2 x3 x4 x5 x6 x7 x8 = k0_pay23 (k0_pay1 x0 x1) := by
    unfold out0_12
    rw [View.canon_unit_zero (by funext a; fin_cases a <;> rfl)]
    simp only [k0_pay25, k0_pay26, k0_pay27, ld0, ld1, ld2, ld4, ld5, ld6, ld7]
  rw [e]
  pointwise [k0_pay23, pay1_apply]
theorem out13_apply (r : Fin 512) (j : Fin 128) : out0_13 x0 x1 x2 x3 x4 x5 x6 x7 x8 (ix2 r j)
    = tP x0 x1 r ⟨512 + j.val, by omega⟩ * x2 (ix2 r ⟨j.val, by omega⟩) + tP x0 x1 r ⟨640 + j.val, by omega⟩ * x3 (ix2 r ⟨j.val, by omega⟩) := by
  have e : out0_13 x0 x1 x2 x3 x4 x5 x6 x7 x8 = k0_pay7 x0 x1 x2 x3 := by
    unfold out0_13
    rw [View.canon_unit_zero (by funext a; fin_cases a <;> rfl)]
    simp only [k0_pay25, k0_pay26, k0_pay27, ld0, ld1, ld2, ld4, ld5, ld6, ld7]
  rw [e]
  exact pay7_apply _ _ _ _ r j
theorem out14_apply (r : Fin 512) (j : Fin 128) : out0_14 x0 x1 x2 x3 x4 x5 x6 x7 x8 (ix2 r j)
    = tP x0 x1 r ⟨768 + j.val, by omega⟩ := by
  have e : out0_14 x0 x1 x2 x3 x4 x5 x6 x7 x8 = k0_pay8 x0 x1 := by
    unfold out0_14
    rw [View.canon_unit_zero (by funext a; fin_cases a <;> rfl)]
    simp only [k0_pay25, k0_pay26, k0_pay27, ld0, ld1, ld2, ld4, ld5, ld6, ld7]
  rw [e]
  exact pay8_apply _ _ r j
theorem out15_apply (r : Fin 512) (j : Fin 128) : out0_15 x0 x1 x2 x3 x4 x5 x6 x7 x8 (ix2 r j)
    = nrm (Ideal.ofBits FTy.f32 0x43000000#32) (fun i : Fin 128 => tP x0 x1 r ⟨1152 + i.val, by omega⟩) j * x7 (ix2 0 j) := by
  have e : out0_15 x0 x1 x2 x3 x4 x5 x6 x7 x8 = k0_pay16 (k0_pay1 x0 x1) x7 := by
    unfold out0_15
    rw [View.canon_unit_zero (by funext a; fin_cases a <;> rfl)]
    simp only [k0_pay25, k0_pay26, k0_pay27, ld0, ld1, ld2, ld4, ld5, ld6, ld7]
  rw [e]
  exact pay16_apply _ _ _ r j
theorem out16_apply (r : Fin 512) (j : Fin 128) : out0_16 x0 x1 x2 x3 x4 x5 x6 x7 x8 (ix2 r j)
    = tP x0 x1 r ⟨1280 + j.val, by omega⟩ * x2 (ix2 r ⟨j.val, by omega⟩) + tP x0 x1 r ⟨1408 + j.val, by omega⟩ * x3 (ix2 r ⟨j.val, by omega⟩) := by
  have e : out0_16 x0 x1 x2 x3 x4 x5 x6 x7 x8 = k0_pay9 x0 x1 x2 x3 := by
    unfold out0_16
    rw [View.canon_unit_zero (by funext a; fin_cases a <;> rfl)]
    simp only [k0_pay25, k0_pay26, k0_pay27, ld0, ld1, ld2, ld4, ld5, ld6, ld7]
  rw [e]
  exact pay9_apply _ _ _ _ r j
theorem out17_apply (r : Fin 512) (j : Fin 128) : out0_17 x0 x1 x2 x3 x4 x5 x6 x7 x8 (ix2 r j)
    = tP x0 x1 r ⟨1920 + j.val, by omega⟩ := by
  have e : out0_17 x0 x1 x2 x3 x4 x5 x6 x7 x8 = k0_pay10 x0 x1 := by
    unfold out0_17
    rw [View.canon_unit_zero (by funext a; fin_cases a <;> rfl)]
    simp only [k0_pay25, k0_pay26, k0_pay27, ld0, ld1, ld2, ld4, ld5, ld6, ld7]
  rw [e]
  exact pay10_apply _ _ r j
theorem out18_apply (r : Fin 512) (j : Fin 128) : out0_18 x0 x1 x2 x3 x4 x5 x6 x7 x8 (ix2 r j)
    = tP x0 x1 r ⟨2048 + j.val, by omega⟩ := by
  have e : out0_18 x0 x1 x2 x3 x4 x5 x6 x7 x8 = k0_pay11 x0 x1 := by
    unfold out0_18
    rw [View.canon_unit_zero (by funext a; fin_cases a <;> rfl)]
    simp only [k0_pay25, k0_pay26, k0_pay27, ld0, ld1, ld2, ld4, ld5, ld6, ld7]
  rw [e]
  exact pay11_apply _ _ r j
theorem out19_apply (r : Fin 512) (j : Fin 128) : out0_19 x0 x1 x2 x3 x4 x5 x6 x7 x8 (ix2 r j)
    = if j.val < 4 then lsg (tP x0 x1 r ⟨1536 + j.val, by omega⟩ + x8 (ix2 0 j)) else 0 := by
  have e : out0_19 x0 x1 x2 x3 x4 x5 x6 x7 x8 = k0_pay19 k0_pay17 (k0_pay18 (k0_pay1 x0 x1) x8) := by
    unfold out0_19
    rw [View.canon_unit_zero (by funext a; fin_cases a <;> rfl)]
    simp only [k0_pay25, k0_pay26, k0_pay27, ld0, ld1, ld2, ld4, ld5, ld6, ld7]
  rw [e]
  exact pay19_apply _ _ _ r j
theorem out20_apply (r : Fin 512) (j : Fin 128) : out0_20 x0 x1 x2 x3 x4 x5 x6 x7 x8 (ix2 r j)
    = ∑ i : Fin 8, if i ≤ (⟨r.val % 8, by omega⟩ : Fin 8) then (if j.val < 4 then lsg (tP x0 x1 ⟨r.val / 8 * 8 + i.val, by omega⟩ ⟨1536 + j.val, by omega⟩ + x8 (ix2 0 j)) else 0) else 0 := by
  have e : out0_20 x0 x1 x2 x3 x4 x5 x6 x7 x8 = k0_pay24 (k0_pay19 k0_pay17 (k0_pay18 (k0_pay1 x0 x1) x8)) := by
    unfold out0_20
    rw [View.canon_unit_zero (by funext a; fin_cases a <;> rfl)]
    simp only [k0_pay25, k0_pay26, k0_pay27, ld0, ld1, ld2, ld4, ld5, ld6, ld7]
  rw [e]
  pointwise [pay24_apply, pay19_apply]
end Cert.Kernel6Ideal.In
-- ==== Proof.InHost.lean ====
/- What the host computes before the input projections' call, at an index: the projection's columns with each rotated group's
   halves swapped beside it, the rotation's tables, the block-diagonal weights. -/
module
public import proofs.«01_k».proof.Proof.InMath
public import proofs.«01_k».proof.Proof.InFrame
@[expose] public section
set_option maxRecDepth 16384
noncomputable section
namespace Cert.Kernel6Ideal.In
open Cert.Kernel6Ideal Cert.Kernel6Ideal.Gen Idealize.ShloMosaic Idealize.ShloMosaic.TcCoe Idealize.SL.Sem
open Idealize.ShloMosaic.StableHlo
open Cert.InMath (rot sw)

section Vectors
variable {F : FTy → Type} [FloatOps F]
/-- The rotation's angles. -/
def hA : FVec F S8x16 .f32 :=
  mulf (broadcastInDim S8x16 ![0, 1] bcast_S8x1_S8x16_0_1 (broadcastInDim S8x1 ![0] bcast_S8_S8x1_0 (sitofp .f32 (addi (broadcastInDim S8 ![] bcast_S_S8 (constantI S_ 32 16384#32)) (iotaInDim S8 32 0)))))
    (broadcastInDim S8x16 ![0, 1] bcast_S1x16_S8x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))
/-- A table of 32 columns, repeated over the heads and the tile's rows. -/
def hT (t : FVec F S8x32 .f32) : FVec F S512x256 .f32 :=
  shapeCast S512x256 (broadcastInDim S64x8x1x256 ![0, 1, 2, 3] bcast_S1x8x1x256_S64x8x1x256_0_1_2_3 (shapeCast S1x8x1x256 (shapeCast S8x256 (broadcastInDim S1x8x8x32 ![0, 1, 2, 3] bcast_S1x8x1x32_S1x8x8x32_0_1_2_3 (shapeCast S1x8x1x32 t shapeCasts_S8x32_S1x8x1x32)) shapeCasts_S1x8x8x32_S8x256) shapeCasts_S8x256_S1x8x1x256)) shapeCasts_S64x8x1x256_S512x256
/-- The cosines' table. -/
def hC (a : FVec F S8x16 .f32) : FVec F S512x256 .f32 := hT (concatenate S8x32 1 [⟨S8x16, Host.cos a⟩, ⟨S8x16, Host.cos a⟩] concatenates_S8x16_S8x16_S8x32_d1)
/-- The sines' table, the first half negated. -/
def hS (a : FVec F S8x16 .f32) : FVec F S512x256 .f32 := hT (concatenate S8x32 1 [⟨S8x16, Host.negf (Host.sin a)⟩, ⟨S8x16, Host.sin a⟩] concatenates_S8x16_S8x16_S8x32_d1)
/-- A group's columns, halves swapped. -/
def hX256 (v : FVec F S1024x256 .f32) : FVec F S1024x256 .f32 := shapeCast S1024x256 (Host.reverse [2] (shapeCast S1024x8x2x16 v shapeCasts_S1024x256_S1024x8x2x16)) shapeCasts_S1024x8x2x16_S1024x256
def hX128 (v : FVec F S1024x128 .f32) : FVec F S1024x128 .f32 := shapeCast S1024x128 (Host.reverse [2] (shapeCast S1024x4x2x16 v shapeCasts_S1024x128_S1024x4x2x16)) shapeCasts_S1024x4x2x16_S1024x128
def hX32 (v : FVec F S1024x32 .f32) : FVec F S1024x32 .f32 := shapeCast S1024x32 (Host.reverse [2] (shapeCast S1024x1x2x16 v shapeCasts_S1024x32_S1024x1x2x16)) shapeCasts_S1024x1x2x16_S1024x32
def hXq (v : FVec F S256x256 .f32) : FVec F S256x256 .f32 := shapeCast S256x256 (Host.reverse [2] (shapeCast S256x8x2x16 v shapeCasts_S256x256_S256x8x2x16)) shapeCasts_S256x8x2x16_S256x256
/-- Columns of zeros beside a group. -/
def hP32 (v : FVec F S1024x32 .f32) : FVec F S1024x128 .f32 := pad S1024x128 ![0, 0] ![0, 96] ![0, 0] v (sitofp .f32 (constantI S_ 32 0#32)) pads_S1024x32_S1024x128_000_0960 h_S_
def hP4 (v : FVec F S1024x4 .f32) : FVec F S1024x128 .f32 := pad S1024x128 ![0, 0] ![0, 124] ![0, 0] v (sitofp .f32 (constantI S_ 32 0#32)) pads_S1024x4_S1024x128_000_01240 h_S_
/-- Thirteen groups of columns, side by side. -/
def hCat (v0 : FVec F S1024x256 .f32) (v1 : FVec F S1024x256 .f32) (v2 : FVec F S1024x128 .f32) (v3 : FVec F S1024x128 .f32) (v4 : FVec F S1024x128 .f32) (v5 : FVec F S1024x256 .f32) (v6 : FVec F S1024x128 .f32) (v7 : FVec F S1024x128 .f32) (v8 : FVec F S1024x128 .f32) (v9 : FVec F S1024x128 .f32) (v10 : FVec F S1024x256 .f32) (v11 : FVec F S1024x128 .f32) (v12 : FVec F S1024x128 .f32) : FVec F S1024x2176 .f32 :=
  concatenate S1024x2176 1 [⟨S1024x256, v0⟩, ⟨S1024x256, v1⟩, ⟨S1024x128, v2⟩, ⟨S1024x128, v3⟩, ⟨S1024x128, v4⟩, ⟨S1024x256, v5⟩, ⟨S1024x128, v6⟩, ⟨S1024x128, v7⟩, ⟨S1024x128, v8⟩, ⟨S1024x128, v9⟩, ⟨S1024x256, v10⟩, ⟨S1024x128, v11⟩, ⟨S1024x128, v12⟩]
    concatenates_S1024x256_S1024x256_S1024x128_S1024x128_S1024x128_S1024x256_S1024x128_S1024x128_S1024x128_S1024x128_S1024x256_S1024x128_S1024x128_S1024x2176_d1
/-- The projection's columns as the kernel reads them. -/
def hW (w : FVec F S1024x1444 .f32) : FVec F S1024x2176 .bf16 :=
  have v32 : FVec F S1024x256 .f32 := extractStridedSlice S1024x256 ![0, 0] w slices_S1024x1444_S1024x256_0_0
  have v33 : FVec F S1024x128 .f32 := extractStridedSlice S1024x128 ![0, 256] w slices_S1024x1444_S1024x128_0_256
  have v36 : FVec F S1024x160 .f32 := extractStridedSlice S1024x160 ![0, 768] w slices_S1024x1444_S1024x160_0_768
  have v42 : FVec F S1024x32 .f32 := extractStridedSlice S1024x32 ![0, 128] v36 slices_S1024x160_S1024x32_0_128
  truncf .bf16 (hCat v32 (hX256 v32) v33 (hX128 v33)
    (extractStridedSlice S1024x128 ![0, 384] w slices_S1024x1444_S1024x128_0_384) (extractStridedSlice S1024x256 ![0, 512] w slices_S1024x1444_S1024x256_0_512)
    (extractStridedSlice S1024x128 ![0, 0] v36 slices_S1024x160_S1024x128_0_0) (hP32 v42) (hP32 (hX32 v42))
    (hP4 (extractStridedSlice S1024x4 ![0, 1440] w slices_S1024x1444_S1024x4_0_1440)) (extractStridedSlice S1024x256 ![0, 928] w slices_S1024x1444_S1024x256_0_928)
    (extractStridedSlice S1024x128 ![0, 1184] w slices_S1024x1444_S1024x128_0_1184) (extractStridedSlice S1024x128 ![0, 1312] w slices_S1024x1444_S1024x128_0_1312)) bitsLt_bf16_f32
/-- The latent queries' columns: the heads' plain parts, their rotated parts, those with halves swapped. -/
def hQ (w : FVec F S256x768 .f32) : FVec F S256x1024 .bf16 :=
  have v57 : FVec F S256x8x96 .f32 := shapeCast S256x8x96 w shapeCasts_S256x768_S256x8x96
  have v61 : FVec F S256x256 .f32 := shapeCast S256x256 (extractStridedSlice S256x8x32 ![0, 0, 64] v57 slices_S256x8x96_S256x8x32_0_0_64) shapeCasts_S256x8x32_S256x256
  truncf .bf16 (concatenate S256x1024 1 [⟨S256x512, shapeCast S256x512 (extractStridedSlice S256x8x64 ![0, 0, 0] v57 slices_S256x8x96_S256x8x64_0_0_0) shapeCasts_S256x8x64_S256x512⟩,
    ⟨S256x256, v61⟩, ⟨S256x256, hXq v61⟩] concatenates_S256x512_S256x256_S256x256_S256x1024_d1) bitsLt_bf16_f32
/-- The identity of size eight. -/
def hI : FVec F S8x8 .f32 := uitofp .f32 (cmpi .eq (addi (iotaInDim S8x8 32 0) (broadcastInDim S8x8 ![] bcast_S_S8x8 (constantI S_ 32 0#32))) (iotaInDim S8x8 32 1))
/-- The latent keys' weights, a block per head on the diagonal. -/
def hK (w : FVec F S128x512 .f32) : FVec F S512x1024 .bf16 :=
  truncf .bf16 (shapeCast S512x1024 (mulf
    (broadcastInDim S8x64x8x128 ![0, 1, 2, 3] bcast_S8x64x1x128_S8x64x8x128_0_1_2_3 (broadcastInDim S8x64x1x128 ![0, 1, 3] bcast_S8x64x128_S8x64x1x128_0_1_3
      (transpose S8x64x128 [1, 2, 0] (shapeCast S128x8x64 w shapeCasts_S128x512_S128x8x64) transposes_S128x8x64_S8x64x128_1_2_0)))
    (broadcastInDim S8x64x8x128 ![0, 1, 2, 3] bcast_S8x1x8x1_S8x64x8x128_0_1_2_3 (broadcastInDim S8x1x8x1 ![0, 2] bcast_S8x8_S8x1x8x1_0_2 hI))) shapeCasts_S8x64x8x128_S512x1024) bitsLt_bf16_f32
/-- The gates' offsets, zeros beside them. -/
def hB (b : FVec F S4 .f32) : FVec F S1x128 .f32 :=
  pad S1x128 ![0, 0] ![0, 124] ![0, 0] (broadcastInDim S1x4 ![1] bcast_S4_S1x4_1 b : FVec F S1x4 .f32) (sitofp .f32 (constantI S_ 32 0#32)) pads_S1x4_S1x128_000_01240 h_S_

variable (m : (ℓ : Loc nD τ sig) → Buf (Elt F) ℓ) (c : Dev nD)
/-- All of the host's operations before the call, in order. -/
abbrev hOps : List (HloOp τ sig (Elt F)) :=
  hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ []))))))))))))))))
theorem V_cos : V m c main_v28 = (hC hA : FVec F S512x256 .f32) := by
  show StableHlo.after hOps (fun b => m (c, b)) (Proc.tc.devRef main_v28) = _
  simp only [hOps, List.cons_append, List.nil_append]
  after_results
  rfl
theorem V_sin : V m c main_v31 = (hS hA : FVec F S512x256 .f32) := by
  show StableHlo.after hOps (fun b => m (c, b)) (Proc.tc.devRef main_v31) = _
  simp only [hOps, List.cons_append, List.nil_append]
  after_results
  rfl
theorem V_w : V m c main_v56 = hW (m (c, Proc.tc.devRef main_arg1)) := by
  show StableHlo.after hOps (fun b => m (c, b)) (Proc.tc.devRef main_v56) = _
  simp only [hOps, List.cons_append, List.nil_append]
  after_results
  rfl
theorem V_q : V m c main_v66 = hQ (m (c, Proc.tc.devRef main_arg4)) := by
  show StableHlo.after hOps (fun b => m (c, b)) (Proc.tc.devRef main_v66) = _
  simp only [hOps, List.cons_append, List.nil_append]
  after_results
  rfl
theorem V_k : V m c main_v81 = hK (m (c, Proc.tc.devRef main_arg6)) := by
  show StableHlo.after hOps (fun b => m (c, b)) (Proc.tc.devRef main_v81) = _
  simp only [hOps, List.cons_append, List.nil_append]
  after_results
  rfl
theorem V_b : V m c main_v83 = hB (m (c, Proc.tc.devRef main_arg2)) := by
  show StableHlo.after hOps (fun b => m (c, b)) (Proc.tc.devRef main_v83) = _
  simp only [hOps, List.cons_append, List.nil_append]
  after_results
  rfl
theorem V_gq : V m c main_v84 = broadcastInDim S1x256 ![1] bcast_S256_S1x256_1 (m (c, Proc.tc.devRef main_arg3) : FVec F S256 .f32) := by
  show StableHlo.after hOps (fun b => m (c, b)) (Proc.tc.devRef main_v84) = _
  simp only [hOps, List.cons_append, List.nil_append]
  after_results
theorem V_gk : V m c main_v85 = broadcastInDim S1x128 ![1] bcast_S128_S1x128_1 (m (c, Proc.tc.devRef main_arg5) : FVec F S128 .f32) := by
  show StableHlo.after hOps (fun b => m (c, b)) (Proc.tc.devRef main_v85) = _
  simp only [hOps, List.cons_append, List.nil_append]
  after_results
end Vectors
end Cert.Kernel6Ideal.In
-- ==== Proof.InHostAt.lean ====
/- The host's arrays before the input projections' call, at an index. -/
module
public import proofs.«01_k».proof.Proof.InHost
public import Idealize.ShloMosaic.Lib.KernelVsHost
@[expose] public section
set_option maxRecDepth 16384
noncomputable section
namespace Cert.Kernel6Ideal.In
open Cert.Kernel6Ideal Cert.Kernel6Ideal.Gen Idealize.ShloMosaic Idealize.ShloMosaic.TcCoe Idealize.SL.Sem
open Cert.InMath (rot sw)

theorem hX256_apply (v : FVec Ideal S1024x256 .f32) (e : Fin 1024) (j : Fin 256) : hX256 v (ix2 e j) = v (ix2 e ⟨sw j.val, by unfold sw; omega⟩) := by
  pointwise [hX256]
  exact congrArg (fun k : Fin 256 => v (ix2 e k)) (Fin.ext (by simp [Fin.rev]; exact InMath.sw_eq j.val))
theorem hX128_apply (v : FVec Ideal S1024x128 .f32) (e : Fin 1024) (j : Fin 128) : hX128 v (ix2 e j) = v (ix2 e ⟨sw j.val, by unfold sw; omega⟩) := by
  pointwise [hX128]
  exact congrArg (fun k : Fin 128 => v (ix2 e k)) (Fin.ext (by simp [Fin.rev]; exact InMath.sw_eq j.val))
theorem hX32_apply (v : FVec Ideal S1024x32 .f32) (e : Fin 1024) (j : Fin 32) : hX32 v (ix2 e j) = v (ix2 e ⟨sw j.val, by unfold sw; omega⟩) := by
  pointwise [hX32]
  exact congrArg (fun k : Fin 32 => v (ix2 e k)) (Fin.ext (by simp [Fin.rev, sw]; omega))
theorem hXq_apply (v : FVec Ideal S256x256 .f32) (e : Fin 256) (j : Fin 256) : hXq v (ix2 e j) = v (ix2 e ⟨sw j.val, by unfold sw; omega⟩) := by
  pointwise [hXq]
  exact congrArg (fun k : Fin 256 => v (ix2 e k)) (Fin.ext (by simp [Fin.rev]; exact InMath.sw_eq j.val))
theorem hC_apply (a : FVec Ideal S8x16 .f32) (r : Fin 512) (j : Fin 256) : hC a (ix2 r j) = Ideal.cos (a (ix2 ⟨r.val % 8, by omega⟩ ⟨j.val % 16, by omega⟩)) := by
  pointwise [hC, hT]
  by_cases h : j.val % 32 < 16
  · rw [dif_pos h]
    exact congrArg (fun k : Fin 16 => Ideal.cos (a (ix2 ⟨r.val % 8, by omega⟩ k))) (Fin.ext (by show j.val % 32 = j.val % 16; omega))
  · rw [dif_neg h]
    exact congrArg (fun k : Fin 16 => Ideal.cos (a (ix2 ⟨r.val % 8, by omega⟩ k))) (Fin.ext (by show j.val % 32 - 16 = j.val % 16; omega))
theorem hS_apply (a : FVec Ideal S8x16 .f32) (r : Fin 512) (j : Fin 256) :
    hS a (ix2 r j) = if j.val % 32 < 16 then -Ideal.sin (a (ix2 ⟨r.val % 8, by omega⟩ ⟨j.val % 16, by omega⟩)) else Ideal.sin (a (ix2 ⟨r.val % 8, by omega⟩ ⟨j.val % 16, by omega⟩)) := by
  pointwise [hS, hT]
  by_cases h : j.val % 32 < 16
  · rw [dif_pos h, if_pos h]
    exact congrArg (fun k : Fin 16 => -Ideal.sin (a (ix2 ⟨r.val % 8, by omega⟩ k))) (Fin.ext (by show j.val % 32 = j.val % 16; omega))
  · rw [dif_neg h, if_neg h]
    exact congrArg (fun k : Fin 16 => Ideal.sin (a (ix2 ⟨r.val % 8, by omega⟩ k))) (Fin.ext (by show j.val % 32 - 16 = j.val % 16; omega))
theorem hP32_apply (v : FVec Ideal S1024x32 .f32) (e : Fin 1024) (j : Fin 128) : hP32 v (ix2 e j) = if h : j.val < 32 then v (ix2 e ⟨j.val, h⟩) else 0 := by
  pointwise [hP32]
  by_cases h : j.val < 32
  · rw [dif_pos h, dif_pos h]
  · rw [dif_neg h, dif_neg h]
    exact sitofp_zero
theorem hP4_apply (v : FVec Ideal S1024x4 .f32) (e : Fin 1024) (j : Fin 128) : hP4 v (ix2 e j) = if h : j.val < 4 then v (ix2 e ⟨j.val, h⟩) else 0 := by
  pointwise [hP4]
  by_cases h : j.val < 4
  · rw [dif_pos h, dif_pos h]
  · rw [dif_neg h, dif_neg h]
    exact sitofp_zero
theorem hB_apply (b : FVec Ideal S4 .f32) (j : Fin 128) : hB b (ix2 0 j) = if h : j.val < 4 then b (ix1 ⟨j.val, h⟩) else 0 := by
  pointwise [hB]
  by_cases h : j.val < 4
  · rw [dif_pos h, dif_pos h]
  · rw [dif_neg h, dif_neg h]
    exact sitofp_zero

section Cat
variable (v0 : FVec Ideal S1024x256 .f32) (v1 : FVec Ideal S1024x256 .f32) (v2 : FVec Ideal S1024x128 .f32) (v3 : FVec Ideal S1024x128 .f32) (v4 : FVec Ideal S1024x128 .f32) (v5 : FVec Ideal S1024x256 .f32) (v6 : FVec Ideal S1024x128 .f32) (v7 : FVec Ideal S1024x128 .f32) (v8 : FVec Ideal S1024x128 .f32) (v9 : FVec Ideal S1024x128 .f32) (v10 : FVec Ideal S1024x256 .f32) (v11 : FVec Ideal S1024x128 .f32) (v12 : FVec Ideal S1024x128 .f32)
theorem hCat_apply (e : Fin 1024) (k : Fin 2176) : hCat v0 v1 v2 v3 v4 v5 v6 v7 v8 v9 v10 v11 v12 (ix2 e k) =
    if h0 : k.val < 256 then v0 (ix2 e ⟨k.val, h0⟩) else
    if h1 : k.val - 256 < 256 then v1 (ix2 e ⟨k.val - 256, h1⟩) else
    if h2 : k.val - 256 - 256 < 128 then v2 (ix2 e ⟨k.val - 256 - 256, h2⟩) else
    if h3 : k.val - 256 - 256 - 128 < 128 then v3 (ix2 e ⟨k.val - 256 - 256 - 128, h3⟩) else
    if h4 : k.val - 256 - 256 - 128 - 128 < 128 then v4 (ix2 e ⟨k.val - 256 - 256 - 128 - 128, h4⟩) else
    if h5 : k.val - 256 - 256 - 128 - 128 - 128 < 256 then v5 (ix2 e ⟨k.val - 256 - 256 - 128 - 128 - 128, h5⟩) else
    if h6 : k.val - 256 - 256 - 128 - 128 - 128 - 256 < 128 then v6 (ix2 e ⟨k.val - 256 - 256 - 128 - 128 - 128 - 256, h6⟩) else
    if h7 : k.val - 256 - 256 - 128 - 128 - 128 - 256 - 128 < 128 then v7 (ix2 e ⟨k.val - 256 - 256 - 128 - 128 - 128 - 256 - 128, h7⟩) else
    if h8 : k.val - 256 - 256 - 128 - 128 - 128 - 256 - 128 - 128 < 128 then v8 (ix2 e ⟨k.val - 256 - 256 - 128 - 128 - 128 - 256 - 128 - 128, h8⟩) else
    if h9 : k.val - 256 - 256 - 128 - 128 - 128 - 256 - 128 - 128 - 128 < 128 then v9 (ix2 e ⟨k.val - 256 - 256 - 128 - 128 - 128 - 256 - 128 - 128 - 128, h9⟩) else
    if h10 : k.val - 256 - 256 - 128 - 128 - 128 - 256 - 128 - 128 - 128 - 128 < 256 then v10 (ix2 e ⟨k.val - 256 - 256 - 128 - 128 - 128 - 256 - 128 - 128 - 128 - 128, h10⟩) else
    if h11 : k.val - 256 - 256 - 128 - 128 - 128 - 256 - 128 - 128 - 128 - 128 - 256 < 128 then v11 (ix2 e ⟨k.val - 256 - 256 - 128 - 128 - 128 - 256 - 128 - 128 - 128 - 128 - 256, h11⟩) else
    v12 (ix2 e ⟨k.val - 256 - 256 - 128 - 128 - 128 - 256 - 128 - 128 - 128 - 128 - 256 - 128, by omega⟩) := by
  pointwise [hCat]
theorem hCat_0 (e : Fin 1024) (j : Fin 256) : hCat v0 v1 v2 v3 v4 v5 v6 v7 v8 v9 v10 v11 v12 (ix2 e ⟨j.val, by omega⟩) = v0 (ix2 e j) := by
  refine (hCat_apply v0 v1 v2 v3 v4 v5 v6 v7 v8 v9 v10 v11 v12 e _).trans ?_
  refine (dif_pos (by show j.val < 256; omega)).trans ?_
  exact congrArg (fun k : Fin 256 => v0 (ix2 e k)) (Fin.ext (by show j.val = j.val; omega))
theorem hCat_256 (e : Fin 1024) (j : Fin 256) : hCat v0 v1 v2 v3 v4 v5 v6 v7 v8 v9 v10 v11 v12 (ix2 e ⟨256 + j.val, by omega⟩) = v1 (ix2 e j) := by
  refine (hCat_apply v0 v1 v2 v3 v4 v5 v6 v7 v8 v9 v10 v11 v12 e _).trans ?_
  refine (dif_neg (by show ¬ 256 + j.val < 256; omega)).trans ?_
  refine (dif_pos (by show 256 + j.val - 256 < 256; omega)).trans ?_
  exact congrArg (fun k : Fin 256 => v1 (ix2 e k)) (Fin.ext (by show 256 + j.val - 256 = j.val; omega))
theorem hCat_512 (e : Fin 1024) (j : Fin 128) : hCat v0 v1 v2 v3 v4 v5 v6 v7 v8 v9 v10 v11 v12 (ix2 e ⟨512 + j.val, by omega⟩) = v2 (ix2 e j) := by
  refine (hCat_apply v0 v1 v2 v3 v4 v5 v6 v7 v8 v9 v10 v11 v12 e _).trans ?_
  refine (dif_neg (by show ¬ 512 + j.val < 256; omega)).trans ?_
  refine (dif_neg (by show ¬ 512 + j.val - 256 < 256; omega)).trans ?_
  refine (dif_pos (by show 512 + j.val - 256 - 256 < 128; omega)).trans ?_
  exact congrArg (fun k : Fin 128 => v2 (ix2 e k)) (Fin.ext (by show 512 + j.val - 256 - 256 = j.val; omega))
theorem hCat_640 (e : Fin 1024) (j : Fin 128) : hCat v0 v1 v2 v3 v4 v5 v6 v7 v8 v9 v10 v11 v12 (ix2 e ⟨640 + j.val, by omega⟩) = v3 (ix2 e j) := by
  refine (hCat_apply v0 v1 v2 v3 v4 v5 v6 v7 v8 v9 v10 v11 v12 e _).trans ?_
  refine (dif_neg (by show ¬ 640 + j.val < 256; omega)).trans ?_
  refine (dif_neg (by show ¬ 640 + j.val - 256 < 256; omega)).trans ?_
  refine (dif_neg (by show ¬ 640 + j.val - 256 - 256 < 128; omega)).trans ?_
  refine (dif_pos (by show 640 + j.val - 256 - 256 - 128 < 128; omega)).trans ?_
  exact congrArg (fun k : Fin 128 => v3 (ix2 e k)) (Fin.ext (by show 640 + j.val - 256 - 256 - 128 = j.val; omega))
theorem hCat_768 (e : Fin 1024) (j : Fin 128) : hCat v0 v1 v2 v3 v4 v5 v6 v7 v8 v9 v10 v11 v12 (ix2 e ⟨768 + j.val, by omega⟩) = v4 (ix2 e j) := by
  refine (hCat_apply v0 v1 v2 v3 v4 v5 v6 v7 v8 v9 v10 v11 v12 e _).trans ?_
  refine (dif_neg (by show ¬ 768 + j.val < 256; omega)).trans ?_
  refine (dif_neg (by show ¬ 768 + j.val - 256 < 256; omega)).trans ?_
  refine (dif_neg (by show ¬ 768 + j.val - 256 - 256 < 128; omega)).trans ?_
  refine (dif_neg (by show ¬ 768 + j.val - 256 - 256 - 128 < 128; omega)).trans ?_
  refine (dif_pos (by show 768 + j.val - 256 - 256 - 128 - 128 < 128; omega)).trans ?_
  exact congrArg (fun k : Fin 128 => v4 (ix2 e k)) (Fin.ext (by show 768 + j.val - 256 - 256 - 128 - 128 = j.val; omega))
theorem hCat_896 (e : Fin 1024) (j : Fin 256) : hCat v0 v1 v2 v3 v4 v5 v6 v7 v8 v9 v10 v11 v12 (ix2 e ⟨896 + j.val, by omega⟩) = v5 (ix2 e j) := by
  refine (hCat_apply v0 v1 v2 v3 v4 v5 v6 v7 v8 v9 v10 v11 v12 e _).trans ?_
  refine (dif_neg (by show ¬ 896 + j.val < 256; omega)).trans ?_
  refine (dif_neg (by show ¬ 896 + j.val - 256 < 256; omega)).trans ?_
  refine (dif_neg (by show ¬ 896 + j.val - 256 - 256 < 128; omega)).trans ?_
  refine (dif_neg (by show ¬ 896 + j.val - 256 - 256 - 128 < 128; omega)).trans ?_
  refine (dif_neg (by show ¬ 896 + j.val - 256 - 256 - 128 - 128 < 128; omega)).trans ?_
  refine (dif_pos (by show 896 + j.val - 256 - 256 - 128 - 128 - 128 < 256; omega)).trans ?_
  exact congrArg (fun k : Fin 256 => v5 (ix2 e k)) (Fin.ext (by show 896 + j.val - 256 - 256 - 128 - 128 - 128 = j.val; omega))
theorem hCat_1152 (e : Fin 1024) (j : Fin 128) : hCat v0 v1 v2 v3 v4 v5 v6 v7 v8 v9 v10 v11 v12 (ix2 e ⟨1152 + j.val, by omega⟩) = v6 (ix2 e j) := by
  refine (hCat_apply v0 v1 v2 v3 v4 v5 v6 v7 v8 v9 v10 v11 v12 e _).trans ?_
  refine (dif_neg (by show ¬ 1152 + j.val < 256; omega)).trans ?_
  refine (dif_neg (by show ¬ 1152 + j.val - 256 < 256; omega)).trans ?_
  refine (dif_neg (by show ¬ 1152 + j.val - 256 - 256 < 128; omega)).trans ?_
  refine (dif_neg (by show ¬ 1152 + j.val - 256 - 256 - 128 < 128; omega)).trans ?_
  refine (dif_neg (by show ¬ 1152 + j.val - 256 - 256 - 128 - 128 < 128; omega)).trans ?_
  refine (dif_neg (by show ¬ 1152 + j.val - 256 - 256 - 128 - 128 - 128 < 256; omega)).trans ?_
  refine (dif_pos (by show 1152 + j.val - 256 - 256 - 128 - 128 - 128 - 256 < 128; omega)).trans ?_
  exact congrArg (fun k : Fin 128 => v6 (ix2 e k)) (Fin.ext (by show 1152 + j.val - 256 - 256 - 128 - 128 - 128 - 256 = j.val; omega))
theorem hCat_1280 (e : Fin 1024) (j : Fin 128) : hCat v0 v1 v2 v3 v4 v5 v6 v7 v8 v9 v10 v11 v12 (ix2 e ⟨1280 + j.val, by omega⟩) = v7 (ix2 e j) := by
  refine (hCat_apply v0 v1 v2 v3 v4 v5 v6 v7 v8 v9 v10 v11 v12 e _).trans ?_
  refine (dif_neg (by show ¬ 1280 + j.val < 256; omega)).trans ?_
  refine (dif_neg (by show ¬ 1280 + j.val - 256 < 256; omega)).trans ?_
  refine (dif_neg (by show ¬ 1280 + j.val - 256 - 256 < 128; omega)).trans ?_
  refine (dif_neg (by show ¬ 1280 + j.val - 256 - 256 - 128 < 128; omega)).trans ?_
  refine (dif_neg (by show ¬ 1280 + j.val - 256 - 256 - 128 - 128 < 128; omega)).trans ?_
  refine (dif_neg (by show ¬ 1280 + j.val - 256 - 256 - 128 - 128 - 128 < 256; omega)).trans ?_
  refine (dif_neg (by show ¬ 1280 + j.val - 256 - 256 - 128 - 128 - 128 - 256 < 128; omega)).trans ?_
  refine (dif_pos (by show 1280 + j.val - 256 - 256 - 128 - 128 - 128 - 256 - 128 < 128; omega)).trans ?_
  exact congrArg (fun k : Fin 128 => v7 (ix2 e k)) (Fin.ext (by show 1280 + j.val - 256 - 256 - 128 - 128 - 128 - 256 - 128 = j.val; omega))
theorem hCat_1408 (e : Fin 1024) (j : Fin 128) : hCat v0 v1 v2 v3 v4 v5 v6 v7 v8 v9 v10 v11 v12 (ix2 e ⟨1408 + j.val, by omega⟩) = v8 (ix2 e j) := by
  refine (hCat_apply v0 v1 v2 v3 v4 v5 v6 v7 v8 v9 v10 v11 v12 e _).trans ?_
  refine (dif_neg (by show ¬ 1408 + j.val < 256; omega)).trans ?_
  refine (dif_neg (by show ¬ 1408 + j.val - 256 < 256; omega)).trans ?_
  refine (dif_neg (by show ¬ 1408 + j.val - 256 - 256 < 128; omega)).trans ?_
  refine (dif_neg (by show ¬ 1408 + j.val - 256 - 256 - 128 < 128; omega)).trans ?_
  refine (dif_neg (by show ¬ 1408 + j.val - 256 - 256 - 128 - 128 < 128; omega)).trans ?_
  refine (dif_neg (by show ¬ 1408 + j.val - 256 - 256 - 128 - 128 - 128 < 256; omega)).trans ?_
  refine (dif_neg (by show ¬ 1408 + j.val - 256 - 256 - 128 - 128 - 128 - 256 < 128; omega)).trans ?_
  refine (dif_neg (by show ¬ 1408 + j.val - 256 - 256 - 128 - 128 - 128 - 256 - 128 < 128; omega)).trans ?_
  refine (dif_pos (by show 1408 + j.val - 256 - 256 - 128 - 128 - 128 - 256 - 128 - 128 < 128; omega)).trans ?_
  exact congrArg (fun k : Fin 128 => v8 (ix2 e k)) (Fin.ext (by show 1408 + j.val - 256 - 256 - 128 - 128 - 128 - 256 - 128 - 128 = j.val; omega))
theorem hCat_1536 (e : Fin 1024) (j : Fin 128) : hCat v0 v1 v2 v3 v4 v5 v6 v7 v8 v9 v10 v11 v12 (ix2 e ⟨1536 + j.val, by omega⟩) = v9 (ix2 e j) := by
  refine (hCat_apply v0 v1 v2 v3 v4 v5 v6 v7 v8 v9 v10 v11 v12 e _).trans ?_
  refine (dif_neg (by show ¬ 1536 + j.val < 256; omega)).trans ?_
  refine (dif_neg (by show ¬ 1536 + j.val - 256 < 256; omega)).trans ?_
  refine (dif_neg (by show ¬ 1536 + j.val - 256 - 256 < 128; omega)).trans ?_
  refine (dif_neg (by show ¬ 1536 + j.val - 256 - 256 - 128 < 128; omega)).trans ?_
  refine (dif_neg (by show ¬ 1536 + j.val - 256 - 256 - 128 - 128 < 128; omega)).trans ?_
  refine (dif_neg (by show ¬ 1536 + j.val - 256 - 256 - 128 - 128 - 128 < 256; omega)).trans ?_
  refine (dif_neg (by show ¬ 1536 + j.val - 256 - 256 - 128 - 128 - 128 - 256 < 128; omega)).trans ?_
  refine (dif_neg (by show ¬ 1536 + j.val - 256 - 256 - 128 - 128 - 128 - 256 - 128 < 128; omega)).trans ?_
  refine (dif_neg (by show ¬ 1536 + j.val - 256 - 256 - 128 - 128 - 128 - 256 - 128 - 128 < 128; omega)).trans ?_
  refine (dif_pos (by show 1536 + j.val - 256 - 256 - 128 - 128 - 128 - 256 - 128 - 128 - 128 < 128; omega)).trans ?_
  exact congrArg (fun k : Fin 128 => v9 (ix2 e k)) (Fin.ext (by show 1536 + j.val - 256 - 256 - 128 - 128 - 128 - 256 - 128 - 128 - 128 = j.val; omega))
theorem hCat_1664 (e : Fin 1024) (j : Fin 256) : hCat v0 v1 v2 v3 v4 v5 v6 v7 v8 v9 v10 v11 v12 (ix2 e ⟨1664 + j.val, by omega⟩) = v10 (ix2 e j) := by
  refine (hCat_apply v0 v1 v2 v3 v4 v5 v6 v7 v8 v9 v10 v11 v12 e _).trans ?_
  refine (dif_neg (by show ¬ 1664 + j.val < 256; omega)).trans ?_
  refine (dif_neg (by show ¬ 1664 + j.val - 256 < 256; omega)).trans ?_
  refine (dif_neg (by show ¬ 1664 + j.val - 256 - 256 < 128; omega)).trans ?_
  refine (dif_neg (by show ¬ 1664 + j.val - 256 - 256 - 128 < 128; omega)).trans ?_
  refine (dif_neg (by show ¬ 1664 + j.val - 256 - 256 - 128 - 128 < 128; omega)).trans ?_
  refine (dif_neg (by show ¬ 1664 + j.val - 256 - 256 - 128 - 128 - 128 < 256; omega)).trans ?_
  refine (dif_neg (by show ¬ 1664 + j.val - 256 - 256 - 128 - 128 - 128 - 256 < 128; omega)).trans ?_
  refine (dif_neg (by show ¬ 1664 + j.val - 256 - 256 - 128 - 128 - 128 - 256 - 128 < 128; omega)).trans ?_
  refine (dif_neg (by show ¬ 1664 + j.val - 256 - 256 - 128 - 128 - 128 - 256 - 128 - 128 < 128; omega)).trans ?_
  refine (dif_neg (by show ¬ 1664 + j.val - 256 - 256 - 128 - 128 - 128 - 256 - 128 - 128 - 128 < 128; omega)).trans ?_
  refine (dif_pos (by show 1664 + j.val - 256 - 256 - 128 - 128 - 128 - 256 - 128 - 128 - 128 - 128 < 256; omega)).trans ?_
  exact congrArg (fun k : Fin 256 => v10 (ix2 e k)) (Fin.ext (by show 1664 + j.val - 256 - 256 - 128 - 128 - 128 - 256 - 128 - 128 - 128 - 128 = j.val; omega))
theorem hCat_1920 (e : Fin 1024) (j : Fin 128) : hCat v0 v1 v2 v3 v4 v5 v6 v7 v8 v9 v10 v11 v12 (ix2 e ⟨1920 + j.val, by omega⟩) = v11 (ix2 e j) := by
  refine (hCat_apply v0 v1 v2 v3 v4 v5 v6 v7 v8 v9 v10 v11 v12 e _).trans ?_
  refine (dif_neg (by show ¬ 1920 + j.val < 256; omega)).trans ?_
  refine (dif_neg (by show ¬ 1920 + j.val - 256 < 256; omega)).trans ?_
  refine (dif_neg (by show ¬ 1920 + j.val - 256 - 256 < 128; omega)).trans ?_
  refine (dif_neg (by show ¬ 1920 + j.val - 256 - 256 - 128 < 128; omega)).trans ?_
  refine (dif_neg (by show ¬ 1920 + j.val - 256 - 256 - 128 - 128 < 128; omega)).trans ?_
  refine (dif_neg (by show ¬ 1920 + j.val - 256 - 256 - 128 - 128 - 128 < 256; omega)).trans ?_
  refine (dif_neg (by show ¬ 1920 + j.val - 256 - 256 - 128 - 128 - 128 - 256 < 128; omega)).trans ?_
  refine (dif_neg (by show ¬ 1920 + j.val - 256 - 256 - 128 - 128 - 128 - 256 - 128 < 128; omega)).trans ?_
  refine (dif_neg (by show ¬ 1920 + j.val - 256 - 256 - 128 - 128 - 128 - 256 - 128 - 128 < 128; omega)).trans ?_
  refine (dif_neg (by show ¬ 1920 + j.val - 256 - 256 - 128 - 128 - 128 - 256 - 128 - 128 - 128 < 128; omega)).trans ?_
  refine (dif_neg (by show ¬ 1920 + j.val - 256 - 256 - 128 - 128 - 128 - 256 - 128 - 128 - 128 - 128 < 256; omega)).trans ?_
  refine (dif_pos (by show 1920 + j.val - 256 - 256 - 128 - 128 - 128 - 256 - 128 - 128 - 128 - 128 - 256 < 128; omega)).trans ?_
  exact congrArg (fun k : Fin 128 => v11 (ix2 e k)) (Fin.ext (by show 1920 + j.val - 256 - 256 - 128 - 128 - 128 - 256 - 128 - 128 - 128 - 128 - 256 = j.val; omega))
theorem hCat_2048 (e : Fin 1024) (j : Fin 128) : hCat v0 v1 v2 v3 v4 v5 v6 v7 v8 v9 v10 v11 v12 (ix2 e ⟨2048 + j.val, by omega⟩) = v12 (ix2 e j) := by
  refine (hCat_apply v0 v1 v2 v3 v4 v5 v6 v7 v8 v9 v10 v11 v12 e _).trans ?_
  refine (dif_neg (by show ¬ 2048 + j.val < 256; omega)).trans ?_
  refine (dif_neg (by show ¬ 2048 + j.val - 256 < 256; omega)).trans ?_
  refine (dif_neg (by show ¬ 2048 + j.val - 256 - 256 < 128; omega)).trans ?_
  refine (dif_neg (by show ¬ 2048 + j.val - 256 - 256 - 128 < 128; omega)).trans ?_
  refine (dif_neg (by show ¬ 2048 + j.val - 256 - 256 - 128 - 128 < 128; omega)).trans ?_
  refine (dif_neg (by show ¬ 2048 + j.val - 256 - 256 - 128 - 128 - 128 < 256; omega)).trans ?_
  refine (dif_neg (by show ¬ 2048 + j.val - 256 - 256 - 128 - 128 - 128 - 256 < 128; omega)).trans ?_
  refine (dif_neg (by show ¬ 2048 + j.val - 256 - 256 - 128 - 128 - 128 - 256 - 128 < 128; omega)).trans ?_
  refine (dif_neg (by show ¬ 2048 + j.val - 256 - 256 - 128 - 128 - 128 - 256 - 128 - 128 < 128; omega)).trans ?_
  refine (dif_neg (by show ¬ 2048 + j.val - 256 - 256 - 128 - 128 - 128 - 256 - 128 - 128 - 128 < 128; omega)).trans ?_
  refine (dif_neg (by show ¬ 2048 + j.val - 256 - 256 - 128 - 128 - 128 - 256 - 128 - 128 - 128 - 128 < 256; omega)).trans ?_
  refine (dif_neg (by show ¬ 2048 + j.val - 256 - 256 - 128 - 128 - 128 - 256 - 128 - 128 - 128 - 128 - 256 < 128; omega)).trans ?_
  exact congrArg (fun k : Fin 128 => v12 (ix2 e k)) (Fin.ext (by show 2048 + j.val - 256 - 256 - 128 - 128 - 128 - 256 - 128 - 128 - 128 - 128 - 256 - 128 = j.val; omega))
end Cat
/-- The projection's columns, group by group. -/
theorem hW_0 (w : FVec Ideal S1024x1444 .f32) (e : Fin 1024) (j : Fin 256) : hW w (ix2 e ⟨j.val, by omega⟩) = w (ix2 e ⟨j.val, by omega⟩) := by
  pointwise [hW, hCat_0]
theorem hW_256 (w : FVec Ideal S1024x1444 .f32) (e : Fin 1024) (j : Fin 256) : hW w (ix2 e ⟨256 + j.val, by omega⟩) = w (ix2 e ⟨sw j.val, by unfold sw; omega⟩) := by
  pointwise [hW, hCat_256, hX256_apply]
theorem hW_512 (w : FVec Ideal S1024x1444 .f32) (e : Fin 1024) (j : Fin 128) : hW w (ix2 e ⟨512 + j.val, by omega⟩) = w (ix2 e ⟨256 + j.val, by omega⟩) := by
  pointwise [hW, hCat_512]
theorem hW_640 (w : FVec Ideal S1024x1444 .f32) (e : Fin 1024) (j : Fin 128) : hW w (ix2 e ⟨640 + j.val, by omega⟩) = w (ix2 e ⟨256 + sw j.val, by unfold sw; omega⟩) := by
  pointwise [hW, hCat_640, hX128_apply]
theorem hW_768 (w : FVec Ideal S1024x1444 .f32) (e : Fin 1024) (j : Fin 128) : hW w (ix2 e ⟨768 + j.val, by omega⟩) = w (ix2 e ⟨384 + j.val, by omega⟩) := by
  pointwise [hW, hCat_768]
theorem hW_896 (w : FVec Ideal S1024x1444 .f32) (e : Fin 1024) (j : Fin 256) : hW w (ix2 e ⟨896 + j.val, by omega⟩) = w (ix2 e ⟨512 + j.val, by omega⟩) := by
  pointwise [hW, hCat_896]
theorem hW_1152 (w : FVec Ideal S1024x1444 .f32) (e : Fin 1024) (j : Fin 128) : hW w (ix2 e ⟨1152 + j.val, by omega⟩) = w (ix2 e ⟨768 + j.val, by omega⟩) := by
  pointwise [hW, hCat_1152]
theorem hW_1280 (w : FVec Ideal S1024x1444 .f32) (e : Fin 1024) (j : Fin 128) : hW w (ix2 e ⟨1280 + j.val, by omega⟩) = if h : j.val < 32 then w (ix2 e ⟨896 + j.val, by omega⟩) else 0 := by
  pointwise [hW, hCat_1280, hP32_apply]
  by_cases h : j.val < 32
  · rw [dif_pos h, dif_pos h]
    exact congrArg (fun k : Fin 1444 => w (ix2 e k)) (Fin.ext (by show 768 + (128 + j.val) = 896 + j.val; omega))
  · rw [dif_neg h, dif_neg h]
theorem hW_1408 (w : FVec Ideal S1024x1444 .f32) (e : Fin 1024) (j : Fin 128) : hW w (ix2 e ⟨1408 + j.val, by omega⟩) = if h : j.val < 32 then w (ix2 e ⟨896 + sw j.val, by unfold sw; omega⟩) else 0 := by
  pointwise [hW, hCat_1408, hP32_apply, hX32_apply]
  by_cases h : j.val < 32
  · rw [dif_pos h, dif_pos h]
    exact congrArg (fun k : Fin 1444 => w (ix2 e k)) (Fin.ext (by show 768 + (128 + sw j.val) = 896 + sw j.val; omega))
  · rw [dif_neg h, dif_neg h]
theorem hW_1536 (w : FVec Ideal S1024x1444 .f32) (e : Fin 1024) (j : Fin 128) (h : j.val < 4) : hW w (ix2 e ⟨1536 + j.val, by omega⟩) = w (ix2 e ⟨1440 + j.val, by omega⟩) := by
  pointwise [hW, hCat_1536, hP4_apply]
  rw [dif_pos h]
theorem hW_1664 (w : FVec Ideal S1024x1444 .f32) (e : Fin 1024) (j : Fin 256) : hW w (ix2 e ⟨1664 + j.val, by omega⟩) = w (ix2 e ⟨928 + j.val, by omega⟩) := by
  pointwise [hW, hCat_1664]
theorem hW_1920 (w : FVec Ideal S1024x1444 .f32) (e : Fin 1024) (j : Fin 128) : hW w (ix2 e ⟨1920 + j.val, by omega⟩) = w (ix2 e ⟨1184 + j.val, by omega⟩) := by
  pointwise [hW, hCat_1920]
theorem hW_2048 (w : FVec Ideal S1024x1444 .f32) (e : Fin 1024) (j : Fin 128) : hW w (ix2 e ⟨2048 + j.val, by omega⟩) = w (ix2 e ⟨1312 + j.val, by omega⟩) := by
  pointwise [hW, hCat_2048]

/-- The latent queries' columns, group by group. -/
theorem hQ_0 (w : FVec Ideal S256x768 .f32) (e : Fin 256) (j : Fin 512) : hQ w (ix2 e ⟨j.val, by omega⟩) = w (ix2 e ⟨j.val / 64 * 96 + j.val % 64, by omega⟩) := by
  pointwise [hQ]
theorem hQ_512 (w : FVec Ideal S256x768 .f32) (e : Fin 256) (j : Fin 256) : hQ w (ix2 e ⟨512 + j.val, by omega⟩) = w (ix2 e ⟨j.val / 32 * 96 + (64 + j.val % 32), by omega⟩) := by
  pointwise [hQ]
theorem hQ_768 (w : FVec Ideal S256x768 .f32) (e : Fin 256) (j : Fin 256) : hQ w (ix2 e ⟨768 + j.val, by omega⟩) = w (ix2 e ⟨j.val / 32 * 96 + (64 + (j.val % 32 + 16) % 32), by omega⟩) := by
  pointwise [hQ, hXq_apply]
  have e1 : (⟨sw j.val / 32 * 96 + (64 + sw j.val % 32), by unfold sw; omega⟩ : Fin 768) = ⟨j.val / 32 * 96 + (64 + (j.val % 32 + 16) % 32), by omega⟩ :=
    Fin.ext (by show sw j.val / 32 * 96 + (64 + sw j.val % 32) = j.val / 32 * 96 + (64 + (j.val % 32 + 16) % 32); unfold sw; omega)
  have e2 : (⟨768 + j.val - 512 - 256, by omega⟩ : Fin 256) = j := Fin.ext (by show 768 + j.val - 512 - 256 = j.val; omega)
  refine (dif_neg (by show ¬ 768 + j.val < 512; omega)).trans ((dif_neg (by show ¬ 768 + j.val - 512 < 256; omega)).trans ?_)
  exact (congrArg (fun k : Fin 256 => w (ix2 e ⟨sw k.val / 32 * 96 + (64 + sw k.val % 32), by unfold sw; omega⟩)) e2).trans (congrArg (fun k : Fin 768 => w (ix2 e k)) e1)
theorem hI_apply (a b : Fin 8) : hI (F := Ideal) (ix2 a b) = if a = b then 1 else 0 := by
  pointwise [hI]
  have e : IntOp.cmpi CmpIPredicate.eq (IntOp.addi (BitVec.ofNat 32 a.val) 0#32) (BitVec.ofNat 32 b.val) = if a = b then 1#1 else 0#1 := by
    revert a b; decide
  rw [e]
  by_cases h : a = b
  · rw [if_pos h, if_pos h]
    show ((((1#1 : BitVec 1).toNat : ℝ)) : EReal) = 1
    simp
  · rw [if_neg h, if_neg h]
    show ((((0#1 : BitVec 1).toNat : ℝ)) : EReal) = 0
    simp
theorem off_eq {P Q : Prop} [Decidable P] [Decidable Q] (a x : EReal) (hp : ¬P) (hq : ¬Q) : a * (if P then 1 else 0) = if Q then x else 0 := by
  rw [if_neg hp, if_neg hq, mul_zero]
theorem hK_apply (w : FVec Ideal S128x512 .f32) (f : Fin 512) (c : Fin 1024) :
    hK w (ix2 f c) = if f.val / 64 = c.val / 128 then w (ix2 ⟨c.val % 128, by omega⟩ ⟨c.val / 128 * 64 + f.val % 64, by omega⟩) else 0 := by
  pointwise [hK, hI_apply]
  by_cases h : f.val / 64 = c.val / 128
  · have h1 : (⟨f.val / 64, by omega⟩ : Fin 8) = ⟨c.val / 128, by omega⟩ := Fin.ext h
    rw [if_pos h, if_pos h1]
    refine (mul_one _).trans ?_
    exact congrArg (fun k : Fin 512 => w (ix2 ⟨c.val % 128, by omega⟩ k)) (Fin.ext (by show f.val = c.val / 128 * 64 + f.val % 64; omega))
  · have h1 : ¬ (⟨f.val / 64, by omega⟩ : Fin 8) = ⟨c.val / 128, by omega⟩ := fun q => h (congrArg Fin.val q)
    exact off_eq _ _ h1 h
theorem row256_apply (g : FVec Ideal S256 .f32) (k : Fin 256) : broadcastInDim S1x256 ![1] bcast_S256_S1x256_1 g (ix2 0 k) = g (ix1 k) := by
  pointwise []
theorem row128_apply (g : FVec Ideal S128 .f32) (k : Fin 128) : broadcastInDim S1x128 ![1] bcast_S128_S1x128_1 g (ix2 0 k) = g (ix1 k) := by
  pointwise []
end Cert.Kernel6Ideal.In
-- ==== Proof.InRef.lean ====
/- The input projections' reference at an index. -/
module
public import proofs.«01_k».proof.Proof.InMath
public import Idealize.ShloMosaic.Lib.KernelVsHost
public import proofs.«01_k».proof.Proof.Gen.Reference6Ideal.Run
@[expose] public section
set_option maxRecDepth 16384
noncomputable section
namespace Cert.Reference6Ideal.In
open Cert.Reference6Ideal Cert.Reference6Ideal.Gen Idealize.ShloMosaic Idealize.ShloMosaic.TcCoe Idealize.SL.Sem
open Cert.InMath (rot sw)

section Vectors
variable {F : FTy → Type} [FloatOps F]
/-- The projected rows. -/
def rP (x : FVec F S1024x1024 .f32) (w : FVec F S1024x1444 .f32) : FVec F S128x8x1444 .f32 :=
  Host.dotGeneral dot_S128x8x1024_S1024x1444_S128x8x1444_2_0_01_1_n_n none (shapeCast _ x shapeCasts_S1024x1024_S128x8x1024 : FVec F S128x8x1024 .f32) w
/-- The rotation's angles. -/
def rA : FVec F S8x16 .f32 :=
  mulf (broadcastInDim S8x16 ![0, 1] bcast_S8x1_S8x16_0_1 (broadcastInDim S8x1 ![0] bcast_S8_S8x1_0 (sitofp .f32 (addi (broadcastInDim S8 ![] bcast_S_S8 (constantI S_ 32 16384#32)) (iotaInDim S8 32 0)))))
    (broadcastInDim S8x16 ![0, 1] bcast_S1x16_S8x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))
/-- Eight heads, rotated. -/
def rR8 (q : FVec F S128x8x8x32 .f32) (a : FVec F S8x16 .f32) : FVec F S128x8x8x32 .f32 :=
  have q1 : FVec F S128x8x8x16 .f32 := extractStridedSlice S128x8x8x16 ![0, 0, 0, 0] q slices_S128x8x8x32_S128x8x8x16_0_0_0_0
  have q2 : FVec F S128x8x8x16 .f32 := extractStridedSlice S128x8x8x16 ![0, 0, 0, 16] q slices_S128x8x8x32_S128x8x8x16_0_0_0_16
  have c : FVec F S128x8x8x16 .f32 := broadcastInDim S128x8x8x16 ![0, 1, 2, 3] bcast_S1x8x1x16_S128x8x8x16_0_1_2_3 (broadcastInDim S1x8x1x16 ![1, 2, 3] bcast_S8x1x16_S1x8x1x16_1_2_3 (broadcastInDim S8x1x16 ![0, 2] bcast_S8x16_S8x1x16_0_2 (Host.cos a)))
  have s : FVec F S128x8x8x16 .f32 := broadcastInDim S128x8x8x16 ![0, 1, 2, 3] bcast_S1x8x1x16_S128x8x8x16_0_1_2_3 (broadcastInDim S1x8x1x16 ![1, 2, 3] bcast_S8x1x16_S1x8x1x16_1_2_3 (broadcastInDim S8x1x16 ![0, 2] bcast_S8x16_S8x1x16_0_2 (Host.sin a)))
  concatenate S128x8x8x32 3 [⟨S128x8x8x16, subf (mulf q1 c) (mulf q2 s)⟩, ⟨S128x8x8x16, addf (mulf q2 c) (mulf q1 s)⟩] concatenates_S128x8x8x16_S128x8x8x16_S128x8x8x32_d3
/-- Four heads, rotated. -/
def rR4 (q : FVec F S128x8x4x32 .f32) (a : FVec F S8x16 .f32) : FVec F S128x8x4x32 .f32 :=
  have q1 : FVec F S128x8x4x16 .f32 := extractStridedSlice S128x8x4x16 ![0, 0, 0, 0] q slices_S128x8x4x32_S128x8x4x16_0_0_0_0
  have q2 : FVec F S128x8x4x16 .f32 := extractStridedSlice S128x8x4x16 ![0, 0, 0, 16] q slices_S128x8x4x32_S128x8x4x16_0_0_0_16
  have c : FVec F S128x8x4x16 .f32 := broadcastInDim S128x8x4x16 ![0, 1, 2, 3] bcast_S1x8x1x16_S128x8x4x16_0_1_2_3 (broadcastInDim S1x8x1x16 ![1, 2, 3] bcast_S8x1x16_S1x8x1x16_1_2_3 (broadcastInDim S8x1x16 ![0, 2] bcast_S8x16_S8x1x16_0_2 (Host.cos a)))
  have s : FVec F S128x8x4x16 .f32 := broadcastInDim S128x8x4x16 ![0, 1, 2, 3] bcast_S1x8x1x16_S128x8x4x16_0_1_2_3 (broadcastInDim S1x8x1x16 ![1, 2, 3] bcast_S8x1x16_S1x8x1x16_1_2_3 (broadcastInDim S8x1x16 ![0, 2] bcast_S8x16_S8x1x16_0_2 (Host.sin a)))
  concatenate S128x8x4x32 3 [⟨S128x8x4x16, subf (mulf q1 c) (mulf q2 s)⟩, ⟨S128x8x4x16, addf (mulf q2 c) (mulf q1 s)⟩] concatenates_S128x8x4x16_S128x8x4x16_S128x8x4x32_d3
/-- One head, rotated. -/
def rR1 (q : FVec F S128x8x1x32 .f32) (a : FVec F S8x16 .f32) : FVec F S128x8x1x32 .f32 :=
  have q1 : FVec F S128x8x1x16 .f32 := extractStridedSlice S128x8x1x16 ![0, 0, 0, 0] q slices_S128x8x1x32_S128x8x1x16_0_0_0_0
  have q2 : FVec F S128x8x1x16 .f32 := extractStridedSlice S128x8x1x16 ![0, 0, 0, 16] q slices_S128x8x1x32_S128x8x1x16_0_0_0_16
  have c : FVec F S128x8x1x16 .f32 := broadcastInDim S128x8x1x16 ![0, 1, 2, 3] bcast_S1x8x1x16_S128x8x1x16_0_1_2_3 (broadcastInDim S1x8x1x16 ![1, 2, 3] bcast_S8x1x16_S1x8x1x16_1_2_3 (broadcastInDim S8x1x16 ![0, 2] bcast_S8x16_S8x1x16_0_2 (Host.cos a)))
  have s : FVec F S128x8x1x16 .f32 := broadcastInDim S128x8x1x16 ![0, 1, 2, 3] bcast_S1x8x1x16_S128x8x1x16_0_1_2_3 (broadcastInDim S1x8x1x16 ![1, 2, 3] bcast_S8x1x16_S1x8x1x16_1_2_3 (broadcastInDim S8x1x16 ![0, 2] bcast_S8x16_S8x1x16_0_2 (Host.sin a)))
  concatenate S128x8x1x32 3 [⟨S128x8x1x16, subf (mulf q1 c) (mulf q2 s)⟩, ⟨S128x8x1x16, addf (mulf q2 c) (mulf q1 s)⟩] concatenates_S128x8x1x16_S128x8x1x16_S128x8x1x32_d3
/-- The latent queries' normed rows against their weights. -/
def rQ (p : FVec F S128x8x1444 .f32) (g : FVec F S256 .f32) (wq : FVec F S256x768 .f32) : FVec F S128x8x8x96 .f32 :=
  have v : FVec F S128x8x256 .f32 := extractStridedSlice S128x8x256 ![0, 0, 512] p slices_S128x8x1444_S128x8x256_0_0_512
  shapeCast _ (Host.dotGeneral dot_S128x8x256_S256x768_S128x8x768_2_0_01_1_n_n none
    (mulf (mulf v (broadcastInDim S128x8x256 ![0, 1, 2] bcast_S128x8x1_S128x8x256_0_1_2 (Host.rsqrt (addf (Host.divf (broadcastInDim S128x8x1 ![0, 1] bcast_S128x8_S128x8x1_0_1 (Host.reduceAdd (mulf v v) (constant S_ .f32 0x00000000#32) reducesTo_S128x8x256_S128x8_d2 h_S_)) (broadcastInDim S128x8x1 ![] bcast_S_S128x8x1 (constant S_ .f32 0x43800000#32))) (broadcastInDim S128x8x1 ![] bcast_S_S128x8x1 (constant S_ .f32 0x358637BD#32))))))
      (broadcastInDim S128x8x256 ![0, 1, 2] bcast_S1x1x256_S128x8x256_0_1_2 (broadcastInDim S1x1x256 ![2] bcast_S256_S1x1x256_2 g))) wq) shapeCasts_S128x8x768_S128x8x8x96
/-- The latent rows, normed. -/
def rC (p : FVec F S128x8x1444 .f32) (g : FVec F S128 .f32) : FVec F S128x8x128 .f32 :=
  have v : FVec F S128x8x128 .f32 := extractStridedSlice S128x8x128 ![0, 0, 0] (extractStridedSlice S128x8x160 ![0, 0, 768] p slices_S128x8x1444_S128x8x160_0_0_768) slices_S128x8x160_S128x8x128_0_0_0
  mulf (mulf v (broadcastInDim S128x8x128 ![0, 1, 2] bcast_S128x8x1_S128x8x128_0_1_2 (Host.rsqrt (addf (Host.divf (broadcastInDim S128x8x1 ![0, 1] bcast_S128x8_S128x8x1_0_1 (Host.reduceAdd (mulf v v) (constant S_ .f32 0x00000000#32) reducesTo_S128x8x128_S128x8_d2 h_S_)) (broadcastInDim S128x8x1 ![] bcast_S_S128x8x1 (constant S_ .f32 0x43000000#32))) (broadcastInDim S128x8x1 ![] bcast_S_S128x8x1 (constant S_ .f32 0x358637BD#32))))))
    (broadcastInDim S128x8x128 ![0, 1, 2] bcast_S1x1x128_S128x8x128_0_1_2 (broadcastInDim S1x1x128 ![2] bcast_S128_S1x1x128_2 g))
/-- The gates' arguments. -/
def rU (p : FVec F S128x8x1444 .f32) (b : FVec F S4 .f32) : FVec F S128x8x4 .f32 :=
  addf (extractStridedSlice S128x8x4 ![0, 0, 1440] p slices_S128x8x1444_S128x8x4_0_0_1440) (broadcastInDim S128x8x4 ![0, 1, 2] bcast_S1x1x4_S128x8x4_0_1_2 (broadcastInDim S1x1x4 ![2] bcast_S4_S1x1x4_2 b))
/-- The gates' logs. -/
def rL (u : FVec F S128x8x4 .f32) : FVec F S128x8x4 .f32 :=
  have o : FVec F S128x8x4 .f32 := broadcastInDim S128x8x4 ![] bcast_S_S128x8x4 (constant S_ .f32 0x00000000#32)
  have n : FVec F S128x8x4 .f32 := Host.negf u
  have d : FVec F S128x8x4 .f32 := subf n o
  Host.negf (select (cmpf .une d d) (addf n o) (addf (maximumf n o) (Host.log1p (Host.exp (Host.negf (Host.absf d))))))
/-- Their running sums. -/
def rS (l : FVec F S128x8x4 .f32) : FVec F S128x8x4 .f32 :=
  Host.reduceWindowAdd ![1, 8, 1] ![1, 1, 1] ![0, 7, 0] ![0, 0, 0] l (broadcastInDim S_ ![] bcast_S_S_ (constant S_ .f32 0x00000000#32)) reduceWindows_S128x8x4_S128x8x4_w1s1p0_0_w8s1p7_0_w1s1p0_0 h_S_
/-- Four columns and zeros beside them. -/
def rW (l : FVec F S128x8x4 .f32) : FVec F S1024x128 .f32 :=
  pad S1024x128 ![0, 0] ![0, 124] ![0, 0] (shapeCast _ l shapeCasts_S128x8x4_S1024x4 : FVec F S1024x4 .f32) (sitofp .f32 (constantI S_ 32 0#32)) pads_S1024x4_S1024x128_000_01240 h_S_

/-- The results. -/
def rZ0 (x : FVec F S1024x1024 .f32) (w : FVec F S1024x1444 .f32) : FVec F S1024x256 .bf16 :=
  truncf .bf16 (shapeCast _ (mulf (rR8 (shapeCast _ (extractStridedSlice S128x8x256 ![0, 0, 0] (rP x w) slices_S128x8x1444_S128x8x256_0_0_0) shapeCasts_S128x8x256_S128x8x8x32) rA) (broadcastInDim S128x8x8x32 ![] bcast_S_S128x8x8x32 (constant S_ .f32 0x3E8293EE#32))) shapeCasts_S128x8x8x32_S1024x256) bitsLt_bf16_f32
def rZ1 (x : FVec F S1024x1024 .f32) (w : FVec F S1024x1444 .f32) (g : FVec F S256 .f32) (wq : FVec F S256x768 .f32) (wk : FVec F S128x512 .f32) : FVec F S1024x1024 .bf16 :=
  truncf .bf16 (shapeCast _ (mulf (transpose S128x8x8x128 [2, 3, 0, 1] (Host.dotGeneral dot_S128x8x64_S128x8x8x64_S8x128x128x8_2_3_0_01_1_2 none (shapeCast _ wk shapeCasts_S128x512_S128x8x64 : FVec F S128x8x64 .f32) (extractStridedSlice S128x8x8x64 ![0, 0, 0, 0] (rQ (rP x w) g wq) slices_S128x8x8x96_S128x8x8x64_0_0_0_0)) transposes_S8x128x128x8_S128x8x8x128_2_3_0_1) (broadcastInDim S128x8x8x128 ![] bcast_S_S128x8x8x128 (constant S_ .f32 0x3E16C740#32))) shapeCasts_S128x8x8x128_S1024x1024) bitsLt_bf16_f32
def rZ2 (x : FVec F S1024x1024 .f32) (w : FVec F S1024x1444 .f32) (g : FVec F S256 .f32) (wq : FVec F S256x768 .f32) : FVec F S1024x256 .bf16 :=
  truncf .bf16 (shapeCast _ (mulf (rR8 (extractStridedSlice S128x8x8x32 ![0, 0, 0, 64] (rQ (rP x w) g wq) slices_S128x8x8x96_S128x8x8x32_0_0_0_64) rA) (broadcastInDim S128x8x8x32 ![] bcast_S_S128x8x8x32 (constant S_ .f32 0x3E16C740#32))) shapeCasts_S128x8x8x32_S1024x256) bitsLt_bf16_f32
def rZ3 (x : FVec F S1024x1024 .f32) (w : FVec F S1024x1444 .f32) : FVec F S1024x256 .bf16 :=
  truncf .bf16 (shapeCast _ (mulf (extractStridedSlice S128x8x256 ![0, 0, 928] (rP x w) slices_S128x8x1444_S128x8x256_0_0_928) (broadcastInDim S128x8x256 ![] bcast_S_S128x8x256 (constant S_ .f32 0x3E38AA3B#32))) shapeCasts_S128x8x256_S1024x256) bitsLt_bf16_f32
def rZ4 (x : FVec F S1024x1024 .f32) (w : FVec F S1024x1444 .f32) : FVec F S1024x128 .f32 :=
  shapeCast _ (rR4 (shapeCast _ (extractStridedSlice S128x8x128 ![0, 0, 256] (rP x w) slices_S128x8x1444_S128x8x128_0_0_256) shapeCasts_S128x8x128_S128x8x4x32) rA) shapeCasts_S128x8x4x32_S1024x128
def rZ5 (x : FVec F S1024x1024 .f32) (w : FVec F S1024x1444 .f32) : FVec F S1024x128 .f32 :=
  shapeCast _ (extractStridedSlice S128x8x128 ![0, 0, 384] (rP x w) slices_S128x8x1444_S128x8x128_0_0_384) shapeCasts_S128x8x128_S1024x128
def rZ6 (x : FVec F S1024x1024 .f32) (w : FVec F S1024x1444 .f32) (g : FVec F S128 .f32) : FVec F S1024x128 .f32 :=
  shapeCast _ (rC (rP x w) g) shapeCasts_S128x8x128_S1024x128
def rZ7 (x : FVec F S1024x1024 .f32) (w : FVec F S1024x1444 .f32) : FVec F S1024x128 .f32 :=
  pad S1024x128 ![0, 0] ![0, 96] ![0, 0] (shapeCast _ (shapeCast _ (rR1 (broadcastInDim S128x8x1x32 ![0, 1, 3] bcast_S128x8x32_S128x8x1x32_0_1_3 (extractStridedSlice S128x8x32 ![0, 0, 128] (extractStridedSlice S128x8x160 ![0, 0, 768] (rP x w) slices_S128x8x1444_S128x8x160_0_0_768) slices_S128x8x160_S128x8x32_0_0_128)) rA) shapeCasts_S128x8x1x32_S128x8x32 : FVec F S128x8x32 .f32) shapeCasts_S128x8x32_S1024x32 : FVec F S1024x32 .f32) (sitofp .f32 (constantI S_ 32 0#32)) pads_S1024x32_S1024x128_000_0960 h_S_
def rZ8 (x : FVec F S1024x1024 .f32) (w : FVec F S1024x1444 .f32) : FVec F S1024x128 .f32 :=
  shapeCast _ (extractStridedSlice S128x8x128 ![0, 0, 1184] (rP x w) slices_S128x8x1444_S128x8x128_0_0_1184) shapeCasts_S128x8x128_S1024x128
def rZ9 (x : FVec F S1024x1024 .f32) (w : FVec F S1024x1444 .f32) : FVec F S1024x128 .f32 :=
  shapeCast _ (extractStridedSlice S128x8x128 ![0, 0, 1312] (rP x w) slices_S128x8x1444_S128x8x128_0_0_1312) shapeCasts_S128x8x128_S1024x128
def rZ10 (x : FVec F S1024x1024 .f32) (w : FVec F S1024x1444 .f32) (b : FVec F S4 .f32) : FVec F S1024x128 .f32 := rW (rL (rU (rP x w) b))
def rZ11 (x : FVec F S1024x1024 .f32) (w : FVec F S1024x1444 .f32) (b : FVec F S4 .f32) : FVec F S1024x128 .f32 := rW (rS (rL (rU (rP x w) b)))

/-- The reference leaves the twelve results. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v193) = rZ0 (m (c, Proc.tc.devRef main_arg0)) (m (c, Proc.tc.devRef main_arg1))
      ∧ r.2.mem ((c.tc : Thread nD τ).loc main_v197) = rZ1 (m (c, Proc.tc.devRef main_arg0)) (m (c, Proc.tc.devRef main_arg1)) (m (c, Proc.tc.devRef main_arg3)) (m (c, Proc.tc.devRef main_arg4)) (m (c, Proc.tc.devRef main_arg6))
      ∧ r.2.mem ((c.tc : Thread nD τ).loc main_v201) = rZ2 (m (c, Proc.tc.devRef main_arg0)) (m (c, Proc.tc.devRef main_arg1)) (m (c, Proc.tc.devRef main_arg3)) (m (c, Proc.tc.devRef main_arg4))
      ∧ r.2.mem ((c.tc : Thread nD τ).loc main_v205) = rZ3 (m (c, Proc.tc.devRef main_arg0)) (m (c, Proc.tc.devRef main_arg1))
      ∧ r.2.mem ((c.tc : Thread nD τ).loc main_v206) = rZ4 (m (c, Proc.tc.devRef main_arg0)) (m (c, Proc.tc.devRef main_arg1))
      ∧ r.2.mem ((c.tc : Thread nD τ).loc main_v207) = rZ5 (m (c, Proc.tc.devRef main_arg0)) (m (c, Proc.tc.devRef main_arg1))
      ∧ r.2.mem ((c.tc : Thread nD τ).loc main_v208) = rZ6 (m (c, Proc.tc.devRef main_arg0)) (m (c, Proc.tc.devRef main_arg1)) (m (c, Proc.tc.devRef main_arg5))
      ∧ r.2.mem ((c.tc : Thread nD τ).loc main_v210) = rZ7 (m (c, Proc.tc.devRef main_arg0)) (m (c, Proc.tc.devRef main_arg1))
      ∧ r.2.mem ((c.tc : Thread nD τ).loc main_v211) = rZ8 (m (c, Proc.tc.devRef main_arg0)) (m (c, Proc.tc.devRef main_arg1))
      ∧ r.2.mem ((c.tc : Thread nD τ).loc main_v212) = rZ9 (m (c, Proc.tc.devRef main_arg0)) (m (c, Proc.tc.devRef main_arg1))
      ∧ r.2.mem ((c.tc : Thread nD τ).loc main_v214) = rZ10 (m (c, Proc.tc.devRef main_arg0)) (m (c, Proc.tc.devRef main_arg1)) (m (c, Proc.tc.devRef main_arg2))
      ∧ r.2.mem ((c.tc : Thread nD τ).loc main_v216) = rZ11 (m (c, Proc.tc.devRef main_arg0)) (m (c, Proc.tc.devRef main_arg1)) (m (c, Proc.tc.devRef main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨h0, h1, h2, h3, h4, h5, h6, h7, h8, h9, h10, h11, kept⟩ := h c
    exact ⟨h0.trans rfl, h1.trans rfl, h2.trans rfl, h3.trans rfl, h4.trans rfl, h5.trans rfl, h6.trans rfl, h7.trans rfl, h8.trans rfl, h9.trans rfl, h10.trans rfl, h11.trans rfl, kept⟩) (Value.run m ρ)
end Vectors
end Cert.Reference6Ideal.In
-- ==== Proof.InRefAt.lean ====
/- The input projections' reference at an index: each of the twelve results. -/
module
public import proofs.«01_k».proof.Proof.InRef
public import Idealize.ShloMosaic.Lib.KernelVsHost
@[expose] public section
set_option maxRecDepth 16384
noncomputable section
namespace Cert.Reference6Ideal.In
open Cert.Reference6Ideal Cert.Reference6Ideal.Gen Idealize.ShloMosaic Idealize.ShloMosaic.TcCoe Idealize.SL.Sem
open Cert.InMath (rot sw pr qq lsg)
open Cert.MixMath (nrm)

/-- A row of the input and the projection, as functions. -/
abbrev row (x : FVec Ideal S1024x1024 .f32) (R : Fin 1024) (e : Fin 1024) : EReal := x (ix2 R e)
abbrev col (w : FVec Ideal S1024x1444 .f32) (e : Fin 1024) (k : Fin 1444) : EReal := w (ix2 e k)
/-- A row's cosine and sine for a column of a rotated group. -/
abbrev cs (R : Fin 1024) (j : ℕ) : EReal := Ideal.cos (rA (F := Ideal) (ix2 ⟨R.val % 8, by omega⟩ ⟨j % 16, by omega⟩))
abbrev sn (R : Fin 1024) (j : ℕ) : EReal := Ideal.sin (rA (F := Ideal) (ix2 ⟨R.val % 8, by omega⟩ ⟨j % 16, by omega⟩))

theorem rP_apply (x : FVec Ideal S1024x1024 .f32) (w : FVec Ideal S1024x1444 .f32) (b : Fin 128) (t : Fin 8) (k : Fin 1444) :
    rP x w (ix3 b t k) = pr (row x ⟨b.val * 8 + t.val, by omega⟩) (col w) k := by
  pointwise [rP, pr]
theorem R_eq (R : Fin 1024) (h : R.val / 8 * 8 + R.val % 8 < 1024) : (⟨R.val / 8 * 8 + R.val % 8, h⟩ : Fin 1024) = R := Fin.ext (by show R.val / 8 * 8 + R.val % 8 = R.val; omega)
theorem rR8_apply (q : FVec Ideal S128x8x8x32 .f32) (a : FVec Ideal S8x16 .f32) (b : Fin 128) (t h : Fin 8) (k : Fin 32) :
    rR8 q a (ix4 b t h k) = rot (q (ix4 b t h k)) (q (ix4 b t h ⟨(k.val + 16) % 32, by omega⟩)) (Ideal.cos (a (ix2 t ⟨k.val % 16, by omega⟩))) (Ideal.sin (a (ix2 t ⟨k.val % 16, by omega⟩))) k.val := by
  pointwise [rR8]
  by_cases hk : k.val < 16
  · have e1 : (⟨k.val, hk⟩ : Fin 16) = ⟨k.val % 16, by omega⟩ := Fin.ext (by show k.val = k.val % 16; omega)
    have e2 : (⟨16 + k.val, by omega⟩ : Fin 32) = ⟨(k.val + 16) % 32, by omega⟩ := Fin.ext (by show 16 + k.val = (k.val + 16) % 32; omega)
    refine (dif_pos hk).trans (Eq.trans ?_ (if_pos hk).symm)
    exact congrArg₂ (fun (i : Fin 16) (l : Fin 32) => q (ix4 b t h k) * Ideal.cos (a (ix2 t i)) - q (ix4 b t h l) * Ideal.sin (a (ix2 t i))) e1 e2
  · have e1 : (⟨k.val - 16, by omega⟩ : Fin 16) = ⟨k.val % 16, by omega⟩ := Fin.ext (by show k.val - 16 = k.val % 16; omega)
    have e2 : (⟨k.val - 16, by omega⟩ : Fin 32) = ⟨(k.val + 16) % 32, by omega⟩ := Fin.ext (by show k.val - 16 = (k.val + 16) % 32; omega)
    have e3 : (⟨16 + (k.val - 16), by omega⟩ : Fin 32) = k := Fin.ext (by show 16 + (k.val - 16) = k.val; omega)
    refine (dif_neg hk).trans (Eq.trans ?_ (if_neg hk).symm)
    refine Eq.trans (congrArg (fun l : Fin 32 => q (ix4 b t h l) * Ideal.cos (a (ix2 t ⟨k.val - 16, by omega⟩)) + q (ix4 b t h ⟨k.val - 16, by omega⟩) * Ideal.sin (a (ix2 t ⟨k.val - 16, by omega⟩))) e3) ?_
    exact congrArg₂ (fun (i : Fin 16) (l : Fin 32) => q (ix4 b t h k) * Ideal.cos (a (ix2 t i)) + q (ix4 b t h l) * Ideal.sin (a (ix2 t i))) e1 e2
theorem rR4_apply (q : FVec Ideal S128x8x4x32 .f32) (a : FVec Ideal S8x16 .f32) (b : Fin 128) (t : Fin 8) (h : Fin 4) (k : Fin 32) :
    rR4 q a (ix4 b t h k) = rot (q (ix4 b t h k)) (q (ix4 b t h ⟨(k.val + 16) % 32, by omega⟩)) (Ideal.cos (a (ix2 t ⟨k.val % 16, by omega⟩))) (Ideal.sin (a (ix2 t ⟨k.val % 16, by omega⟩))) k.val := by
  pointwise [rR4]
  by_cases hk : k.val < 16
  · have e1 : (⟨k.val, hk⟩ : Fin 16) = ⟨k.val % 16, by omega⟩ := Fin.ext (by show k.val = k.val % 16; omega)
    have e2 : (⟨16 + k.val, by omega⟩ : Fin 32) = ⟨(k.val + 16) % 32, by omega⟩ := Fin.ext (by show 16 + k.val = (k.val + 16) % 32; omega)
    refine (dif_pos hk).trans (Eq.trans ?_ (if_pos hk).symm)
    exact congrArg₂ (fun (i : Fin 16) (l : Fin 32) => q (ix4 b t h k) * Ideal.cos (a (ix2 t i)) - q (ix4 b t h l) * Ideal.sin (a (ix2 t i))) e1 e2
  · have e1 : (⟨k.val - 16, by omega⟩ : Fin 16) = ⟨k.val % 16, by omega⟩ := Fin.ext (by show k.val - 16 = k.val % 16; omega)
    have e2 : (⟨k.val - 16, by omega⟩ : Fin 32) = ⟨(k.val + 16) % 32, by omega⟩ := Fin.ext (by show k.val - 16 = (k.val + 16) % 32; omega)
    have e3 : (⟨16 + (k.val - 16), by omega⟩ : Fin 32) = k := Fin.ext (by show 16 + (k.val - 16) = k.val; omega)
    refine (dif_neg hk).trans (Eq.trans ?_ (if_neg hk).symm)
    refine Eq.trans (congrArg (fun l : Fin 32 => q (ix4 b t h l) * Ideal.cos (a (ix2 t ⟨k.val - 16, by omega⟩)) + q (ix4 b t h ⟨k.val - 16, by omega⟩) * Ideal.sin (a (ix2 t ⟨k.val - 16, by omega⟩))) e3) ?_
    exact congrArg₂ (fun (i : Fin 16) (l : Fin 32) => q (ix4 b t h k) * Ideal.cos (a (ix2 t i)) + q (ix4 b t h l) * Ideal.sin (a (ix2 t i))) e1 e2
theorem rR1_apply (q : FVec Ideal S128x8x1x32 .f32) (a : FVec Ideal S8x16 .f32) (b : Fin 128) (t : Fin 8) (k : Fin 32) :
    rR1 q a (ix4 b t 0 k) = rot (q (ix4 b t 0 k)) (q (ix4 b t 0 ⟨(k.val + 16) % 32, by omega⟩)) (Ideal.cos (a (ix2 t ⟨k.val % 16, by omega⟩))) (Ideal.sin (a (ix2 t ⟨k.val % 16, by omega⟩))) k.val := by
  pointwise [rR1]
  by_cases hk : k.val < 16
  · have e1 : (⟨k.val, hk⟩ : Fin 16) = ⟨k.val % 16, by omega⟩ := Fin.ext (by show k.val = k.val % 16; omega)
    have e2 : (⟨16 + k.val, by omega⟩ : Fin 32) = ⟨(k.val + 16) % 32, by omega⟩ := Fin.ext (by show 16 + k.val = (k.val + 16) % 32; omega)
    refine (dif_pos hk).trans (Eq.trans ?_ (if_pos hk).symm)
    exact congrArg₂ (fun (i : Fin 16) (l : Fin 32) => q (ix4 b t 0 k) * Ideal.cos (a (ix2 t i)) - q (ix4 b t 0 l) * Ideal.sin (a (ix2 t i))) e1 e2
  · have e1 : (⟨k.val - 16, by omega⟩ : Fin 16) = ⟨k.val % 16, by omega⟩ := Fin.ext (by show k.val - 16 = k.val % 16; omega)
    have e2 : (⟨k.val - 16, by omega⟩ : Fin 32) = ⟨(k.val + 16) % 32, by omega⟩ := Fin.ext (by show k.val - 16 = (k.val + 16) % 32; omega)
    have e3 : (⟨16 + (k.val - 16), by omega⟩ : Fin 32) = k := Fin.ext (by show 16 + (k.val - 16) = k.val; omega)
    refine (dif_neg hk).trans (Eq.trans ?_ (if_neg hk).symm)
    refine Eq.trans (congrArg (fun l : Fin 32 => q (ix4 b t 0 l) * Ideal.cos (a (ix2 t ⟨k.val - 16, by omega⟩)) + q (ix4 b t 0 ⟨k.val - 16, by omega⟩) * Ideal.sin (a (ix2 t ⟨k.val - 16, by omega⟩))) e3) ?_
    exact congrArg₂ (fun (i : Fin 16) (l : Fin 32) => q (ix4 b t 0 k) * Ideal.cos (a (ix2 t i)) + q (ix4 b t 0 l) * Ideal.sin (a (ix2 t i))) e1 e2
theorem rQ_apply (p : FVec Ideal S128x8x1444 .f32) (g : FVec Ideal S256 .f32) (wq : FVec Ideal S256x768 .f32) (b : Fin 128) (t h : Fin 8) (k : Fin 96) :
    rQ p g wq (ix4 b t h k) = qq (fun i => p (ix3 b t ⟨512 + i.val, by omega⟩)) (fun i => g (ix1 i)) (fun i k => wq (ix2 i k)) ⟨h.val * 96 + k.val, by omega⟩ := by
  pointwise [rQ, qq, nrm]
theorem rL_apply (u : FVec Ideal S128x8x4 .f32) (b : Fin 128) (t : Fin 8) (k : Fin 4) : rL u (ix3 b t k) = lsg (u (ix3 b t k)) := by
  pointwise [rL]
  rw [if_neg (fun h => h rfl)]
  exact InMath.lsg_eq _

theorem foldl_add {α : Type} (f : α → EReal) (l : List α) : ∀ v : EReal, l.foldl (fun r n => r + f n) v = v + (l.map f).sum := by
  induction l with
  | nil => intro v; simp
  | cons a l ih => intro v; rw [List.foldl_cons, ih, List.map_cons, List.sum_cons, add_assoc]
/-- A chunk's running sum. -/
theorem rS_apply (u : FVec Ideal S128x8x4 .f32) (b : Fin 128) (t : Fin 8) (k : Fin 4) : rS u (ix3 b t k) = ∑ i : Fin 8, if i ≤ t then u (ix3 b i k) else 0 := by
  have key : ∀ n : Fin (⟨3, ![1, 8, 1]⟩ : Shape).numel, ((⟨3, ![1, 8, 1]⟩ : Shape).rowMajor.symm n 1).val = n.val := by decide
  have k0 : ∀ n : Fin (⟨3, ![1, 8, 1]⟩ : Shape).numel, ((⟨3, ![1, 8, 1]⟩ : Shape).rowMajor.symm n 0).val = 0 := by decide
  have k2 : ∀ n : Fin (⟨3, ![1, 8, 1]⟩ : Shape).numel, ((⟨3, ![1, 8, 1]⟩ : Shape).rowMajor.symm n 2).val = 0 := by decide
  have hv : (broadcastInDim S_ ![] bcast_S_S_ (constant (F := Ideal) S_ .f32 0x00000000#32)) (Shape.Idx.first h_S_) = (0 : EReal) := by
    show Ideal.ofBits FTy.f32 0x00000000#32 = 0
    simp [Ideal.ofBits, Ideal.ieee]
  unfold rS Host.reduceWindowAdd
  rw [Ideal.hostReduceWindowAdd_def]
  unfold Ideal.hostReduceWindowAdd Host.reduceWindow
  rw [hv]
  refine (foldl_add _ _ _).trans ?_
  rw [zero_add, ← Fin.sum_univ_def]
  have hN : (⟨3, ![1, 8, 1]⟩ : Shape).numel = 8 := by decide
  refine (Fintype.sum_equiv (finCongr hN) _ (fun n : Fin 8 => if h : 7 ≤ t.val + n.val then u (ix3 b ⟨t.val + n.val - 7, by omega⟩ k) else 0) fun n => ?_).trans ?_
  · show _ = if h : 7 ≤ t.val + n.val then u (ix3 b ⟨t.val + n.val - 7, by have := (finCongr hN n).isLt; have e : (finCongr hN n).val = n.val := rfl; omega⟩ k) else 0
    have hn : n.val < 8 := (finCongr hN n).isLt
    have a0 := k0 n
    have a1 := key n
    have a2 := k2 n
    by_cases h : 7 ≤ t.val + n.val
    · rw [dif_pos h, dif_pos]
      · refine congrArg u (funext fun a => Fin.ext ?_)
        match a with
        | ⟨0, _⟩ =>
          show b.val * 1 + ((⟨3, ![1, 8, 1]⟩ : Shape).rowMajor.symm n 0).val - 0 = b.val
          omega
        | ⟨1, _⟩ =>
          show t.val * 1 + ((⟨3, ![1, 8, 1]⟩ : Shape).rowMajor.symm n 1).val - 7 = t.val + n.val - 7
          omega
        | ⟨2, _⟩ =>
          show k.val * 1 + ((⟨3, ![1, 8, 1]⟩ : Shape).rowMajor.symm n 2).val - 0 = k.val
          omega
      · intro a
        match a with
        | ⟨0, _⟩ =>
          show 0 ≤ b.val * 1 + ((⟨3, ![1, 8, 1]⟩ : Shape).rowMajor.symm n 0).val ∧ b.val * 1 + ((⟨3, ![1, 8, 1]⟩ : Shape).rowMajor.symm n 0).val - 0 < 128
          omega
        | ⟨1, _⟩ =>
          show 7 ≤ t.val * 1 + ((⟨3, ![1, 8, 1]⟩ : Shape).rowMajor.symm n 1).val ∧ t.val * 1 + ((⟨3, ![1, 8, 1]⟩ : Shape).rowMajor.symm n 1).val - 7 < 8
          omega
        | ⟨2, _⟩ =>
          show 0 ≤ k.val * 1 + ((⟨3, ![1, 8, 1]⟩ : Shape).rowMajor.symm n 2).val ∧ k.val * 1 + ((⟨3, ![1, 8, 1]⟩ : Shape).rowMajor.symm n 2).val - 0 < 4
          omega
    · rw [dif_neg h, dif_neg]
      intro q
      have q1 := (q 1).1
      change 7 ≤ t.val * 1 + ((⟨3, ![1, 8, 1]⟩ : Shape).rowMajor.symm n 1).val at q1
      omega
  · fin_cases t <;> simp [Fin.sum_univ_eight]

theorem rZ0_apply (x : FVec Ideal S1024x1024 .f32) (w : FVec Ideal S1024x1444 .f32) (R : Fin 1024) (j : Fin 256) :
    rZ0 x w (ix2 R j) = rot (pr (row x R) (col w) ⟨j.val, by omega⟩) (pr (row x R) (col w) ⟨sw j.val, by unfold sw; omega⟩) (cs R (j.val % 32)) (sn R (j.val % 32)) (j.val % 32) * Ideal.ofBits FTy.f32 0x3E8293EE#32 := by
  pointwise [rZ0, rR8_apply, rP_apply]
  rw [R_eq]
  rfl
theorem rZ1_apply (x : FVec Ideal S1024x1024 .f32) (w : FVec Ideal S1024x1444 .f32) (g : FVec Ideal S256 .f32) (wq : FVec Ideal S256x768 .f32) (wk : FVec Ideal S128x512 .f32) (R : Fin 1024) (j : Fin 1024) :
    rZ1 x w g wq wk (ix2 R j) = (∑ d : Fin 64, wk (ix2 ⟨j.val % 128, by omega⟩ ⟨j.val / 128 * 64 + d.val, by omega⟩)
      * qq (fun i => pr (row x R) (col w) ⟨512 + i.val, by omega⟩) (fun i => g (ix1 i)) (fun i k => wq (ix2 i k)) ⟨j.val / 128 * 96 + d.val, by omega⟩) * Ideal.ofBits FTy.f32 0x3E16C740#32 := by
  pointwise [rZ1, rQ_apply, rP_apply]
  simp only [R_eq]
theorem rZ2_apply (x : FVec Ideal S1024x1024 .f32) (w : FVec Ideal S1024x1444 .f32) (g : FVec Ideal S256 .f32) (wq : FVec Ideal S256x768 .f32) (R : Fin 1024) (j : Fin 256) :
    rZ2 x w g wq (ix2 R j) = rot (qq (fun i => pr (row x R) (col w) ⟨512 + i.val, by omega⟩) (fun i => g (ix1 i)) (fun i k => wq (ix2 i k)) ⟨j.val / 32 * 96 + (64 + j.val % 32), by omega⟩)
      (qq (fun i => pr (row x R) (col w) ⟨512 + i.val, by omega⟩) (fun i => g (ix1 i)) (fun i k => wq (ix2 i k)) ⟨j.val / 32 * 96 + (64 + (j.val % 32 + 16) % 32), by omega⟩)
      (cs R (j.val % 32)) (sn R (j.val % 32)) (j.val % 32) * Ideal.ofBits FTy.f32 0x3E16C740#32 := by
  pointwise [rZ2, rR8_apply, rQ_apply, rP_apply]
  simp only [R_eq]
theorem rZ3_apply (x : FVec Ideal S1024x1024 .f32) (w : FVec Ideal S1024x1444 .f32) (R : Fin 1024) (j : Fin 256) :
    rZ3 x w (ix2 R j) = pr (row x R) (col w) ⟨928 + j.val, by omega⟩ * Ideal.ofBits FTy.f32 0x3E38AA3B#32 := by
  pointwise [rZ3, rP_apply]
  rw [R_eq]
theorem rZ4_apply (x : FVec Ideal S1024x1024 .f32) (w : FVec Ideal S1024x1444 .f32) (R : Fin 1024) (j : Fin 128) :
    rZ4 x w (ix2 R j) = rot (pr (row x R) (col w) ⟨256 + j.val, by omega⟩) (pr (row x R) (col w) ⟨256 + sw j.val, by unfold sw; omega⟩) (cs R (j.val % 32)) (sn R (j.val % 32)) (j.val % 32) := by
  pointwise [rZ4, rR4_apply, rP_apply]
  rw [R_eq]
  rfl
theorem rZ5_apply (x : FVec Ideal S1024x1024 .f32) (w : FVec Ideal S1024x1444 .f32) (R : Fin 1024) (j : Fin 128) :
    rZ5 x w (ix2 R j) = pr (row x R) (col w) ⟨384 + j.val, by omega⟩ := by
  pointwise [rZ5, rP_apply]
  rw [R_eq]
theorem rZ6_apply (x : FVec Ideal S1024x1024 .f32) (w : FVec Ideal S1024x1444 .f32) (g : FVec Ideal S128 .f32) (R : Fin 1024) (j : Fin 128) :
    rZ6 x w g (ix2 R j) = nrm (Ideal.ofBits FTy.f32 0x43000000#32) (fun i : Fin 128 => pr (row x R) (col w) ⟨768 + i.val, by omega⟩) j * g (ix1 j) := by
  pointwise [rZ6, rC, rP_apply]
  simp only [R_eq]
  simp only [nrm]
theorem rZ7_apply (x : FVec Ideal S1024x1024 .f32) (w : FVec Ideal S1024x1444 .f32) (R : Fin 1024) (j : Fin 128) :
    rZ7 x w (ix2 R j) = if h : j.val < 32 then rot (pr (row x R) (col w) ⟨896 + j.val, by omega⟩) (pr (row x R) (col w) ⟨896 + sw j.val, by unfold sw; omega⟩) (cs R j.val) (sn R j.val) j.val else 0 := by
  pointwise [rZ7, rR1_apply, rP_apply]
  simp only [R_eq]
  by_cases h : j.val < 32
  · have e1 : (⟨768 + (128 + j.val), by omega⟩ : Fin 1444) = ⟨896 + j.val, by omega⟩ := Fin.ext (by show 768 + (128 + j.val) = 896 + j.val; omega)
    have e2 : (⟨768 + (128 + (j.val + 16) % 32), by omega⟩ : Fin 1444) = ⟨896 + sw j.val, by unfold sw; omega⟩ := Fin.ext (by show 768 + (128 + (j.val + 16) % 32) = 896 + sw j.val; unfold sw; omega)
    refine (dif_pos h).trans (Eq.trans ?_ (dif_pos h).symm)
    exact congrArg₂ (fun a b => rot (pr (row x R) (col w) a) (pr (row x R) (col w) b) (cs R j.val) (sn R j.val) j.val) e1 e2
  · refine (dif_neg h).trans (Eq.trans ?_ (dif_neg h).symm)
    exact sitofp_zero
theorem rZ8_apply (x : FVec Ideal S1024x1024 .f32) (w : FVec Ideal S1024x1444 .f32) (R : Fin 1024) (j : Fin 128) :
    rZ8 x w (ix2 R j) = pr (row x R) (col w) ⟨1184 + j.val, by omega⟩ := by
  pointwise [rZ8, rP_apply]
  rw [R_eq]
theorem rZ9_apply (x : FVec Ideal S1024x1024 .f32) (w : FVec Ideal S1024x1444 .f32) (R : Fin 1024) (j : Fin 128) :
    rZ9 x w (ix2 R j) = pr (row x R) (col w) ⟨1312 + j.val, by omega⟩ := by
  pointwise [rZ9, rP_apply]
  rw [R_eq]
theorem rZ10_apply (x : FVec Ideal S1024x1024 .f32) (w : FVec Ideal S1024x1444 .f32) (b : FVec Ideal S4 .f32) (R : Fin 1024) (j : Fin 128) :
    rZ10 x w b (ix2 R j) = if h : j.val < 4 then lsg (pr (row x R) (col w) ⟨1440 + j.val, by omega⟩ + b (ix1 ⟨j.val, h⟩)) else 0 := by
  pointwise [rZ10, rW, rL_apply, rU, rP_apply]
  simp only [R_eq]
  by_cases h : j.val < 4
  · rw [dif_pos h, dif_pos h]
  · rw [dif_neg h, dif_neg h]
    exact sitofp_zero
theorem rZ11_apply (x : FVec Ideal S1024x1024 .f32) (w : FVec Ideal S1024x1444 .f32) (b : FVec Ideal S4 .f32) (R : Fin 1024) (j : Fin 128) :
    rZ11 x w b (ix2 R j) = if h : j.val < 4 then ∑ i : Fin 8, (if i ≤ (⟨R.val % 8, by omega⟩ : Fin 8) then lsg (pr (row x ⟨R.val / 8 * 8 + i.val, by omega⟩) (col w) ⟨1440 + j.val, by omega⟩ + b (ix1 ⟨j.val, h⟩)) else 0) else 0 := by
  pointwise [rZ11, rW, rS_apply, rL_apply, rU, rP_apply]
  by_cases h : j.val < 4
  · rw [dif_pos h, dif_pos h]
  · rw [dif_neg h, dif_neg h]
    exact sitofp_zero
end Cert.Reference6Ideal.In
-- ==== Proof.InEq.lean ====
/- The input projections' tile against the reference's rows: each of the twelve outputs, element by element. -/
module
public import proofs.«01_k».proof.Proof.InTile
public import proofs.«01_k».proof.Proof.InHostAt
public import proofs.«01_k».proof.Proof.InRefAt
@[expose] public section
set_option maxRecDepth 16384
noncomputable section
namespace Cert.Kernel6Ideal.In
open Cert.Kernel6Ideal Cert.Kernel6Ideal.Gen Idealize.ShloMosaic Idealize.ShloMosaic.TcCoe Idealize.SL.Sem
open Cert.InMath (rot sw pr qq lsg)
open Cert.MixMath (nrm)
open Cert.Reference6Ideal.In (row col cs sn rZ0_apply rZ1_apply rZ2_apply rZ3_apply rZ4_apply rZ5_apply rZ6_apply rZ7_apply rZ8_apply rZ9_apply rZ10_apply rZ11_apply
  rZ0 rZ1 rZ2 rZ3 rZ4 rZ5 rZ6 rZ7 rZ8 rZ9 rZ10 rZ11)

theorem hA_eq : (hA : FVec Ideal S8x16 .f32) = Reference6Ideal.In.rA := rfl

section Rows
variable {x0 : Vec Ideal S512x1024 .f32} {x : FVec Ideal S1024x1024 .f32} {r : Fin 512} {R : Fin 1024} (h0 : ∀ e, x0 (ix2 r e) = x (ix2 R e))
include h0
/-- A tile's row against a column as the host lays it is the row against the column it was. -/
theorem tP_eq (w : FVec Ideal S1024x1444 .f32) (k : Fin 2176) (l : Fin 1444) (h : ∀ e, hW w (ix2 e k) = w (ix2 e l)) : tP x0 (hW w) r k = pr (row x R) (col w) l :=
  Finset.sum_congr rfl fun e _ => congrArg₂ (fun a b : EReal => a * b) (h0 e) (h e)
theorem tP_0 (w : FVec Ideal S1024x1444 .f32) (j : Fin 256) : tP x0 (hW w) r ⟨j.val, by omega⟩ = pr (row x R) (col w) ⟨j.val, by omega⟩ :=
  tP_eq h0 w _ _ fun e => hW_0 w e j
theorem tP_512 (w : FVec Ideal S1024x1444 .f32) (j : Fin 128) : tP x0 (hW w) r ⟨512 + j.val, by omega⟩ = pr (row x R) (col w) ⟨256 + j.val, by omega⟩ :=
  tP_eq h0 w _ _ fun e => hW_512 w e j
theorem tP_640 (w : FVec Ideal S1024x1444 .f32) (j : Fin 128) : tP x0 (hW w) r ⟨640 + j.val, by omega⟩ = pr (row x R) (col w) ⟨256 + sw j.val, by unfold sw; omega⟩ :=
  tP_eq h0 w _ _ fun e => hW_640 w e j
theorem tP_256 (w : FVec Ideal S1024x1444 .f32) (j : Fin 256) : tP x0 (hW w) r ⟨256 + j.val, by omega⟩ = pr (row x R) (col w) ⟨sw j.val, by unfold sw; omega⟩ :=
  tP_eq h0 w _ _ fun e => hW_256 w e j
theorem tP_768 (w : FVec Ideal S1024x1444 .f32) (j : Fin 128) : tP x0 (hW w) r ⟨768 + j.val, by omega⟩ = pr (row x R) (col w) ⟨384 + j.val, by omega⟩ :=
  tP_eq h0 w _ _ fun e => hW_768 w e j
theorem tP_896 (w : FVec Ideal S1024x1444 .f32) (j : Fin 256) : tP x0 (hW w) r ⟨896 + j.val, by omega⟩ = pr (row x R) (col w) ⟨512 + j.val, by omega⟩ :=
  tP_eq h0 w _ _ fun e => hW_896 w e j
theorem tP_1152 (w : FVec Ideal S1024x1444 .f32) (j : Fin 128) : tP x0 (hW w) r ⟨1152 + j.val, by omega⟩ = pr (row x R) (col w) ⟨768 + j.val, by omega⟩ :=
  tP_eq h0 w _ _ fun e => hW_1152 w e j
theorem tP_1664 (w : FVec Ideal S1024x1444 .f32) (j : Fin 256) : tP x0 (hW w) r ⟨1664 + j.val, by omega⟩ = pr (row x R) (col w) ⟨928 + j.val, by omega⟩ :=
  tP_eq h0 w _ _ fun e => hW_1664 w e j
theorem tP_1920 (w : FVec Ideal S1024x1444 .f32) (j : Fin 128) : tP x0 (hW w) r ⟨1920 + j.val, by omega⟩ = pr (row x R) (col w) ⟨1184 + j.val, by omega⟩ :=
  tP_eq h0 w _ _ fun e => hW_1920 w e j
theorem tP_2048 (w : FVec Ideal S1024x1444 .f32) (j : Fin 128) : tP x0 (hW w) r ⟨2048 + j.val, by omega⟩ = pr (row x R) (col w) ⟨1312 + j.val, by omega⟩ :=
  tP_eq h0 w _ _ fun e => hW_2048 w e j
theorem tP_1280 (w : FVec Ideal S1024x1444 .f32) (j : Fin 128) (h : j.val < 32) : tP x0 (hW w) r ⟨1280 + j.val, by omega⟩ = pr (row x R) (col w) ⟨896 + j.val, by omega⟩ :=
  tP_eq h0 w _ _ fun e => (hW_1280 w e j).trans (dif_pos h)
theorem tP_1408 (w : FVec Ideal S1024x1444 .f32) (j : Fin 128) (h : j.val < 32) : tP x0 (hW w) r ⟨1408 + j.val, by omega⟩ = pr (row x R) (col w) ⟨896 + sw j.val, by unfold sw; omega⟩ :=
  tP_eq h0 w _ _ fun e => (hW_1408 w e j).trans (dif_pos h)
theorem tP_1536 (w : FVec Ideal S1024x1444 .f32) (j : Fin 128) (h : j.val < 4) : tP x0 (hW w) r ⟨1536 + j.val, by omega⟩ = pr (row x R) (col w) ⟨1440 + j.val, by omega⟩ :=
  tP_eq h0 w _ _ fun e => hW_1536 w e j h
omit h0
theorem tP_1280z (w : FVec Ideal S1024x1444 .f32) (j : Fin 128) (h : ¬ j.val < 32) : tP x0 (hW w) r ⟨1280 + j.val, by omega⟩ = 0 :=
  Finset.sum_eq_zero fun e _ => (congrArg (fun b : EReal => x0 (ix2 r e) * b) ((hW_1280 w e j).trans (dif_neg h))).trans (mul_zero _)
theorem tP_1408z (w : FVec Ideal S1024x1444 .f32) (j : Fin 128) (h : ¬ j.val < 32) : tP x0 (hW w) r ⟨1408 + j.val, by omega⟩ = 0 :=
  Finset.sum_eq_zero fun e _ => (congrArg (fun b : EReal => x0 (ix2 r e) * b) ((hW_1408 w e j).trans (dif_neg h))).trans (mul_zero _)
end Rows

section Tables
variable {r : Fin 512} {R : Fin 1024} (hR : R.val % 8 = r.val % 8)
include hR
theorem hC_cs (j : Fin 256) (i : ℕ) (hi : j.val % 16 = i % 16) : hC (hA (F := Ideal)) (ix2 r j) = cs R i := by
  rw [hC_apply, hA_eq]
  exact congrArg₂ (fun (a : Fin 8) (b : Fin 16) => Ideal.cos (Reference6Ideal.In.rA (F := Ideal) (ix2 a b))) (Fin.ext hR.symm) (Fin.ext hi)
theorem hS_sn (j : Fin 256) (i : ℕ) (hi : j.val % 32 = i) : hS (hA (F := Ideal)) (ix2 r j) = if i < 16 then -sn R i else sn R i := by
  subst hi
  have e : Ideal.sin (hA (F := Ideal) (ix2 ⟨r.val % 8, by omega⟩ ⟨j.val % 16, by omega⟩)) = sn R (j.val % 32) := by
    rw [hA_eq]
    exact congrArg₂ (fun (a : Fin 8) (b : Fin 16) => Ideal.sin (Reference6Ideal.In.rA (F := Ideal) (ix2 a b))) (Fin.ext hR.symm) (Fin.ext (by show j.val % 16 = j.val % 32 % 16; omega))
  rw [hS_apply, e]
/-- A rotated pair. -/
theorem rot_pair (a b : EReal) (j : Fin 256) (i : ℕ) (hi : j.val % 32 = i) :
    a * (hC (hA (F := Ideal)) (ix2 r j) : EReal) + b * (hS (hA (F := Ideal)) (ix2 r j) : EReal) = rot a b (cs R i) (sn R i) i := by
  rw [hC_cs hR j i (by omega), hS_sn hR j i hi, InMath.rot_eq]
end Tables

section Queries
variable {p p' : Fin 256 → EReal} (hp : ∀ i, p i = p' i) {g : Fin 256 → EReal} {g' : FVec Ideal S256 .f32} (hg : ∀ i, g i = g' (ix1 i)) (wq : FVec Ideal S256x768 .f32)
include hp hg
theorem qk_eq (k : Fin 1024) (l : Fin 768) (h : ∀ e, hQ wq (ix2 e k) = wq (ix2 e l)) :
    qk p g (fun i k => hQ wq (ix2 i k)) k = qq p' (fun i => g' (ix1 i)) (fun i k => wq (ix2 i k)) l := by
  obtain rfl : p = p' := funext hp
  obtain rfl : g = fun i => g' (ix1 i) := funext hg
  exact Finset.sum_congr rfl fun e _ => congrArg (fun b : EReal => nrm (Ideal.ofBits FTy.f32 0x43800000#32) p e * g' (ix1 e) * b) (h e)
/-- The latent queries carried into the latent keys' space, a head at a time. -/
theorem qlat_eq (wk : FVec Ideal S128x512 .f32) (j : Fin 1024) :
    (∑ f : Fin 512, qk p g (fun i k => hQ wq (ix2 i k)) ⟨f.val, by omega⟩ * (hK wk (ix2 f j) : EReal)) = ∑ d : Fin 64, wk (ix2 ⟨j.val % 128, by omega⟩ ⟨j.val / 128 * 64 + d.val, by omega⟩)
      * qq p' (fun i => g' (ix1 i)) (fun i k => wq (ix2 i k)) ⟨j.val / 128 * 96 + d.val, by omega⟩ := by
  refine (InMath.head_eq (fun f => qk p g (fun i k => hQ wq (ix2 i k)) ⟨f.val, by omega⟩) (fun f => hK wk (ix2 f j)) (fun d => wk (ix2 ⟨j.val % 128, by omega⟩ ⟨j.val / 128 * 64 + d.val, by omega⟩))
    ⟨j.val / 128, by omega⟩ fun f => hK_apply wk f j).trans (Finset.sum_congr rfl fun d _ => congrArg (fun b : EReal => wk (ix2 ⟨j.val % 128, by omega⟩ ⟨j.val / 128 * 64 + d.val, by omega⟩) * b) ?_)
  refine (qk_eq hp hg wq _ _ fun e => hQ_0 wq e ⟨j.val / 128 * 64 + d.val, by omega⟩).trans ?_
  exact congrArg (qq p' (fun i => g' (ix1 i)) (fun i k => wq (ix2 i k))) (Fin.ext (by show (j.val / 128 * 64 + d.val) / 64 * 96 + (j.val / 128 * 64 + d.val) % 64 = j.val / 128 * 96 + d.val; omega))
end Queries

section Outs
variable (x0 : Vec Ideal S512x1024 .f32) (x1 : Vec Ideal S1024x2176 .bf16) (x2 : Vec Ideal S512x256 .f32) (x3 : Vec Ideal S512x256 .f32) (x4 : Vec Ideal S1x256 .f32) (x5 : Vec Ideal S256x1024 .bf16) (x6 : Vec Ideal S512x1024 .bf16) (x7 : Vec Ideal S1x128 .f32) (x8 : Vec Ideal S1x128 .f32)
variable (x : FVec Ideal S1024x1024 .f32) (w : FVec Ideal S1024x1444 .f32) (r : Fin 512) (R : Fin 1024)
theorem out9_eq (h0 : ∀ e, x0 (ix2 r e) = x (ix2 R e)) (hR : R.val % 8 = r.val % 8) (j : Fin 256) :
    out0_9 x0 (hW w) (hC (F := Ideal) hA) (hS (F := Ideal) hA) x4 x5 x6 x7 x8 (ix2 r j) = rZ0 x w (ix2 R j) := by
  refine (out9_apply _ _ _ _ _ _ _ _ _ r j).trans (Eq.trans ?_ (rZ0_apply _ _ R j).symm)
  refine congrArg (fun b : EReal => b * Ideal.ofBits FTy.f32 0x3E8293EE#32) ?_
  rw [tP_0 h0, tP_256 h0]
  exact rot_pair hR _ _ j _ rfl
theorem out10_eq (h0 : ∀ e, x0 (ix2 r e) = x (ix2 R e)) (g : FVec Ideal S256 .f32) (h4 : ∀ i, x4 (ix2 0 i) = g (ix1 i)) (wq : FVec Ideal S256x768 .f32) (wk : FVec Ideal S128x512 .f32) (j : Fin 1024) :
    out0_10 x0 (hW w) x2 x3 x4 (hQ wq) (hK wk) x7 x8 (ix2 r j) = rZ1 x w g wq wk (ix2 R j) := by
  refine (out10_apply _ _ _ _ _ _ _ _ _ r j).trans (Eq.trans ?_ (rZ1_apply _ _ _ _ _ R j).symm)
  exact congrArg (fun b : EReal => b * Ideal.ofBits FTy.f32 0x3E16C740#32) (qlat_eq (fun i => tP_896 h0 w i) h4 wq wk j)
theorem out11_eq (h0 : ∀ e, x0 (ix2 r e) = x (ix2 R e)) (hR : R.val % 8 = r.val % 8) (g : FVec Ideal S256 .f32) (h4 : ∀ i, x4 (ix2 0 i) = g (ix1 i)) (wq : FVec Ideal S256x768 .f32) (j : Fin 256) :
    out0_11 x0 (hW w) (hC (F := Ideal) hA) (hS (F := Ideal) hA) x4 (hQ wq) x6 x7 x8 (ix2 r j) = rZ2 x w g wq (ix2 R j) := by
  refine (out11_apply _ _ _ _ _ _ _ _ _ r j).trans (Eq.trans ?_ (rZ2_apply _ _ _ _ R j).symm)
  refine congrArg (fun b : EReal => b * Ideal.ofBits FTy.f32 0x3E16C740#32) ?_
  rw [qk_eq (fun i => tP_896 h0 w i) h4 wq _ _ fun e => hQ_512 wq e j, qk_eq (fun i => tP_896 h0 w i) h4 wq _ _ fun e => hQ_768 wq e j]
  exact rot_pair hR _ _ j _ rfl
theorem out12_eq (h0 : ∀ e, x0 (ix2 r e) = x (ix2 R e)) (j : Fin 256) :
    out0_12 x0 (hW w) x2 x3 x4 x5 x6 x7 x8 (ix2 r j) = rZ3 x w (ix2 R j) := by
  refine (out12_apply _ _ _ _ _ _ _ _ _ r j).trans (Eq.trans ?_ (rZ3_apply _ _ R j).symm)
  exact congrArg (fun b : EReal => b * Ideal.ofBits FTy.f32 0x3E38AA3B#32) (tP_1664 h0 w j)
theorem out13_eq (h0 : ∀ e, x0 (ix2 r e) = x (ix2 R e)) (hR : R.val % 8 = r.val % 8) (j : Fin 128) :
    out0_13 x0 (hW w) (hC (F := Ideal) hA) (hS (F := Ideal) hA) x4 x5 x6 x7 x8 (ix2 r j) = rZ4 x w (ix2 R j) := by
  refine (out13_apply _ _ _ _ _ _ _ _ _ r j).trans (Eq.trans ?_ (rZ4_apply _ _ R j).symm)
  rw [tP_512 h0, tP_640 h0]
  exact rot_pair hR _ _ ⟨j.val, by omega⟩ _ rfl
theorem out14_eq (h0 : ∀ e, x0 (ix2 r e) = x (ix2 R e)) (j : Fin 128) :
    out0_14 x0 (hW w) x2 x3 x4 x5 x6 x7 x8 (ix2 r j) = rZ5 x w (ix2 R j) := by
  refine (out14_apply _ _ _ _ _ _ _ _ _ r j).trans (Eq.trans ?_ (rZ5_apply _ _ R j).symm)
  exact tP_768 h0 w j
theorem out15_eq (h0 : ∀ e, x0 (ix2 r e) = x (ix2 R e)) (g : FVec Ideal S128 .f32) (h7 : ∀ i, x7 (ix2 0 i) = g (ix1 i)) (j : Fin 128) :
    out0_15 x0 (hW w) x2 x3 x4 x5 x6 x7 x8 (ix2 r j) = rZ6 x w g (ix2 R j) := by
  refine (out15_apply _ _ _ _ _ _ _ _ _ r j).trans (Eq.trans ?_ (rZ6_apply _ _ _ R j).symm)
  exact congrArg₂ (fun (q : Fin 128 → EReal) (b : EReal) => nrm (Ideal.ofBits FTy.f32 0x43000000#32) q j * b) (funext fun i => tP_1152 h0 w i) (h7 j)
theorem out16_eq (h0 : ∀ e, x0 (ix2 r e) = x (ix2 R e)) (hR : R.val % 8 = r.val % 8) (j : Fin 128) :
    out0_16 x0 (hW w) (hC (F := Ideal) hA) (hS (F := Ideal) hA) x4 x5 x6 x7 x8 (ix2 r j) = rZ7 x w (ix2 R j) := by
  refine (out16_apply _ _ _ _ _ _ _ _ _ r j).trans (Eq.trans ?_ (rZ7_apply _ _ R j).symm)
  by_cases h : j.val < 32
  · refine Eq.trans ?_ (dif_pos h).symm
    rw [tP_1280 h0 w j h, tP_1408 h0 w j h]
    exact rot_pair hR _ _ ⟨j.val, by omega⟩ _ (Nat.mod_eq_of_lt h)
  · refine Eq.trans ?_ (dif_neg h).symm
    rw [tP_1280z w j h, tP_1408z w j h]
    exact InMath.rot_zero _ _
theorem out17_eq (h0 : ∀ e, x0 (ix2 r e) = x (ix2 R e)) (j : Fin 128) :
    out0_17 x0 (hW w) x2 x3 x4 x5 x6 x7 x8 (ix2 r j) = rZ8 x w (ix2 R j) := by
  refine (out17_apply _ _ _ _ _ _ _ _ _ r j).trans (Eq.trans ?_ (rZ8_apply _ _ R j).symm)
  exact tP_1920 h0 w j
theorem out18_eq (h0 : ∀ e, x0 (ix2 r e) = x (ix2 R e)) (j : Fin 128) :
    out0_18 x0 (hW w) x2 x3 x4 x5 x6 x7 x8 (ix2 r j) = rZ9 x w (ix2 R j) := by
  refine (out18_apply _ _ _ _ _ _ _ _ _ r j).trans (Eq.trans ?_ (rZ9_apply _ _ R j).symm)
  exact tP_2048 h0 w j
theorem out19_eq (h0 : ∀ e, x0 (ix2 r e) = x (ix2 R e)) (b : FVec Ideal S4 .f32) (j : Fin 128) :
    out0_19 x0 (hW w) x2 x3 x4 x5 x6 x7 (hB b) (ix2 r j) = rZ10 x w b (ix2 R j) := by
  refine (out19_apply _ _ _ _ _ _ _ _ _ r j).trans (Eq.trans ?_ (rZ10_apply _ _ _ R j).symm)
  by_cases h : j.val < 4
  · refine Eq.trans ?_ (dif_pos h).symm
    refine (if_pos h).trans ?_
    exact congrArg₂ (fun u v : EReal => lsg (u + v)) (tP_1536 h0 w j h) ((hB_apply b j).trans (dif_pos h))
  · refine Eq.trans ?_ (dif_neg h).symm
    exact if_neg h
theorem out20_eq (h0 : ∀ (i : Fin 8) (e : Fin 1024), x0 (ix2 ⟨r.val / 8 * 8 + i.val, by omega⟩ e) = x (ix2 ⟨R.val / 8 * 8 + i.val, by omega⟩ e)) (hR : R.val % 8 = r.val % 8) (b : FVec Ideal S4 .f32) (j : Fin 128) :
    out0_20 x0 (hW w) x2 x3 x4 x5 x6 x7 (hB b) (ix2 r j) = rZ11 x w b (ix2 R j) := by
  refine (out20_apply _ _ _ _ _ _ _ _ _ r j).trans (Eq.trans ?_ (rZ11_apply _ _ _ R j).symm)
  have e8 : (⟨r.val % 8, by omega⟩ : Fin 8) = ⟨R.val % 8, by omega⟩ := Fin.ext hR.symm
  by_cases h : j.val < 4
  · refine Eq.trans ?_ (dif_pos h).symm
    refine Finset.sum_congr rfl fun i _ => ?_
    rw [e8]
    refine if_congr Iff.rfl ((if_pos h).trans ?_) rfl
    exact congrArg₂ (fun u v : EReal => lsg (u + v)) (tP_1536 (h0 i) w j h) ((hB_apply b j).trans (dif_pos h))
  · refine Eq.trans ?_ (dif_neg h).symm
    refine Finset.sum_eq_zero fun i _ => ?_
    rw [if_neg h, ite_self]
end Outs
end Cert.Kernel6Ideal.In
-- ==== Proof.InValue.lean ====
/- The input projections' call on the sample group leaves the reference's twelve results, whatever the arguments. -/
module
public import proofs.«01_k».proof.Proof.InEq
@[expose] public section
set_option maxRecDepth 16384
noncomputable section
namespace Cert.Kernel6Ideal.In
open Cert.Kernel6Ideal Cert.Kernel6Ideal.Gen Idealize.ShloMosaic Idealize.ShloMosaic.TcCoe Idealize.SL.Sem

theorem idx0 : ∀ t : Fin cfg0.N, win0_0.index t = ![(grid0.coords t 0).val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![(grid0.coords t 0).val, 0] := by decide +kernel
theorem idx10 : ∀ t : Fin cfg0.N, win0_10.index t = ![(grid0.coords t 0).val, 0] := by decide +kernel
theorem idx11 : ∀ t : Fin cfg0.N, win0_11.index t = ![(grid0.coords t 0).val, 0] := by decide +kernel
theorem idx12 : ∀ t : Fin cfg0.N, win0_12.index t = ![(grid0.coords t 0).val, 0] := by decide +kernel
theorem idx13 : ∀ t : Fin cfg0.N, win0_13.index t = ![(grid0.coords t 0).val, 0] := by decide +kernel
theorem idx14 : ∀ t : Fin cfg0.N, win0_14.index t = ![(grid0.coords t 0).val, 0] := by decide +kernel
theorem idx15 : ∀ t : Fin cfg0.N, win0_15.index t = ![(grid0.coords t 0).val, 0] := by decide +kernel
theorem idx16 : ∀ t : Fin cfg0.N, win0_16.index t = ![(grid0.coords t 0).val, 0] := by decide +kernel
theorem idx17 : ∀ t : Fin cfg0.N, win0_17.index t = ![(grid0.coords t 0).val, 0] := by decide +kernel
theorem idx18 : ∀ t : Fin cfg0.N, win0_18.index t = ![(grid0.coords t 0).val, 0] := by decide +kernel
theorem idx19 : ∀ t : Fin cfg0.N, win0_19.index t = ![(grid0.coords t 0).val, 0] := by decide +kernel
theorem idx20 : ∀ t : Fin cfg0.N, win0_20.index t = ![(grid0.coords t 0).val, 0] := by decide +kernel

/-- Each window's block, read off any array. -/
theorem rd0 (A : FVec Ideal S1024x1024 .f32) (t : Fin cfg0.N) (r : Fin 512) (e : Fin 1024) (R : Fin 1024) (hR : R.val = (grid0.coords t 0).val * 512 + r.val) :
    ((cfg0.win 0).blk t).view.read (Elt Ideal) A (ix2 r e) = A (ix2 R e) := by
  blk_ext [idx0 t]
theorem rd1 (A : FVec Ideal S1024x2176 .bf16) (t : Fin cfg0.N) : ((cfg0.win 1).blk t).view.read (Elt Ideal) A = A := by
  funext y
  obtain ⟨e, k, rfl⟩ : ∃ (e : Fin 1024) (k : Fin 2176), y = ix2 e k := ⟨y 0, y 1, by funext a; fin_cases a <;> rfl⟩
  blk_ext [idx1 t]
theorem rd2 (A : FVec Ideal S512x256 .f32) (t : Fin cfg0.N) : ((cfg0.win 2).blk t).view.read (Elt Ideal) A = A := by
  funext y
  obtain ⟨e, k, rfl⟩ : ∃ (e : Fin 512) (k : Fin 256), y = ix2 e k := ⟨y 0, y 1, by funext a; fin_cases a <;> rfl⟩
  blk_ext [idx2 t]
theorem rd3 (A : FVec Ideal S512x256 .f32) (t : Fin cfg0.N) : ((cfg0.win 3).blk t).view.read (Elt Ideal) A = A := by
  funext y
  obtain ⟨e, k, rfl⟩ : ∃ (e : Fin 512) (k : Fin 256), y = ix2 e k := ⟨y 0, y 1, by funext a; fin_cases a <;> rfl⟩
  blk_ext [idx3 t]
theorem rd4 (A : FVec Ideal S1x256 .f32) (t : Fin cfg0.N) : ((cfg0.win 4).blk t).view.read (Elt Ideal) A = A := by
  funext y
  obtain ⟨e, k, rfl⟩ : ∃ (e : Fin 1) (k : Fin 256), y = ix2 e k := ⟨y 0, y 1, by funext a; fin_cases a <;> rfl⟩
  blk_ext [idx4 t]
theorem rd5 (A : FVec Ideal S256x1024 .bf16) (t : Fin cfg0.N) : ((cfg0.win 5).blk t).view.read (Elt Ideal) A = A := by
  funext y
  obtain ⟨e, k, rfl⟩ : ∃ (e : Fin 256) (k : Fin 1024), y = ix2 e k := ⟨y 0, y 1, by funext a; fin_cases a <;> rfl⟩
  blk_ext [idx5 t]
theorem rd6 (A : FVec Ideal S512x1024 .bf16) (t : Fin cfg0.N) : ((cfg0.win 6).blk t).view.read (Elt Ideal) A = A := by
  funext y
  obtain ⟨e, k, rfl⟩ : ∃ (e : Fin 512) (k : Fin 1024), y = ix2 e k := ⟨y 0, y 1, by funext a; fin_cases a <;> rfl⟩
  blk_ext [idx6 t]
theorem rd7 (A : FVec Ideal S1x128 .f32) (t : Fin cfg0.N) : ((cfg0.win 7).blk t).view.read (Elt Ideal) A = A := by
  funext y
  obtain ⟨e, k, rfl⟩ : ∃ (e : Fin 1) (k : Fin 128), y = ix2 e k := ⟨y 0, y 1, by funext a; fin_cases a <;> rfl⟩
  blk_ext [idx7 t]
theorem rd8 (A : FVec Ideal S1x128 .f32) (t : Fin cfg0.N) : ((cfg0.win 8).blk t).view.read (Elt Ideal) A = A := by
  funext y
  obtain ⟨e, k, rfl⟩ : ∃ (e : Fin 1) (k : Fin 128), y = ix2 e k := ⟨y 0, y 1, by funext a; fin_cases a <;> rfl⟩
  blk_ext [idx8 t]

variable (m : (ℓ : Loc nD τ sig) → Buf (Elt Ideal) ℓ) (c : Dev nD)
theorem blk0 (t : Fin cfg0.N) (r : Fin 512) (R : Fin 1024) (hR : R.val = (grid0.coords t 0).val * 512 + r.val) (e : Fin 1024) :
    iblk m c 0 t (ix2 r e) = (m (c, Proc.tc.devRef main_arg0) : FVec Ideal S1024x1024 .f32) (ix2 R e) :=
  (rd0 (V m c main_arg0) t r e R hR).trans (congrFun (V_main_arg0 m c) _)
theorem blk1 (t : Fin cfg0.N) : iblk m c 1 t = (hW (m (c, Proc.tc.devRef main_arg1)) : FVec Ideal S1024x2176 .bf16) := (rd1 (V m c main_v56) t).trans (V_w m c)
theorem blk2 (t : Fin cfg0.N) : iblk m c 2 t = (hC hA : FVec Ideal S512x256 .f32) := (rd2 (V m c main_v28) t).trans (V_cos m c)
theorem blk3 (t : Fin cfg0.N) : iblk m c 3 t = (hS hA : FVec Ideal S512x256 .f32) := (rd3 (V m c main_v31) t).trans (V_sin m c)
theorem blk5 (t : Fin cfg0.N) : iblk m c 5 t = (hQ (m (c, Proc.tc.devRef main_arg4)) : FVec Ideal S256x1024 .bf16) := (rd5 (V m c main_v66) t).trans (V_q m c)
theorem blk6 (t : Fin cfg0.N) : iblk m c 6 t = (hK (m (c, Proc.tc.devRef main_arg6)) : FVec Ideal S512x1024 .bf16) := (rd6 (V m c main_v81) t).trans (V_k m c)
theorem blk8 (t : Fin cfg0.N) : iblk m c 8 t = (hB (m (c, Proc.tc.devRef main_arg2)) : FVec Ideal S1x128 .f32) := (rd8 (V m c main_v83) t).trans (V_b m c)
theorem blk4 (t : Fin cfg0.N) (i : Fin 256) : iblk m c 4 t (ix2 0 i) = (m (c, Proc.tc.devRef main_arg3) : FVec Ideal S256 .f32) (ix1 i) :=
  (congrFun ((rd4 (V m c main_v84) t).trans (V_gq m c)) _).trans (row256_apply _ i)
theorem blk7 (t : Fin cfg0.N) (i : Fin 128) : iblk m c 7 t (ix2 0 i) = (m (c, Proc.tc.devRef main_arg5) : FVec Ideal S128 .f32) (ix1 i) :=
  (congrFun ((rd7 (V m c main_v85) t).trans (V_gk m c)) _).trans (row128_apply _ i)

theorem arr9_eq : (dats m 0 c).arrAt 9 cfg0.N = Reference6Ideal.In.rZ0 (F := Ideal) (m (c, Proc.tc.devRef main_arg0)) (m (c, Proc.tc.devRef main_arg1)) := by
  refine (dats m 0 c).arrAt_eq_of_covers 9 _ (by decide +kernel) fun t hf y => ?_
  blk_simp
  rw [after0_9]
  obtain ⟨r, j, rfl⟩ : ∃ (r : Fin 512) (j : Fin 256), y = ix2 r j := ⟨y 0, y 1, by funext a; fin_cases a <;> rfl⟩
  have b0 : (grid0.coords t 0).val < 2 := (grid0.coords t 0).isLt
  have e : ((cfg0.win 9).blk t).view.emb (ix2 r j) = ix2 (⟨(grid0.coords t 0).val * 512 + r.val, by omega⟩ : Fin 1024) j := by
    blk_ext [idx9 t]
  rw [blk1, blk2, blk3]
  refine Eq.trans ?_ (congrArg _ e.symm)
  exact out9_eq _ _ _ _ _ _ _ _ r _ (blk0 m c t r _ rfl) (by show ((grid0.coords t 0).val * 512 + r.val) % 8 = r.val % 8; omega) j
theorem arr10_eq : (dats m 0 c).arrAt 10 cfg0.N = Reference6Ideal.In.rZ1 (F := Ideal) (m (c, Proc.tc.devRef main_arg0)) (m (c, Proc.tc.devRef main_arg1)) (m (c, Proc.tc.devRef main_arg3)) (m (c, Proc.tc.devRef main_arg4)) (m (c, Proc.tc.devRef main_arg6)) := by
  refine (dats m 0 c).arrAt_eq_of_covers 10 _ (by decide +kernel) fun t hf y => ?_
  blk_simp
  rw [after0_10]
  obtain ⟨r, j, rfl⟩ : ∃ (r : Fin 512) (j : Fin 1024), y = ix2 r j := ⟨y 0, y 1, by funext a; fin_cases a <;> rfl⟩
  have b0 : (grid0.coords t 0).val < 2 := (grid0.coords t 0).isLt
  have e : ((cfg0.win 10).blk t).view.emb (ix2 r j) = ix2 (⟨(grid0.coords t 0).val * 512 + r.val, by omega⟩ : Fin 1024) j := by
    blk_ext [idx10 t]
  rw [blk1, blk5, blk6]
  refine Eq.trans ?_ (congrArg _ e.symm)
  exact out10_eq _ _ _ _ _ _ _ _ r _ (blk0 m c t r _ rfl) (m (c, Proc.tc.devRef main_arg3)) (blk4 m c t) (m (c, Proc.tc.devRef main_arg4)) (m (c, Proc.tc.devRef main_arg6)) j
theorem arr11_eq : (dats m 0 c).arrAt 11 cfg0.N = Reference6Ideal.In.rZ2 (F := Ideal) (m (c, Proc.tc.devRef main_arg0)) (m (c, Proc.tc.devRef main_arg1)) (m (c, Proc.tc.devRef main_arg3)) (m (c, Proc.tc.devRef main_arg4)) := by
  refine (dats m 0 c).arrAt_eq_of_covers 11 _ (by decide +kernel) fun t hf y => ?_
  blk_simp
  rw [after0_11]
  obtain ⟨r, j, rfl⟩ : ∃ (r : Fin 512) (j : Fin 256), y = ix2 r j := ⟨y 0, y 1, by funext a; fin_cases a <;> rfl⟩
  have b0 : (grid0.coords t 0).val < 2 := (grid0.coords t 0).isLt
  have e : ((cfg0.win 11).blk t).view.emb (ix2 r j) = ix2 (⟨(grid0.coords t 0).val * 512 + r.val, by omega⟩ : Fin 1024) j := by
    blk_ext [idx11 t]
  rw [blk1, blk2, blk3, blk5]
  refine Eq.trans ?_ (congrArg _ e.symm)
  exact out11_eq _ _ _ _ _ _ _ r _ (blk0 m c t r _ rfl) (by show ((grid0.coords t 0).val * 512 + r.val) % 8 = r.val % 8; omega) (m (c, Proc.tc.devRef main_arg3)) (blk4 m c t) (m (c, Proc.tc.devRef main_arg4)) j
theorem arr12_eq : (dats m 0 c).arrAt 12 cfg0.N = Reference6Ideal.In.rZ3 (F := Ideal) (m (c, Proc.tc.devRef main_arg0)) (m (c, Proc.tc.devRef main_arg1)) := by
  refine (dats m 0 c).arrAt_eq_of_covers 12 _ (by decide +kernel) fun t hf y => ?_
  blk_simp
  rw [after0_12]
  obtain ⟨r, j, rfl⟩ : ∃ (r : Fin 512) (j : Fin 256), y = ix2 r j := ⟨y 0, y 1, by funext a; fin_cases a <;> rfl⟩
  have b0 : (grid0.coords t 0).val < 2 := (grid0.coords t 0).isLt
  have e : ((cfg0.win 12).blk t).view.emb (ix2 r j) = ix2 (⟨(grid0.coords t 0).val * 512 + r.val, by omega⟩ : Fin 1024) j := by
    blk_ext [idx12 t]
  rw [blk1]
  refine Eq.trans ?_ (congrArg _ e.symm)
  exact out12_eq _ _ _ _ _ _ _ _ _ _ r _ (blk0 m c t r _ rfl) j
theorem arr13_eq : (dats m 0 c).arrAt 13 cfg0.N = Reference6Ideal.In.rZ4 (F := Ideal) (m (c, Proc.tc.devRef main_arg0)) (m (c, Proc.tc.devRef main_arg1)) := by
  refine (dats m 0 c).arrAt_eq_of_covers 13 _ (by decide +kernel) fun t hf y => ?_
  blk_simp
  rw [after0_13]
  obtain ⟨r, j, rfl⟩ : ∃ (r : Fin 512) (j : Fin 128), y = ix2 r j := ⟨y 0, y 1, by funext a; fin_cases a <;> rfl⟩
  have b0 : (grid0.coords t 0).val < 2 := (grid0.coords t 0).isLt
  have e : ((cfg0.win 13).blk t).view.emb (ix2 r j) = ix2 (⟨(grid0.coords t 0).val * 512 + r.val, by omega⟩ : Fin 1024) j := by
    blk_ext [idx13 t]
  rw [blk1, blk2, blk3]
  refine Eq.trans ?_ (congrArg _ e.symm)
  exact out13_eq _ _ _ _ _ _ _ _ r _ (blk0 m c t r _ rfl) (by show ((grid0.coords t 0).val * 512 + r.val) % 8 = r.val % 8; omega) j
theorem arr14_eq : (dats m 0 c).arrAt 14 cfg0.N = Reference6Ideal.In.rZ5 (F := Ideal) (m (c, Proc.tc.devRef main_arg0)) (m (c, Proc.tc.devRef main_arg1)) := by
  refine (dats m 0 c).arrAt_eq_of_covers 14 _ (by decide +kernel) fun t hf y => ?_
  blk_simp
  rw [after0_14]
  obtain ⟨r, j, rfl⟩ : ∃ (r : Fin 512) (j : Fin 128), y = ix2 r j := ⟨y 0, y 1, by funext a; fin_cases a <;> rfl⟩
  have b0 : (grid0.coords t 0).val < 2 := (grid0.coords t 0).isLt
  have e : ((cfg0.win 14).blk t).view.emb (ix2 r j) = ix2 (⟨(grid0.coords t 0).val * 512 + r.val, by omega⟩ : Fin 1024) j := by
    blk_ext [idx14 t]
  rw [blk1]
  refine Eq.trans ?_ (congrArg _ e.symm)
  exact out14_eq _ _ _ _ _ _ _ _ _ _ r _ (blk0 m c t r _ rfl) j
theorem arr15_eq : (dats m 0 c).arrAt 15 cfg0.N = Reference6Ideal.In.rZ6 (F := Ideal) (m (c, Proc.tc.devRef main_arg0)) (m (c, Proc.tc.devRef main_arg1)) (m (c, Proc.tc.devRef main_arg5)) := by
  refine (dats m 0 c).arrAt_eq_of_covers 15 _ (by decide +kernel) fun t hf y => ?_
  blk_simp
  rw [after0_15]
  obtain ⟨r, j, rfl⟩ : ∃ (r : Fin 512) (j : Fin 128), y = ix2 r j := ⟨y 0, y 1, by funext a; fin_cases a <;> rfl⟩
  have b0 : (grid0.coords t 0).val < 2 := (grid0.coords t 0).isLt
  have e : ((cfg0.win 15).blk t).view.emb (ix2 r j) = ix2 (⟨(grid0.coords t 0).val * 512 + r.val, by omega⟩ : Fin 1024) j := by
    blk_ext [idx15 t]
  rw [blk1]
  refine Eq.trans ?_ (congrArg _ e.symm)
  exact out15_eq _ _ _ _ _ _ _ _ _ _ r _ (blk0 m c t r _ rfl) (m (c, Proc.tc.devRef main_arg5)) (blk7 m c t) j
theorem arr16_eq : (dats m 0 c).arrAt 16 cfg0.N = Reference6Ideal.In.rZ7 (F := Ideal) (m (c, Proc.tc.devRef main_arg0)) (m (c, Proc.tc.devRef main_arg1)) := by
  refine (dats m 0 c).arrAt_eq_of_covers 16 _ (by decide +kernel) fun t hf y => ?_
  blk_simp
  rw [after0_16]
  obtain ⟨r, j, rfl⟩ : ∃ (r : Fin 512) (j : Fin 128), y = ix2 r j := ⟨y 0, y 1, by funext a; fin_cases a <;> rfl⟩
  have b0 : (grid0.coords t 0).val < 2 := (grid0.coords t 0).isLt
  have e : ((cfg0.win 16).blk t).view.emb (ix2 r j) = ix2 (⟨(grid0.coords t 0).val * 512 + r.val, by omega⟩ : Fin 1024) j := by
    blk_ext [idx16 t]
  rw [blk1, blk2, blk3]
  refine Eq.trans ?_ (congrArg _ e.symm)
  exact out16_eq _ _ _ _ _ _ _ _ r _ (blk0 m c t r _ rfl) (by show ((grid0.coords t 0).val * 512 + r.val) % 8 = r.val % 8; omega) j
theorem arr17_eq : (dats m 0 c).arrAt 17 cfg0.N = Reference6Ideal.In.rZ8 (F := Ideal) (m (c, Proc.tc.devRef main_arg0)) (m (c, Proc.tc.devRef main_arg1)) := by
  refine (dats m 0 c).arrAt_eq_of_covers 17 _ (by decide +kernel) fun t hf y => ?_
  blk_simp
  rw [after0_17]
  obtain ⟨r, j, rfl⟩ : ∃ (r : Fin 512) (j : Fin 128), y = ix2 r j := ⟨y 0, y 1, by funext a; fin_cases a <;> rfl⟩
  have b0 : (grid0.coords t 0).val < 2 := (grid0.coords t 0).isLt
  have e : ((cfg0.win 17).blk t).view.emb (ix2 r j) = ix2 (⟨(grid0.coords t 0).val * 512 + r.val, by omega⟩ : Fin 1024) j := by
    blk_ext [idx17 t]
  rw [blk1]
  refine Eq.trans ?_ (congrArg _ e.symm)
  exact out17_eq _ _ _ _ _ _ _ _ _ _ r _ (blk0 m c t r _ rfl) j
theorem arr18_eq : (dats m 0 c).arrAt 18 cfg0.N = Reference6Ideal.In.rZ9 (F := Ideal) (m (c, Proc.tc.devRef main_arg0)) (m (c, Proc.tc.devRef main_arg1)) := by
  refine (dats m 0 c).arrAt_eq_of_covers 18 _ (by decide +kernel) fun t hf y => ?_
  blk_simp
  rw [after0_18]
  obtain ⟨r, j, rfl⟩ : ∃ (r : Fin 512) (j : Fin 128), y = ix2 r j := ⟨y 0, y 1, by funext a; fin_cases a <;> rfl⟩
  have b0 : (grid0.coords t 0).val < 2 := (grid0.coords t 0).isLt
  have e : ((cfg0.win 18).blk t).view.emb (ix2 r j) = ix2 (⟨(grid0.coords t 0).val * 512 + r.val, by omega⟩ : Fin 1024) j := by
    blk_ext [idx18 t]
  rw [blk1]
  refine Eq.trans ?_ (congrArg _ e.symm)
  exact out18_eq _ _ _ _ _ _ _ _ _ _ r _ (blk0 m c t r _ rfl) j
theorem arr19_eq : (dats m 0 c).arrAt 19 cfg0.N = Reference6Ideal.In.rZ10 (F := Ideal) (m (c, Proc.tc.devRef main_arg0)) (m (c, Proc.tc.devRef main_arg1)) (m (c, Proc.tc.devRef main_arg2)) := by
  refine (dats m 0 c).arrAt_eq_of_covers 19 _ (by decide +kernel) fun t hf y => ?_
  blk_simp
  rw [after0_19]
  obtain ⟨r, j, rfl⟩ : ∃ (r : Fin 512) (j : Fin 128), y = ix2 r j := ⟨y 0, y 1, by funext a; fin_cases a <;> rfl⟩
  have b0 : (grid0.coords t 0).val < 2 := (grid0.coords t 0).isLt
  have e : ((cfg0.win 19).blk t).view.emb (ix2 r j) = ix2 (⟨(grid0.coords t 0).val * 512 + r.val, by omega⟩ : Fin 1024) j := by
    blk_ext [idx19 t]
  rw [blk1, blk8]
  refine Eq.trans ?_ (congrArg _ e.symm)
  exact out19_eq _ _ _ _ _ _ _ _ _ r _ (blk0 m c t r _ rfl) (m (c, Proc.tc.devRef main_arg2)) j
theorem arr20_eq : (dats m 0 c).arrAt 20 cfg0.N = Reference6Ideal.In.rZ11 (F := Ideal) (m (c, Proc.tc.devRef main_arg0)) (m (c, Proc.tc.devRef main_arg1)) (m (c, Proc.tc.devRef main_arg2)) := by
  refine (dats m 0 c).arrAt_eq_of_covers 20 _ (by decide +kernel) fun t hf y => ?_
  blk_simp
  rw [after0_20]
  obtain ⟨r, j, rfl⟩ : ∃ (r : Fin 512) (j : Fin 128), y = ix2 r j := ⟨y 0, y 1, by funext a; fin_cases a <;> rfl⟩
  have b0 : (grid0.coords t 0).val < 2 := (grid0.coords t 0).isLt
  have e : ((cfg0.win 20).blk t).view.emb (ix2 r j) = ix2 (⟨(grid0.coords t 0).val * 512 + r.val, by omega⟩ : Fin 1024) j := by
    blk_ext [idx20 t]
  rw [blk1, blk8]
  refine Eq.trans ?_ (congrArg _ e.symm)
  exact out20_eq _ _ _ _ _ _ _ _ _ r _ (fun i e => blk0 m c t ⟨r.val / 8 * 8 + i.val, by omega⟩ ⟨((grid0.coords t 0).val * 512 + r.val) / 8 * 8 + i.val, by omega⟩ (by show ((grid0.coords t 0).val * 512 + r.val) / 8 * 8 + i.val = (grid0.coords t 0).val * 512 + (r.val / 8 * 8 + i.val); omega) e) (by show ((grid0.coords t 0).val * 512 + r.val) % 8 = r.val % 8; omega) (m (c, Proc.tc.devRef main_arg2)) j
end Cert.Kernel6Ideal.In
-- ==== Proof.MixTile.lean ====
/- The output projection's payload: a tile of 512 rows, read at an index. -/
module
public import proofs.«01_k».proof.Proof.Gen.Kernel5Ideal.Value
public import proofs.«01_k».proof.Proof.MixMath
@[expose] public section
set_option maxRecDepth 16384
noncomputable section
namespace Cert.Kernel5Ideal.Mix
open Cert.Kernel5Ideal Cert.Kernel5Ideal.Gen Idealize.ShloMosaic Idealize.ShloMosaic.TcCoe Idealize.SL.Sem
open Cert.MixMath (lam nrm kd kyD mean norm)

section Vectors
variable {F : FTy → Type} [FloatOps F]
/-- The second map's weight. -/
def tL (d : FVec F S4x32 .f32) : FVec F S1x1 .f32 :=
  addf (subf
    (exp (shapeCast S1x1 (multiReduction .add [1] S1 (mulf (extractStridedSlice S1x32 ![0, 0] d slices_S4x32_o0_0_S1x32) (extractStridedSlice S1x32 ![1, 0] d slices_S4x32_o1_0_S1x32)) 0x00000000#32 reduces_S1x32_S1 (.inl rfl) rfl) shapeCasts_S1_S1x1))
    (exp (shapeCast S1x1 (multiReduction .add [1] S1 (mulf (extractStridedSlice S1x32 ![2, 0] d slices_S4x32_o2_0_S1x32) (extractStridedSlice S1x32 ![3, 0] d slices_S4x32_o3_0_S1x32)) 0x00000000#32 reduces_S1x32_S1 (.inl rfl) rfl) shapeCasts_S1_S1x1)))
    (broadcast S1x1 (Scalar.ofBits .f32 0x3E4CCCCD#32))
/-- The maps' difference, every column less its neighbour of 64 columns on. -/
def tD (l : FVec F S1x1 .f32) (x : FVec F S512x512 .f32) : FVec F S512x512 .f32 :=
  subf x (mulf (broadcastTo S512x512 l broadcasts_S1x1_S512x512) (dynamicRotate 1 448#32 none x rotates_S512x512_d1))
/-- The differential group, normed. -/
def tY (d : FVec F S512x512 .f32) (w : FVec F S512x512 .bf16) (g : FVec F S1x512 .f32) : FVec F S512x512 .f32 :=
  mulf (mulf d (rsqrt (addf (matmul dot_S512x512_S512x512_S512x512_1_0_0_1_n_n none (truncf .bf16 (mulf d d) bitsLt_bf16_f32)
    (shapeCast S512x512 w shapeCasts_S512x512_S512x512) (constant S512x512 .f32 0x00000000#32)) (broadcast S512x512 (Scalar.ofBits .f32 0x358637BD#32)))))
    (broadcastTo S512x512 (shapeCast S1x512 g shapeCasts_S1x512_S1x512) broadcasts_S1x512_S512x512)
/-- The latent group. -/
def tO (x : FVec F S512x1024 .f32) (w : FVec F S1024x512 .bf16) : FVec F S512x512 .f32 :=
  matmul dot_S512x1024_S1024x512_S512x512_1_0_0_1_n_n none (truncf .bf16 x bitsLt_bf16_f32) (shapeCast S1024x512 w shapeCasts_S1024x512_S1024x512) (constant S512x512 .f32 0x00000000#32)
/-- The latent group, normed. -/
def tM (v : FVec F S512x512 .f32) (g : FVec F S1x512 .f32) : FVec F S512x512 .f32 :=
  mulf (mulf v (broadcastTo S512x512 (rsqrt (addf (divf (shapeCast S512x1 (multiReduction .add [1] S512 (mulf v v) 0x00000000#32 reduces_S512x512_S512 (.inl rfl) rfl) shapeCasts_S512_S512x1)
    (broadcast S512x1 (Scalar.ofBits .f32 0x44000000#32))) (broadcast S512x1 (Scalar.ofBits .f32 0x358637BD#32)))) broadcasts_S512x1_S512x512))
    (broadcastTo S512x512 (shapeCast S1x512 g shapeCasts_S1x512_S1x512) broadcasts_S1x512_S512x512)
/-- The forgetting group, normed. -/
def tF (v : FVec F S512x256 .f32) (g : FVec F S1x256 .f32) : FVec F S512x256 .f32 :=
  mulf (mulf v (broadcastTo S512x256 (rsqrt (addf (divf (shapeCast S512x1 (multiReduction .add [1] S512 (mulf v v) 0x00000000#32 reduces_S512x256_S512 (.inl rfl) rfl) shapeCasts_S512_S512x1)
    (broadcast S512x1 (Scalar.ofBits .f32 0x43800000#32))) (broadcast S512x1 (Scalar.ofBits .f32 0x358637BD#32)))) broadcasts_S512x1_S512x256))
    (broadcastTo S512x256 (shapeCast S1x256 g shapeCasts_S1x256_S1x256) broadcasts_S1x256_S512x256)
/-- A group of 512 columns against its rows of the projection. -/
def tP (y : FVec F S512x512 .f32) (w : FVec F S512x1024 .bf16) : FVec F S512x1024 .f32 :=
  matmul dot_S512x512_S512x1024_S512x1024_1_0_0_1_n_n none (truncf .bf16 y bitsLt_bf16_f32) (shapeCast S512x1024 w shapeCasts_S512x1024_S512x1024) (constant S512x1024 .f32 0x00000000#32)
/-- The group of 256 columns against its rows of the projection. -/
def tQ (y : FVec F S512x256 .f32) (w : FVec F S256x1024 .bf16) : FVec F S512x1024 .f32 :=
  matmul dot_S512x256_S256x1024_S512x1024_1_0_0_1_n_n none (truncf .bf16 y bitsLt_bf16_f32) (shapeCast S256x1024 w shapeCasts_S256x1024_S256x1024) (constant S512x1024 .f32 0x00000000#32)
/-- The residual. -/
def tR (x p : FVec F S512x1024 .f32) : FVec F S512x1024 .f32 := addf (mulf (broadcast S512x1024 (Scalar.ofBits .f32 0x3FB504F3#32)) x) p
/-- The rows' means. -/
def tA (y : FVec F S512x1024 .f32) : FVec F S512x1 .f32 :=
  divf (shapeCast S512x1 (multiReduction .add [1] S512 y 0x00000000#32 reduces_S512x1024_S512 (.inl rfl) rfl) shapeCasts_S512_S512x1) (broadcast S512x1 (Scalar.ofBits .f32 0x44800000#32))
/-- The rows less their means. -/
def tC (y : FVec F S512x1024 .f32) : FVec F S512x1024 .f32 := subf y (broadcastTo S512x1024 (tA y) broadcasts_S512x1_S512x1024)
/-- The centred rows over their deviations, scaled and shifted. -/
def tN (y : FVec F S512x1024 .f32) (g b : FVec F S1x1024 .f32) : FVec F S512x1024 .f32 :=
  addf (mulf (mulf y (broadcastTo S512x1024 (rsqrt (addf (tA (mulf y y)) (broadcast S512x1 (Scalar.ofBits .f32 0x3727C5AC#32)))) broadcasts_S512x1_S512x1024))
    (broadcastTo S512x1024 (shapeCast S1x1024 g shapeCasts_S1x1024_S1x1024) broadcasts_S1x1024_S512x1024)) (broadcastTo S512x1024 (shapeCast S1x1024 b shapeCasts_S1x1024_S1x1024) broadcasts_S1x1024_S512x1024)

theorem out_eq (x0 : Vec F S512x1024 .f32) (x1 : Vec F S512x512 .f32) (x2 : Vec F S512x1024 .f32) (x3 : Vec F S512x256 .f32) (x4 : Vec F S4x32 .f32) (x5 : Vec F S1x512 .f32) (x6 : Vec F S512x512 .bf16) (x7 : Vec F S1024x512 .bf16) (x8 : Vec F S1x512 .f32) (x9 : Vec F S1x256 .f32) (x10 : Vec F S512x1024 .bf16) (x11 : Vec F S512x1024 .bf16) (x12 : Vec F S256x1024 .bf16) (x13 : Vec F S1x1024 .f32) (x14 : Vec F S1x1024 .f32) :
    out0_15 x0 x1 x2 x3 x4 x5 x6 x7 x8 x9 x10 x11 x12 x13 x14 = tN (tC (tR (View.ld x0 r0_3)
      (addf (addf (tP (tY (tD (tL (View.ld x4 r0_0)) (View.ld x1 r0_1)) (View.ld x6 r0_1) (View.ld x5 r0_2)) (View.ld x10 r0_3))
        (tP (tM (tO (View.ld x2 r0_3) (View.ld x7 r0_4)) (View.ld x8 r0_2)) (View.ld x11 r0_3)))
        (tQ (tF (View.ld x3 r0_5) (View.ld x9 r0_6)) (View.ld x12 r0_7))))) (View.ld x13 r0_8) (View.ld x14 r0_8) := by
  unfold out0_15
  rw [View.canon_unit_zero (by funext a; fin_cases a <;> rfl)]
  rfl
end Vectors

theorem tL_apply (d : FVec Ideal S4x32 .f32) : tL d (ix2 0 0) = lam fun a i => d (ix2 a i) := by
  pointwise [tL, lam]
theorem tD_apply (l : FVec Ideal S1x1 .f32) (x : FVec Ideal S512x512 .f32) (r j : Fin 512) :
    tD l x (ix2 r j) = kd (fun e => x (ix2 r e)) (l (ix2 0 0)) j := by
  pointwise [tD, kd]
  have e : (⟨(j.val + 512 - 448) % 512, by omega⟩ : Fin 512) = ⟨(j.val + 64) % 512, by omega⟩ := Fin.ext (by show (j.val + 512 - 448) % 512 = (j.val + 64) % 512; omega)
  rw [e]
theorem tY_apply (d : FVec Ideal S512x512 .f32) (w : FVec Ideal S512x512 .bf16) (g : FVec Ideal S1x512 .f32) (r j : Fin 512) :
    tY d w g (ix2 r j) = d (ix2 r j) * Ideal.rsqrt ((∑ i : Fin 512, d (ix2 r i) * d (ix2 r i) * w (ix2 i j)) + Ideal.ofBits FTy.f32 0x358637BD#32) * g (ix2 0 j) := by
  pointwise [tY]
theorem tO_apply (x : FVec Ideal S512x1024 .f32) (w : FVec Ideal S1024x512 .bf16) (r f : Fin 512) :
    tO x w (ix2 r f) = ∑ e : Fin 1024, x (ix2 r e) * w (ix2 e f) := by
  pointwise [tO]
theorem tM_apply (v : FVec Ideal S512x512 .f32) (g : FVec Ideal S1x512 .f32) (r f : Fin 512) :
    tM v g (ix2 r f) = nrm (Ideal.ofBits FTy.f32 0x44000000#32) (fun e => v (ix2 r e)) f * g (ix2 0 f) := by
  pointwise [tM, nrm]
theorem tF_apply (v : FVec Ideal S512x256 .f32) (g : FVec Ideal S1x256 .f32) (r : Fin 512) (f : Fin 256) :
    tF v g (ix2 r f) = nrm (Ideal.ofBits FTy.f32 0x43800000#32) (fun e => v (ix2 r e)) f * g (ix2 0 f) := by
  pointwise [tF, nrm]
theorem tP_apply (y : FVec Ideal S512x512 .f32) (w : FVec Ideal S512x1024 .bf16) (r : Fin 512) (c : Fin 1024) :
    tP y w (ix2 r c) = ∑ j : Fin 512, y (ix2 r j) * w (ix2 j c) := by
  pointwise [tP]
theorem tQ_apply (y : FVec Ideal S512x256 .f32) (w : FVec Ideal S256x1024 .bf16) (r : Fin 512) (c : Fin 1024) :
    tQ y w (ix2 r c) = ∑ j : Fin 256, y (ix2 r j) * w (ix2 j c) := by
  pointwise [tQ]
theorem tR_apply (x p : FVec Ideal S512x1024 .f32) (r : Fin 512) (c : Fin 1024) :
    tR x p (ix2 r c) = Ideal.ofBits FTy.f32 0x3FB504F3#32 * x (ix2 r c) + p (ix2 r c) := by
  pointwise [tR]
theorem tA_apply (y : FVec Ideal S512x1024 .f32) (r : Fin 512) :
    tA y (ix2 r 0) = mean fun e => y (ix2 r e) := by
  pointwise [tA, mean]
theorem tC_apply (y : FVec Ideal S512x1024 .f32) (r : Fin 512) (c : Fin 1024) :
    tC y (ix2 r c) = y (ix2 r c) - mean fun e => y (ix2 r e) := by
  pointwise [tC, tA_apply]
theorem tN_apply (y : FVec Ideal S512x1024 .f32) (g b : FVec Ideal S1x1024 .f32) (r : Fin 512) (c : Fin 1024) :
    tN y g b (ix2 r c) = norm (fun e => y (ix2 r e)) c (g (ix2 0 c)) (b (ix2 0 c)) := by
  pointwise [tN, MixMath.norm, tA_apply]

/-- The product of a row's groups as the kernel makes it. -/
def kprod (od : Fin 512 → EReal) (l : EReal) (bmd : Fin 512 → Fin 512 → EReal) (gd : Fin 512 → EReal) (wod : Fin 512 → EReal)
    (om : Fin 1024 → EReal) (wv : Fin 1024 → Fin 512 → EReal) (mg wom : Fin 512 → EReal) (of fg wof : Fin 256 → EReal) : EReal :=
  (∑ j, kyD od l bmd gd j * wod j)
    + (∑ f, nrm (Ideal.ofBits FTy.f32 0x44000000#32) (fun f => ∑ e, om e * wv e f) f * mg f * wom f)
    + ∑ f, nrm (Ideal.ofBits FTy.f32 0x43800000#32) of f * fg f * wof f

theorem out_apply (x0 : Vec Ideal S512x1024 .f32) (x1 : Vec Ideal S512x512 .f32) (x2 : Vec Ideal S512x1024 .f32) (x3 : Vec Ideal S512x256 .f32) (x4 : Vec Ideal S4x32 .f32) (x5 : Vec Ideal S1x512 .f32) (x6 : Vec Ideal S512x512 .bf16) (x7 : Vec Ideal S1024x512 .bf16) (x8 : Vec Ideal S1x512 .f32) (x9 : Vec Ideal S1x256 .f32) (x10 : Vec Ideal S512x1024 .bf16) (x11 : Vec Ideal S512x1024 .bf16) (x12 : Vec Ideal S256x1024 .bf16) (x13 : Vec Ideal S1x1024 .f32) (x14 : Vec Ideal S1x1024 .f32)
    (r : Fin 512) (c : Fin 1024) :
    out0_15 x0 x1 x2 x3 x4 x5 x6 x7 x8 x9 x10 x11 x12 x13 x14 (ix2 r c)
      = MixMath.fin (fun k => x0 (ix2 r k)) (fun k => kprod (fun e => x1 (ix2 r e)) (lam fun a i => x4 (ix2 a i)) (fun i j => x6 (ix2 i j)) (fun j => x5 (ix2 0 j)) (fun j => x10 (ix2 j k))
          (fun e => x2 (ix2 r e)) (fun e f => x7 (ix2 e f)) (fun f => x8 (ix2 0 f)) (fun f => x11 (ix2 f k)) (fun e => x3 (ix2 r e)) (fun f => x9 (ix2 0 f)) (fun f => x12 (ix2 f k)))
          c (x13 (ix2 0 c)) (x14 (ix2 0 c)) := by
  have h0 : View.ld x0 r0_3 = x0 := by funext p; apply View.ld_unit_apply_of; intro a; fin_cases a <;> simp
  have h1 : View.ld x1 r0_1 = x1 := by funext p; apply View.ld_unit_apply_of; intro a; fin_cases a <;> simp
  have h2 : View.ld x2 r0_3 = x2 := by funext p; apply View.ld_unit_apply_of; intro a; fin_cases a <;> simp
  have h3 : View.ld x3 r0_5 = x3 := by funext p; apply View.ld_unit_apply_of; intro a; fin_cases a <;> simp
  have h4 : View.ld x4 r0_0 = x4 := by funext p; apply View.ld_unit_apply_of; intro a; fin_cases a <;> simp
  have h5 : View.ld x5 r0_2 = x5 := by funext p; apply View.ld_unit_apply_of; intro a; fin_cases a <;> simp
  have h6 : View.ld x6 r0_1 = x6 := by funext p; apply View.ld_unit_apply_of; intro a; fin_cases a <;> simp
  have h7 : View.ld x7 r0_4 = x7 := by funext p; apply View.ld_unit_apply_of; intro a; fin_cases a <;> simp
  have h8 : View.ld x8 r0_2 = x8 := by funext p; apply View.ld_unit_apply_of; intro a; fin_cases a <;> simp
  have h9 : View.ld x9 r0_6 = x9 := by funext p; apply View.ld_unit_apply_of; intro a; fin_cases a <;> simp
  have h10 : View.ld x10 r0_3 = x10 := by funext p; apply View.ld_unit_apply_of; intro a; fin_cases a <;> simp
  have h11 : View.ld x11 r0_3 = x11 := by funext p; apply View.ld_unit_apply_of; intro a; fin_cases a <;> simp
  have h12 : View.ld x12 r0_7 = x12 := by funext p; apply View.ld_unit_apply_of; intro a; fin_cases a <;> simp
  have h13 : View.ld x13 r0_8 = x13 := by funext p; apply View.ld_unit_apply_of; intro a; fin_cases a <;> simp
  have h14 : View.ld x14 r0_8 = x14 := by funext p; apply View.ld_unit_apply_of; intro a; fin_cases a <;> simp
  rw [out_eq, h0, h1, h2, h3, h4, h5, h6, h7, h8, h9, h10, h11, h12, h13, h14, tN_apply]
  have ha : ∀ (a b : FVec Ideal S512x1024 .f32) (k : Fin 1024), addf a b (ix2 r k) = a (ix2 r k) + b (ix2 r k) := fun _ _ _ => rfl
  simp only [tC_apply, tR_apply, ha, tP_apply, tQ_apply, tY_apply, tM_apply, tF_apply, tO_apply, tD_apply, tL_apply]
  rfl
end Cert.Kernel5Ideal.Mix
-- ==== Proof.MixHost.lean ====
/- What the host computes before the output projection's call: the padded and block-diagonal weights, at an index. -/
module
public import proofs.«01_k».proof.Proof.MixTile
@[expose] public section
set_option maxRecDepth 16384
noncomputable section
namespace Cert.Kernel5Ideal.Mix
open Cert.Kernel5Ideal Cert.Kernel5Ideal.Gen Idealize.ShloMosaic Idealize.ShloMosaic.TcCoe Idealize.SL.Sem
open Idealize.ShloMosaic.StableHlo

section Vectors
variable {F : FTy → Type} [FloatOps F]
/-- The identity of size eight. -/
def hI8 : FVec F S8x8 .f32 := uitofp .f32 (cmpi .eq (addi (iotaInDim S8x8 32 0) (broadcastInDim S8x8 ![] bcast_S_S8x8 (constantI S_ 32 0#32))) (iotaInDim S8x8 32 1))
/-- The identity of size four. -/
def hI4 : FVec F S4x4 .f32 := uitofp .f32 (cmpi .eq (addi (iotaInDim S4x4 32 0) (broadcastInDim S4x4 ![] bcast_S_S4x4 (constantI S_ 32 0#32))) (iotaInDim S4x4 32 1))
/-- The latent group's weights, a block per head on the diagonal. -/
def hW (w : FVec F S128x512 .f32) : FVec F S1024x512 .bf16 :=
  truncf .bf16 (shapeCast S1024x512 (mulf
    (broadcastInDim S8x128x8x64 ![0, 1, 2, 3] bcast_S8x128x1x64_S8x128x8x64_0_1_2_3 (broadcastInDim S8x128x1x64 ![0, 1, 3] bcast_S8x128x64_S8x128x1x64_0_1_3
      (transpose S8x128x64 [1, 0, 2] (shapeCast S128x8x64 w shapeCasts_S128x512_S128x8x64) transposes_S128x8x64_S8x128x64_1_0_2)))
    (broadcastInDim S8x128x8x64 ![0, 1, 2, 3] bcast_S8x1x8x1_S8x128x8x64_0_1_2_3 (broadcastInDim S8x1x8x1 ![0, 2] bcast_S8x8_S8x1x8x1_0_2 hI8))) shapeCasts_S8x128x8x64_S1024x512) bitsLt_bf16_f32
/-- Ones on a head's first 64 columns, zeros on the rest. -/
def hH : FVec F S128 .f32 :=
  concatenate S128 0 [⟨S64, broadcastInDim S64 ![] bcast_S_S64 (constant S_ .f32 0x3F800000#32)⟩, ⟨S64, broadcastInDim S64 ![] bcast_S_S64 (constant S_ .f32 0x00000000#32)⟩] concatenates_S64_S64_S128_d0
/-- A head's norm scales, zeros on the rest of its columns. -/
def hG0 (g : FVec F S64 .f32) : FVec F S128 .f32 :=
  concatenate S128 0 [⟨S64, mulf g (broadcastInDim S64 ![] bcast_S_S64 (constant S_ .f32 0x3F4CCCCD#32))⟩, ⟨S64, broadcastInDim S64 ![] bcast_S_S64 (constant S_ .f32 0x00000000#32)⟩] concatenates_S64_S64_S128_d0
/-- The norm scales of the differential group's columns. -/
def hG (g : FVec F S64 .f32) : FVec F S1x512 .f32 :=
  broadcastInDim S1x512 ![1] bcast_S512_S1x512_1 (shapeCast S512 (broadcastInDim S4x128 ![0, 1] bcast_S1x128_S4x128_0_1 (shapeCast S1x128 (hG0 g) shapeCasts_S128_S1x128)) shapeCasts_S4x128_S512)
/-- A head's block of the averaging weights. -/
def hB0 : FVec F S128x128 .f32 :=
  Host.divf (mulf (broadcastInDim S128x128 ![0, 1] bcast_S128x1_S128x128_0_1 (broadcastInDim S128x1 ![0] bcast_S128_S128x1_0 hH))
    (broadcastInDim S128x128 ![0, 1] bcast_S1x128_S128x128_0_1 (broadcastInDim S1x128 ![1] bcast_S128_S1x128_1 hH))) (broadcastInDim S128x128 ![] bcast_S_S128x128 (constant S_ .f32 0x42800000#32))
/-- The averaging weights, a block per head on the diagonal. -/
def hB : FVec F S512x512 .bf16 :=
  truncf .bf16 (shapeCast S512x512 (mulf
    (broadcastInDim S4x128x4x128 ![0, 1, 2, 3] bcast_S4x1x4x1_S4x128x4x128_0_1_2_3 (broadcastInDim S4x1x4x1 ![0, 2] bcast_S4x4_S4x1x4x1_0_2 hI4))
    (broadcastInDim S4x128x4x128 ![0, 1, 2, 3] bcast_S1x128x1x128_S4x128x4x128_0_1_2_3 (broadcastInDim S1x128x1x128 ![1, 3] bcast_S128x128_S1x128x1x128_1_3 hB0))) shapeCasts_S4x128x4x128_S512x512) bitsLt_bf16_f32
/-- The differential group's rows of the projection, zero rows between the heads. -/
def hD (w : FVec F S1024x1024 .f32) : FVec F S512x1024 .bf16 :=
  truncf .bf16 (shapeCast S512x1024 (concatenate S4x128x1024 1 [⟨S4x64x1024, shapeCast S4x64x1024 (extractStridedSlice S256x1024 ![0, 0] w slices_S1024x1024_S256x1024_0_0) shapeCasts_S256x1024_S4x64x1024⟩,
    ⟨S4x64x1024, broadcastInDim S4x64x1024 ![] bcast_S_S4x64x1024 (constant S_ .f32 0x00000000#32)⟩] concatenates_S4x64x1024_S4x64x1024_S4x128x1024_d1) shapeCasts_S4x128x1024_S512x1024) bitsLt_bf16_f32
/-- The latent group's rows of the projection. -/
def hM (w : FVec F S1024x1024 .f32) : FVec F S512x1024 .bf16 := truncf .bf16 (extractStridedSlice S512x1024 ![256, 0] w slices_S1024x1024_S512x1024_256_0) bitsLt_bf16_f32
/-- The forgetting group's rows of the projection. -/
def hF (w : FVec F S1024x1024 .f32) : FVec F S256x1024 .bf16 := truncf .bf16 (extractStridedSlice S256x1024 ![768, 0] w slices_S1024x1024_S256x1024_768_0) bitsLt_bf16_f32

variable (m : (ℓ : Loc nD τ sig) → Buf (Elt F) ℓ) (c : Dev nD)
theorem V_gd : V m c main_v25 = hG (m (c, Proc.tc.devRef main_arg5)) := by
  show StableHlo.after (hostOps0 ++ (hostOps0_1 ++ (hostOps0_2 ++ []))) (fun b => m (c, b)) (Proc.tc.devRef main_v25) = _
  simp only [List.cons_append, List.nil_append]
  after_results
  rfl
theorem V_bmd : V m c main_v40 = (hB : FVec F S512x512 .bf16) := by
  show StableHlo.after (hostOps0 ++ (hostOps0_1 ++ (hostOps0_2 ++ []))) (fun b => m (c, b)) (Proc.tc.devRef main_v40) = _
  simp only [List.cons_append, List.nil_append]
  after_results
  rfl
theorem V_wuv : V m c main_v14 = hW (m (c, Proc.tc.devRef main_arg6)) := by
  show StableHlo.after (hostOps0 ++ (hostOps0_1 ++ (hostOps0_2 ++ []))) (fun b => m (c, b)) (Proc.tc.devRef main_v14) = _
  simp only [List.cons_append, List.nil_append]
  after_results
  rfl
theorem V_wod : V m c main_v46 = hD (m (c, Proc.tc.devRef main_arg9)) := by
  show StableHlo.after (hostOps0 ++ (hostOps0_1 ++ (hostOps0_2 ++ []))) (fun b => m (c, b)) (Proc.tc.devRef main_v46) = _
  simp only [List.cons_append, List.nil_append]
  after_results
  rfl
theorem V_wom : V m c main_v48 = hM (m (c, Proc.tc.devRef main_arg9)) := by
  show StableHlo.after (hostOps0 ++ (hostOps0_1 ++ (hostOps0_2 ++ []))) (fun b => m (c, b)) (Proc.tc.devRef main_v48) = _
  simp only [List.cons_append, List.nil_append]
  after_results
  rfl
theorem V_wof : V m c main_v50 = hF (m (c, Proc.tc.devRef main_arg9)) := by
  show StableHlo.after (hostOps0 ++ (hostOps0_1 ++ (hostOps0_2 ++ []))) (fun b => m (c, b)) (Proc.tc.devRef main_v50) = _
  simp only [List.cons_append, List.nil_append]
  after_results
  rfl
theorem V_mg : V m c main_v51 = broadcastInDim S1x512 ![1] bcast_S512_S1x512_1 (m (c, Proc.tc.devRef main_arg7) : FVec F S512 .f32) := by
  show StableHlo.after (hostOps0 ++ (hostOps0_1 ++ (hostOps0_2 ++ []))) (fun b => m (c, b)) (Proc.tc.devRef main_v51) = _
  simp only [List.cons_append, List.nil_append]
  after_results
theorem V_fg : V m c main_v52 = broadcastInDim S1x256 ![1] bcast_S256_S1x256_1 (m (c, Proc.tc.devRef main_arg8) : FVec F S256 .f32) := by
  show StableHlo.after (hostOps0 ++ (hostOps0_1 ++ (hostOps0_2 ++ []))) (fun b => m (c, b)) (Proc.tc.devRef main_v52) = _
  simp only [List.cons_append, List.nil_append]
  after_results
theorem V_g : V m c main_v53 = broadcastInDim S1x1024 ![1] bcast_S1024_S1x1024_1 (m (c, Proc.tc.devRef main_arg10) : FVec F S1024 .f32) := by
  show StableHlo.after (hostOps0 ++ (hostOps0_1 ++ (hostOps0_2 ++ []))) (fun b => m (c, b)) (Proc.tc.devRef main_v53) = _
  simp only [List.cons_append, List.nil_append]
  after_results
theorem V_b : V m c main_v54 = broadcastInDim S1x1024 ![1] bcast_S1024_S1x1024_1 (m (c, Proc.tc.devRef main_arg11) : FVec F S1024 .f32) := by
  show StableHlo.after (hostOps0 ++ (hostOps0_1 ++ (hostOps0_2 ++ []))) (fun b => m (c, b)) (Proc.tc.devRef main_v54) = _
  simp only [List.cons_append, List.nil_append]
  after_results
end Vectors

theorem hI8_apply (a b : Fin 8) : hI8 (F := Ideal) (ix2 a b) = if a = b then 1 else 0 := by
  pointwise [hI8]
  have e : IntOp.cmpi CmpIPredicate.eq (IntOp.addi (BitVec.ofNat 32 a.val) 0#32) (BitVec.ofNat 32 b.val) = if a = b then 1#1 else 0#1 := by
    revert a b; decide
  rw [e]
  by_cases h : a = b
  · rw [if_pos h, if_pos h]
    show ((((1#1 : BitVec 1).toNat : ℝ)) : EReal) = 1
    simp
  · rw [if_neg h, if_neg h]
    show ((((0#1 : BitVec 1).toNat : ℝ)) : EReal) = 0
    simp
theorem hI4_apply (a b : Fin 4) : hI4 (F := Ideal) (ix2 a b) = if a = b then 1 else 0 := by
  pointwise [hI4]
  have e : IntOp.cmpi CmpIPredicate.eq (IntOp.addi (BitVec.ofNat 32 a.val) 0#32) (BitVec.ofNat 32 b.val) = if a = b then 1#1 else 0#1 := by
    revert a b; decide
  rw [e]
  by_cases h : a = b
  · rw [if_pos h, if_pos h]
    show ((((1#1 : BitVec 1).toNat : ℝ)) : EReal) = 1
    simp
  · rw [if_neg h, if_neg h]
    show ((((0#1 : BitVec 1).toNat : ℝ)) : EReal) = 0
    simp
theorem hW_apply (w : FVec Ideal S128x512 .f32) (e : Fin 1024) (f : Fin 512) :
    hW w (ix2 e f) = if e.val / 128 = f.val / 64 then w (ix2 ⟨e.val % 128, by omega⟩ f) else 0 := by
  pointwise [hW, hI8_apply]
  split_ifs with h1 h h
  · have h2 : (⟨e.val / 128 * 64 + f.val % 64, by omega⟩ : Fin 512) = f := Fin.ext (by show e.val / 128 * 64 + f.val % 64 = f.val; omega)
    refine (mul_one _).trans ?_
    exact congrArg (fun k : Fin 512 => w (ix2 ⟨e.val % 128, by omega⟩ k)) h2
  · exact absurd (congrArg Fin.val h1) h
  · exact absurd (Fin.ext h) h1
  · exact mul_zero _
theorem hH_apply (k : Fin 128) : hH (F := Ideal) (ix1 k) = if k.val < 64 then 1 else 0 := by
  pointwise [hH]
  by_cases h : k.val < 64
  · rw [dif_pos h, if_pos h]
  · rw [dif_neg h, if_neg h]
theorem hG0_apply (g : FVec Ideal S64 .f32) (k : Fin 128) :
    hG0 g (ix1 k) = if h : k.val < 64 then g (ix1 ⟨k.val, h⟩) * Ideal.ofBits FTy.f32 0x3F4CCCCD#32 else 0 := by
  pointwise [hG0]
theorem hG_apply (g : FVec Ideal S64 .f32) (j : Fin 512) :
    hG g (ix2 0 j) = if h : j.val % 128 < 64 then g (ix1 ⟨j.val % 128, h⟩) * Ideal.ofBits FTy.f32 0x3F4CCCCD#32 else 0 := by
  pointwise [hG, hG0_apply]
theorem hB0_apply (a b : Fin 128) (hb : b.val < 64) : hB0 (F := Ideal) (ix2 a b) = if a.val < 64 then ((1 / 64 : ℝ) : EReal) else 0 := by
  pointwise [hB0, hH_apply, MixMath.div_64]
  by_cases h : a.val < 64
  · rw [if_pos h, if_pos h, if_pos hb, one_mul, one_mul]
  · rw [if_neg h, if_neg h, zero_mul, zero_mul]
theorem hB_apply (i j : Fin 512) (hj : j.val % 128 < 64) :
    hB (F := Ideal) (ix2 i j) = if i.val / 128 = j.val / 128 ∧ i.val % 128 < 64 then ((1 / 64 : ℝ) : EReal) else 0 := by
  pointwise [hB, hI4_apply]
  rw [hB0_apply _ _ hj]
  by_cases h : i.val / 128 = j.val / 128
  · have h1 : (⟨i.val / 128, by omega⟩ : Fin 4) = ⟨j.val / 128, by omega⟩ := Fin.ext h
    rw [if_pos h1, one_mul]
    by_cases h' : i.val % 128 < 64
    · rw [if_pos h', if_pos ⟨h, h'⟩]
    · rw [if_neg h', if_neg fun q => h' q.2]
  · rw [if_neg (fun he => h (congrArg Fin.val he)), zero_mul, if_neg fun q => h q.1]
theorem hD_apply (w : FVec Ideal S1024x1024 .f32) (j : Fin 512) (c : Fin 1024) (hj : j.val % 128 < 64) :
    hD w (ix2 j c) = w (ix2 ⟨j.val / 128 * 64 + j.val % 128, by omega⟩ c) := by
  pointwise [hD]
  exact dif_pos hj
theorem hM_apply (w : FVec Ideal S1024x1024 .f32) (f : Fin 512) (c : Fin 1024) : hM w (ix2 f c) = w (ix2 ⟨256 + f.val, by omega⟩ c) := by
  pointwise [hM]
theorem hF_apply (w : FVec Ideal S1024x1024 .f32) (f : Fin 256) (c : Fin 1024) : hF w (ix2 f c) = w (ix2 ⟨768 + f.val, by omega⟩ c) := by
  pointwise [hF]
theorem row512_apply (g : FVec Ideal S512 .f32) (k : Fin 512) : broadcastInDim S1x512 ![1] bcast_S512_S1x512_1 g (ix2 0 k) = g (ix1 k) := by
  pointwise []
theorem row256_apply (g : FVec Ideal S256 .f32) (k : Fin 256) : broadcastInDim S1x256 ![1] bcast_S256_S1x256_1 g (ix2 0 k) = g (ix1 k) := by
  pointwise []
theorem row_apply (g : FVec Ideal S1024 .f32) (k : Fin 1024) : broadcastInDim S1x1024 ![1] bcast_S1024_S1x1024_1 g (ix2 0 k) = g (ix1 k) := by
  pointwise []
end Cert.Kernel5Ideal.Mix
-- ==== Proof.MixRef.lean ====
/- The output projection's reference at an index: the same element function of the row and the weights. -/
module
public import proofs.«01_k».proof.Proof.MixMath
public import Idealize.ShloMosaic.Lib.KernelVsHost
public import proofs.«01_k».proof.Proof.Gen.Reference5Ideal.Run
@[expose] public section
set_option maxRecDepth 16384
noncomputable section
namespace Cert.Reference5Ideal.Mix
open Cert.Reference5Ideal Cert.Reference5Ideal.Gen Idealize.ShloMosaic Idealize.ShloMosaic.TcCoe Idealize.SL.Sem
open Cert.MixMath (lam nrm dif yD lat mean norm)

section Vectors
variable {F : FTy → Type} [FloatOps F]
/-- The second map's weight. -/
def rL (d : FVec F S4x32 .f32) : FVec F S_ .f32 :=
  addf (subf
    (Host.exp (Host.reduceAdd (mulf (shapeCast _ (extractStridedSlice S1x32 ![0, 0] d slices_S4x32_S1x32_0_0) shapeCasts_S1x32_S32) (shapeCast _ (extractStridedSlice S1x32 ![1, 0] d slices_S4x32_S1x32_1_0) shapeCasts_S1x32_S32)) (constant S_ .f32 0x00000000#32) reducesTo_S32_S_d0 h_S_))
    (Host.exp (Host.reduceAdd (mulf (shapeCast _ (extractStridedSlice S1x32 ![2, 0] d slices_S4x32_S1x32_2_0) shapeCasts_S1x32_S32) (shapeCast _ (extractStridedSlice S1x32 ![3, 0] d slices_S4x32_S1x32_3_0) shapeCasts_S1x32_S32)) (constant S_ .f32 0x00000000#32) reducesTo_S32_S_d0 h_S_)))
    (constant S_ .f32 0x3E4CCCCD#32)
/-- The maps' difference. -/
def rD (od : FVec F S16384x512 .f32) (l : FVec F S_ .f32) : FVec F S16384x4x64 .f32 :=
  subf (shapeCast _ (extractStridedSlice S16384x4x1x64 ![0, 0, 0, 0] (shapeCast _ od shapeCasts_S16384x512_S16384x4x2x64) slices_S16384x4x2x64_S16384x4x1x64_0_0_0_0) shapeCasts_S16384x4x1x64_S16384x4x64)
    (mulf (broadcastInDim S16384x4x64 ![] bcast_S_S16384x4x64 l)
      (shapeCast _ (extractStridedSlice S16384x4x1x64 ![0, 0, 1, 0] (shapeCast _ od shapeCasts_S16384x512_S16384x4x2x64) slices_S16384x4x2x64_S16384x4x1x64_0_0_1_0) shapeCasts_S16384x4x1x64_S16384x4x64))
/-- The differential group. -/
def rY (d : FVec F S16384x4x64 .f32) (g : FVec F S64 .f32) : FVec F S16384x4x64 .f32 :=
  mulf (mulf (mulf d (broadcastInDim S16384x4x64 ![0, 1, 2] bcast_S16384x4x1_S16384x4x64_0_1_2 (Host.rsqrt (addf (Host.divf (broadcastInDim S16384x4x1 ![0, 1] bcast_S16384x4_S16384x4x1_0_1 (Host.reduceAdd (mulf d d) (constant S_ .f32 0x00000000#32) reducesTo_S16384x4x64_S16384x4_d2 h_S_)) (broadcastInDim S16384x4x1 ![] bcast_S_S16384x4x1 (constant S_ .f32 0x42800000#32))) (broadcastInDim S16384x4x1 ![] bcast_S_S16384x4x1 (constant S_ .f32 0x358637BD#32))))))
    (broadcastInDim S16384x4x64 ![0, 1, 2] bcast_S1x1x64_S16384x4x64_0_1_2 (broadcastInDim S1x1x64 ![2] bcast_S64_S1x1x64_2 g)))
    (broadcastInDim S16384x4x64 ![] bcast_S_S16384x4x64 (constant S_ .f32 0x3F4CCCCD#32))
/-- The latent group. -/
def rO (om : FVec F S16384x1024 .f32) (w : FVec F S128x512 .f32) : FVec F S16384x512 .f32 :=
  shapeCast _ (transpose S16384x8x64 [2, 0, 1] (Host.dotGeneral dot_S128x8x64_S16384x8x128_S8x64x16384_0_2_2_0_1_1 none (shapeCast _ w shapeCasts_S128x512_S128x8x64 : FVec F S128x8x64 .f32) (shapeCast _ om shapeCasts_S16384x1024_S16384x8x128 : FVec F S16384x8x128 .f32))
    transposes_S8x64x16384_S16384x8x64_2_0_1) shapeCasts_S16384x8x64_S16384x512
/-- The latent group, normed. -/
def rM (v : FVec F S16384x512 .f32) (g : FVec F S512 .f32) : FVec F S16384x512 .f32 :=
  mulf (mulf v (broadcastInDim S16384x512 ![0, 1] bcast_S16384x1_S16384x512_0_1 (Host.rsqrt (addf (Host.divf (broadcastInDim S16384x1 ![0] bcast_S16384_S16384x1_0 (Host.reduceAdd (mulf v v) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32))))))
    (broadcastInDim S16384x512 ![0, 1] bcast_S1x512_S16384x512_0_1 (broadcastInDim S1x512 ![1] bcast_S512_S1x512_1 g))
/-- The forgetting group, normed. -/
def rF (v : FVec F S16384x256 .f32) (g : FVec F S256 .f32) : FVec F S16384x256 .f32 :=
  mulf (mulf v (broadcastInDim S16384x256 ![0, 1] bcast_S16384x1_S16384x256_0_1 (Host.rsqrt (addf (Host.divf (broadcastInDim S16384x1 ![0] bcast_S16384_S16384x1_0 (Host.reduceAdd (mulf v v) (constant S_ .f32 0x00000000#32) reducesTo_S16384x256_S16384_d1 h_S_)) (broadcastInDim S16384x1 ![] bcast_S_S16384x1 (constant S_ .f32 0x43800000#32))) (broadcastInDim S16384x1 ![] bcast_S_S16384x1 (constant S_ .f32 0x358637BD#32))))))
    (broadcastInDim S16384x256 ![0, 1] bcast_S1x256_S16384x256_0_1 (broadcastInDim S1x256 ![1] bcast_S256_S1x256_1 g))
/-- The groups beside each other. -/
def rG (a : FVec F S16384x4x64 .f32) (b : FVec F S16384x512 .f32) (d : FVec F S16384x256 .f32) : FVec F S16384x1024 .f32 :=
  Value.fn_main_v73 (shapeCast _ a shapeCasts_S16384x4x64_S16384x256) b d
/-- The residual. -/
def rR (x y : FVec F S16384x1024 .f32) (w : FVec F S1024x1024 .f32) : FVec F S16384x1024 .f32 :=
  addf (mulf (broadcastInDim S16384x1024 ![] bcast_S_S16384x1024 (constant S_ .f32 0x3FB504F3#32)) x) (Host.dotGeneral dot_S16384x1024_S1024x1024_S16384x1024_1_0_0_1_n_n none y w)
/-- The rows' means. -/
def rA (y : FVec F S16384x1024 .f32) : FVec F S16384x1 .f32 :=
  Host.divf (broadcastInDim S16384x1 ![0] bcast_S16384_S16384x1_0 (Host.reduceAdd y (constant S_ .f32 0x00000000#32) reducesTo_S16384x1024_S16384_d1 h_S_)) (broadcastInDim S16384x1 ![] bcast_S_S16384x1 (constant S_ .f32 0x44800000#32))
/-- The rows less their means. -/
def rC (y : FVec F S16384x1024 .f32) : FVec F S16384x1024 .f32 :=
  subf y (broadcastInDim S16384x1024 ![0, 1] bcast_S16384x1_S16384x1024_0_1 (rA y))
/-- The centred rows over their deviations, scaled and shifted. -/
def rN (y : FVec F S16384x1024 .f32) (g b : FVec F S1024 .f32) : FVec F S16384x1024 .f32 :=
  addf (mulf (mulf y (broadcastInDim S16384x1024 ![0, 1] bcast_S16384x1_S16384x1024_0_1 (Host.rsqrt (addf (rA (mulf y y)) (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 b))
/-- The reference's result. -/
def rZ (x : FVec F S16384x1024 .f32) (od : FVec F S16384x512 .f32) (om : FVec F S16384x1024 .f32) (of : FVec F S16384x256 .f32) (d : FVec F S4x32 .f32) (sg : FVec F S64 .f32)
    (w : FVec F S128x512 .f32) (mg : FVec F S512 .f32) (fg : FVec F S256 .f32) (wo : FVec F S1024x1024 .f32) (g b : FVec F S1024 .f32) : FVec F S16384x1024 .f32 :=
  rN (rC (rR x (rG (rY (rD od (rL d)) sg) (rM (rO om w) mg) (rF of fg)) wo)) g b

theorem res_eq (m : (ℓ : Loc nD τ sig) → Buf (Elt F) ℓ) (c : Dev nD) :
    Value.res_out0 m c = rZ (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl
end Vectors

theorem rL_apply (d : FVec Ideal S4x32 .f32) (i : S_.Idx) : rL d i = lam fun a i => d (ix2 a i) := by
  pointwise [rL, lam]
theorem rD_apply (od : FVec Ideal S16384x512 .f32) (l : FVec Ideal S_ .f32) (r : Fin 16384) (hd : Fin 4) (ch : Fin 64) :
    rD od l (ix3 r hd ch) = dif (fun e => od (ix2 r e)) (l ix0) hd ch := by
  pointwise [rD, dif]
theorem rY_apply (d : FVec Ideal S16384x4x64 .f32) (g : FVec Ideal S64 .f32) (r : Fin 16384) (hd : Fin 4) (ch : Fin 64) :
    rY d g (ix3 r hd ch) = nrm (Ideal.ofBits FTy.f32 0x42800000#32) (fun e => d (ix3 r hd e)) ch * g (ix1 ch) * Ideal.ofBits FTy.f32 0x3F4CCCCD#32 := by
  pointwise [rY, nrm]
theorem rO_apply (om : FVec Ideal S16384x1024 .f32) (w : FVec Ideal S128x512 .f32) (r : Fin 16384) (f : Fin 512) :
    rO om w (ix2 r f) = lat (fun e => om (ix2 r e)) (fun k f => w (ix2 k f)) f := by
  pointwise [rO, lat]
theorem rM_apply (v : FVec Ideal S16384x512 .f32) (g : FVec Ideal S512 .f32) (r : Fin 16384) (f : Fin 512) :
    rM v g (ix2 r f) = nrm (Ideal.ofBits FTy.f32 0x44000000#32) (fun e => v (ix2 r e)) f * g (ix1 f) := by
  pointwise [rM, nrm]
theorem rF_apply (v : FVec Ideal S16384x256 .f32) (g : FVec Ideal S256 .f32) (r : Fin 16384) (f : Fin 256) :
    rF v g (ix2 r f) = nrm (Ideal.ofBits FTy.f32 0x43800000#32) (fun e => v (ix2 r e)) f * g (ix1 f) := by
  pointwise [rF, nrm]
theorem rG_diff (a : FVec Ideal S16384x4x64 .f32) (b : FVec Ideal S16384x512 .f32) (d : FVec Ideal S16384x256 .f32) (r : Fin 16384) (k : Fin 256) :
    rG a b d (ix2 r ⟨k.val, by omega⟩) = a (ix3 r ⟨k.val / 64, by omega⟩ ⟨k.val % 64, by omega⟩) := by
  pointwise [rG, Value.fn_main_v73]
theorem rG_mla (a : FVec Ideal S16384x4x64 .f32) (b : FVec Ideal S16384x512 .f32) (d : FVec Ideal S16384x256 .f32) (r : Fin 16384) (k : Fin 512) :
    rG a b d (ix2 r ⟨256 + k.val, by omega⟩) = b (ix2 r k) := by
  pointwise [rG, Value.fn_main_v73]
theorem rG_fox (a : FVec Ideal S16384x4x64 .f32) (b : FVec Ideal S16384x512 .f32) (d : FVec Ideal S16384x256 .f32) (r : Fin 16384) (k : Fin 256) :
    rG a b d (ix2 r ⟨768 + k.val, by omega⟩) = d (ix2 r k) := by
  pointwise [rG, Value.fn_main_v73]
  have e : (⟨768 + k.val - 256 - 512, by omega⟩ : Fin 256) = k := Fin.ext (by show 768 + k.val - 256 - 512 = k.val; omega)
  rw [dif_neg (by omega), dif_neg (by omega)]
  exact congrArg (fun k : Fin 256 => d (ix2 r k)) e
theorem rR_apply (x y : FVec Ideal S16384x1024 .f32) (w : FVec Ideal S1024x1024 .f32) (r : Fin 16384) (c : Fin 1024) :
    rR x y w (ix2 r c) = Ideal.ofBits FTy.f32 0x3FB504F3#32 * x (ix2 r c) + ∑ k : Fin 1024, y (ix2 r k) * w (ix2 k c) := by
  pointwise [rR]
theorem rA_apply (y : FVec Ideal S16384x1024 .f32) (r : Fin 16384) :
    rA y (ix2 r 0) = mean fun e => y (ix2 r e) := by
  pointwise [rA, mean]
theorem rC_apply (y : FVec Ideal S16384x1024 .f32) (r : Fin 16384) (c : Fin 1024) :
    rC y (ix2 r c) = y (ix2 r c) - mean fun e => y (ix2 r e) := by
  pointwise [rC, rA_apply]
theorem rN_apply (y : FVec Ideal S16384x1024 .f32) (g b : FVec Ideal S1024 .f32) (r : Fin 16384) (c : Fin 1024) :
    rN y g b (ix2 r c) = norm (fun e => y (ix2 r e)) c (g (ix1 c)) (b (ix1 c)) := by
  pointwise [rN, MixMath.norm, rA_apply]

theorem rZ_apply (x : FVec Ideal S16384x1024 .f32) (od : FVec Ideal S16384x512 .f32) (om : FVec Ideal S16384x1024 .f32) (of : FVec Ideal S16384x256 .f32) (d : FVec Ideal S4x32 .f32) (sg : FVec Ideal S64 .f32)
    (w : FVec Ideal S128x512 .f32) (mg : FVec Ideal S512 .f32) (fg : FVec Ideal S256 .f32) (wo : FVec Ideal S1024x1024 .f32) (g b : FVec Ideal S1024 .f32) (r : Fin 16384) (c : Fin 1024) :
    rZ x od om of d sg w mg fg wo g b (ix2 r c)
      = MixMath.fin (fun k => x (ix2 r k)) (fun k => MixMath.prod (fun e => od (ix2 r e)) (lam fun a i => d (ix2 a i)) (fun ch => sg (ix1 ch)) (fun e => om (ix2 r e)) (fun e f => w (ix2 e f)) (fun f => mg (ix1 f))
          (fun e => of (ix2 r e)) (fun f => fg (ix1 f)) (fun e => wo (ix2 e k))) c (g (ix1 c)) (b (ix1 c)) := by
  unfold rZ
  rw [rN_apply]
  simp only [rC_apply, rR_apply, MixMath.sum_groups, rG_diff, rG_mla, rG_fox, rY_apply, rD_apply, rL_apply, rM_apply, rO_apply, rF_apply]
  rfl
end Cert.Reference5Ideal.Mix
-- ==== Proof.MixValue.lean ====
/- The output projection's call leaves the reference's result, whatever the arguments. -/
module
public import proofs.«01_k».proof.Proof.MixHost
public import proofs.«01_k».proof.Proof.MixRef
@[expose] public section
set_option maxRecDepth 16384
noncomputable section
namespace Cert.Kernel5Ideal.Mix
open Cert.Kernel5Ideal Cert.Kernel5Ideal.Gen Idealize.ShloMosaic Idealize.ShloMosaic.TcCoe Idealize.SL.Sem

theorem idx0 : ∀ t : Fin cfg0.N, win0_0.index t = ![(grid0.coords t 0).val, 0] := by decide +kernel
theorem idx1 : ∀ t : Fin cfg0.N, win0_1.index t = ![(grid0.coords t 0).val, 0] := by decide +kernel
theorem idx2 : ∀ t : Fin cfg0.N, win0_2.index t = ![(grid0.coords t 0).val, 0] := by decide +kernel
theorem idx3 : ∀ t : Fin cfg0.N, win0_3.index t = ![(grid0.coords t 0).val, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0] := by decide +kernel
theorem idx15 : ∀ t : Fin cfg0.N, win0_15.index t = ![(grid0.coords t 0).val, 0] := by decide +kernel

/-- Each window's block, read off any array. -/
theorem rd0 (A : FVec Ideal S16384x1024 .f32) (t : Fin cfg0.N) (r : Fin 512) (e : Fin 1024) (R : Fin 16384) (hR : R.val = (grid0.coords t 0).val * 512 + r.val) :
    ((cfg0.win 0).blk t).view.read (Elt Ideal) A (ix2 r e) = A (ix2 R e) := by
  blk_ext [idx0 t]
theorem rd1 (A : FVec Ideal S16384x512 .f32) (t : Fin cfg0.N) (r : Fin 512) (e : Fin 512) (R : Fin 16384) (hR : R.val = (grid0.coords t 0).val * 512 + r.val) :
    ((cfg0.win 1).blk t).view.read (Elt Ideal) A (ix2 r e) = A (ix2 R e) := by
  blk_ext [idx1 t]
theorem rd2 (A : FVec Ideal S16384x1024 .f32) (t : Fin cfg0.N) (r : Fin 512) (e : Fin 1024) (R : Fin 16384) (hR : R.val = (grid0.coords t 0).val * 512 + r.val) :
    ((cfg0.win 2).blk t).view.read (Elt Ideal) A (ix2 r e) = A (ix2 R e) := by
  blk_ext [idx2 t]
theorem rd3 (A : FVec Ideal S16384x256 .f32) (t : Fin cfg0.N) (r : Fin 512) (e : Fin 256) (R : Fin 16384) (hR : R.val = (grid0.coords t 0).val * 512 + r.val) :
    ((cfg0.win 3).blk t).view.read (Elt Ideal) A (ix2 r e) = A (ix2 R e) := by
  blk_ext [idx3 t]
theorem rd4 (A : FVec Ideal S4x32 .f32) (t : Fin cfg0.N) (e : Fin 4) (k : Fin 32) :
    ((cfg0.win 4).blk t).view.read (Elt Ideal) A (ix2 e k) = A (ix2 e k) := by
  blk_ext [idx4 t]
theorem rd5 (A : FVec Ideal S1x512 .f32) (t : Fin cfg0.N) (e : Fin 512) :
    ((cfg0.win 5).blk t).view.read (Elt Ideal) A (ix2 0 e) = A (ix2 0 e) := by
  blk_ext [idx5 t]
theorem rd6 (A : FVec Ideal S512x512 .bf16) (t : Fin cfg0.N) (e : Fin 512) (k : Fin 512) :
    ((cfg0.win 6).blk t).view.read (Elt Ideal) A (ix2 e k) = A (ix2 e k) := by
  blk_ext [idx6 t]
theorem rd7 (A : FVec Ideal S1024x512 .bf16) (t : Fin cfg0.N) (e : Fin 1024) (k : Fin 512) :
    ((cfg0.win 7).blk t).view.read (Elt Ideal) A (ix2 e k) = A (ix2 e k) := by
  blk_ext [idx7 t]
theorem rd8 (A : FVec Ideal S1x512 .f32) (t : Fin cfg0.N) (e : Fin 512) :
    ((cfg0.win 8).blk t).view.read (Elt Ideal) A (ix2 0 e) = A (ix2 0 e) := by
  blk_ext [idx8 t]
theorem rd9 (A : FVec Ideal S1x256 .f32) (t : Fin cfg0.N) (e : Fin 256) :
    ((cfg0.win 9).blk t).view.read (Elt Ideal) A (ix2 0 e) = A (ix2 0 e) := by
  blk_ext [idx9 t]
theorem rd10 (A : FVec Ideal S512x1024 .bf16) (t : Fin cfg0.N) (e : Fin 512) (k : Fin 1024) :
    ((cfg0.win 10).blk t).view.read (Elt Ideal) A (ix2 e k) = A (ix2 e k) := by
  blk_ext [idx10 t]
theorem rd11 (A : FVec Ideal S512x1024 .bf16) (t : Fin cfg0.N) (e : Fin 512) (k : Fin 1024) :
    ((cfg0.win 11).blk t).view.read (Elt Ideal) A (ix2 e k) = A (ix2 e k) := by
  blk_ext [idx11 t]
theorem rd12 (A : FVec Ideal S256x1024 .bf16) (t : Fin cfg0.N) (e : Fin 256) (k : Fin 1024) :
    ((cfg0.win 12).blk t).view.read (Elt Ideal) A (ix2 e k) = A (ix2 e k) := by
  blk_ext [idx12 t]
theorem rd13 (A : FVec Ideal S1x1024 .f32) (t : Fin cfg0.N) (e : Fin 1024) :
    ((cfg0.win 13).blk t).view.read (Elt Ideal) A (ix2 0 e) = A (ix2 0 e) := by
  blk_ext [idx13 t]
theorem rd14 (A : FVec Ideal S1x1024 .f32) (t : Fin cfg0.N) (e : Fin 1024) :
    ((cfg0.win 14).blk t).view.read (Elt Ideal) A (ix2 0 e) = A (ix2 0 e) := by
  blk_ext [idx14 t]

variable (m : (ℓ : Loc nD τ sig) → Buf (Elt Ideal) ℓ) (c : Dev nD)
theorem blk0 (t : Fin cfg0.N) (r : Fin 512) (e : Fin 1024) (R : Fin 16384) (hR : R.val = (grid0.coords t 0).val * 512 + r.val) :
    iblk m c 0 t (ix2 r e) = (m (c, Proc.tc.devRef main_arg0) : FVec Ideal S16384x1024 .f32) (ix2 R e) :=
  (rd0 (V m c main_arg0) t r e R hR).trans (congrFun (V_main_arg0 m c) _)
theorem blk1 (t : Fin cfg0.N) (r : Fin 512) (e : Fin 512) (R : Fin 16384) (hR : R.val = (grid0.coords t 0).val * 512 + r.val) :
    iblk m c 1 t (ix2 r e) = (m (c, Proc.tc.devRef main_arg1) : FVec Ideal S16384x512 .f32) (ix2 R e) :=
  (rd1 (V m c main_arg1) t r e R hR).trans (congrFun (V_main_arg1 m c) _)
theorem blk2 (t : Fin cfg0.N) (r : Fin 512) (e : Fin 1024) (R : Fin 16384) (hR : R.val = (grid0.coords t 0).val * 512 + r.val) :
    iblk m c 2 t (ix2 r e) = (m (c, Proc.tc.devRef main_arg2) : FVec Ideal S16384x1024 .f32) (ix2 R e) :=
  (rd2 (V m c main_arg2) t r e R hR).trans (congrFun (V_main_arg2 m c) _)
theorem blk3 (t : Fin cfg0.N) (r : Fin 512) (e : Fin 256) (R : Fin 16384) (hR : R.val = (grid0.coords t 0).val * 512 + r.val) :
    iblk m c 3 t (ix2 r e) = (m (c, Proc.tc.devRef main_arg3) : FVec Ideal S16384x256 .f32) (ix2 R e) :=
  (rd3 (V m c main_arg3) t r e R hR).trans (congrFun (V_main_arg3 m c) _)
theorem blk4 (t : Fin cfg0.N) (e : Fin 4) (k : Fin 32) :
    iblk m c 4 t (ix2 e k) = (m (c, Proc.tc.devRef main_arg4) : FVec Ideal S4x32 .f32) (ix2 e k) :=
  (rd4 (V m c main_arg4) t e k).trans (congrFun (V_main_arg4 m c) _)
theorem blk5 (t : Fin cfg0.N) (e : Fin 512) :
    iblk m c 5 t (ix2 0 e) = (if h : e.val % 128 < 64 then HMul.hMul (α := EReal) (β := EReal) (γ := EReal) ((m (c, Proc.tc.devRef main_arg5) : FVec Ideal S64 .f32) (ix1 ⟨e.val % 128, h⟩)) (Ideal.ofBits FTy.f32 0x3F4CCCCD#32) else 0 : EReal) :=
  (rd5 (V m c main_v25) t e).trans ((congrFun (V_gd m c) _).trans (hG_apply _ e))
theorem blk6 (t : Fin cfg0.N) (i j : Fin 512) (hj : j.val % 128 < 64) :
    iblk m c 6 t (ix2 i j) = if i.val / 128 = j.val / 128 ∧ i.val % 128 < 64 then ((1 / 64 : ℝ) : EReal) else 0 :=
  (rd6 (V m c main_v40) t i j).trans ((congrFun (V_bmd m c) _).trans (hB_apply i j hj))
theorem blk7 (t : Fin cfg0.N) (e : Fin 1024) (f : Fin 512) :
    iblk m c 7 t (ix2 e f) = (if e.val / 128 = f.val / 64 then ((m (c, Proc.tc.devRef main_arg6) : FVec Ideal S128x512 .f32) (ix2 ⟨e.val % 128, by omega⟩ f) : EReal) else 0 : EReal) :=
  (rd7 (V m c main_v14) t e f).trans ((congrFun (V_wuv m c) _).trans (hW_apply _ e f))
theorem blk8 (t : Fin cfg0.N) (e : Fin 512) :
    iblk m c 8 t (ix2 0 e) = (m (c, Proc.tc.devRef main_arg7) : FVec Ideal S512 .f32) (ix1 e) :=
  (rd8 (V m c main_v51) t e).trans ((congrFun (V_mg m c) _).trans (row512_apply _ e))
theorem blk9 (t : Fin cfg0.N) (e : Fin 256) :
    iblk m c 9 t (ix2 0 e) = (m (c, Proc.tc.devRef main_arg8) : FVec Ideal S256 .f32) (ix1 e) :=
  (rd9 (V m c main_v52) t e).trans ((congrFun (V_fg m c) _).trans (row256_apply _ e))
theorem blk10 (t : Fin cfg0.N) (j : Fin 512) (k : Fin 1024) (hj : j.val % 128 < 64) :
    iblk m c 10 t (ix2 j k) = (m (c, Proc.tc.devRef main_arg9) : FVec Ideal S1024x1024 .f32) (ix2 ⟨j.val / 128 * 64 + j.val % 128, by omega⟩ k) :=
  (rd10 (V m c main_v46) t j k).trans ((congrFun (V_wod m c) _).trans (hD_apply _ j k hj))
theorem blk11 (t : Fin cfg0.N) (f : Fin 512) (k : Fin 1024) :
    iblk m c 11 t (ix2 f k) = (m (c, Proc.tc.devRef main_arg9) : FVec Ideal S1024x1024 .f32) (ix2 ⟨256 + f.val, by omega⟩ k) :=
  (rd11 (V m c main_v48) t f k).trans ((congrFun (V_wom m c) _).trans (hM_apply _ f k))
theorem blk12 (t : Fin cfg0.N) (f : Fin 256) (k : Fin 1024) :
    iblk m c 12 t (ix2 f k) = (m (c, Proc.tc.devRef main_arg9) : FVec Ideal S1024x1024 .f32) (ix2 ⟨768 + f.val, by omega⟩ k) :=
  (rd12 (V m c main_v50) t f k).trans ((congrFun (V_wof m c) _).trans (hF_apply _ f k))
theorem blk13 (t : Fin cfg0.N) (e : Fin 1024) :
    iblk m c 13 t (ix2 0 e) = (m (c, Proc.tc.devRef main_arg10) : FVec Ideal S1024 .f32) (ix1 e) :=
  (rd13 (V m c main_v53) t e).trans ((congrFun (V_g m c) _).trans (row_apply _ e))
theorem blk14 (t : Fin cfg0.N) (e : Fin 1024) :
    iblk m c 14 t (ix2 0 e) = (m (c, Proc.tc.devRef main_arg11) : FVec Ideal S1024 .f32) (ix1 e) :=
  (rd14 (V m c main_v54) t e).trans ((congrFun (V_b m c) _).trans (row_apply _ e))

/-- The kernel's three products are the reference's, on weights laid out as the host lays them. -/
theorem kprod_eq {od od' : Fin 512 → EReal} {l l' : EReal} {bmd : Fin 512 → Fin 512 → EReal} {gd wod : Fin 512 → EReal} {om om' : Fin 1024 → EReal} {wv : Fin 1024 → Fin 512 → EReal}
    {mg mg' wom : Fin 512 → EReal} {of of' fg fg' wof : Fin 256 → EReal} (sg : Fin 64 → EReal) (wuv : Fin 128 → Fin 512 → EReal) (wo : Fin 1024 → EReal)
    (h1 : ∀ e, od e = od' e) (h4 : l = l')
    (hb : ∀ i j : Fin 512, j.val % 128 < 64 → bmd i j = if i.val / 128 = j.val / 128 ∧ i.val % 128 < 64 then ((1 / 64 : ℝ) : EReal) else 0)
    (hg : ∀ j : Fin 512, gd j = if h : j.val % 128 < 64 then sg ⟨j.val % 128, h⟩ * Ideal.ofBits FTy.f32 0x3F4CCCCD#32 else 0)
    (hw : ∀ j : Fin 512, j.val % 128 < 64 → wod j = wo ⟨j.val / 128 * 64 + j.val % 128, by omega⟩)
    (h2 : ∀ e, om e = om' e)
    (hv : ∀ (f : Fin 512) (e : Fin 1024), wv e f = if e.val / 128 = f.val / 64 then wuv ⟨e.val % 128, by omega⟩ f else 0)
    (h8 : ∀ f, mg f = mg' f) (hm : ∀ f : Fin 512, wom f = wo ⟨256 + f.val, by omega⟩) (h3 : ∀ e, of e = of' e) (h9 : ∀ f, fg f = fg' f)
    (hf : ∀ f : Fin 256, wof f = wo ⟨768 + f.val, by omega⟩) :
    kprod od l bmd gd wod om wv mg wom of fg wof = MixMath.prod od' l' sg om' wuv mg' of' fg' wo := by
  obtain rfl : od = od' := funext h1
  obtain rfl : om = om' := funext h2
  obtain rfl : mg = mg' := funext h8
  obtain rfl : of = of' := funext h3
  obtain rfl : fg = fg' := funext h9
  unfold kprod MixMath.prod
  rw [h4, MixMath.diff_part od l' sg bmd gd wod wo hb hg hw, funext fun f => MixMath.lat_eq om wuv (fun e => wv e f) f (hv f)]
  simp only [hm, hf]

theorem fin_congr {x x' p p' : Fin 1024 → EReal} {g g' b b' : EReal} (k : Fin 1024) (h0 : ∀ e, x e = x' e) (h1 : ∀ e, p e = p' e) (h2 : g = g') (h3 : b = b') :
    MixMath.fin x p k g b = MixMath.fin x' p' k g' b' := by
  obtain rfl : x = x' := funext h0
  obtain rfl : p = p' := funext h1
  rw [h2, h3]

theorem lam_congr {d d' : Fin 4 → Fin 32 → EReal} (h : ∀ a i, d a i = d' a i) : MixMath.lam d = MixMath.lam d' := by
  obtain rfl : d = d' := funext fun a => funext (h a)
  rfl

theorem arr_eq :
    (dats m 0 c).arrAt 15 cfg0.N = Reference5Ideal.Mix.rZ (F := Ideal) (m (c, Proc.tc.devRef main_arg0)) (m (c, Proc.tc.devRef main_arg1)) (m (c, Proc.tc.devRef main_arg2))
      (m (c, Proc.tc.devRef main_arg3)) (m (c, Proc.tc.devRef main_arg4)) (m (c, Proc.tc.devRef main_arg5)) (m (c, Proc.tc.devRef main_arg6)) (m (c, Proc.tc.devRef main_arg7))
      (m (c, Proc.tc.devRef main_arg8)) (m (c, Proc.tc.devRef main_arg9)) (m (c, Proc.tc.devRef main_arg10)) (m (c, Proc.tc.devRef main_arg11)) := by
  refine (dats m 0 c).arrAt_eq_of_covers 15 _ (by decide +kernel) fun t hf y => ?_
  blk_simp
  rw [after0_15]
  obtain ⟨r, C, rfl⟩ : ∃ (r : Fin 512) (C : Fin 1024), y = ix2 r C := ⟨y 0, y 1, by funext a; fin_cases a <;> rfl⟩
  have b0 : (grid0.coords t 0).val < 32 := (grid0.coords t 0).isLt
  have e : ((cfg0.win 15).blk t).view.emb (ix2 r C) = ix2 (⟨(grid0.coords t 0).val * 512 + r.val, by omega⟩ : Fin 16384) C := by
    blk_ext [idx15 t]
  refine (out_apply _ _ _ _ _ _ _ _ _ _ _ _ _ _ _ r C).trans (Eq.trans ?_ (congrArg _ e.symm))
  rw [Reference5Ideal.Mix.rZ_apply]
  exact fin_congr C (fun k => blk0 m c t r k _ rfl)
    (fun k => kprod_eq _ _ _ (fun e => blk1 m c t r e _ rfl) (lam_congr fun a i => blk4 m c t a i) (fun i j hj => blk6 m c t i j hj) (fun j => blk5 m c t j)
      (fun j hj => blk10 m c t j k hj) (fun e => blk2 m c t r e _ rfl) (fun f e => blk7 m c t e f) (fun f => blk8 m c t f) (fun f => blk11 m c t f k)
      (fun e => blk3 m c t r e _ rfl) (fun f => blk9 m c t f) (fun f => blk12 m c t f k))
    (blk13 m c t C) (blk14 m c t C)
end Cert.Kernel5Ideal.Mix
-- ==== Proof.FoxRows.lean ====
/- The forgetting attention's payloads: a tile of 1024 queries of one head against a block of 1024 keys.

   The two heads of a tile run the same arithmetic on their own queries and their own cumulative gates, against the same
   keys and values. It is written here once, as functions of a tile's scores, and read at an index. -/
module
public import proofs.«01_k».proof.Proof.Gen.Kernel4Ideal.Value
public import proofs.«01_k».proof.Proof.FlashMath
public import Idealize.ShloMosaic.Lib.Pipeline.ValueKit
public import Idealize.ShloMosaic.Lib.Pointwise
@[expose] public section
set_option maxRecDepth 16384
noncomputable section
namespace Cert.Kernel4Ideal.Fox
open Cert.Kernel4Ideal Cert.Kernel4Ideal.Gen Idealize.ShloMosaic Idealize.ShloMosaic.TcCoe Idealize.SL.Sem
open Cert.FlashMath

section Vectors
variable {F : FTy → Type} [FloatOps F] [Named F]
/-- The scores of a tile of queries against a block of keys: the products, and the queries' cumulative gates `cq` less the
    keys', `cr`, which the kernel scales. -/
def vS (q : FVec F S1024x64 .bf16) (kb : FVec F S64x1024 .bf16) (cq : FVec F S1024x1 .f32) (cr : Vec F S1x1x1x1x1024 .f32) : FVec F S1024x1024 .f32 :=
  have cst : FVec F S1024x1024 .f32 := constant S1024x1024 .f32 0x00000000#32
  have w : F .f32 := Named.named κ "log2e" 0x3FB8AA3B#32
  addf (matmul dot_S1024x64_S64x1024_S1024x1024_1_0_0_1_n_n none q kb cst)
    (subf (broadcastTo S1024x1024 cq broadcasts_S1024x1_S1024x1024)
      (broadcastTo S1024x1024 (mulf (broadcast S1x1024 w) (shapeCast S1x1024 cr shapeCasts_S1x1x1x1x1024_S1x1024)) broadcasts_S1x1024_S1024x1024))
/-- The scores with the keys after the query left out. -/
def vMask (s : FVec F S1024x1024 .f32) : FVec F S1024x1024 .f32 :=
  have v83 : IVec S1024x1024 1 := cmpi .sle (iota .tc S1024x1024 32 [1] iota_S1024x1024_d1_w32) (iota .tc S1024x1024 32 [0] iota_S1024x1024_d0_w32)
  have cst : F .f32 := Scalar.ofBits .f32 0xFF800000#32
  have v84 : FVec F S1024x1024 .f32 := broadcast S1024x1024 cst
  select v83 s v84
/-- The running maxima after a block. -/
def vM (s : FVec F S1024x1024 .f32) (m : FVec F S1024x1 .f32) : FVec F S1024x1 .f32 :=
  have v86 : FVec F S1024 .f32 := multiReduction .maximumf [1] S1024 s 0xFF800000#32 reduces_S1024x1024_S1024 (.inl rfl) rfl
  have v87 : FVec F S1024x1 .f32 := shapeCast S1024x1 v86 shapeCasts_S1024_S1024x1
  maximumf m v87
/-- The running sums after a block. -/
def vA (s : FVec F S1024x1024 .f32) (m : FVec F S1024x1 .f32) (a : FVec F S1024x80 .f32) (vb : FVec F S80x1024 .bf16) : FVec F S1024x80 .f32 :=
  have cst : FVec F S1024x80 .f32 := constant S1024x80 .f32 0x00000000#32
  addf (mulf (broadcastTo S1024x80 (exp2 (subf m (vM s m))) broadcasts_S1024x1_S1024x80) a)
    (matmul dot_S1024x1024_S80x1024_S1024x80_1_1_0_0_n_n none (truncf .bf16 (exp2 (subf s (broadcastTo S1024x1024 (vM s m) broadcasts_S1024x1_S1024x1024))) bitsLt_bf16_f32) vb cst)
/-- The quotient of a head: its channels' sums by the sum of the weights. -/
def vQ (a : FVec F S1024x80 .f32) : FVec F S1024x64 .f32 :=
  have v99 : FVec F S1024x64 .f32 := extractStridedSlice S1024x64 ![0, 0] a slices_S1024x80_o0_0_S1024x64
  have v100 : FVec F S1024x1 .f32 := extractStridedSlice S1024x1 ![0, 64] a slices_S1024x80_o0_64_S1024x1
  have v101 : FVec F S1024x64 .f32 := broadcastTo S1024x64 v100 broadcasts_S1024x1_S1024x64
  divf v99 v101
/-- Two heads' channels side by side. -/
def vC (a b : FVec F S1024x64 .f32) : FVec F S1024x128 .f32 :=
  concatenate S1024x128 1 [⟨S1024x64, a⟩, ⟨S1024x64, b⟩] concatenates_S1024x64_S1024x64_S1024x128_d1

/-- The last payload is the functions above. -/
theorem pay1_eq (q0 q1 : FVec F S1024x64 .bf16) (c0 c1 : FVec F S1024x1 .f32) (m0 m1 : FVec F S1024x1 .f32) (a0 a1 : FVec F S1024x80 .f32)
    (kb : Vec F S1x1x64x1024 .bf16) (vb : Vec F S1x1x80x1024 .bf16) (r0 r1 : Vec F S1x1x1x1x1024 .f32) :
    k0_pay1 q1 (iota .tc S1024x1024 32 [0] iota_S1024x1024_d0_w32) (iota .tc S1024x1024 32 [1] iota_S1024x1024_d1_w32) c1 m1 a1
        (k0_pay26 kb) (k0_pay27 vb)
        (k0_pay30 q0 (iota .tc S1024x1024 32 [0] iota_S1024x1024_d0_w32) (iota .tc S1024x1024 32 [1] iota_S1024x1024_d1_w32) c0 m0 kb vb r0)
        (k0_pay31 q0 (iota .tc S1024x1024 32 [0] iota_S1024x1024_d0_w32) (iota .tc S1024x1024 32 [1] iota_S1024x1024_d1_w32) c0 m0 a0 kb r0) r1
      = vC (vQ (vA (vMask (vS q0 (k0_pay2 kb) c0 r0)) m0 a0 (k0_pay3 vb)))
          (vQ (vA (vMask (vS q1 (k0_pay2 kb) c1 r1)) m1 a1 (k0_pay3 vb))) := rfl
end Vectors

/-! ## At an index -/

theorem ofBits_neg_inf : Ideal.ofBits FTy.f32 0xFF800000#32 = ⊥ := by simp [Ideal.ofBits, Ideal.ieee]

/-- The constant the kernel scales the gates by is the real `1 / log 2`. -/
theorem log2e : Named.named (F := Ideal) κ "log2e" (φ := .f32) 0x3FB8AA3B#32 = (((Real.log 2)⁻¹ : ℝ) : EReal) :=
  IdealRules.named_const.ideal_named_scalar _ _ _ _ rfl

theorem vS_apply (q : FVec Ideal S1024x64 .bf16) (kb : FVec Ideal S64x1024 .bf16) (cq : FVec Ideal S1024x1 .f32) (cr : FVec Ideal S1x1x1x1x1024 .f32) (r k : Fin 1024) :
    vS q kb cq cr (ix2 r k) = (∑ e : Fin 64, q (ix2 r e) * kb (ix2 e k)) + (cq (ix2 r 0) - (((Real.log 2)⁻¹ : ℝ) : EReal) * cr (ix5 0 0 0 0 k)) := by
  pointwise [vS, log2e]

theorem vMask_apply (s : FVec Ideal S1024x1024 .f32) (r k : Fin 1024) :
    vMask s (ix2 r k) = if k.val ≤ r.val then s (ix2 r k) else ⊥ := by
  pointwise [vMask, ofBits_neg_inf]
  have hk := k.isLt
  have hr := r.isLt
  have h : (BitVec.ofNat 32 k.val).sle (BitVec.ofNat 32 r.val) = decide (k.val ≤ r.val) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  by_cases hkr : k.val ≤ r.val
  · simp [Scalar.select, IntOp.cmpi, h, hkr]
  · simp [Scalar.select, IntOp.cmpi, h, hkr]

theorem vM_apply (s : FVec Ideal S1024x1024 .f32) (m : FVec Ideal S1024x1 .f32) (r : Fin 1024) :
    vM s m (ix2 r 0) = stepM (m (ix2 r 0)) (fun k => s (ix2 r k)) := by
  pointwise [vM, stepM, ofBits_neg_inf]

theorem vA_apply (s : FVec Ideal S1024x1024 .f32) (m : FVec Ideal S1024x1 .f32) (a : FVec Ideal S1024x80 .f32)
    (vb : FVec Ideal S80x1024 .bf16) (r : Fin 1024) (c : Fin 80) :
    vA s m a vb (ix2 r c) = stepA (m (ix2 r 0)) (a (ix2 r c)) (fun k => s (ix2 r k)) (fun k => vb (ix2 c k)) := by
  unfold vA
  pointwise [stepA, vM_apply]
  rfl

theorem vQ_apply (a : FVec Ideal S1024x80 .f32) (r : Fin 1024) (c : Fin 64) :
    vQ a (ix2 r c) = Ideal.div (a (ix2 r ⟨c.val, by omega⟩)) (a (ix2 r 64)) := by
  pointwise [vQ]

theorem vC_apply (a : Fin 2 → FVec Ideal S1024x64 .f32) (r : Fin 1024) (C : Fin 128) (g : Fin 2) (ch : Fin 64) (hC : C.val = g.val * 64 + ch.val) :
    vC (a 0) (a 1) (ix2 r C) = a g (ix2 r ch) := by
  pointwise [vC]
  have hch := ch.isLt
  fin_cases g
  · rw [dif_pos (by simp at hC; omega)]
    congr 2; apply Fin.ext; simp at hC ⊢; omega
  · rw [dif_neg (by simp at hC; omega)]
    congr 2; apply Fin.ext; simp at hC ⊢; omega

theorem key_apply (kb : FVec Ideal S1x1x64x1024 .bf16) (e : Fin 64) (k : Fin 1024) :
    k0_pay2 kb (ix2 e k) = kb (ix4 0 0 e k) := by
  pointwise [k0_pay2]

theorem val_apply (vb : FVec Ideal S1x1x80x1024 .bf16) (c : Fin 80) (k : Fin 1024) :
    k0_pay3 vb (ix2 c k) = vb (ix4 0 0 c k) := by
  pointwise [k0_pay3]

theorem qry_apply (q : FVec Ideal S1x1x1024x64 .bf16) (r : Fin 1024) (e : Fin 64) :
    k0_pay14 q (ix2 r e) = q (ix4 0 0 r e) := by
  pointwise [k0_pay14]

/-- The queries' cumulative gates, a row laid along the tile's rows: the row on the diagonal, summed, and scaled. -/
theorem gate_apply (cr : FVec Ideal S1x1x1x1x1024 .f32) (r : Fin 1024) :
    k0_pay16 (F := Ideal) cr (ix2 r 0) = (((Real.log 2)⁻¹ : ℝ) : EReal) * cr (ix5 0 0 0 0 r) := by
  have h : ∀ k : Fin 1024, (IntOp.cmpi .eq (BitVec.ofNat 32 r.val) (BitVec.ofNat 32 k.val) = 1#1) ↔ r = k := fun k => by
    have hk := k.isLt
    have hr := r.isLt
    have : (BitVec.ofNat 32 r.val = BitVec.ofNat 32 k.val) ↔ r = k := by
      constructor
      · intro hh
        have := congrArg BitVec.toNat hh
        simp only [BitVec.toNat_ofNat] at this
        apply Fin.ext
        omega
      · rintro rfl; rfl
    by_cases hrk : r = k
    · simp [IntOp.cmpi, hrk]
    · have h' : (BitVec.ofNat 32 r.val == BitVec.ofNat 32 k.val) = false := by
        rw [beq_eq_false_iff_ne]; exact fun hh => hrk (this.1 hh)
      simp [IntOp.cmpi, h', hrk]
  pointwise [k0_pay16, log2e]
  congr 1
  exact (Finset.sum_congr rfl fun k _ => if_congr (h k) rfl rfl).trans (by simp)

end Cert.Kernel4Ideal.Fox
-- ==== Proof.FoxBlocks.lean ====
/- The forgetting attention's blocks: what each window holds at a grid point, from the host's buffers. -/
module
public import proofs.«01_k».proof.Proof.FoxRows
@[expose] public section
set_option maxRecDepth 16384
noncomputable section
namespace Cert.Kernel4Ideal.Fox
open Cert.Kernel4Ideal Cert.Kernel4Ideal.Gen Idealize.ShloMosaic Idealize.ShloMosaic.TcCoe Idealize.SL.Sem
open Cert.FlashMath
variable (m : (ℓ : Loc nD τ sig) → Buf (Elt Ideal) ℓ) (c : Dev nD)

theorem idx0 : ∀ t : Fin cfg0.N, win0_0.index t = ![(grid0.coords t 0).val, (grid0.coords t 1).val, (grid0.coords t 2).val, 0] := by decide +kernel
theorem idx1 : ∀ t : Fin cfg0.N, win0_1.index t = ![(grid0.coords t 0).val, 0, (grid0.coords t 1).val, 0] := by decide +kernel
theorem idx2 : ∀ t : Fin cfg0.N, win0_2.index t = ![(grid0.coords t 0).val, 0, (grid0.coords t 1).val, 0] := by decide +kernel
theorem idx3 : ∀ t : Fin cfg0.N, win0_3.index t = ![(grid0.coords t 0).val, (grid0.coords t 1).val, 0, 0, 0] := by decide +kernel
theorem idx4 : ∀ t : Fin cfg0.N, win0_4.index t = ![(grid0.coords t 0).val * 4 + (grid0.coords t 2).val, (grid0.coords t 1).val] := by decide +kernel

/-- A block of each window, read off any array. -/
theorem rd0 (A : FVec Ideal S4x4x4096x64 .bf16) (t : Fin cfg0.N) (g : Fin 2) (r : Fin 1024) (e : Fin 64) (b h : Fin 4) (q : Fin 4096)
    (hb : b.val = (grid0.coords t 0).val) (hh : h.val = (grid0.coords t 1).val * 2 + g.val) (hq : q.val = (grid0.coords t 2).val * 1024 + r.val) :
    ((cfg0.win 0).blk t).view.read (Elt Ideal) A (ix4 0 g r e) = A (ix4 b h q e) := by
  blk_ext [idx0 t]
theorem rd1 (A : FVec Ideal S4x4x128x1024 .bf16) (t : Fin cfg0.N) (j : Fin 4) (e : Fin 64) (k : Fin 1024) (b : Fin 4) (f : Fin 128)
    (hb : b.val = (grid0.coords t 0).val) (hf : f.val = (grid0.coords t 1).val * 64 + e.val) :
    ((cfg0.win 1).blk t).view.read (Elt Ideal) A (ix4 0 j e k) = A (ix4 b j f k) := by
  blk_ext [idx1 t]
theorem rd2 (A : FVec Ideal S4x4x160x1024 .bf16) (t : Fin cfg0.N) (j : Fin 4) (e : Fin 80) (k : Fin 1024) (b : Fin 4) (f : Fin 160)
    (hb : b.val = (grid0.coords t 0).val) (hf : f.val = (grid0.coords t 1).val * 80 + e.val) :
    ((cfg0.win 2).blk t).view.read (Elt Ideal) A (ix4 0 j e k) = A (ix4 b j f k) := by
  blk_ext [idx2 t]
theorem rd3 (A : FVec Ideal S4x4x4x1x1024 .f32) (t : Fin cfg0.N) (g : Fin 2) (j : Fin 4) (k : Fin 1024) (b h : Fin 4)
    (hb : b.val = (grid0.coords t 0).val) (hh : h.val = (grid0.coords t 1).val * 2 + g.val) :
    ((cfg0.win 3).blk t).view.read (Elt Ideal) A (ix5 0 g j 0 k) = A (ix5 b h j 0 k) := by
  blk_ext [idx3 t]
/-- The blocks of the run's windows. -/
theorem blk0 (t : Fin cfg0.N) (g : Fin 2) (r : Fin 1024) (e : Fin 64) (b h : Fin 4) (q : Fin 4096)
    (hb : b.val = (grid0.coords t 0).val) (hh : h.val = (grid0.coords t 1).val * 2 + g.val) (hq : q.val = (grid0.coords t 2).val * 1024 + r.val) :
    iblk m c 0 t (ix4 0 g r e) = V m c main_v5 (ix4 b h q e) :=
  rd0 (V m c main_v5) t g r e b h q hb hh hq
theorem blk1 (t : Fin cfg0.N) (j : Fin 4) (e : Fin 64) (k : Fin 1024) (b : Fin 4) (f : Fin 128)
    (hb : b.val = (grid0.coords t 0).val) (hf : f.val = (grid0.coords t 1).val * 64 + e.val) :
    iblk m c 1 t (ix4 0 j e k) = V m c main_v10 (ix4 b j f k) :=
  rd1 (V m c main_v10) t j e k b f hb hf
theorem blk2 (t : Fin cfg0.N) (j : Fin 4) (e : Fin 80) (k : Fin 1024) (b : Fin 4) (f : Fin 160)
    (hb : b.val = (grid0.coords t 0).val) (hf : f.val = (grid0.coords t 1).val * 80 + e.val) :
    iblk m c 2 t (ix4 0 j e k) = V m c main_v23 (ix4 b j f k) :=
  rd2 (V m c main_v23) t j e k b f hb hf
theorem blk3 (t : Fin cfg0.N) (g : Fin 2) (j : Fin 4) (k : Fin 1024) (b h : Fin 4)
    (hb : b.val = (grid0.coords t 0).val) (hh : h.val = (grid0.coords t 1).val * 2 + g.val) :
    iblk m c 3 t (ix5 0 g j 0 k) = V m c main_v12 (ix5 b h j 0 k) :=
  rd3 (V m c main_v12) t g j k b h hb hh
end Cert.Kernel4Ideal.Fox
-- ==== Proof.FoxLoop.lean ====
/- The forgetting attention's loop: a tile of queries walks over the key blocks before its own, then meets its own
   block under the mask. The carried state is, head by head, the online softmax's state after that many blocks, and the
   tile left in the output is the two heads' quotients side by side. -/
module
public import proofs.«01_k».proof.Proof.FoxRows
@[expose] public section
set_option maxRecDepth 16384
noncomputable section
namespace Cert.Kernel4Ideal.Fox
open Cert.Kernel4Ideal Cert.Kernel4Ideal.Gen Idealize.ShloMosaic Idealize.ShloMosaic.TcCoe Idealize.SL.Sem
open Cert.FlashMath

/-! ## The blocks read -/

/-- Block `n` of the keys, and zero past the last. -/
def kblk (x1 : Vec Ideal S1x4x64x1024 .bf16) (n : ℕ) : FVec Ideal S64x1024 .bf16 :=
  fun p => if h : n < 4 then x1 (ix4 0 ⟨n, h⟩ (p 0) (p 1)) else 0
/-- Block `n` of head `g`'s cumulative gates, and zero past the last. -/
def gblk (x3 : Vec Ideal S1x2x4x1x1024 .f32) (g : Fin 2) (n : ℕ) : FVec Ideal S1x1x1x1x1024 .f32 :=
  fun p => if h : n < 4 then x3 (ix5 0 g ⟨n, h⟩ 0 (p 4)) else 0
/-- Block `n` of the values, and zero past the last. -/
def vblk (x2 : Vec Ideal S1x4x80x1024 .bf16) (n : ℕ) : FVec Ideal S80x1024 .bf16 :=
  fun p => if h : n < 4 then x2 (ix4 0 ⟨n, h⟩ (p 0) (p 1)) else 0
/-- Head `g`'s queries. -/
def qhd (x0 : Vec Ideal S1x2x1024x64 .bf16) (g : Fin 2) : FVec Ideal S1024x64 .bf16 :=
  fun p => x0 (ix4 0 g (p 0) (p 1))

theorem key_ld (x1 : Vec Ideal S1x4x64x1024 .bf16) (n : ℕ) (hn : n < 4) (off : Fin 4 → ℕ) (ho : off = ![0, n, 0, 0]) (h) :
    k0_pay2 (View.ld x1 (Rect.unit off ![1, 1, 64, 1024] h)) = kblk x1 n := by
  subst ho
  funext p
  obtain ⟨e, k, rfl⟩ : ∃ e k, p = ix2 e k := ⟨p 0, p 1, by funext a; fin_cases a <;> rfl⟩
  rw [key_apply]
  unfold kblk
  rw [dif_pos hn]
  apply View.ld_unit_apply_of
  intro a; fin_cases a <;> simp
theorem gate_ld (x3 : Vec Ideal S1x2x4x1x1024 .f32) (g : Fin 2) (n : ℕ) (hn : n < 4) (off : Fin 5 → ℕ) (ho : off = ![0, g.val, n, 0, 0]) (h) :
    View.ld x3 (Rect.unit off ![1, 1, 1, 1, 1024] h) = gblk x3 g n := by
  subst ho
  funext p
  obtain ⟨k, rfl⟩ : ∃ k, p = ix5 0 0 0 0 k := ⟨p 4, by funext a; fin_cases a <;> first | rfl | exact Subsingleton.elim (α := Fin 1) _ _⟩
  unfold gblk
  rw [dif_pos hn]
  apply View.ld_unit_apply_of
  intro a; fin_cases a <;> simp
theorem val_ld (x2 : Vec Ideal S1x4x80x1024 .bf16) (n : ℕ) (hn : n < 4) (off : Fin 4 → ℕ) (ho : off = ![0, n, 0, 0]) (h) :
    k0_pay3 (View.ld x2 (Rect.unit off ![1, 1, 80, 1024] h)) = vblk x2 n := by
  subst ho
  funext p
  obtain ⟨e, k, rfl⟩ : ∃ e k, p = ix2 e k := ⟨p 0, p 1, by funext a; fin_cases a <;> rfl⟩
  rw [val_apply]
  unfold vblk
  rw [dif_pos hn]
  apply View.ld_unit_apply_of
  intro a; fin_cases a <;> simp
theorem qry_ld (x0 : Vec Ideal S1x2x1024x64 .bf16) (g : Fin 2) (off : Fin 4 → ℕ) (ho : off = ![0, g.val, 0, 0]) (h) :
    k0_pay14 (View.ld x0 (Rect.unit off ![1, 1, 1024, 64] h)) = qhd x0 g := by
  subst ho
  funext p
  obtain ⟨e, k, rfl⟩ : ∃ e k, p = ix2 e k := ⟨p 0, p 1, by funext a; fin_cases a <;> rfl⟩
  rw [qry_apply]
  unfold qhd
  apply View.ld_unit_apply_of
  intro a; fin_cases a <;> simp

theorem qry0 (x0 : Vec Ideal S1x2x1024x64 .bf16) :
    k0_pay14 (View.ld x0 (Rect.unit ![0, 0, 0, 0] ![1, 1, 1024, 64] inb_S1x2x1024x64_S1x1x1024x64_0_0_0_0)) = qhd x0 0 :=
  qry_ld x0 0 _ rfl _
theorem qry1 (x0 : Vec Ideal S1x2x1024x64 .bf16) :
    k0_pay14 (View.ld x0 (Rect.unit ![0, 1, 0, 0] ![1, 1, 1024, 64] inb_S1x2x1024x64_S1x1x1024x64_0_1_0_0)) = qhd x0 1 :=
  qry_ld x0 1 _ rfl _
/-! ## One head's state, block by block -/

/-- The running maxima and sums after `n` blocks of scores `S` and values `W`. -/
def hst (S : ℕ → FVec Ideal S1024x1024 .f32) (W : ℕ → FVec Ideal S80x1024 .bf16) : ℕ → FVec Ideal S1024x1 .f32 × FVec Ideal S1024x80 .f32
  | 0 => (k0_pay18, k0_pay19)
  | n + 1 => (vM (S n) (hst S W n).1, vA (S n) (hst S W n).1 (hst S W n).2 (W n))

theorem hst_row (S : ℕ → FVec Ideal S1024x1024 .f32) (W : ℕ → FVec Ideal S80x1024 .bf16) (n : ℕ) (r : Fin 1024) :
    (hst S W n).1 (ix2 r 0) = stM (fun j k => S j (ix2 r k)) n
      ∧ ∀ c, (hst S W n).2 (ix2 r c) = stA (fun j k => S j (ix2 r k)) (fun j k => W j (ix2 c k)) n := by
  induction n with
  | zero =>
    refine ⟨?_, fun c => ?_⟩
    · show k0_pay18 (F := Ideal) (ix2 r 0) = ⊥
      pointwise [k0_pay18, ofBits_neg_inf]
    · show k0_pay19 (F := Ideal) (ix2 r c) = 0
      pointwise [k0_pay19]
  | succ n ih =>
    refine ⟨?_, fun c => ?_⟩
    · show vM (S n) (hst S W n).1 (ix2 r 0) = _
      rw [vM_apply, ih.1]; rfl
    · show vA (S n) (hst S W n).1 (hst S W n).2 (W n) (ix2 r c) = _
      rw [vA_apply, ih.1, ih.2 c]; rfl

/-- The scores of head `g` in the tile at row block `n`: whole before block `n`, masked at it. -/
def sblk (q : FVec Ideal S1024x64 .bf16) (cq : FVec Ideal S1024x1 .f32) (x1 : Vec Ideal S1x4x64x1024 .bf16) (x3 : Vec Ideal S1x2x4x1x1024 .f32) (g : Fin 2) (n j : ℕ) : FVec Ideal S1024x1024 .f32 :=
  if j < n then vS q (kblk x1 j) cq (gblk x3 g j) else vMask (vS q (kblk x1 j) cq (gblk x3 g j))

/-- Head `g`'s state after `j` blocks. -/
def head (q : FVec Ideal S1024x64 .bf16) (cq : FVec Ideal S1024x1 .f32) (x1 : Vec Ideal S1x4x64x1024 .bf16) (x2 : Vec Ideal S1x4x80x1024 .bf16) (x3 : Vec Ideal S1x2x4x1x1024 .f32) (n : ℕ) (g : Fin 2) (j : ℕ) :
    FVec Ideal S1024x1 .f32 × FVec Ideal S1024x80 .f32 :=
  hst (sblk q cq x1 x3 g n) (vblk x2) j

section Head
variable (q : FVec Ideal S1024x64 .bf16) (cq : FVec Ideal S1024x1 .f32) (x1 : Vec Ideal S1x4x64x1024 .bf16) (x2 : Vec Ideal S1x4x80x1024 .bf16) (x3 : Vec Ideal S1x2x4x1x1024 .f32) (n : ℕ) (g : Fin 2)
theorem head_lt (j : ℕ) (h : j < n) :
    head q cq x1 x2 x3 n g (j + 1) = (vM (vS q (kblk x1 j) cq (gblk x3 g j)) (head q cq x1 x2 x3 n g j).1,
      vA (vS q (kblk x1 j) cq (gblk x3 g j)) (head q cq x1 x2 x3 n g j).1 (head q cq x1 x2 x3 n g j).2 (vblk x2 j)) := by
  show (vM (sblk q cq x1 x3 g n j) _, vA (sblk q cq x1 x3 g n j) _ _ _) = _
  unfold sblk; rw [if_pos h]; rfl
theorem head_last :
    (head q cq x1 x2 x3 n g (n + 1)).2 = vA (vMask (vS q (kblk x1 n) cq (gblk x3 g n))) (head q cq x1 x2 x3 n g n).1 (head q cq x1 x2 x3 n g n).2 (vblk x2 n) := by
  show vA (sblk q cq x1 x3 g n n) _ _ _ = _
  unfold sblk; rw [if_neg (lt_irrefl n)]; rfl
end Head

/-- The quotient of head `g` in the tile at row block `n`, after the last block. -/
def quot (x0 : Vec Ideal S1x2x1024x64 .bf16) (x1 : Vec Ideal S1x4x64x1024 .bf16) (x2 : Vec Ideal S1x4x80x1024 .bf16) (x3 : Vec Ideal S1x2x4x1x1024 .f32) (n : ℕ) (g : Fin 2) : FVec Ideal S1024x64 .f32 :=
  vQ (head (qhd x0 g) (k0_pay16 (gblk x3 g n)) x1 x2 x3 n g (n + 1)).2

section Body
variable (c : Dev nD) (i : grid0.Coords) (arg3 : Memref sig .tc .vmem S1x2x1024x64 .bf16) (harg3 : arg3.IsWhole) (arg4 : Memref sig .tc .vmem S1x4x64x1024 .bf16) (harg4 : arg4.IsWhole) (arg5 : Memref sig .tc .vmem S1x4x80x1024 .bf16) (harg5 : arg5.IsWhole) (arg6 : Memref sig .tc .vmem S1x2x4x1x1024 .f32) (harg6 : arg6.IsWhole) (arg7 : Memref sig .tc .vmem S1024x128 .f32) (harg7 : arg7.IsWhole)
  (x0 : Vec Ideal S1x2x1024x64 .bf16) (x1 : Vec Ideal S1x4x64x1024 .bf16) (x2 : Vec Ideal S1x4x80x1024 .bf16) (x3 : Vec Ideal S1x2x4x1x1024 .f32)

theorem trips1 : Scf.trips (0#32) (Scalar.addi (0#32) (Scalar.muli (Scalar.divsi (Scalar.subi (BitVec.ofNat 32 ↑(i 2)) 0#32) 1#32) 1#32)) 1#32 = (i 2).val := by
  have : ∀ i : grid0.Coords, (k0_t1_loop i).trips = (i 2).val := by decide +kernel
  exact this i
theorem trips2 : Scf.trips (Scalar.addi (0#32) (Scalar.muli (Scalar.divsi (Scalar.subi (BitVec.ofNat 32 ↑(i 2)) 0#32) 1#32) 1#32)) (Scalar.addi (0#32) (Scalar.subi (BitVec.ofNat 32 ↑(i 2)) 0#32)) 1#32 = 0 := by
  have : ∀ i : grid0.Coords, (k0_t2_loop i).trips = 0 := by decide +kernel
  exact this i
theorem i2_lt : (i 2).val < 4 := (i 2).isLt

variable (arg2 : BitVec 32) (q0 q1 : FVec Ideal S1024x64 .bf16) (v4 v5 : IVec S1024x1024 32) (c0 c1 v30 : FVec Ideal S1024x1 .f32) (v31 : FVec Ideal S1024x80 .f32) (cst_21 : EReal)

theorem trip_eq (k : Fin (k0_t1_loop i).trips) (m0 m1 : FVec Ideal S1024x1 .f32) (a0 a1 : FVec Ideal S1024x80 .f32) :
   tripR_k0_t1 (F := Ideal) Variants.none c none i arg3 harg3 arg4 harg4 arg5 harg5 arg6 harg6 arg7 harg7 arg2 q0 q1 v4 v5 c0 c1 v30 v31 cst_21
     (harg4.unread x1) (harg5.unread x2) (harg6.unread x3) k (m0, a0, m1, a1) =
    (vM (vS q0 (kblk x1 k) c0 (gblk x3 0 k)) m0, vA (vS q0 (kblk x1 k) c0 (gblk x3 0 k)) m0 a0 (vblk x2 k),
     vM (vS q1 (kblk x1 k) c1 (gblk x3 1 k)) m1, vA (vS q1 (kblk x1 k) c1 (gblk x3 1 k)) m1 a1 (vblk x2 k)) := by
  have hk : k.val < 4 := lt_trans (lt_of_lt_of_eq k.isLt (trips1 i)) (i2_lt i)
  rw [← key_ld x1 k hk _ (k0_off3_eq i k) (k0_off3_inb i k), ← val_ld x2 k hk _ (k0_off4_eq i k) (k0_off4_inb i k),
    ← gate_ld x3 0 k hk _ (k0_off5_eq i k) (k0_off5_inb i k), ← gate_ld x3 1 k hk _ (k0_off6_eq i k) (k0_off6_inb i k)]
  unfold tripR_k0_t1 trip_k0_t1
  dsimp only
  sl_unfold_words
  simp only [View.readAt_eq_ld, harg4.read_unread, harg5.read_unread, harg6.read_unread]
  rfl

theorem loop_eq (n : ℕ) (hn : n ≤ (i 2).val) :
    st_k0_t1 (F := Ideal) Variants.none c none i arg3 harg3 arg4 harg4 arg5 harg5 arg6 harg6 arg7 harg7 arg2 q0 q1 v4 v5 c0 c1 v30 v31 cst_21
      (harg4.unread x1) (harg5.unread x2) (harg6.unread x3) (k0_pay18, k0_pay19, k0_pay20 (Scalar.ofBits (F := Ideal) .f32 0xFF800000#32), k0_pay21) n
     = ((head q0 c0 x1 x2 x3 (i 2).val 0 n).1, (head q0 c0 x1 x2 x3 (i 2).val 0 n).2, (head q1 c1 x1 x2 x3 (i 2).val 1 n).1, (head q1 c1 x1 x2 x3 (i 2).val 1 n).2) := by
  induction n with
  | zero => rfl
  | succ n ih =>
    have hk : n < (k0_t1_loop i).trips := by rw [show (k0_t1_loop i).trips = (i 2).val from trips1 i]; omega
    have h := st_k0_t1_succ (F := Ideal) Variants.none c none i arg3 harg3 arg4 harg4 arg5 harg5 arg6 harg6 arg7 harg7 arg2 q0 q1 v4 v5 c0 c1 v30 v31 cst_21
      (harg4.unread x1) (harg5.unread x2) (harg6.unread x3) (k0_pay18, k0_pay19, k0_pay20 (Scalar.ofBits (F := Ideal) .f32 0xFF800000#32), k0_pay21) ⟨n, hk⟩
    rw [h, ih (by omega), trip_eq, head_lt _ _ _ _ _ _ 0 n (by omega), head_lt _ _ _ _ _ _ 1 n (by omega)]

/-- The tile a point leaves: the two heads' quotients after the last block. -/
theorem out_eq :
    out0_A_4 (F := Ideal) c i arg3 harg3 arg4 harg4 arg5 harg5 arg6 harg6 arg7 harg7 x0 x1 x2 x3
      = vC (quot x0 x1 x2 x3 (i 2).val 0) (quot x0 x1 x2 x3 (i 2).val 1) := by
  unfold quot
  frame_out
  simp only [trips1, trips2, st_k0_t2_zero, loop_eq c i arg3 harg3 arg4 harg4 arg5 harg5 arg6 harg6 arg7 harg7 x1 x2 x3 _ _ _ _ _ _ _ _ _ _ _ le_rfl]
  rw [head_last, head_last, ← qry0 x0, ← qry1 x0,
    ← key_ld x1 (i 2).val (i2_lt i) _ (k0_off11_eq i) (k0_off11_inb i), ← val_ld x2 (i 2).val (i2_lt i) _ (k0_off12_eq i) (k0_off12_inb i),
    ← gate_ld x3 0 (i 2).val (i2_lt i) _ (k0_off1_eq i) (k0_off1_inb i), ← gate_ld x3 1 (i 2).val (i2_lt i) _ (k0_off2_eq i) (k0_off2_inb i)]
  exact pay1_eq _ _ _ _ _ _ _ _ _ _ _ _
end Body
end Cert.Kernel4Ideal.Fox
-- ==== Proof.FoxHost.lean ====
/- What the host computes before the forgetting attention's call: the buffers of queries, keys, values and gates, at an index. -/
module
public import proofs.«01_k».proof.Proof.FoxRows
@[expose] public section
set_option maxRecDepth 16384
noncomputable section
namespace Cert.Kernel4Ideal.Fox
open Cert.Kernel4Ideal Cert.Kernel4Ideal.Gen Idealize.ShloMosaic Idealize.ShloMosaic.TcCoe Idealize.SL.Sem
open Cert.FlashMath Idealize.ShloMosaic.StableHlo

section Vectors
variable {F : FTy → Type} [FloatOps F] [Named F]
/-- The queries' scale. -/
def hScale : FVec F S_ .f32 := Host.divf (constant S_ .f32 0x3E000000#32) (Host.log (constant S_ .f32 0x40000000#32))
/-- The buffer of queries, each head's scaled. -/
def hQ (q : FVec F S4x4096x4x64 .f32) : FVec F S4x4x4096x64 .bf16 :=
  transpose S4x4x4096x64 [0, 2, 1, 3] (truncf .bf16 (mulf q (broadcastInDim S4x4096x4x64 ![] bcast_S_S4x4096x4x64 hScale)) bitsLt_bf16_f32)
    transposes_S4x4096x4x64_S4x4x4096x64_0_2_1_3
/-- The buffer of cumulative gates, a row per block of 1024. -/
def hC (c : FVec F S4x4096x4 .f32) : FVec F S4x4x4x1x1024 .f32 :=
  shapeCast S4x4x4x1x1024 (transpose S4x4x4096 [0, 2, 1] c transposes_S4x4096x4_S4x4x4096_0_2_1) shapeCasts_S4x4x4096_S4x4x4x1x1024
/-- The buffer of keys, a block per 1024 of them. -/
def hK (k : FVec F S4x4096x2x64 .f32) : FVec F S4x4x128x1024 .bf16 :=
  transpose S4x4x128x1024 [0, 2, 1, 3] (shapeCast S4x128x4x1024 (truncf .bf16 (transpose S4x128x4096 [0, 2, 1]
    (shapeCast S4x4096x128 k shapeCasts_S4x4096x2x64_S4x4096x128) transposes_S4x4096x128_S4x128x4096_0_2_1) bitsLt_bf16_f32) shapeCasts_S4x128x4096_S4x128x4x1024)
    transposes_S4x128x4x1024_S4x4x128x1024_0_2_1_3
/-- A head's channels, a row of ones, fifteen of zeros. -/
def hVc (v : FVec F S4x4096x2x64 .f32) : FVec F S4x2x80x4096 .bf16 :=
  concatenate S4x2x80x4096 2
    [⟨S4x2x64x4096, truncf .bf16 (transpose S4x2x64x4096 [0, 2, 3, 1] v transposes_S4x4096x2x64_S4x2x64x4096_0_2_3_1) bitsLt_bf16_f32⟩,
     ⟨S4x2x16x4096, truncf .bf16 (select (cmpi .eq (iotaInDim S4x2x16x4096 32 2) (broadcastInDim S4x2x16x4096 ![] bcast_S_S4x2x16x4096 (constantI S_ 32 0#32)))
        (broadcastInDim S4x2x16x4096 ![] bcast_S_S4x2x16x4096 (constant S_ .f32 0x3F800000#32))
        (broadcastInDim S4x2x16x4096 ![] bcast_S_S4x2x16x4096 (constant S_ .f32 0x00000000#32))) bitsLt_bf16_f32⟩]
    concatenates_S4x2x64x4096_S4x2x16x4096_S4x2x80x4096_d2
/-- The rows of both heads, a block per 1024 keys. -/
def hVb (w : FVec F S4x2x80x4096 .bf16) : FVec F S4x4x160x1024 .bf16 :=
  transpose S4x4x160x1024 [0, 2, 1, 3] (shapeCast S4x160x4x1024 (shapeCast S4x160x4096 w shapeCasts_S4x2x80x4096_S4x160x4096) shapeCasts_S4x160x4096_S4x160x4x1024)
    transposes_S4x160x4x1024_S4x4x160x1024_0_2_1_3
/-- The buffer of values. -/
def hV (v : FVec F S4x4096x2x64 .f32) : FVec F S4x4x160x1024 .bf16 := hVb (hVc v)

theorem V_queries (m : (ℓ : Loc nD τ sig) → Buf (Elt F) ℓ) (c : Dev nD) : V m c main_v5 = hQ (m (c, Proc.tc.devRef main_arg0)) := by
  show StableHlo.after (hostOps0 ++ (hostOps0_1 ++ (hostOps0_2 ++ []))) (fun b => m (c, b)) (Proc.tc.devRef main_v5) = _
  simp only [List.cons_append, List.nil_append]
  after_results
  rfl
theorem V_keys (m : (ℓ : Loc nD τ sig) → Buf (Elt F) ℓ) (c : Dev nD) : V m c main_v10 = hK (m (c, Proc.tc.devRef main_arg1)) := by
  show StableHlo.after (hostOps0 ++ (hostOps0_1 ++ (hostOps0_2 ++ []))) (fun b => m (c, b)) (Proc.tc.devRef main_v10) = _
  simp only [List.cons_append, List.nil_append]
  after_results
  rfl
theorem V_values (m : (ℓ : Loc nD τ sig) → Buf (Elt F) ℓ) (c : Dev nD) : V m c main_v23 = hV (m (c, Proc.tc.devRef main_arg2)) := by
  show StableHlo.after (hostOps0 ++ (hostOps0_1 ++ (hostOps0_2 ++ []))) (fun b => m (c, b)) (Proc.tc.devRef main_v23) = _
  simp only [List.cons_append, List.nil_append]
  after_results
  rfl
theorem V_gates (m : (ℓ : Loc nD τ sig) → Buf (Elt F) ℓ) (c : Dev nD) : V m c main_v12 = hC (m (c, Proc.tc.devRef main_arg3)) := by
  show StableHlo.after (hostOps0 ++ (hostOps0_1 ++ (hostOps0_2 ++ []))) (fun b => m (c, b)) (Proc.tc.devRef main_v12) = _
  simp only [List.cons_append, List.nil_append]
  after_results
  rfl
end Vectors

/-- The scale the queries are multiplied by before the call. -/
def scale : EReal := Ideal.div (Ideal.ofBits FTy.f32 0x3E000000#32) (Ideal.log (Ideal.ofBits FTy.f32 0x40000000#32))

theorem hQ_apply (q : FVec Ideal S4x4096x4x64 .f32) (b hd : Fin 4) (s : Fin 4096) (e : Fin 64) :
    hQ q (ix4 b hd s e) = q (ix4 b s hd e) * scale := by
  pointwise [hQ, hScale, scale]
theorem hC_apply (c : FVec Ideal S4x4096x4 .f32) (b hd j : Fin 4) (κ : Fin 1024) :
    hC c (ix5 b hd j 0 κ) = c (ix3 b ⟨j.val * 1024 + κ.val, by omega⟩ hd) := by
  pointwise [hC]
theorem hK_apply (k : FVec Ideal S4x4096x2x64 .f32) (b j : Fin 4) (f : Fin 128) (κ : Fin 1024) (kv : Fin 2) (e : Fin 64) (hf : f.val = kv.val * 64 + e.val) :
    hK k (ix4 b j f κ) = k (ix4 b ⟨j.val * 1024 + κ.val, by omega⟩ kv e) := by
  pointwise [hK]
  congr 2 <;> apply Fin.ext <;> simp <;> omega
theorem hVc_apply (v : FVec Ideal S4x4096x2x64 .f32) (b : Fin 4) (kv : Fin 2) (e : Fin 80) (s : Fin 4096) :
    hVc v (ix4 b kv e s) = if h : e.val < 64 then v (ix4 b s kv ⟨e.val, h⟩) else if e.val = 64 then 1 else 0 := by
  pointwise [hVc]
  by_cases h : e.val < 64
  · rw [dif_pos h, dif_pos h]
  · rw [dif_neg h, dif_neg h]
    by_cases h2 : e.val = 64
    · rw [if_pos h2, h2]; rfl
    · rw [if_neg h2]
      have h3 : (BitVec.ofNat 32 (e.val - 64) == 0#32) = false := by
        rw [beq_eq_false_iff_ne]
        intro hh
        have := congrArg BitVec.toNat hh
        simp only [BitVec.toNat_ofNat] at this
        omega
      simp [Scalar.select, IntOp.cmpi, h3]
theorem hVb_apply (w : FVec Ideal S4x2x80x4096 .bf16) (b j : Fin 4) (f : Fin 160) (κ : Fin 1024) (kv : Fin 2) (e : Fin 80) (hf : f.val = kv.val * 80 + e.val) :
    hVb w (ix4 b j f κ) = w (ix4 b kv e ⟨j.val * 1024 + κ.val, by omega⟩) := by
  pointwise [hVb]
  congr 2 <;> apply Fin.ext <;> simp <;> omega
theorem hV_apply (v : FVec Ideal S4x4096x2x64 .f32) (b j : Fin 4) (f : Fin 160) (κ : Fin 1024) (kv : Fin 2) (e : Fin 80) (hf : f.val = kv.val * 80 + e.val) :
    hV v (ix4 b j f κ) = if h : e.val < 64 then v (ix4 b ⟨j.val * 1024 + κ.val, by omega⟩ kv ⟨e.val, h⟩) else if e.val = 64 then 1 else 0 := by
  rw [hV, hVb_apply _ b j f κ kv e hf, hVc_apply]

/-- The scale in the reals. -/
theorem scale_real : ∃ σ : ℝ, Ideal.ofBits FTy.f32 0x3E000000#32 = (σ : EReal) ∧ scale = ((σ * (1 / Real.log 2) : ℝ) : EReal) := by
  have h1 : ∃ σ : ℝ, Ideal.ofBits FTy.f32 0x3E000000#32 = (σ : EReal) := by
    simp only [Ideal.ofBits, Ideal.ieee]
    simp
    exact ⟨_, by rw [EReal.coe_mul]⟩
  have h2 : Ideal.ofBits FTy.f32 0x40000000#32 = ((2 : ℝ) : EReal) := by
    simp only [Ideal.ofBits, Ideal.ieee]
    simp
    refine (show _ = (((8388608 : ℝ) * (2 ^ 22)⁻¹ : ℝ) : EReal) by rw [EReal.coe_mul]).trans ?_
    congr 1
    norm_num
  obtain ⟨σ, hσ⟩ := h1
  refine ⟨σ, hσ, ?_⟩
  unfold scale
  rw [hσ, h2, Ideal.log_coe, if_neg (by norm_num), Ideal.div_coe (Real.log_pos (by norm_num)).ne', ← EReal.coe_mul]
end Cert.Kernel4Ideal.Fox
-- ==== Proof.FoxRef.lean ====
/- The forgetting attention's reference at an index: each head's causal softmax of the scaled scores and the gates' decay,
   weighing the values. -/
module
public import proofs.«01_k».proof.Proof.FlashMath
public import Idealize.ShloMosaic.Lib.Pipeline.ValueKit
public import Idealize.ShloMosaic.Lib.Pointwise
public import Idealize.ShloMosaic.Lib.KernelVsHost
public import proofs.«01_k».proof.Proof.Gen.Reference4Ideal.Run
@[expose] public section
set_option maxRecDepth 16384
noncomputable section
namespace Cert.Reference4Ideal.Fox
open Cert.Reference4Ideal Cert.Reference4Ideal.Gen Idealize.ShloMosaic Idealize.ShloMosaic.TcCoe Idealize.SL.Sem

section Vectors
variable {F : FTy → Type} [FloatOps F]
/-- The cumulative gates, head by head. -/
def rC (c : FVec F S4x4096x4 .f32) : FVec F S4x2x2x4096 .f32 :=
  transpose S4x2x2x4096 [0, 2, 3, 1] (shapeCast _ c shapeCasts_S4x4096x4_S4x4096x2x2) transposes_S4x4096x2x2_S4x2x2x4096_0_2_3_1
/-- The masked scores: scaled, with the gates' decay from the key to the query. -/
def rS (q : FVec F S4x4096x4x64 .f32) (k : FVec F S4x4096x2x64 .f32) (cg : FVec F S4x2x2x4096 .f32) : FVec F S4x2x2x4096x4096 .f32 :=
  select (broadcastInDim S4x2x2x4096x4096 ![3, 4] bcast_S4096x4096_S4x2x2x4096x4096_3_4 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (addf (mulf (transpose S4x2x2x4096x4096 [0, 1, 4, 3, 2] (Host.dotGeneral dot_S4x4096x2x64_S4x4096x2x2x64_S4x2x4096x4096x2_3_4_1_13_02_02 none
        k (shapeCast _ q shapeCasts_S4x4096x4x64_S4x4096x2x2x64)) transposes_S4x2x4096x4096x2_S4x2x2x4096x4096_0_1_4_3_2)
        (broadcastInDim S4x2x2x4096x4096 ![] bcast_S_S4x2x2x4096x4096 (constant S_ .f32 0x3E000000#32)))
      (subf (broadcastInDim S4x2x2x4096x4096 ![0, 1, 2, 3, 4] bcast_S4x2x2x4096x1_S4x2x2x4096x4096_0_1_2_3_4 (broadcastInDim S4x2x2x4096x1 ![0, 1, 2, 3] bcast_S4x2x2x4096_S4x2x2x4096x1_0_1_2_3 cg))
        (broadcastInDim S4x2x2x4096x4096 ![0, 1, 2, 3, 4] bcast_S4x2x2x1x4096_S4x2x2x4096x4096_0_1_2_3_4 (broadcastInDim S4x2x2x1x4096 ![0, 1, 2, 4] bcast_S4x2x2x4096_S4x2x2x1x4096_0_1_2_4 cg))))
    (broadcastInDim S4x2x2x4096x4096 ![] bcast_S_S4x2x2x4096x4096 (id (constant S_ .f32 0xFF800000#32)))
theorem reduces_last : S4x2x2x4096x4096.Reduces [4] S4x2x2x4096 := by decide
/-- A row's largest score. -/
def rM (s : FVec F S4x2x2x4096x4096 .f32) : FVec F S4x2x2x4096 .f32 :=
  Host.reduce FloatOps.maximumf s (constant S_ .f32 0xFF800000#32) reducesTo_S4x2x2x4096x4096_S4x2x2x4096_d4 h_S_
theorem rM_eq (s : FVec F S4x2x2x4096x4096 .f32) :
    rM s = multiReduction .maximumf [4] S4x2x2x4096 s 0xFF800000#32 reduces_last (.inl rfl) rfl :=
  hostReduce_maximumf_eq_multiReduction s _ _ _ reduces_last (.inl rfl) rfl
/-- The weights before their sum divides them, of scores and their rows' largest. -/
def rX (s : FVec F S4x2x2x4096x4096 .f32) (mx : FVec F S4x2x2x4096 .f32) : FVec F S4x2x2x4096x4096 .f32 :=
  Host.exp (subf s (broadcastInDim S4x2x2x4096x4096 ![0, 1, 2, 3, 4] bcast_S4x2x2x4096x1_S4x2x2x4096x4096_0_1_2_3_4 (broadcastInDim S4x2x2x4096x1 ![0, 1, 2, 3] bcast_S4x2x2x4096_S4x2x2x4096x1_0_1_2_3 (maximumf (broadcastInDim S4x2x2x4096 ![] bcast_S_S4x2x2x4096 (constant S_ .f32 0xFF800000#32)) mx))))
/-- The weights before their sum divides them. -/
def rE (s : FVec F S4x2x2x4096x4096 .f32) : FVec F S4x2x2x4096x4096 .f32 := rX s (rM s)
/-- The weighted sum of the values, a row per query. -/
def rO (e : FVec F S4x2x2x4096x4096 .f32) (v : FVec F S4x4096x2x64 .f32) : FVec F S16384x256 .f32 :=
  shapeCast _ (transpose S4x4096x2x2x64 [0, 4, 1, 3, 2] (Host.dotGeneral dot_S4x4096x2x64_S4x2x2x4096x4096_S4x2x64x2x4096_1_4_3_23_02_01 none v
    (Host.divf e (broadcastInDim S4x2x2x4096x4096 ![0, 1, 2, 3, 4] bcast_S4x2x2x4096x1_S4x2x2x4096x4096_0_1_2_3_4 (broadcastInDim S4x2x2x4096x1 ![0, 1, 2, 3] bcast_S4x2x2x4096_S4x2x2x4096x1_0_1_2_3 (Host.reduceAdd e (constant S_ .f32 0x00000000#32) reducesTo_S4x2x2x4096x4096_S4x2x2x4096_d4 h_S_))))) transposes_S4x2x64x2x4096_S4x4096x2x2x64_0_4_1_3_2) shapeCasts_S4x4096x2x2x64_S16384x256

theorem res_eq (m : (ℓ : Loc nD τ sig) → Buf (Elt F) ℓ) (c : Dev nD) :
    Value.res_out0 m c = rO (rE (rS (m ((c.tc : Thread nD τ).loc main_arg0)) (m ((c.tc : Thread nD τ).loc main_arg1)) (rC (m ((c.tc : Thread nD τ).loc main_arg3)))))
      (m ((c.tc : Thread nD τ).loc main_arg2)) := rfl
end Vectors

theorem ofBits_neg_inf : Ideal.ofBits FTy.f32 0xFF800000#32 = ⊥ := by simp [Ideal.ofBits, Ideal.ieee]

/-- One score of one head: the query against the key, scaled, and the gates' decay. -/
def score (Q : FVec Ideal S4x4096x4x64 .f32) (K : FVec Ideal S4x4096x2x64 .f32) (G : FVec Ideal S4x4096x4 .f32)
    (b : Fin 4) (kv gr : Fin 2) (q κ : Fin 4096) : EReal :=
  (∑ e : Fin 64, K (ix4 b κ kv e) * Q (ix4 b q ⟨kv.val * 2 + gr.val, by omega⟩ e)) * Ideal.ofBits FTy.f32 0x3E000000#32
    + (G (ix3 b q ⟨kv.val * 2 + gr.val, by omega⟩) - G (ix3 b κ ⟨kv.val * 2 + gr.val, by omega⟩))

theorem sle_iff (n k : ℕ) (hn : n < 4096) (hk : k < 4096) :
    (BitVec.ofNat 32 n).sle (BitVec.ofNat 32 k) = decide (n ≤ k) := by
  rw [BitVec.sle_eq_decide, BitVec.toInt_eq_toNat_of_lt (by simp; omega), BitVec.toInt_eq_toNat_of_lt (by simp; omega)]
  simp only [BitVec.toNat_ofNat]
  rw [Nat.mod_eq_of_lt (by omega), Nat.mod_eq_of_lt (by omega)]
  simp

theorem rC_apply (G : FVec Ideal S4x4096x4 .f32) (b : Fin 4) (kv gr : Fin 2) (q : Fin 4096) :
    rC G (ix4 b kv gr q) = G (ix3 b q ⟨kv.val * 2 + gr.val, by omega⟩) := by
  pointwise [rC]

theorem rS_apply (Q : FVec Ideal S4x4096x4x64 .f32) (K : FVec Ideal S4x4096x2x64 .f32) (G : FVec Ideal S4x4096x4 .f32)
    (b : Fin 4) (kv gr : Fin 2) (q κ : Fin 4096) :
    rS Q K (rC G) (ix5 b kv gr q κ) = if κ.val ≤ q.val then score Q K G b kv gr q κ else ⊥ := by
  unfold rS
  simp only [id_eq]
  pointwise [score, ofBits_neg_inf, rC_apply]
  by_cases hk : κ.val ≤ q.val
  · simp [Scalar.select, IntOp.cmpi, sle_iff, hk]
  · simp [Scalar.select, IntOp.cmpi, sle_iff, hk]

/-- The index a row's reduction reads. -/
theorem lift_eq (b : Fin 4) (kv gr : Fin 2) (q κ : Fin 4096) : reduces_last.lift (ix4 b kv gr q) κ = ix5 b kv gr q κ := by
  funext a; fin_cases a <;> rfl

theorem rM_apply (s : FVec Ideal S4x2x2x4096x4096 .f32) (b : Fin 4) (kv gr : Fin 2) (q : Fin 4096) :
    rM s (ix4 b kv gr q) = Finset.univ.fold max ⊥ fun κ' => s (ix5 b kv gr q κ') := by
  rw [rM_eq]
  refine (Ideal.multiReduction_maximumf_single s _ reduces_last (.inl rfl) rfl (ix4 b kv gr q)).trans ?_
  show Finset.univ.fold max (Ideal.ofBits FTy.f32 0xFF800000#32) _ = _
  rw [ofBits_neg_inf]
  refine congrArg (fun f => Finset.fold max ⊥ f Finset.univ) (funext fun κ' => ?_)
  exact congrArg s (lift_eq b kv gr q κ')

theorem rX_apply (s : FVec Ideal S4x2x2x4096x4096 .f32) (mx : FVec Ideal S4x2x2x4096 .f32) (b : Fin 4) (kv gr : Fin 2) (q κ : Fin 4096) :
    rX s mx (ix5 b kv gr q κ) = Ideal.exp (s (ix5 b kv gr q κ) - mx (ix4 b kv gr q)) := by
  pointwise [rX, ofBits_neg_inf]
  rw [max_eq_right bot_le]

theorem rE_apply (s : FVec Ideal S4x2x2x4096x4096 .f32) (b : Fin 4) (kv gr : Fin 2) (q κ : Fin 4096) :
    rE s (ix5 b kv gr q κ) = Ideal.exp (s (ix5 b kv gr q κ) - Finset.univ.fold max ⊥ fun κ' => s (ix5 b kv gr q κ')) := by
  rw [rE, rX_apply, rM_apply]

theorem rO_apply (e : FVec Ideal S4x2x2x4096x4096 .f32) (v : FVec Ideal S4x4096x2x64 .f32) (R : Fin 16384) (C : Fin 256)
    (b : Fin 4) (kv gr : Fin 2) (q : Fin 4096) (ch : Fin 64) (hR : R.val = b.val * 4096 + q.val) (hC : C.val = (kv.val * 2 + gr.val) * 64 + ch.val) :
    rO e v (ix2 R C) = ∑ κ, v (ix4 b κ kv ch) * Ideal.div (e (ix5 b kv gr q κ)) (∑ κ', e (ix5 b kv gr q κ')) := by
  pointwise [rO]
  have h1 : (⟨R.val / 4096, by omega⟩ : Fin 4) = b := by apply Fin.ext; show R.val / 4096 = b.val; omega
  have h2 : (⟨R.val % 4096, by omega⟩ : Fin 4096) = q := by apply Fin.ext; show R.val % 4096 = q.val; omega
  have h3 : (⟨C.val / 128, by omega⟩ : Fin 2) = kv := by apply Fin.ext; show C.val / 128 = kv.val; omega
  have h4 : (⟨C.val / 64 % 2, by omega⟩ : Fin 2) = gr := by apply Fin.ext; show C.val / 64 % 2 = gr.val; omega
  have h6 : (⟨C.val % 64, by omega⟩ : Fin 64) = ch := by apply Fin.ext; show C.val % 64 = ch.val; omega
  simp only [h1, h2, h3, h4, h6]
end Cert.Reference4Ideal.Fox
-- ==== Proof.FoxRow.lean ====
/- One row of one head of the forgetting attention: the kernel's quotient is the reference's causal softmax against the values. -/
module
public import proofs.«01_k».proof.Proof.FoxLoop
public import proofs.«01_k».proof.Proof.FoxHost
public import proofs.«01_k».proof.Proof.FoxRef
public import proofs.«01_k».proof.Proof.FlashCausal
@[expose] public section
set_option maxRecDepth 16384
noncomputable section
namespace Cert.Kernel4Ideal.Fox
open Cert.Kernel4Ideal Cert.Kernel4Ideal.Gen Idealize.ShloMosaic Idealize.ShloMosaic.TcCoe Idealize.SL.Sem
open Cert.FlashMath

section Row
variable (Q : S4x4096x4x64.Idx → ℝ) (K V : S4x4096x2x64.Idx → ℝ) (G : S4x4096x4.Idx → ℝ)
/-- A product of a query and a key before its scale, in the reals. -/
def dot (b : Fin 4) (kv gr : Fin 2) (q κ : Fin 4096) : ℝ :=
  ∑ e : Fin 64, K (ix4 b κ kv e) * Q (ix4 b q ⟨kv.val * 2 + gr.val, by omega⟩ e)
/-- The gates' decay from a key to a query, in the reals. -/
def decay (b : Fin 4) (kv gr : Fin 2) (q κ : Fin 4096) : ℝ :=
  G (ix3 b q ⟨kv.val * 2 + gr.val, by omega⟩) - G (ix3 b κ ⟨kv.val * 2 + gr.val, by omega⟩)

theorem ref_score (σ : ℝ) (hσ : Ideal.ofBits FTy.f32 0x3E000000#32 = (σ : EReal)) (b : Fin 4) (kv gr : Fin 2) (q κ : Fin 4096) :
    Reference4Ideal.Fox.score (fun i => (Q i : EReal)) (fun i => (K i : EReal)) (fun i => (G i : EReal)) b kv gr q κ
      = ((dot Q K b kv gr q κ * σ + decay G b kv gr q κ : ℝ) : EReal) := by
  unfold Reference4Ideal.Fox.score dot decay
  rw [hσ]
  simp only [← EReal.coe_mul, sum_real, ← EReal.coe_sub, ← EReal.coe_add]

variable (x0 : Vec Ideal S1x2x1024x64 .bf16) (x1 : Vec Ideal S1x4x64x1024 .bf16) (x2 : Vec Ideal S1x4x80x1024 .bf16) (x3 : Vec Ideal S1x2x4x1x1024 .f32)

/-- The reference's weights, the arguments real. -/
abbrev refE : FVec Ideal Reference4Ideal.S4x2x2x4096x4096 .f32 :=
  Reference4Ideal.Fox.rE (F := Ideal) (Reference4Ideal.Fox.rS (F := Ideal) (fun i => (Q i : EReal)) (fun i => (K i : EReal)) (Reference4Ideal.Fox.rC (F := Ideal) fun i => (G i : EReal)))

/-- A tile's row: its quotient at a channel is the softmax over all keys. -/
theorem row_eq (n : Fin 4) (gr : Fin 2) (r : Fin 1024) (b : Fin 4) (kv : Fin 2) (q : Fin 4096) (ch : Fin 64) (hq : q.val = n.val * 1024 + r.val)
    (h0 : ∀ e, x0 (ix4 0 gr r e) = hQ (F := Ideal) (fun i => (Q i : EReal)) (ix4 b ⟨kv.val * 2 + gr.val, by omega⟩ q e))
    (h1 : ∀ j (e : Fin 64) k, x1 (ix4 0 j e k) = hK (F := Ideal) (fun i => (K i : EReal)) (ix4 b j ⟨kv.val * 64 + e.val, by omega⟩ k))
    (h2 : ∀ j (e : Fin 80) k, x2 (ix4 0 j e k) = hV (F := Ideal) (fun i => (V i : EReal)) (ix4 b j ⟨kv.val * 80 + e.val, by omega⟩ k))
    (h3 : ∀ j k, x3 (ix5 0 gr j 0 k) = hC (F := Ideal) (fun i => (G i : EReal)) (ix5 b ⟨kv.val * 2 + gr.val, by omega⟩ j 0 k)) :
    quot x0 x1 x2 x3 n.val gr (ix2 r ch)
      = ∑ κ, (V (ix4 b κ kv ch) : EReal) * Ideal.div (refE Q K G (ix5 b kv gr q κ)) (∑ κ', refE Q K G (ix5 b kv gr q κ')) := by
  obtain ⟨σ, hσ, hsc⟩ := scale_real
  have hn := n.isLt
  have hr := r.isLt
  have hG : ∀ j (hj : j < 4) (k : Fin 1024), gblk x3 gr j (ix5 0 0 0 0 k) = ((G (ix3 b ⟨j * 1024 + k.val, by omega⟩ ⟨kv.val * 2 + gr.val, by omega⟩) : ℝ) : EReal) := fun j hj k => by
    unfold gblk
    rw [dif_pos hj]
    exact (h3 ⟨j, hj⟩ k).trans (hC_apply _ b _ ⟨j, hj⟩ k)
  have hcq : k0_pay16 (F := Ideal) (gblk x3 gr n.val) (ix2 r 0) = (((Real.log 2)⁻¹ * G (ix3 b q ⟨kv.val * 2 + gr.val, by omega⟩) : ℝ) : EReal) := by
    rw [gate_apply, hG n.val hn r, ← EReal.coe_mul]
    have : (⟨n.val * 1024 + r.val, by omega⟩ : Fin 4096) = q := Fin.ext hq.symm
    rw [this]
  unfold quot
  rw [vQ_apply]
  generalize hcqv : k0_pay16 (F := Ideal) (gblk x3 gr n.val) = cq at hcq ⊢
  have hrow := (hst_row (sblk (qhd x0 gr) cq x1 x3 gr n.val) (vblk x2) (n.val + 1) r).2
  rw [head, hrow, hrow]
  unfold refE
  simp only [Reference4Ideal.Fox.rE_apply, Reference4Ideal.Fox.rS_apply, ref_score Q K G σ hσ]
  have hvS : ∀ j (hj : j < 4) (k : Fin 1024), vS (qhd x0 gr) (kblk x1 j) cq (gblk x3 gr j) (ix2 r k)
      = (((dot Q K b kv gr q ⟨j * 1024 + k.val, by omega⟩ * σ + decay G b kv gr q ⟨j * 1024 + k.val, by omega⟩) * (1 / Real.log 2) : ℝ) : EReal) := fun j hj k => by
    rw [vS_apply, hcq, hG j hj k]
    have hterm : ∀ e : Fin 64, qhd x0 gr (ix2 r e) * kblk x1 j (ix2 e k)
        = ((K (ix4 b ⟨j * 1024 + k.val, by omega⟩ kv e) * Q (ix4 b q ⟨kv.val * 2 + gr.val, by omega⟩ e) * (σ * (1 / Real.log 2)) : ℝ) : EReal) := fun e => by
      have e0 : qhd x0 gr (ix2 r e) = _ := (h0 e).trans (hQ_apply _ b _ q e)
      have e1 : kblk x1 j (ix2 e k) = ((K (ix4 b ⟨j * 1024 + k.val, by omega⟩ kv e) : ℝ) : EReal) := by
        unfold kblk
        rw [dif_pos hj]
        exact (h1 ⟨j, hj⟩ e k).trans (hK_apply _ b ⟨j, hj⟩ _ k kv e rfl)
      rw [e0, e1, hsc]
      rw [← EReal.coe_mul, ← EReal.coe_mul]
      congr 1
      ring
    simp only [hterm, sum_real]
    rw [← EReal.coe_mul, ← EReal.coe_sub, ← EReal.coe_add]
    congr 1
    unfold dot decay
    rw [← Finset.sum_mul]
    ring
  refine causal_row n r q hq (fun κ => dot Q K b kv gr q κ * σ + decay G b kv gr q κ) (fun κ => (V (ix4 b κ kv ch) : EReal))
    (fun j k => sblk (qhd x0 gr) cq x1 x3 gr n.val j (ix2 r k)) (fun j k => vblk x2 j (ix2 ⟨ch.val, by omega⟩ k)) (fun j k => vblk x2 j (ix2 64 k)) ?_ ?_ ?_
  · intro j hj k hk
    show sblk (qhd x0 gr) cq x1 x3 gr n.val j (ix2 r k) = _
    unfold sblk
    by_cases hjn : j < n.val
    · rw [if_pos hjn, hvS j (by omega) k, if_pos (by omega)]
    · rw [if_neg hjn, vMask_apply, hvS j (by omega) k]
      by_cases hkr : k.val ≤ r.val
      · rw [if_pos hkr, if_pos (by omega)]
      · rw [if_neg hkr, if_neg (by omega)]
  · intro j hj k hk
    show vblk x2 j (ix2 ⟨ch.val, _⟩ k) = _
    unfold vblk
    rw [dif_pos (by omega)]
    refine (h2 ⟨j, by omega⟩ ⟨ch.val, by omega⟩ k).trans ?_
    rw [hV_apply _ b _ _ k kv ⟨ch.val, by omega⟩ rfl, dif_pos ch.isLt]
  · intro j hj k
    show vblk x2 j (ix2 64 k) = 1
    unfold vblk
    rw [dif_pos (by omega)]
    refine (h2 ⟨j, by omega⟩ ⟨64, by omega⟩ k).trans ?_
    rw [hV_apply _ b _ _ k kv ⟨64, by omega⟩ rfl, dif_neg (by simp), if_pos rfl]
end Row
end Cert.Kernel4Ideal.Fox
-- ==== Proof.FoxValue.lean ====
/- The forgetting attention's output array is the reference's result, the arguments finite. -/
module
public import proofs.«01_k».proof.Proof.FoxBlocks
public import proofs.«01_k».proof.Proof.FoxRow
@[expose] public section
set_option maxRecDepth 16384
noncomputable section
namespace Cert.Kernel4Ideal.Fox
open Cert.Kernel4Ideal Cert.Kernel4Ideal.Gen Idealize.ShloMosaic Idealize.ShloMosaic.TcCoe Idealize.SL.Sem
open Cert.FlashMath
variable (m : (ℓ : Loc nD τ sig) → Buf (Elt Ideal) ℓ) (c : Dev nD)

/-- What the call leaves, as a function of real arguments: the reference's result. -/
theorem tile_eq (Q : S4x4096x4x64.Idx → ℝ) (K V : S4x4096x2x64.Idx → ℝ) (G : S4x4096x4.Idx → ℝ)
    (x0 : Vec Ideal S1x2x1024x64 .bf16) (x1 : Vec Ideal S1x4x64x1024 .bf16) (x2 : Vec Ideal S1x4x80x1024 .bf16) (x3 : Vec Ideal S1x2x4x1x1024 .f32)
    (b n : Fin 4) (kv : Fin 2) (r : Fin 1024) (C : Fin 128) (R : Fin 16384) (C' : Fin 256)
    (hR : R.val = (b.val * 4 + n.val) * 1024 + r.val) (hC' : C'.val = kv.val * 128 + C.val)
    (h0 : ∀ (g : Fin 2) (r : Fin 1024) e, x0 (ix4 0 g r e) = hQ (F := Ideal) (fun i => (Q i : EReal)) (ix4 b ⟨kv.val * 2 + g.val, by omega⟩ ⟨n.val * 1024 + r.val, by omega⟩ e))
    (h1 : ∀ j (e : Fin 64) k, x1 (ix4 0 j e k) = hK (F := Ideal) (fun i => (K i : EReal)) (ix4 b j ⟨kv.val * 64 + e.val, by omega⟩ k))
    (h2 : ∀ j (e : Fin 80) k, x2 (ix4 0 j e k) = hV (F := Ideal) (fun i => (V i : EReal)) (ix4 b j ⟨kv.val * 80 + e.val, by omega⟩ k))
    (h3 : ∀ (g : Fin 2) j k, x3 (ix5 0 g j 0 k) = hC (F := Ideal) (fun i => (G i : EReal)) (ix5 b ⟨kv.val * 2 + g.val, by omega⟩ j 0 k)) :
    vC (quot x0 x1 x2 x3 n.val 0) (quot x0 x1 x2 x3 n.val 1) (ix2 r C)
      = Reference4Ideal.Fox.rO (F := Ideal) (refE Q K G) (fun i => (V i : EReal)) (ix2 R C') := by
  have hCl := C.isLt
  have hn := n.isLt
  have hr := r.isLt
  have e1 := vC_apply (fun g => quot x0 x1 x2 x3 n.val g) r C ⟨C.val / 64, by omega⟩ ⟨C.val % 64, by omega⟩ (by show C.val = C.val / 64 * 64 + C.val % 64; omega)
  refine e1.trans ?_
  rw [Reference4Ideal.Fox.rO_apply _ _ R C' b kv ⟨C.val / 64, by omega⟩ ⟨n.val * 1024 + r.val, by omega⟩ ⟨C.val % 64, by omega⟩
    (by show R.val = b.val * 4096 + (n.val * 1024 + r.val); omega) (by show C'.val = (kv.val * 2 + C.val / 64) * 64 + C.val % 64; omega)]
  exact row_eq Q K V G x0 x1 x2 x3 n ⟨C.val / 64, by omega⟩ r b kv ⟨n.val * 1024 + r.val, by omega⟩ ⟨C.val % 64, by omega⟩ rfl
    (fun e => h0 _ r e) h1 h2 (fun j k => h3 _ j k)

theorem arr_eq (Q : S4x4096x4x64.Idx → ℝ) (K W : S4x4096x2x64.Idx → ℝ) (G : S4x4096x4.Idx → ℝ)
    (h0 : m (c, Proc.tc.devRef main_arg0) = fun i => (Q i : EReal)) (h1 : m (c, Proc.tc.devRef main_arg1) = fun i => (K i : EReal))
    (h2 : m (c, Proc.tc.devRef main_arg2) = fun i => (W i : EReal)) (h3 : m (c, Proc.tc.devRef main_arg3) = fun i => (G i : EReal)) :
    (dats m 0 c).arrAt 4 cfg0.N = Reference4Ideal.Fox.rO (F := Ideal) (refE Q K G) (fun i => (W i : EReal)) := by
  have hQ' := V_queries m c
  have hK' := V_keys m c
  have hV' := V_values m c
  have hG' := V_gates m c
  rw [h0] at hQ'
  rw [h1] at hK'
  rw [h2] at hV'
  rw [h3] at hG'
  refine (dats m 0 c).arrAt_eq_of_covers 4 _ (by decide +kernel) fun t hf y => ?_
  blk_simp
  rw [after0_4]
  unfold outsAt0
  rw [out_eq]
  obtain ⟨r, C, rfl⟩ : ∃ (r : Fin 1024) (C : Fin 128), y = ix2 r C := ⟨y 0, y 1, by funext a; fin_cases a <;> rfl⟩
  have b0 : (grid0.coords t 0).val < 4 := (grid0.coords t 0).isLt
  have b1 : (grid0.coords t 1).val < 2 := (grid0.coords t 1).isLt
  have b2 : (grid0.coords t 2).val < 4 := (grid0.coords t 2).isLt
  have e : ((cfg0.win 4).blk t).view.emb (ix2 r C) = ix2 (⟨((grid0.coords t 0).val * 4 + (grid0.coords t 2).val) * 1024 + r.val, by
      omega⟩ : Fin 16384) (⟨(grid0.coords t 1).val * 128 + C.val, by omega⟩ : Fin 256) := by
    blk_ext [idx4 t]
  refine (tile_eq Q K W G (iblk m c 0 t) (iblk m c 1 t) (iblk m c 2 t) (iblk m c 3 t) ⟨_, b0⟩ ⟨_, b2⟩ ⟨_, b1⟩ r C _ _ rfl rfl
    (fun g r e => ?_) (fun j e k => ?_) (fun j e k => ?_) (fun g j k => ?_)).trans (congrArg _ e.symm)
  · rw [← hQ']
    exact blk0 m c t g r e _ _ _ rfl rfl rfl
  · rw [← hK']
    exact blk1 m c t j e k _ _ rfl rfl
  · rw [← hV']
    exact blk2 m c t j e k _ _ rfl rfl
  · rw [← hG']
    exact blk3 m c t g j k _ _ rfl rfl
end Cert.Kernel4Ideal.Fox
-- ==== Proof.FoxPre.lean ====
/- The forgetting attention's precondition read: every argument is an array of real numbers. -/
module
public import proofs.«01_k».proof.Proof.Gen.Pre_finite4
public import proofs.«01_k».proof.Proof.FlashPre
@[expose] public section
set_option maxRecDepth 16384
noncomputable section
namespace Cert.Pre_finite4.Fox
open Cert.Pre_finite4 Idealize.ShloMosaic Idealize.SL.Sem

theorem finite_apply [Facts] (a0 : FVec Ideal S4x4096x4x64 .f32) (a1 a2 : FVec Ideal S4x4096x2x64 .f32) (a3 : FVec Ideal S4x4096x4 .f32)
    (j : S_.Idx) (h : fn (F := Ideal) a0 a1 a2 a3 j = 1#1) :
    (∃ f : _ → ℝ, a0 = fun i => (f i : EReal)) ∧ (∃ f : _ → ℝ, a1 = fun i => (f i : EReal)) ∧ (∃ f : _ → ℝ, a2 = fun i => (f i : EReal))
      ∧ (∃ f : _ → ℝ, a3 = fun i => (f i : EReal)) := by
  dsimp only [fn, fn_part1] at h
  obtain ⟨h, h3⟩ := IntOp.andi_eq_one.1 h
  obtain ⟨h, h2⟩ := IntOp.andi_eq_one.1 h
  obtain ⟨h0, h1⟩ := IntOp.andi_eq_one.1 h
  exact ⟨Cert.Pre_finite.Flash.real_of_all a0 _ _ _ j h0, Cert.Pre_finite.Flash.real_of_all a1 _ _ _ j h1, Cert.Pre_finite.Flash.real_of_all a2 _ _ _ j h2,
    Cert.Pre_finite.Flash.real_of_all a3 _ _ _ j h3⟩
end Cert.Pre_finite4.Fox
-- ==== Proof.FlashRows.lean ====
/- The latent attention's payloads: a tile of 1024 queries against a block of 1024 keys.

   The four heads of a group run the same arithmetic on their own queries. It is written here once, as functions of a
   tile's scores, and read at an index: the running maximum and the running sums are the row's state of the online
   softmax, the mask leaves the scores up to the query, the quotient divides the sums by the channel of ones. -/
module
public import proofs.«01_k».proof.Proof.Gen.KernelIdeal.Value
public import proofs.«01_k».proof.Proof.FlashMath
public import Idealize.ShloMosaic.Lib.Pipeline.ValueKit
public import Idealize.ShloMosaic.Lib.Pointwise
@[expose] public section
set_option maxRecDepth 16384
noncomputable section
namespace Cert.KernelIdeal.Flash
open Cert.KernelIdeal Cert.KernelIdeal.Gen Idealize.ShloMosaic Idealize.ShloMosaic.TcCoe Idealize.SL.Sem
open Cert.FlashMath

section Vectors
variable {F : FTy → Type} [FloatOps F]
/-- The scores of a tile of queries against a block of keys. -/
def vS (q : FVec F S1024x176 .bf16) (kb : FVec F S176x1024 .bf16) : FVec F S1024x1024 .f32 :=
  have cst : FVec F S1024x1024 .f32 := constant S1024x1024 .f32 0x00000000#32
  matmul dot_S1024x176_S176x1024_S1024x1024_1_0_0_1_n_n none q kb cst
/-- The scores with the keys after the query left out. -/
def vMask (s : FVec F S1024x1024 .f32) : FVec F S1024x1024 .f32 :=
  have v83 : IVec S1024x1024 1 := cmpi .sle (iota .tc S1024x1024 32 [1] iota_S1024x1024_d1_w32) (iota .tc S1024x1024 32 [0] iota_S1024x1024_d0_w32)
  have cst : F .f32 := Scalar.ofBits .f32 0xFF800000#32
  have v84 : FVec F S1024x1024 .f32 := broadcast S1024x1024 cst
  select v83 s v84
/-- The running maxima after a block. -/
def vM (s : FVec F S1024x1024 .f32) (m : FVec F S1024x1 .f32) : FVec F S1024x1 .f32 :=
  have v86 : FVec F S1024 .f32 := multiReduction .maximumf [1] S1024 s 0xFF800000#32 reduces_S1024x1024_S1024 (.inl rfl) rfl
  have v87 : FVec F S1024x1 .f32 := shapeCast S1024x1 v86 shapeCasts_S1024_S1024x1
  maximumf m v87
/-- The running sums after a block. -/
def vA (s : FVec F S1024x1024 .f32) (m : FVec F S1024x1 .f32) (a : FVec F S1024x144 .f32) (vb : FVec F S144x1024 .bf16) : FVec F S1024x144 .f32 :=
  have cst : FVec F S1024x144 .f32 := constant S1024x144 .f32 0x00000000#32
  addf (mulf (broadcastTo S1024x144 (exp2 (subf m (vM s m))) broadcasts_S1024x1_S1024x144) a)
    (matmul dot_S1024x1024_S144x1024_S1024x144_1_1_0_0_n_n none (truncf .bf16 (exp2 (subf s (broadcastTo S1024x1024 (vM s m) broadcasts_S1024x1_S1024x1024))) bitsLt_bf16_f32) vb cst)
/-- The quotient of a head: its channels' sums by the sum of the weights. -/
def vQ (a : FVec F S1024x144 .f32) : FVec F S1024x128 .f32 :=
  have v99 : FVec F S1024x128 .f32 := extractStridedSlice S1024x128 ![0, 0] a slices_S1024x144_o0_0_S1024x128
  have v100 : FVec F S1024x1 .f32 := extractStridedSlice S1024x1 ![0, 128] a slices_S1024x144_o0_128_S1024x1
  have v101 : FVec F S1024x128 .f32 := broadcastTo S1024x128 v100 broadcasts_S1024x1_S1024x128
  divf v99 v101
/-- The four heads' quotients side by side. -/
def vO (a b c d : FVec F S1024x144 .f32) : FVec F S1024x512 .f32 :=
  concatenate S1024x512 1 [⟨S1024x128, vQ a⟩, ⟨S1024x128, vQ b⟩, ⟨S1024x128, vQ c⟩, ⟨S1024x128, vQ d⟩] concatenates_S1024x128_S1024x128_S1024x128_S1024x128_S1024x512_d1

/-- The payloads of the four heads are the functions above. -/
theorem pay5_eq (q : FVec F S1024x176 .bf16) (m : FVec F S1024x1 .f32) (kb : Vec F S1x1x176x1024 .bf16) :
    k0_pay5 q m kb = vM (vS q (k0_pay2 kb)) m := rfl
theorem pay6_eq (q : FVec F S1024x176 .bf16) (m : FVec F S1024x1 .f32) (a : FVec F S1024x144 .f32)
    (kb : Vec F S1x1x176x1024 .bf16) (vb : Vec F S1x1x144x1024 .bf16) :
    k0_pay6 q m a kb vb = vA (vS q (k0_pay2 kb)) m a (k0_pay3 vb) := rfl
theorem pay48_eq (q : FVec F S1024x176 .bf16) (m : FVec F S1024x1 .f32) (a : FVec F S1024x144 .f32)
    (kb : Vec F S1x1x176x1024 .bf16) (vb : Vec F S1x1x144x1024 .bf16) :
    k0_pay48 q (iota .tc S1024x1024 32 [0] iota_S1024x1024_d0_w32) (iota .tc S1024x1024 32 [1] iota_S1024x1024_d1_w32) m a kb vb
      = vA (vMask (vS q (k0_pay2 kb))) m a (k0_pay3 vb) := rfl
theorem pay49_eq (q : FVec F S1024x176 .bf16) (m : FVec F S1024x1 .f32) (a : FVec F S1024x144 .f32)
    (kb : Vec F S1x1x176x1024 .bf16) (vb : Vec F S1x1x144x1024 .bf16) :
    k0_pay49 q (iota .tc S1024x1024 32 [0] iota_S1024x1024_d0_w32) (iota .tc S1024x1024 32 [1] iota_S1024x1024_d1_w32) m a kb vb
      = vA (vMask (vS q (k0_pay2 kb))) m a (k0_pay3 vb) := rfl
theorem pay1_eq (q2 q3 : FVec F S1024x176 .bf16) (m2 m3 : FVec F S1024x1 .f32) (a2 a3 a b : FVec F S1024x144 .f32)
    (kb : Vec F S1x1x176x1024 .bf16) (vb : Vec F S1x1x144x1024 .bf16) :
    k0_pay1 q3 (iota .tc S1024x1024 32 [0] iota_S1024x1024_d0_w32) (iota .tc S1024x1024 32 [1] iota_S1024x1024_d1_w32) m2 a2 m3 a3
        (k0_pay46 kb) (k0_pay47 vb) a b
        (k0_pay50 q2 (iota .tc S1024x1024 32 [0] iota_S1024x1024_d0_w32) (iota .tc S1024x1024 32 [1] iota_S1024x1024_d1_w32) kb)
        (k0_pay51 q2 (iota .tc S1024x1024 32 [0] iota_S1024x1024_d0_w32) (iota .tc S1024x1024 32 [1] iota_S1024x1024_d1_w32) m2 kb)
      = vO a b (vA (vMask (vS q2 (k0_pay2 kb))) m2 a2 (k0_pay3 vb)) (vA (vMask (vS q3 (k0_pay2 kb))) m3 a3 (k0_pay3 vb)) := rfl
end Vectors

/-! ## At an index -/

theorem ofBits_neg_inf : Ideal.ofBits FTy.f32 0xFF800000#32 = ⊥ := by simp [Ideal.ofBits, Ideal.ieee]

theorem vS_apply (q : FVec Ideal S1024x176 .bf16) (kb : FVec Ideal S176x1024 .bf16) (r k : Fin 1024) :
    vS q kb (ix2 r k) = ∑ e : Fin 176, q (ix2 r e) * kb (ix2 e k) := by
  pointwise [vS]

theorem vMask_apply (s : FVec Ideal S1024x1024 .f32) (r k : Fin 1024) :
    vMask s (ix2 r k) = if k.val ≤ r.val then s (ix2 r k) else ⊥ := by
  pointwise [vMask, ofBits_neg_inf]
  have hk := k.isLt
  have hr := r.isLt
  have h : (BitVec.ofNat 32 k.val).sle (BitVec.ofNat 32 r.val) = decide (k.val ≤ r.val) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  by_cases hkr : k.val ≤ r.val
  · simp [Scalar.select, IntOp.cmpi, h, hkr]
  · simp [Scalar.select, IntOp.cmpi, h, hkr]

theorem vM_apply (s : FVec Ideal S1024x1024 .f32) (m : FVec Ideal S1024x1 .f32) (r : Fin 1024) :
    vM s m (ix2 r 0) = stepM (m (ix2 r 0)) (fun k => s (ix2 r k)) := by
  pointwise [vM, stepM, ofBits_neg_inf]

theorem vA_apply (s : FVec Ideal S1024x1024 .f32) (m : FVec Ideal S1024x1 .f32) (a : FVec Ideal S1024x144 .f32)
    (vb : FVec Ideal S144x1024 .bf16) (r : Fin 1024) (c : Fin 144) :
    vA s m a vb (ix2 r c) = stepA (m (ix2 r 0)) (a (ix2 r c)) (fun k => s (ix2 r k)) (fun k => vb (ix2 c k)) := by
  unfold vA
  pointwise [stepA, vM_apply]
  rfl

theorem vQ_apply (a : FVec Ideal S1024x144 .f32) (r : Fin 1024) (c : Fin 128) :
    vQ a (ix2 r c) = Ideal.div (a (ix2 r ⟨c.val, by omega⟩)) (a (ix2 r 128)) := by
  pointwise [vQ]

theorem key_apply (kb : FVec Ideal S1x1x176x1024 .bf16) (e : Fin 176) (k : Fin 1024) :
    k0_pay2 kb (ix2 e k) = kb (ix4 0 0 e k) := by
  pointwise [k0_pay2]

theorem val_apply (vb : FVec Ideal S1x1x144x1024 .bf16) (c : Fin 144) (k : Fin 1024) :
    k0_pay3 vb (ix2 c k) = vb (ix4 0 0 c k) := by
  pointwise [k0_pay3]

theorem qry_apply (q : FVec Ideal S1x1x1024x176 .bf16) (r : Fin 1024) (e : Fin 176) :
    k0_pay26 q (ix2 r e) = q (ix4 0 0 r e) := by
  pointwise [k0_pay26]

end Cert.KernelIdeal.Flash
-- ==== Proof.FlashTile.lean ====
/- The latent attention's output tile at an index: the head owning the column, its sums by its channel of ones. -/
module
public import proofs.«01_k».proof.Proof.FlashRows
@[expose] public section
set_option maxRecDepth 16384
noncomputable section
namespace Cert.KernelIdeal.Flash
open Cert.KernelIdeal Cert.KernelIdeal.Gen Idealize.ShloMosaic Idealize.ShloMosaic.TcCoe Idealize.SL.Sem
open Cert.FlashMath

section Vectors
variable {F : FTy → Type} [FloatOps F]
/-- Four heads' channels side by side. -/
def vC (a b c d : FVec F S1024x128 .f32) : FVec F S1024x512 .f32 :=
  concatenate S1024x512 1 [⟨S1024x128, a⟩, ⟨S1024x128, b⟩, ⟨S1024x128, c⟩, ⟨S1024x128, d⟩] concatenates_S1024x128_S1024x128_S1024x128_S1024x128_S1024x512_d1
theorem vO_eq (a b c d : FVec F S1024x144 .f32) : vO a b c d = vC (vQ a) (vQ b) (vQ c) (vQ d) := rfl
end Vectors

theorem vC_apply (a : Fin 4 → FVec Ideal S1024x128 .f32) (r : Fin 1024) (C : Fin 512) (g : Fin 4) (ch : Fin 128) (hC : C.val = g.val * 128 + ch.val) :
    vC (a 0) (a 1) (a 2) (a 3) (ix2 r C) = a g (ix2 r ch) := by
  pointwise [vC]
  have hch := ch.isLt
  fin_cases g
  · rw [dif_pos (by simp at hC; omega)]
    congr 2; apply Fin.ext; simp at hC ⊢; omega
  · rw [dif_neg (by simp at hC; omega), dif_pos (by simp at hC; omega)]
    congr 2; apply Fin.ext; simp at hC ⊢; omega
  · rw [dif_neg (by simp at hC; omega), dif_neg (by simp at hC; omega), dif_pos (by simp at hC; omega)]
    congr 2; apply Fin.ext; simp at hC ⊢; omega
  · rw [dif_neg (by simp at hC; omega), dif_neg (by simp at hC; omega), dif_neg (by simp at hC; omega)]
    congr 2; apply Fin.ext; simp at hC ⊢; omega

theorem vO_apply (a : Fin 4 → FVec Ideal S1024x144 .f32) (r : Fin 1024) (C : Fin 512) (g : Fin 4) (ch : Fin 128) (hC : C.val = g.val * 128 + ch.val) :
    vO (a 0) (a 1) (a 2) (a 3) (ix2 r C) = Ideal.div (a g (ix2 r ⟨ch.val, by omega⟩)) (a g (ix2 r 128)) := by
  rw [vO_eq, vC_apply (fun g => vQ (a g)) r C g ch hC, vQ_apply]
end Cert.KernelIdeal.Flash
-- ==== Proof.FlashBlocks.lean ====
/- The latent attention's blocks: what each window holds at a grid point, from the host's buffers of queries and keys. -/
module
public import proofs.«01_k».proof.Proof.FlashRows
@[expose] public section
set_option maxRecDepth 16384
noncomputable section
namespace Cert.KernelIdeal.Flash
open Cert.KernelIdeal Cert.KernelIdeal.Gen Idealize.ShloMosaic Idealize.ShloMosaic.TcCoe Idealize.SL.Sem
open Cert.FlashMath
variable (m : (ℓ : Loc nD τ sig) → Buf (Elt Ideal) ℓ) (c : Dev nD)

theorem idx0 : ∀ t : Fin cfg0.N, win0_0.index t = ![(grid0.coords t 0).val, (grid0.coords t 1).val, (grid0.coords t 2).val, 0] := by decide +kernel
theorem idx1 : ∀ t : Fin cfg0.N, win0_1.index t = ![(grid0.coords t 0).val, 0, 0, 0] := by decide +kernel
theorem idx2 : ∀ t : Fin cfg0.N, win0_2.index t = ![(grid0.coords t 0).val, 0, 0, 0] := by decide +kernel
theorem idx3 : ∀ t : Fin cfg0.N, win0_3.index t = ![(grid0.coords t 0).val * 4 + (grid0.coords t 2).val, (grid0.coords t 1).val] := by decide +kernel

/-- A block of the first window, read off any array. -/
theorem rd0 (A : FVec Ideal S4x8x4096x176 .bf16) (t : Fin cfg0.N) (g : Fin 4) (r : Fin 1024) (e : Fin 176) (b : Fin 4) (h : Fin 8) (q : Fin 4096)
    (hb : b.val = (grid0.coords t 0).val) (hh : h.val = (grid0.coords t 1).val * 4 + g.val) (hq : q.val = (grid0.coords t 2).val * 1024 + r.val) :
    ((cfg0.win 0).blk t).view.read (Elt Ideal) A (ix4 0 g r e) = A (ix4 b h q e) := by
  blk_ext [idx0 t]
theorem rd1 (A : FVec Ideal S4x4x176x1024 .bf16) (t : Fin cfg0.N) (j : Fin 4) (e : Fin 176) (k : Fin 1024) (b : Fin 4) (hb : b.val = (grid0.coords t 0).val) :
    ((cfg0.win 1).blk t).view.read (Elt Ideal) A (ix4 0 j e k) = A (ix4 b j e k) := by
  blk_ext [idx1 t]
theorem rd2 (A : FVec Ideal S4x4x176x1024 .bf16) (d : (cfg0.win 2).block.Idx → Elt Ideal (cfg0.win 2).elt) (t : Fin cfg0.N) (j : Fin 4) (e : Fin 144) (k : Fin 1024) (b : Fin 4) (hb : b.val = (grid0.coords t 0).val) :
    (cfg0.win 2).fill (cfg0.grid.coords t) d (((cfg0.win 2).blk t).view.read (Elt Ideal) A) (ix4 0 j e k) = A (ix4 b j ⟨e.val, by omega⟩ k) := by
  unfold Pipeline.Window.fill
  rw [dif_pos (moved0_2 t _)]
  blk_ext [idx2 t]
/-- The blocks of the run's windows. -/
theorem blk0 (t : Fin cfg0.N) (g : Fin 4) (r : Fin 1024) (e : Fin 176) (b : Fin 4) (h : Fin 8) (q : Fin 4096)
    (hb : b.val = (grid0.coords t 0).val) (hh : h.val = (grid0.coords t 1).val * 4 + g.val) (hq : q.val = (grid0.coords t 2).val * 1024 + r.val) :
    iblk m c 0 t (ix4 0 g r e) = V m c main_v10 (ix4 b h q e) :=
  rd0 (V m c main_v10) t g r e b h q hb hh hq
theorem blk1 (t : Fin cfg0.N) (j : Fin 4) (e : Fin 176) (k : Fin 1024) (b : Fin 4) (hb : b.val = (grid0.coords t 0).val) :
    iblk m c 1 t (ix4 0 j e k) = V m c main_v22 (ix4 b j e k) :=
  rd1 (V m c main_v22) t j e k b hb
theorem blk2 (t : Fin cfg0.N) (j : Fin 4) (e : Fin 144) (k : Fin 1024) (b : Fin 4) (hb : b.val = (grid0.coords t 0).val) :
    X0_2 m c t (ix4 0 j e k) = V m c main_v22 (ix4 b j ⟨e.val, by omega⟩ k) :=
  rd2 (V m c main_v22) dflt0_2 t j e k b hb
end Cert.KernelIdeal.Flash
-- ==== Proof.FlashLoop.lean ====
/- The latent attention's loop: a tile of queries walks over the key blocks before its own, then meets its own block
   under the mask. The carried state is, head by head, the online softmax's state after that many blocks, and the tile
   left in the output is the four heads' quotients side by side.
-/
module
public import proofs.«01_k».proof.Proof.FlashRows
@[expose] public section
set_option maxRecDepth 16384
noncomputable section
namespace Cert.KernelIdeal.Flash
open Cert.KernelIdeal Cert.KernelIdeal.Gen Idealize.ShloMosaic Idealize.ShloMosaic.TcCoe Idealize.SL.Sem
open Cert.FlashMath

/-! ## The blocks read -/

/-- Block `n` of the keys, and zero past the last. -/
def kblk (x1 : Vec Ideal S1x4x176x1024 .bf16) (n : ℕ) : FVec Ideal S176x1024 .bf16 :=
  fun p => if h : n < 4 then x1 (ix4 0 ⟨n, h⟩ (p 0) (p 1)) else 0
/-- Block `n` of the values, and zero past the last. -/
def vblk (x2 : Vec Ideal S1x4x144x1024 .bf16) (n : ℕ) : FVec Ideal S144x1024 .bf16 :=
  fun p => if h : n < 4 then x2 (ix4 0 ⟨n, h⟩ (p 0) (p 1)) else 0
/-- Head `g`'s queries. -/
def qhd (x0 : Vec Ideal S1x4x1024x176 .bf16) (g : Fin 4) : FVec Ideal S1024x176 .bf16 :=
  fun p => x0 (ix4 0 g (p 0) (p 1))

theorem key_ld (x1 : Vec Ideal S1x4x176x1024 .bf16) (n : ℕ) (hn : n < 4) (off : Fin 4 → ℕ) (ho : off = ![0, n, 0, 0]) (h) :
    k0_pay2 (View.ld x1 (Rect.unit off ![1, 1, 176, 1024] h)) = kblk x1 n := by
  subst ho
  funext p
  obtain ⟨e, k, rfl⟩ : ∃ e k, p = ix2 e k := ⟨p 0, p 1, by funext a; fin_cases a <;> rfl⟩
  rw [key_apply]
  unfold kblk
  rw [dif_pos hn]
  apply View.ld_unit_apply_of
  intro a; fin_cases a <;> simp
theorem val_ld (x2 : Vec Ideal S1x4x144x1024 .bf16) (n : ℕ) (hn : n < 4) (off : Fin 4 → ℕ) (ho : off = ![0, n, 0, 0]) (h) :
    k0_pay3 (View.ld x2 (Rect.unit off ![1, 1, 144, 1024] h)) = vblk x2 n := by
  subst ho
  funext p
  obtain ⟨e, k, rfl⟩ : ∃ e k, p = ix2 e k := ⟨p 0, p 1, by funext a; fin_cases a <;> rfl⟩
  rw [val_apply]
  unfold vblk
  rw [dif_pos hn]
  apply View.ld_unit_apply_of
  intro a; fin_cases a <;> simp
theorem qry_ld (x0 : Vec Ideal S1x4x1024x176 .bf16) (g : Fin 4) (off : Fin 4 → ℕ) (ho : off = ![0, g.val, 0, 0]) (h) :
    k0_pay26 (View.ld x0 (Rect.unit off ![1, 1, 1024, 176] h)) = qhd x0 g := by
  subst ho
  funext p
  obtain ⟨e, k, rfl⟩ : ∃ e k, p = ix2 e k := ⟨p 0, p 1, by funext a; fin_cases a <;> rfl⟩
  rw [qry_apply]
  unfold qhd
  apply View.ld_unit_apply_of
  intro a; fin_cases a <;> simp

theorem qry0 (x0 : Vec Ideal S1x4x1024x176 .bf16) :
    k0_pay26 (View.ld x0 (Rect.unit ![0, 0, 0, 0] ![1, 1, 1024, 176] inb_S1x4x1024x176_S1x1x1024x176_0_0_0_0)) = qhd x0 0 :=
  qry_ld x0 0 _ rfl _
theorem qry1 (x0 : Vec Ideal S1x4x1024x176 .bf16) :
    k0_pay26 (View.ld x0 (Rect.unit ![0, 1, 0, 0] ![1, 1, 1024, 176] inb_S1x4x1024x176_S1x1x1024x176_0_1_0_0)) = qhd x0 1 :=
  qry_ld x0 1 _ rfl _
theorem qry2 (x0 : Vec Ideal S1x4x1024x176 .bf16) :
    k0_pay26 (View.ld x0 (Rect.unit ![0, 2, 0, 0] ![1, 1, 1024, 176] inb_S1x4x1024x176_S1x1x1024x176_0_2_0_0)) = qhd x0 2 :=
  qry_ld x0 2 _ rfl _
theorem qry3 (x0 : Vec Ideal S1x4x1024x176 .bf16) :
    k0_pay26 (View.ld x0 (Rect.unit ![0, 3, 0, 0] ![1, 1, 1024, 176] inb_S1x4x1024x176_S1x1x1024x176_0_3_0_0)) = qhd x0 3 :=
  qry_ld x0 3 _ rfl _

/-! ## One head's state, block by block -/

/-- The running maxima and sums after `n` blocks of scores `S` and values `W`. -/
def hst (S : ℕ → FVec Ideal S1024x1024 .f32) (W : ℕ → FVec Ideal S144x1024 .bf16) : ℕ → FVec Ideal S1024x1 .f32 × FVec Ideal S1024x144 .f32
  | 0 => (k0_pay30, k0_pay31)
  | n + 1 => (vM (S n) (hst S W n).1, vA (S n) (hst S W n).1 (hst S W n).2 (W n))

theorem hst_row (S : ℕ → FVec Ideal S1024x1024 .f32) (W : ℕ → FVec Ideal S144x1024 .bf16) (n : ℕ) (r : Fin 1024) :
    (hst S W n).1 (ix2 r 0) = stM (fun j k => S j (ix2 r k)) n
      ∧ ∀ c, (hst S W n).2 (ix2 r c) = stA (fun j k => S j (ix2 r k)) (fun j k => W j (ix2 c k)) n := by
  induction n with
  | zero =>
    refine ⟨?_, fun c => ?_⟩
    · show k0_pay30 (F := Ideal) (ix2 r 0) = ⊥
      pointwise [k0_pay30, ofBits_neg_inf]
    · show k0_pay31 (F := Ideal) (ix2 r c) = 0
      pointwise [k0_pay31]
  | succ n ih =>
    refine ⟨?_, fun c => ?_⟩
    · show vM (S n) (hst S W n).1 (ix2 r 0) = _
      rw [vM_apply, ih.1]; rfl
    · show vA (S n) (hst S W n).1 (hst S W n).2 (W n) (ix2 r c) = _
      rw [vA_apply, ih.1, ih.2 c]; rfl

/-- The scores of head `g` in the tile at row block `n`: whole before block `n`, masked at it. -/
def sblk (x0 : Vec Ideal S1x4x1024x176 .bf16) (x1 : Vec Ideal S1x4x176x1024 .bf16) (g : Fin 4) (n j : ℕ) : FVec Ideal S1024x1024 .f32 :=
  if j < n then vS (qhd x0 g) (kblk x1 j) else vMask (vS (qhd x0 g) (kblk x1 j))

/-- Head `g`'s state after `j` blocks. -/
def head (x0 : Vec Ideal S1x4x1024x176 .bf16) (x1 : Vec Ideal S1x4x176x1024 .bf16) (x2 : Vec Ideal S1x4x144x1024 .bf16) (n : ℕ) (g : Fin 4) (j : ℕ) :
    FVec Ideal S1024x1 .f32 × FVec Ideal S1024x144 .f32 :=
  hst (sblk x0 x1 g n) (vblk x2) j

theorem head_lt (x0 : Vec Ideal S1x4x1024x176 .bf16) (x1 : Vec Ideal S1x4x176x1024 .bf16) (x2 : Vec Ideal S1x4x144x1024 .bf16) (n : ℕ) (g : Fin 4) (j : ℕ) (h : j < n) :
    head x0 x1 x2 n g (j + 1) = (vM (vS (qhd x0 g) (kblk x1 j)) (head x0 x1 x2 n g j).1,
      vA (vS (qhd x0 g) (kblk x1 j)) (head x0 x1 x2 n g j).1 (head x0 x1 x2 n g j).2 (vblk x2 j)) := by
  show (vM (sblk x0 x1 g n j) _, vA (sblk x0 x1 g n j) _ _ _) = _
  unfold sblk; rw [if_pos h]; rfl
theorem head_last (x0 : Vec Ideal S1x4x1024x176 .bf16) (x1 : Vec Ideal S1x4x176x1024 .bf16) (x2 : Vec Ideal S1x4x144x1024 .bf16) (n : ℕ) (g : Fin 4) :
    (head x0 x1 x2 n g (n + 1)).2 = vA (vMask (vS (qhd x0 g) (kblk x1 n))) (head x0 x1 x2 n g n).1 (head x0 x1 x2 n g n).2 (vblk x2 n) := by
  show vA (sblk x0 x1 g n n) _ _ _ = _
  unfold sblk; rw [if_neg (lt_irrefl n)]; rfl

section Body
variable (c : Dev nD) (i : grid0.Coords) (arg3 : Memref sig .tc .vmem S1x4x1024x176 .bf16) (harg3 : arg3.IsWhole) (arg4 : Memref sig .tc .vmem S1x4x176x1024 .bf16) (harg4 : arg4.IsWhole) (arg5 : Memref sig .tc .vmem S1x4x144x1024 .bf16) (harg5 : arg5.IsWhole) (arg6 : Memref sig .tc .vmem S1024x512 .f32) (harg6 : arg6.IsWhole)
  (x0 : Vec Ideal S1x4x1024x176 .bf16) (x1 : Vec Ideal S1x4x176x1024 .bf16) (x2 : Vec Ideal S1x4x144x1024 .bf16)

theorem trips1 : Scf.trips (0#32) (Scalar.addi (0#32) (Scalar.muli (Scalar.divsi (Scalar.subi (BitVec.ofNat 32 ↑(i 2)) 0#32) 1#32) 1#32)) 1#32 = (i 2).val := by
  have : ∀ i : grid0.Coords, (k0_t1_loop i).trips = (i 2).val := by decide +kernel
  exact this i
theorem trips2 : Scf.trips (Scalar.addi (0#32) (Scalar.muli (Scalar.divsi (Scalar.subi (BitVec.ofNat 32 ↑(i 2)) 0#32) 1#32) 1#32)) (Scalar.addi (0#32) (Scalar.subi (BitVec.ofNat 32 ↑(i 2)) 0#32)) 1#32 = 0 := by
  have : ∀ i : grid0.Coords, (k0_t2_loop i).trips = 0 := by decide +kernel
  exact this i
theorem i2_lt : (i 2).val < 4 := (i 2).isLt

theorem trip_eq (v0 v2 v4 v6 : Vec Ideal S1x1x1024x176 .bf16) (k : Fin (k0_t1_loop i).trips)
   (m0 m1 m2 m3 : FVec Ideal S1024x1 .f32) (a0 a1 a2 a3 : FVec Ideal S1024x144 .f32) :
   tripR_k0_t1 (F := Ideal) Variants.none c none i arg3 harg3 arg4 harg4 arg5 harg5 arg6 harg6 v0 v2 v4 v6 (harg4.unread x1) (harg5.unread x2) k
     (m0, a0, m1, a1, m2, a2, m3, a3) =
    (vM (vS (k0_pay26 v0) (kblk x1 k)) m0, vA (vS (k0_pay26 v0) (kblk x1 k)) m0 a0 (vblk x2 k),
     vM (vS (k0_pay26 v2) (kblk x1 k)) m1, vA (vS (k0_pay26 v2) (kblk x1 k)) m1 a1 (vblk x2 k),
     vM (vS (k0_pay26 v4) (kblk x1 k)) m2, vA (vS (k0_pay26 v4) (kblk x1 k)) m2 a2 (vblk x2 k),
     vM (vS (k0_pay26 v6) (kblk x1 k)) m3, vA (vS (k0_pay26 v6) (kblk x1 k)) m3 a3 (vblk x2 k)) := by
  have hk : k.val < 4 := lt_trans (lt_of_lt_of_eq k.isLt (trips1 i)) (i2_lt i)
  rw [← key_ld x1 k hk _ (k0_off1_eq i k) (k0_off1_inb i k), ← val_ld x2 k hk _ (k0_off2_eq i k) (k0_off2_inb i k)]
  unfold tripR_k0_t1 trip_k0_t1
  dsimp only
  sl_unfold_words
  simp only [View.readAt_eq_ld, harg4.read_unread, harg5.read_unread]
  rfl

theorem loop_eq (n : ℕ) (hn : n ≤ (i 2).val) :
    st_k0_t1 (F := Ideal) Variants.none c none i arg3 harg3 arg4 harg4 arg5 harg5 arg6 harg6
      (View.ld x0 (Rect.unit ![0, 0, 0, 0] ![1, 1, 1024, 176] inb_S1x4x1024x176_S1x1x1024x176_0_0_0_0))
      (View.ld x0 (Rect.unit ![0, 1, 0, 0] ![1, 1, 1024, 176] inb_S1x4x1024x176_S1x1x1024x176_0_1_0_0))
      (View.ld x0 (Rect.unit ![0, 2, 0, 0] ![1, 1, 1024, 176] inb_S1x4x1024x176_S1x1x1024x176_0_2_0_0))
      (View.ld x0 (Rect.unit ![0, 3, 0, 0] ![1, 1, 1024, 176] inb_S1x4x1024x176_S1x1x1024x176_0_3_0_0))
      (harg4.unread x1) (harg5.unread x2) (k0_pay30, k0_pay31, k0_pay32, k0_pay33, k0_pay34, k0_pay35, k0_pay36, k0_pay37) n
     = ((head x0 x1 x2 (i 2).val 0 n).1, (head x0 x1 x2 (i 2).val 0 n).2, (head x0 x1 x2 (i 2).val 1 n).1, (head x0 x1 x2 (i 2).val 1 n).2,
        (head x0 x1 x2 (i 2).val 2 n).1, (head x0 x1 x2 (i 2).val 2 n).2, (head x0 x1 x2 (i 2).val 3 n).1, (head x0 x1 x2 (i 2).val 3 n).2) := by
  induction n with
  | zero => rfl
  | succ n ih =>
    have hk : n < (k0_t1_loop i).trips := by rw [show (k0_t1_loop i).trips = (i 2).val from trips1 i]; omega
    have h := st_k0_t1_succ (F := Ideal) Variants.none c none i arg3 harg3 arg4 harg4 arg5 harg5 arg6 harg6
      (View.ld x0 (Rect.unit ![0, 0, 0, 0] ![1, 1, 1024, 176] inb_S1x4x1024x176_S1x1x1024x176_0_0_0_0))
      (View.ld x0 (Rect.unit ![0, 1, 0, 0] ![1, 1, 1024, 176] inb_S1x4x1024x176_S1x1x1024x176_0_1_0_0))
      (View.ld x0 (Rect.unit ![0, 2, 0, 0] ![1, 1, 1024, 176] inb_S1x4x1024x176_S1x1x1024x176_0_2_0_0))
      (View.ld x0 (Rect.unit ![0, 3, 0, 0] ![1, 1, 1024, 176] inb_S1x4x1024x176_S1x1x1024x176_0_3_0_0))
      (harg4.unread x1) (harg5.unread x2) (k0_pay30, k0_pay31, k0_pay32, k0_pay33, k0_pay34, k0_pay35, k0_pay36, k0_pay37) ⟨n, hk⟩
    rw [h, ih (by omega), trip_eq, qry0 x0, qry1 x0, qry2 x0, qry3 x0,
      head_lt _ _ _ _ 0 n (by omega), head_lt _ _ _ _ 1 n (by omega), head_lt _ _ _ _ 2 n (by omega), head_lt _ _ _ _ 3 n (by omega)]

/-- The tile a point leaves: the four heads' quotients after the last block. -/
theorem out_eq :
    out0_A_3 (F := Ideal) c i arg3 harg3 arg4 harg4 arg5 harg5 arg6 harg6 x0 x1 x2
      = vO (head x0 x1 x2 (i 2).val 0 ((i 2).val + 1)).2 (head x0 x1 x2 (i 2).val 1 ((i 2).val + 1)).2
          (head x0 x1 x2 (i 2).val 2 ((i 2).val + 1)).2 (head x0 x1 x2 (i 2).val 3 ((i 2).val + 1)).2 := by
  frame_out
  simp only [trips1, trips2, st_k0_t2_zero, loop_eq c i arg3 harg3 arg4 harg4 arg5 harg5 arg6 harg6 x0 x1 x2 _ le_rfl]
  rw [head_last, head_last, head_last, head_last, ← qry0 x0, ← qry1 x0, ← qry2 x0, ← qry3 x0,
    ← key_ld x1 (i 2).val (i2_lt i) _ (k0_off5_eq i) (k0_off5_inb i), ← val_ld x2 (i 2).val (i2_lt i) _ (k0_off6_eq i) (k0_off6_inb i)]
  exact pay1_eq _ _ _ _ _ _ _ _ _ _
end Body
end Cert.KernelIdeal.Flash
-- ==== Proof.FlashHost.lean ====
/- What the host computes before the call: the buffers of queries and of keys, at an index. -/
module
public import proofs.«01_k».proof.Proof.FlashLoop
@[expose] public section
set_option maxRecDepth 16384
noncomputable section
namespace Cert.KernelIdeal.Flash
open Cert.KernelIdeal Cert.KernelIdeal.Gen Idealize.ShloMosaic Idealize.ShloMosaic.TcCoe Idealize.SL.Sem
open Cert.FlashMath Idealize.ShloMosaic.StableHlo

section Vectors
variable {F : FTy → Type} [FloatOps F]
/-- The queries' scale. -/
def hScale : FVec F S_ .f32 := Host.divf (constant S_ .f32 0x3DD105EC#32) (Host.log (constant S_ .f32 0x40000000#32))
/-- The buffer of queries: the scaled latent part, sixteen zeros, the scaled rotary part. -/
def hQ (ql : FVec F S4x4096x8x128 .f32) (qr : FVec F S4x4096x8x32 .f32) : FVec F S4x8x4096x176 .bf16 :=
  transpose S4x8x4096x176 [0, 2, 1, 3] (concatenate S4x4096x8x176 3
    [⟨S4x4096x8x128, truncf .bf16 (mulf ql (broadcastInDim S4x4096x8x128 ![] bcast_S_S4x4096x8x128 hScale)) bitsLt_bf16_f32⟩,
     ⟨S4x4096x8x16, broadcastInDim S4x4096x8x16 ![] bcast_S_S4x4096x8x16 (constant S_ .bf16 0x0000#16)⟩,
     ⟨S4x4096x8x32, truncf .bf16 (mulf qr (broadcastInDim S4x4096x8x32 ![] bcast_S_S4x4096x8x32 hScale)) bitsLt_bf16_f32⟩]
    concatenates_S4x4096x8x128_S4x4096x8x16_S4x4096x8x32_S4x4096x8x176_d3) transposes_S4x4096x8x176_S4x8x4096x176_0_2_1_3
/-- The buffer of keys, a block per 1024 of them: the latent key's rows, a row of ones, fifteen of zeros, the rotary key's rows. -/
def hK (ck : FVec F S4x4096x128 .f32) (kr : FVec F S4x4096x32 .f32) : FVec F S4x4x176x1024 .bf16 :=
  transpose S4x4x176x1024 [0, 2, 1, 3] (shapeCast S4x176x4x1024 (concatenate S4x176x4096 1
    [⟨S4x128x4096, truncf .bf16 (transpose S4x128x4096 [0, 2, 1] ck transposes_S4x4096x128_S4x128x4096_0_2_1) bitsLt_bf16_f32⟩,
     ⟨S4x16x4096, truncf .bf16 (select (cmpi .eq (iotaInDim S4x16x4096 32 1) (broadcastInDim S4x16x4096 ![] bcast_S_S4x16x4096 (constantI S_ 32 0#32)))
        (broadcastInDim S4x16x4096 ![] bcast_S_S4x16x4096 (constant S_ .f32 0x3F800000#32))
        (broadcastInDim S4x16x4096 ![] bcast_S_S4x16x4096 (constant S_ .f32 0x00000000#32))) bitsLt_bf16_f32⟩,
     ⟨S4x32x4096, truncf .bf16 (transpose S4x32x4096 [0, 2, 1] kr transposes_S4x4096x32_S4x32x4096_0_2_1) bitsLt_bf16_f32⟩]
    concatenates_S4x128x4096_S4x16x4096_S4x32x4096_S4x176x4096_d1) shapeCasts_S4x176x4096_S4x176x4x1024) transposes_S4x176x4x1024_S4x4x176x1024_0_2_1_3

theorem V_keys (m : (ℓ : Loc nD τ sig) → Buf (Elt F) ℓ) (c : Dev nD) :
    V m c main_v22 = hK (m (c, Proc.tc.devRef main_arg2)) (m (c, Proc.tc.devRef main_arg3)) := by
  show StableHlo.after (hostOps0 ++ (hostOps0_1 ++ (hostOps0_2 ++ []))) (fun b => m (c, b)) (Proc.tc.devRef main_v22) = _
  simp only [List.cons_append, List.nil_append]
  after_results
  rfl
theorem V_queries (m : (ℓ : Loc nD τ sig) → Buf (Elt F) ℓ) (c : Dev nD) :
    V m c main_v10 = hQ (m (c, Proc.tc.devRef main_arg0)) (m (c, Proc.tc.devRef main_arg1)) := by
  show StableHlo.after (hostOps0 ++ (hostOps0_1 ++ (hostOps0_2 ++ []))) (fun b => m (c, b)) (Proc.tc.devRef main_v10) = _
  simp only [List.cons_append, List.nil_append]
  after_results
  rfl
end Vectors

/-- The scale the queries are multiplied by before the call. -/
def scale : EReal := Ideal.div (Ideal.ofBits FTy.f32 0x3DD105EC#32) (Ideal.log (Ideal.ofBits FTy.f32 0x40000000#32))

theorem hK_apply (ck : FVec Ideal S4x4096x128 .f32) (kr : FVec Ideal S4x4096x32 .f32) (b j : Fin 4) (e : Fin 176) (k : Fin 1024) :
    hK ck kr (ix4 b j e k) =
      if h : e.val < 128 then ck (ix3 b ⟨j.val * 1024 + k.val, by omega⟩ ⟨e.val, h⟩)
      else if h' : e.val < 144 then (if e.val = 128 then (1 : EReal) else 0)
      else kr (ix3 b ⟨j.val * 1024 + k.val, by omega⟩ ⟨e.val - 144, by omega⟩) := by
  pointwise [hK]
  by_cases h : e.val < 128
  · rw [dif_pos h, dif_pos h]
  · rw [dif_neg h, dif_neg h]
    by_cases h' : e.val < 144
    · rw [dif_pos (by omega), dif_pos h']
      by_cases h2 : e.val = 128
      · rw [if_pos h2, h2]; rfl
      · rw [if_neg h2]
        have h3 : (BitVec.ofNat 32 (e.val - 128) == 0#32) = false := by
          rw [beq_eq_false_iff_ne]
          intro hh
          have := congrArg BitVec.toNat hh
          simp only [BitVec.toNat_ofNat] at this
          omega
        simp [Scalar.select, IntOp.cmpi, h3]
    · rw [dif_neg (by omega), dif_neg h']
      congr 2
theorem hQ_apply (ql : FVec Ideal S4x4096x8x128 .f32) (qr : FVec Ideal S4x4096x8x32 .f32) (b : Fin 4) (h : Fin 8) (q : Fin 4096) (e : Fin 176) :
    hQ ql qr (ix4 b h q e) =
      if h' : e.val < 128 then ql (ix4 b q h ⟨e.val, h'⟩) * scale
      else if h'' : e.val < 144 then 0
      else qr (ix4 b q h ⟨e.val - 144, by omega⟩) * scale := by
  pointwise [hQ, hScale, scale]
  by_cases h1 : e.val < 128
  · rw [dif_pos h1, dif_pos h1]
  · rw [dif_neg h1, dif_neg h1]
    by_cases h2 : e.val < 144
    · rw [dif_pos (by omega), dif_pos h2]
    · rw [dif_neg (by omega), dif_neg h2]
      congr 3
end Cert.KernelIdeal.Flash
-- ==== Proof.FlashRef.lean ====
/- The latent attention's reference at an index: the causal softmax of the scaled scores, weighing the latent keys. -/
module
public import proofs.«01_k».proof.Proof.FlashMath
public import Idealize.ShloMosaic.Lib.Pipeline.ValueKit
public import Idealize.ShloMosaic.Lib.Pointwise
public import Idealize.ShloMosaic.Lib.KernelVsHost
public import proofs.«01_k».proof.Proof.Gen.ReferenceIdeal.Run
@[expose] public section
set_option maxRecDepth 16384
noncomputable section
namespace Cert.ReferenceIdeal.Flash
open Cert.ReferenceIdeal Cert.ReferenceIdeal.Gen Idealize.ShloMosaic Idealize.ShloMosaic.TcCoe Idealize.SL.Sem

section Vectors
variable {F : FTy → Type} [FloatOps F]
/-- The masked, scaled scores. -/
def rS (ql : FVec F S4x4096x8x128 .f32) (qr : FVec F S4x4096x8x32 .f32) (ck : FVec F S4x4096x128 .f32) (kr : FVec F S4x4096x32 .f32) :
    FVec F S4x8x4096x4096 .f32 :=
  select (broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (mulf (addf (transpose S4x8x4096x4096 [0, 3, 2, 1] (Host.dotGeneral dot_S4x4096x128_S4x4096x8x128_S4x4096x4096x8_2_3_1_12_0_0 none ck ql) transposes_S4x4096x4096x8_S4x8x4096x4096_0_3_2_1)
        (transpose S4x8x4096x4096 [0, 3, 2, 1] (Host.dotGeneral dot_S4x4096x32_S4x4096x8x32_S4x4096x4096x8_2_3_1_12_0_0 none kr qr) transposes_S4x4096x4096x8_S4x8x4096x4096_0_3_2_1))
      (broadcastInDim S4x8x4096x4096 ![] bcast_S_S4x8x4096x4096 (constant S_ .f32 0x3DD105EC#32)))
    (broadcastInDim S4x8x4096x4096 ![] bcast_S_S4x8x4096x4096 (id (constant S_ .f32 0xFF800000#32)))
theorem reduces_last : S4x8x4096x4096.Reduces [3] S4x8x4096 := by decide
/-- A row's largest score. -/
def rM (s : FVec F S4x8x4096x4096 .f32) : FVec F S4x8x4096 .f32 :=
  Host.reduce FloatOps.maximumf s (constant S_ .f32 0xFF800000#32) reducesTo_S4x8x4096x4096_S4x8x4096_d3 h_S_
theorem rM_eq (s : FVec F S4x8x4096x4096 .f32) :
    rM s = multiReduction .maximumf [3] S4x8x4096 s 0xFF800000#32 reduces_last (.inl rfl) rfl :=
  hostReduce_maximumf_eq_multiReduction s _ _ _ reduces_last (.inl rfl) rfl
/-- The weights before their sum divides them, of scores and their rows' largest. -/
def rX (s : FVec F S4x8x4096x4096 .f32) (mx : FVec F S4x8x4096 .f32) : FVec F S4x8x4096x4096 .f32 :=
  Host.exp (subf s (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) mx))))
/-- The weights before their sum divides them. -/
def rE (s : FVec F S4x8x4096x4096 .f32) : FVec F S4x8x4096x4096 .f32 := rX s (rM s)
/-- The weighted sum of the latent keys, a row per query. -/
def rO (e : FVec F S4x8x4096x4096 .f32) (ck : FVec F S4x4096x128 .f32) : FVec F S16384x1024 .f32 :=
  shapeCast _ (transpose S4x4096x8x128 [0, 3, 2, 1] (Host.dotGeneral dot_S4x4096x128_S4x8x4096x4096_S4x128x8x4096_1_3_2_12_0_0 none ck
    (Host.divf e (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd e (constant S_ .f32 0x00000000#32) reducesTo_S4x8x4096x4096_S4x8x4096_d3 h_S_))))) transposes_S4x128x8x4096_S4x4096x8x128_0_3_2_1) shapeCasts_S4x4096x8x128_S16384x1024

theorem res_eq (m : (ℓ : Loc nD τ sig) → Buf (Elt F) ℓ) (c : Dev nD) :
    Value.res_out0 m c = rO (rE (rS (m ((c.tc : Thread nD τ).loc main_arg0)) (m ((c.tc : Thread nD τ).loc main_arg1))
      (m ((c.tc : Thread nD τ).loc main_arg2)) (m ((c.tc : Thread nD τ).loc main_arg3)))) (m ((c.tc : Thread nD τ).loc main_arg2)) := rfl
end Vectors

theorem ofBits_neg_inf : Ideal.ofBits FTy.f32 0xFF800000#32 = ⊥ := by simp [Ideal.ofBits, Ideal.ieee]

/-- One score: the query's two parts against the key's, scaled. -/
def score (ql : FVec Ideal S4x4096x8x128 .f32) (qr : FVec Ideal S4x4096x8x32 .f32) (ck : FVec Ideal S4x4096x128 .f32) (kr : FVec Ideal S4x4096x32 .f32)
    (b : Fin 4) (h : Fin 8) (q κ : Fin 4096) : EReal :=
  (∑ e, ck (ix3 b κ e) * ql (ix4 b q h e) + ∑ e, kr (ix3 b κ e) * qr (ix4 b q h e)) * Ideal.ofBits FTy.f32 0x3DD105EC#32

theorem sle_iff (n k : ℕ) (hn : n < 4096) (hk : k < 4096) :
    (BitVec.ofNat 32 n).sle (BitVec.ofNat 32 k) = decide (n ≤ k) := by
  rw [BitVec.sle_eq_decide, BitVec.toInt_eq_toNat_of_lt (by simp; omega), BitVec.toInt_eq_toNat_of_lt (by simp; omega)]
  simp only [BitVec.toNat_ofNat]
  rw [Nat.mod_eq_of_lt (by omega), Nat.mod_eq_of_lt (by omega)]
  simp

theorem rS_apply (ql : FVec Ideal S4x4096x8x128 .f32) (qr : FVec Ideal S4x4096x8x32 .f32) (ck : FVec Ideal S4x4096x128 .f32) (kr : FVec Ideal S4x4096x32 .f32)
    (b : Fin 4) (h : Fin 8) (q κ : Fin 4096) :
    rS ql qr ck kr (ix4 b h q κ) = if κ.val ≤ q.val then score ql qr ck kr b h q κ else ⊥ := by
  unfold rS
  simp only [id_eq]
  pointwise [score, ofBits_neg_inf]
  by_cases hk : κ.val ≤ q.val
  · simp [Scalar.select, IntOp.cmpi, sle_iff, hk]
  · simp [Scalar.select, IntOp.cmpi, sle_iff, hk]

theorem rM_apply (s : FVec Ideal S4x8x4096x4096 .f32) (b : Fin 4) (h : Fin 8) (q : Fin 4096) :
    rM s (ix3 b h q) = Finset.univ.fold max ⊥ fun κ' => s (ix4 b h q κ') := by
  rw [rM_eq]
  pointwise [ofBits_neg_inf]

theorem rX_apply (s : FVec Ideal S4x8x4096x4096 .f32) (mx : FVec Ideal S4x8x4096 .f32) (b : Fin 4) (h : Fin 8) (q κ : Fin 4096) :
    rX s mx (ix4 b h q κ) = Ideal.exp (s (ix4 b h q κ) - mx (ix3 b h q)) := by
  pointwise [rX, ofBits_neg_inf]
  rw [max_eq_right bot_le]

theorem rE_apply (s : FVec Ideal S4x8x4096x4096 .f32) (b : Fin 4) (h : Fin 8) (q κ : Fin 4096) :
    rE s (ix4 b h q κ) = Ideal.exp (s (ix4 b h q κ) - Finset.univ.fold max ⊥ fun κ' => s (ix4 b h q κ')) := by
  rw [rE, rX_apply, rM_apply]

theorem rO_apply (e : FVec Ideal S4x8x4096x4096 .f32) (ck : FVec Ideal S4x4096x128 .f32) (R : Fin 16384) (C : Fin 1024)
    (b : Fin 4) (h : Fin 8) (q : Fin 4096) (ch : Fin 128) (hR : R.val = b.val * 4096 + q.val) (hC : C.val = h.val * 128 + ch.val) :
    rO e ck (ix2 R C) = ∑ κ, ck (ix3 b κ ch) * Ideal.div (e (ix4 b h q κ)) (∑ κ', e (ix4 b h q κ')) := by
  pointwise [rO]
  have h1 : (⟨R.val / 4096, by omega⟩ : Fin 4) = b := by apply Fin.ext; show R.val / 4096 = b.val; omega
  have h2 : (⟨R.val % 4096, by omega⟩ : Fin 4096) = q := by apply Fin.ext; show R.val % 4096 = q.val; omega
  have h3 : (⟨C.val / 128, by omega⟩ : Fin 8) = h := by apply Fin.ext; show C.val / 128 = h.val; omega
  have h4 : (⟨C.val % 128, by omega⟩ : Fin 128) = ch := by apply Fin.ext; show C.val % 128 = ch.val; omega
  simp only [h1, h2, h3, h4]

end Cert.ReferenceIdeal.Flash
-- ==== Proof.FlashRow.lean ====
/- One row of one head: the kernel's quotient is the reference's causal softmax against the latent keys. -/
module
public import proofs.«01_k».proof.Proof.FlashHost
public import proofs.«01_k».proof.Proof.FlashRef
@[expose] public section
set_option maxRecDepth 16384
noncomputable section
namespace Cert.KernelIdeal.Flash
open Cert.KernelIdeal Cert.KernelIdeal.Gen Idealize.ShloMosaic Idealize.ShloMosaic.TcCoe Idealize.SL.Sem
open Cert.FlashMath

theorem sum_real {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The running sums see the blocks before `n` only. -/
theorem stM_congr (s s' : ℕ → Fin 1024 → EReal) (n : ℕ) (h : ∀ j < n, s j = s' j) : FlashMath.stM s n = FlashMath.stM s' n := by
  induction n with
  | zero => rfl
  | succ n ih => rw [FlashMath.stM, FlashMath.stM, ih fun j hj => h j (by omega), h n (by omega)]
theorem stA_congr (s s' v v' : ℕ → Fin 1024 → EReal) (n : ℕ) (h : ∀ j < n, s j = s' j) (hv : ∀ j < n, v j = v' j) :
    stA s v n = stA s' v' n := by
  induction n with
  | zero => rfl
  | succ n ih =>
    rw [stA, stA, ih (fun j hj => h j (by omega)) (fun j hj => hv j (by omega)), stM_congr s s' n fun j hj => h j (by omega),
      h n (by omega), hv n (by omega)]

/-- A sum over the 176 channels: the 128 latent ones, the 16 of padding, the 32 rotary ones. -/
theorem sum_channels (f : Fin 176 → EReal) :
    ∑ e, f e = ∑ e : Fin 128, f ⟨e.val, by omega⟩ + (∑ e : Fin 16, f ⟨128 + e.val, by omega⟩ + ∑ e : Fin 32, f ⟨144 + e.val, by omega⟩) := by
  refine (Fin.sum_univ_add (a := 128) (b := 48) f).trans ?_
  congr 1
  refine (Fin.sum_univ_add (a := 16) (b := 32) fun e : Fin 48 => f (Fin.natAdd 128 e)).trans ?_
  congr 1

/-- The scale in the reals. -/
theorem scale_real : ∃ σ : ℝ, Ideal.ofBits FTy.f32 0x3DD105EC#32 = (σ : EReal) ∧ scale = ((σ * (1 / Real.log 2) : ℝ) : EReal) := by
  have h1 : ∃ σ : ℝ, Ideal.ofBits FTy.f32 0x3DD105EC#32 = (σ : EReal) := by
    simp only [Ideal.ofBits, Ideal.ieee]
    simp
    exact ⟨13698540 * (2 ^ 27)⁻¹, by rw [EReal.coe_mul]⟩
  have h2 : Ideal.ofBits FTy.f32 0x40000000#32 = ((2 : ℝ) : EReal) := by
    simp only [Ideal.ofBits, Ideal.ieee]
    simp
    refine (show _ = (((8388608 : ℝ) * (2 ^ 22)⁻¹ : ℝ) : EReal) by rw [EReal.coe_mul]).trans ?_
    congr 1
    norm_num
  obtain ⟨σ, hσ⟩ := h1
  refine ⟨σ, hσ, ?_⟩
  unfold scale
  rw [hσ, h2, Ideal.log_coe, if_neg (by norm_num), Ideal.div_coe (Real.log_pos (by norm_num)).ne', ← EReal.coe_mul]

section Row
variable (ql : S4x4096x8x128.Idx → ℝ) (qr : S4x4096x8x32.Idx → ℝ) (ck : S4x4096x128.Idx → ℝ) (kr : S4x4096x32.Idx → ℝ)
/-- A score before its scale, in the reals. -/
def dot (b : Fin 4) (h : Fin 8) (q κ : Fin 4096) : ℝ :=
  ∑ e, ck (ix3 b κ e) * ql (ix4 b q h e) + ∑ e, kr (ix3 b κ e) * qr (ix4 b q h e)

theorem ref_score (σ : ℝ) (hσ : Ideal.ofBits FTy.f32 0x3DD105EC#32 = (σ : EReal)) (b : Fin 4) (h : Fin 8) (q κ : Fin 4096) :
    ReferenceIdeal.Flash.score (fun i => (ql i : EReal)) (fun i => (qr i : EReal)) (fun i => (ck i : EReal)) (fun i => (kr i : EReal)) b h q κ
      = ((dot ql qr ck kr b h q κ * σ : ℝ) : EReal) := by
  unfold ReferenceIdeal.Flash.score dot
  rw [hσ]
  simp only [← EReal.coe_mul, ← EReal.coe_add, sum_real]

theorem ker_score (σ : ℝ) (hσ : scale = ((σ * (1 / Real.log 2) : ℝ) : EReal)) (b : Fin 4) (h : Fin 8) (q κ : Fin 4096) (j : Fin 4) (k : Fin 1024)
    (hκ : κ.val = j.val * 1024 + k.val) :
    ∑ e, hQ (F := Ideal) (fun i => (ql i : EReal)) (fun i => (qr i : EReal)) (ix4 b h q e)
        * hK (F := Ideal) (fun i => (ck i : EReal)) (fun i => (kr i : EReal)) (ix4 b j e k)
      = ((dot ql qr ck kr b h q κ * σ * (1 / Real.log 2) : ℝ) : EReal) := by
  have hlt : j.val * 1024 + k.val < 4096 := by have := j.isLt; have := k.isLt; omega
  obtain rfl : κ = ⟨j.val * 1024 + k.val, hlt⟩ := Fin.ext hκ
  rw [sum_channels]
  have h1 : ∀ e : Fin 128, hQ (F := Ideal) (fun i => (ql i : EReal)) (fun i => (qr i : EReal)) (ix4 b h q ⟨e.val, by omega⟩)
        * hK (F := Ideal) (fun i => (ck i : EReal)) (fun i => (kr i : EReal)) (ix4 b j ⟨e.val, by omega⟩ k)
      = ((ql (ix4 b q h e) * (σ * (1 / Real.log 2)) * ck (ix3 b ⟨j.val * 1024 + k.val, by omega⟩ e) : ℝ) : EReal) := fun e => by
    rw [hQ_apply, hK_apply, dif_pos e.isLt, dif_pos e.isLt, hσ, EReal.coe_mul (_ * _) _, EReal.coe_mul (ql _)]
  have h2 : ∀ e : Fin 16, hQ (F := Ideal) (fun i => (ql i : EReal)) (fun i => (qr i : EReal)) (ix4 b h q ⟨128 + e.val, by omega⟩)
        * hK (F := Ideal) (fun i => (ck i : EReal)) (fun i => (kr i : EReal)) (ix4 b j ⟨128 + e.val, by omega⟩ k) = 0 := fun e => by
    have he := e.isLt
    rw [hQ_apply, dif_neg (by simp), dif_pos (by simp; omega), zero_mul]
  have h3 : ∀ e : Fin 32, hQ (F := Ideal) (fun i => (ql i : EReal)) (fun i => (qr i : EReal)) (ix4 b h q ⟨144 + e.val, by omega⟩)
        * hK (F := Ideal) (fun i => (ck i : EReal)) (fun i => (kr i : EReal)) (ix4 b j ⟨144 + e.val, by omega⟩ k)
      = ((qr (ix4 b q h e) * (σ * (1 / Real.log 2)) * kr (ix3 b ⟨j.val * 1024 + k.val, by omega⟩ e) : ℝ) : EReal) := fun e => by
    have he : (⟨144 + e.val - 144, by omega⟩ : Fin 32) = e := Fin.ext (by simp)
    rw [hQ_apply, hK_apply, dif_neg (by simp; omega), dif_neg (by simp), dif_neg (by simp; omega), dif_neg (by simp), hσ, EReal.coe_mul (_ * _) _, EReal.coe_mul (qr _)]
    simp only [he]
  simp only [h1, h2, h3, Finset.sum_const_zero, zero_add, sum_real, ← EReal.coe_add]
  congr 1
  unfold dot
  rw [add_mul, add_mul, Finset.sum_mul, Finset.sum_mul, Finset.sum_mul, Finset.sum_mul]
  congr 1 <;> exact Finset.sum_congr rfl fun e _ => by ring

variable (x0 : Vec Ideal S1x4x1024x176 .bf16) (x1 : Vec Ideal S1x4x176x1024 .bf16) (x2 : Vec Ideal S1x4x144x1024 .bf16)

/-- A tile's row: its quotient at a channel is the softmax over all keys. -/
theorem row_eq (n g : Fin 4) (r : Fin 1024) (b : Fin 4) (h : Fin 8) (q : Fin 4096) (ch : Fin 128) (hq : q.val = n.val * 1024 + r.val)
    (h0 : ∀ e, x0 (ix4 0 g r e) = hQ (F := Ideal) (fun i => (ql i : EReal)) (fun i => (qr i : EReal)) (ix4 b h q e))
    (h1 : ∀ j e k, x1 (ix4 0 j e k) = hK (F := Ideal) (fun i => (ck i : EReal)) (fun i => (kr i : EReal)) (ix4 b j e k))
    (h2 : ∀ j (e : Fin 144) k, x2 (ix4 0 j e k) = hK (F := Ideal) (fun i => (ck i : EReal)) (fun i => (kr i : EReal)) (ix4 b j ⟨e.val, by omega⟩ k)) :
    Ideal.div ((head x0 x1 x2 n.val g (n.val + 1)).2 (ix2 r ⟨ch.val, by omega⟩)) ((head x0 x1 x2 n.val g (n.val + 1)).2 (ix2 r 128))
      = ∑ κ, (ck (ix3 b κ ch) : EReal) * Ideal.div
          (ReferenceIdeal.Flash.rE (F := Ideal) (ReferenceIdeal.Flash.rS (F := Ideal) (fun i => (ql i : EReal)) (fun i => (qr i : EReal)) (fun i => (ck i : EReal)) (fun i => (kr i : EReal))) (ix4 b h q κ))
          (∑ κ', ReferenceIdeal.Flash.rE (F := Ideal) (ReferenceIdeal.Flash.rS (F := Ideal) (fun i => (ql i : EReal)) (fun i => (qr i : EReal)) (fun i => (ck i : EReal)) (fun i => (kr i : EReal))) (ix4 b h q κ')) := by
  obtain ⟨σ, hσ, hsc⟩ := scale_real
  have hn := n.isLt
  have hr := r.isLt
  have hrow := (hst_row (sblk x0 x1 g n.val) (vblk x2) (n.val + 1) r).2
  rw [head, hrow, hrow]
  simp only [ReferenceIdeal.Flash.rE_apply, ReferenceIdeal.Flash.rS_apply, ref_score ql qr ck kr σ hσ]
  have hvS : ∀ j (hj : j < 4) (k : Fin 1024), vS (qhd x0 g) (kblk x1 j) (ix2 r k)
      = ((dot ql qr ck kr b h q ⟨j * 1024 + k.val, by omega⟩ * σ * (1 / Real.log 2) : ℝ) : EReal) := fun j hj k => by
    rw [vS_apply, ← ker_score ql qr ck kr σ hsc b h q _ ⟨j, hj⟩ k rfl]
    refine Finset.sum_congr rfl fun e _ => ?_
    rw [← h0, ← h1]
    unfold qhd kblk
    rw [dif_pos hj]
    rfl
  have hs : ∀ j ≤ n.val, ∀ (k : Fin 1024) (hk : j * 1024 + k.val < 4096), sblk x0 x1 g n.val j (ix2 r k)
      = if j * 1024 + k.val ≤ q.val then ((dot ql qr ck kr b h q ⟨j * 1024 + k.val, hk⟩ * σ * (1 / Real.log 2) : ℝ) : EReal) else ⊥ := fun j hj k hk => by
    unfold sblk
    by_cases hjn : j < n.val
    · rw [if_pos hjn, hvS j (by omega) k, if_pos (by omega)]
    · rw [if_neg hjn, vMask_apply, hvS j (by omega) k]
      by_cases hkr : k.val ≤ r.val
      · rw [if_pos hkr, if_pos (by omega)]
      · rw [if_neg hkr, if_neg (by omega)]
  have hone : stA (fun j k => sblk x0 x1 g n.val j (ix2 r k)) (fun j k => vblk x2 j (ix2 128 k)) (n.val + 1)
      = stA (fun j k => sblk x0 x1 g n.val j (ix2 r k)) (fun _ _ => 1) (n.val + 1) := by
    refine stA_congr _ _ _ _ _ (fun _ _ => rfl) fun j hj => funext fun k => ?_
    show vblk x2 j (ix2 128 k) = 1
    unfold vblk
    rw [dif_pos (by omega)]
    refine (h2 ⟨j, by omega⟩ ⟨128, by omega⟩ k).trans ?_
    rw [hK_apply, dif_neg (by simp), dif_pos (by simp), if_pos rfl]
  rw [hone]
  refine flash_eq_softmax (B := 1024) 4 n.val hn
    (fun κ => if κ.val ≤ q.val then ((dot ql qr ck kr b h q κ * σ : ℝ) : EReal) else ⊥) (fun κ => (ck (ix3 b κ ch) : EReal))
    (fun j k => sblk x0 x1 g n.val j (ix2 r k)) (fun j k => vblk x2 j (ix2 ⟨ch.val, by omega⟩ k)) ?_ ?_ ?_ ?_ ?_ ?_
  · intro κ
    show (if _ then _ else _) ≠ _
    split
    · exact EReal.coe_ne_top _
    · exact bot_ne_top
  · intro j hj k
    show sblk x0 x1 g n.val j (ix2 r k) ≠ ⊤
    rw [hs j hj k (by omega)]
    split
    · exact EReal.coe_ne_top _
    · exact bot_ne_top
  · intro j hj
    refine ⟨0, ?_⟩
    show sblk x0 x1 g n.val j (ix2 r 0) ≠ ⊥
    rw [hs j hj 0 (by show j * 1024 + 0 < 4096; omega), if_pos (by show j * 1024 + 0 ≤ q.val; nlinarith)]
    exact EReal.coe_ne_bot _
  · intro j hj k hk
    show Ideal.exp2 (sblk x0 x1 g n.val j (ix2 r k)) = Ideal.exp (if _ then _ else _)
    rw [hs j hj k (by omega)]
    split
    · exact exp2_eq_exp _
    · rw [Ideal.exp2_bot, Ideal.exp_bot]
  · intro j hj k hk
    show vblk x2 j (ix2 ⟨ch.val, _⟩ k) = _
    unfold vblk
    rw [dif_pos (by omega)]
    refine (h2 ⟨j, by omega⟩ ⟨ch.val, by omega⟩ k).trans ?_
    rw [hK_apply, dif_pos ch.isLt]
  · intro j hj k hk
    show (if _ then _ else _) = _
    rw [if_neg]
    show ¬ j * 1024 + k.val ≤ q.val
    nlinarith
end Row
end Cert.KernelIdeal.Flash
-- ==== Proof.FlashValue.lean ====
/- The latent attention's output array is the reference's result, the arguments finite. -/
module
public import proofs.«01_k».proof.Proof.FlashTile
public import proofs.«01_k».proof.Proof.FlashBlocks
public import proofs.«01_k».proof.Proof.FlashRow
@[expose] public section
set_option maxRecDepth 16384
noncomputable section
namespace Cert.KernelIdeal.Flash
open Cert.KernelIdeal Cert.KernelIdeal.Gen Idealize.ShloMosaic Idealize.ShloMosaic.TcCoe Idealize.SL.Sem
open Cert.FlashMath
variable (m : (ℓ : Loc nD τ sig) → Buf (Elt Ideal) ℓ) (c : Dev nD)

/-- What the call leaves, as a function of real arguments: the reference's result. -/
theorem tile_eq (ql : S4x4096x8x128.Idx → ℝ) (qr : S4x4096x8x32.Idx → ℝ) (ck : S4x4096x128.Idx → ℝ) (kr : S4x4096x32.Idx → ℝ)
    (x0 : Vec Ideal S1x4x1024x176 .bf16) (x1 : Vec Ideal S1x4x176x1024 .bf16) (x2 : Vec Ideal S1x4x144x1024 .bf16)
    (b n : Fin 4) (hg : Fin 2) (r : Fin 1024) (C : Fin 512) (R : Fin 16384) (C' : Fin 1024)
    (hR : R.val = (b.val * 4 + n.val) * 1024 + r.val) (hC : C'.val = hg.val * 512 + C.val)
    (h0 : ∀ (g : Fin 4) (r : Fin 1024) e, x0 (ix4 0 g r e) = hQ (F := Ideal) (fun i => (ql i : EReal)) (fun i => (qr i : EReal)) (ix4 b ⟨hg.val * 4 + g.val, by omega⟩ ⟨n.val * 1024 + r.val, by omega⟩ e))
    (h1 : ∀ j e k, x1 (ix4 0 j e k) = hK (F := Ideal) (fun i => (ck i : EReal)) (fun i => (kr i : EReal)) (ix4 b j e k))
    (h2 : ∀ j (e : Fin 144) k, x2 (ix4 0 j e k) = hK (F := Ideal) (fun i => (ck i : EReal)) (fun i => (kr i : EReal)) (ix4 b j ⟨e.val, by omega⟩ k)) :
    vO (head x0 x1 x2 n.val 0 (n.val + 1)).2 (head x0 x1 x2 n.val 1 (n.val + 1)).2 (head x0 x1 x2 n.val 2 (n.val + 1)).2
        (head x0 x1 x2 n.val 3 (n.val + 1)).2 (ix2 r C)
      = ReferenceIdeal.Flash.rO (F := Ideal) (ReferenceIdeal.Flash.rE (F := Ideal) (ReferenceIdeal.Flash.rS (F := Ideal) (fun i => (ql i : EReal)) (fun i => (qr i : EReal)) (fun i => (ck i : EReal)) (fun i => (kr i : EReal)))) (fun i => (ck i : EReal)) (ix2 R C') := by
  have hCl := C.isLt
  have hn := n.isLt
  have hr := r.isLt
  have hgl := hg.isLt
  have e1 := vO_apply (fun g => (head x0 x1 x2 n.val g (n.val + 1)).2) r C ⟨C.val / 128, by omega⟩ ⟨C.val % 128, by omega⟩ (by show C.val = C.val / 128 * 128 + C.val % 128; omega)
  refine e1.trans ?_
  rw [ReferenceIdeal.Flash.rO_apply _ _ R C' b ⟨hg.val * 4 + C.val / 128, by omega⟩ ⟨n.val * 1024 + r.val, by omega⟩ ⟨C.val % 128, by omega⟩
    (by show R.val = b.val * 4096 + (n.val * 1024 + r.val); omega) (by show C'.val = (hg.val * 4 + C.val / 128) * 128 + C.val % 128; omega)]
  exact row_eq ql qr ck kr x0 x1 x2 n ⟨C.val / 128, by omega⟩ r b ⟨hg.val * 4 + C.val / 128, by omega⟩ ⟨n.val * 1024 + r.val, by omega⟩ ⟨C.val % 128, by omega⟩ rfl
    (h0 ⟨C.val / 128, by omega⟩ r) h1 h2

theorem arr_eq (ql : S4x4096x8x128.Idx → ℝ) (qr : S4x4096x8x32.Idx → ℝ) (ck : S4x4096x128.Idx → ℝ) (kr : S4x4096x32.Idx → ℝ)
    (h0 : m (c, Proc.tc.devRef main_arg0) = fun i => (ql i : EReal)) (h1 : m (c, Proc.tc.devRef main_arg1) = fun i => (qr i : EReal))
    (h2 : m (c, Proc.tc.devRef main_arg2) = fun i => (ck i : EReal)) (h3 : m (c, Proc.tc.devRef main_arg3) = fun i => (kr i : EReal)) :
    (dats m 0 c).arrAt 3 cfg0.N = ReferenceIdeal.Flash.rO (F := Ideal) (ReferenceIdeal.Flash.rE (F := Ideal) (ReferenceIdeal.Flash.rS (F := Ideal) (fun i => (ql i : EReal)) (fun i => (qr i : EReal)) (fun i => (ck i : EReal)) (fun i => (kr i : EReal)))) (fun i => (ck i : EReal)) := by
  have hK' := V_keys m c
  have hQ' := V_queries m c
  rw [h2, h3] at hK'
  rw [h0, h1] at hQ'
  refine (dats m 0 c).arrAt_eq_of_covers 3 _ (by decide +kernel) fun t hf y => ?_
  blk_simp
  rw [after0_3]
  unfold outsAt0
  rw [out_eq]
  obtain ⟨r, C, rfl⟩ : ∃ (r : Fin 1024) (C : Fin 512), y = ix2 r C := ⟨y 0, y 1, by funext a; fin_cases a <;> rfl⟩
  have b0 : (grid0.coords t 0).val < 4 := (grid0.coords t 0).isLt
  have b1 : (grid0.coords t 1).val < 2 := (grid0.coords t 1).isLt
  have b2 : (grid0.coords t 2).val < 4 := (grid0.coords t 2).isLt
  have e : ((cfg0.win 3).blk t).view.emb (ix2 r C) = ix2 (⟨((grid0.coords t 0).val * 4 + (grid0.coords t 2).val) * 1024 + r.val, by
      omega⟩ : Fin 16384) (⟨(grid0.coords t 1).val * 512 + C.val, by omega⟩ : Fin 1024) := by
    blk_ext [idx3 t]
  refine (tile_eq ql qr ck kr (iblk m c 0 t) (iblk m c 1 t) (X0_2 m c t) ⟨_, b0⟩ ⟨_, b2⟩ ⟨_, b1⟩ r C _ _ rfl rfl
    (fun g r e => ?_) (fun j e k => ?_) (fun j e k => ?_)).trans (congrArg _ e.symm)
  · rw [← hQ']
    exact blk0 m c t g r e _ _ _ rfl rfl rfl
  · rw [← hK']
    exact blk1 m c t j e k _ rfl
  · rw [← hK']
    exact blk2 m c t j e k _ rfl
end Cert.KernelIdeal.Flash
-- ==== Proof.FfnTile.lean ====
/- The feed-forward call's payload: a tile of 512 rows through eleven chunks of 256 hidden columns, then residual and layer norm.

   A chunk's product, the residual and the layer norm are written here once, as functions of vectors, and read at an index.
-/
module
public import proofs.«01_k».proof.Proof.Gen.Kernel2Ideal.Value
public import proofs.«01_k».proof.Proof.FlashMath
public import Idealize.ShloMosaic.Lib.Pipeline.ValueKit
public import Idealize.ShloMosaic.Lib.Pointwise
@[expose] public section
set_option maxRecDepth 16384
noncomputable section
namespace Cert.Kernel2Ideal.Ffn
open Cert.Kernel2Ideal Cert.Kernel2Ideal.Gen Idealize.ShloMosaic Idealize.ShloMosaic.TcCoe Idealize.SL.Sem

section Vectors
variable {F : FTy → Type} [FloatOps F]
/-- A chunk of hidden columns before the gate. -/
def fH (x : FVec F S512x1024 .bf16) (w : FVec F S1024x256 .bf16) : FVec F S512x256 .f32 :=
  matmul dot_S512x1024_S1024x256_S512x256_1_0_0_1_n_n none x (shapeCast S1024x256 w shapeCasts_S1024x256_S1024x256) (constant S512x256 .f32 0x00000000#32)
/-- The gated chunk. -/
def fG (h1 h3 : FVec F S512x256 .f32) : FVec F S512x256 .bf16 :=
  truncf .bf16 (mulf (mulf h1 (logistic h1)) h3) bitsLt_bf16_f32
/-- A gated chunk against its rows of the last weights. -/
def fW (h : FVec F S512x256 .bf16) (w : FVec F S256x1024 .bf16) : FVec F S512x1024 .f32 :=
  matmul dot_S512x256_S256x1024_S512x1024_1_0_0_1_n_n none h (shapeCast S256x1024 w shapeCasts_S256x1024_S256x1024) (constant S512x1024 .f32 0x00000000#32)
/-- A chunk's part of the product. -/
def fP (x : FVec F S512x1024 .bf16) (w1 w3 : FVec F S1024x256 .bf16) (w2 : FVec F S256x1024 .bf16) : FVec F S512x1024 .f32 :=
  fW (fG (fH x w1) (fH x w3)) w2
/-- The eleven parts, added in order from zero. -/
def fA (p0 p1 p2 p3 p4 p5 p6 p7 p8 p9 p10 : FVec F S512x1024 .f32) : FVec F S512x1024 .f32 :=
  addf (addf (addf (addf (addf (addf (addf (addf (addf (addf (addf (broadcast S512x1024 (Scalar.ofBits .f32 0x00000000#32)) p0) p1) p2) p3) p4) p5) p6) p7) p8) p9) p10
/-- The residual: the scaled row and half the product. -/
def fY (x a : FVec F S512x1024 .f32) : FVec F S512x1024 .f32 :=
  addf (mulf (broadcast S512x1024 (Scalar.ofBits .f32 0x3FB504F3#32)) x) (mulf (broadcast S512x1024 (Scalar.ofBits .f32 0x3F000000#32)) a)
/-- The rows' means. -/
def fM (y : FVec F S512x1024 .f32) : FVec F S512x1 .f32 :=
  divf (shapeCast S512x1 (multiReduction .add [1] S512 y 0x00000000#32 reduces_S512x1024_S512 (.inl rfl) rfl) shapeCasts_S512_S512x1) (broadcast S512x1 (Scalar.ofBits .f32 0x44800000#32))
/-- The rows less their means. -/
def fC (y : FVec F S512x1024 .f32) : FVec F S512x1024 .f32 := subf y (broadcastTo S512x1024 (fM y) broadcasts_S512x1_S512x1024)
/-- The centred rows over their deviations, scaled and shifted. -/
def fN (y : FVec F S512x1024 .f32) (g b : FVec F S1x1024 .f32) : FVec F S512x1024 .f32 :=
  addf (mulf (mulf y (broadcastTo S512x1024 (rsqrt (addf (fM (mulf y y)) (broadcast S512x1 (Scalar.ofBits .f32 0x3727C5AC#32)))) broadcasts_S512x1_S512x1024))
    (broadcastTo S512x1024 (shapeCast S1x1024 g shapeCasts_S1x1024_S1x1024) broadcasts_S1x1024_S512x1024)) (broadcastTo S512x1024 (shapeCast S1x1024 b shapeCasts_S1x1024_S1x1024) broadcasts_S1x1024_S512x1024)

theorem out_eq (x0 : Vec F S512x1024 .f32) (x1 : Vec F S1024x2816 .bf16) (x2 : Vec F S1024x2816 .bf16) (x3 : Vec F S2816x1024 .bf16) (x4 : Vec F S1x1024 .f32) (x5 : Vec F S1x1024 .f32) :
    out0_6 x0 x1 x2 x3 x4 x5 = fN (fC (fY (View.ld x0 r0_0) (fA
      (fP (k0_pay1 (View.ld x0 r0_0)) (View.ld x1 r0_1) (View.ld x2 r0_1) (View.ld x3 r0_2))
      (fP (k0_pay1 (View.ld x0 r0_0)) (View.ld x1 r0_3) (View.ld x2 r0_3) (View.ld x3 r0_4))
      (fP (k0_pay1 (View.ld x0 r0_0)) (View.ld x1 r0_5) (View.ld x2 r0_5) (View.ld x3 r0_6))
      (fP (k0_pay1 (View.ld x0 r0_0)) (View.ld x1 r0_7) (View.ld x2 r0_7) (View.ld x3 r0_8))
      (fP (k0_pay1 (View.ld x0 r0_0)) (View.ld x1 r0_9) (View.ld x2 r0_9) (View.ld x3 r0_10))
      (fP (k0_pay1 (View.ld x0 r0_0)) (View.ld x1 r0_11) (View.ld x2 r0_11) (View.ld x3 r0_12))
      (fP (k0_pay1 (View.ld x0 r0_0)) (View.ld x1 r0_13) (View.ld x2 r0_13) (View.ld x3 r0_14))
      (fP (k0_pay1 (View.ld x0 r0_0)) (View.ld x1 r0_15) (View.ld x2 r0_15) (View.ld x3 r0_16))
      (fP (k0_pay1 (View.ld x0 r0_0)) (View.ld x1 r0_17) (View.ld x2 r0_17) (View.ld x3 r0_18))
      (fP (k0_pay1 (View.ld x0 r0_0)) (View.ld x1 r0_19) (View.ld x2 r0_19) (View.ld x3 r0_20))
      (fP (k0_pay1 (View.ld x0 r0_0)) (View.ld x1 r0_21) (View.ld x2 r0_21) (View.ld x3 r0_22)))))
      (View.ld x4 r0_23) (View.ld x5 r0_23) := by
  unfold out0_6
  rw [View.canon_unit_zero (by funext a; fin_cases a <;> rfl)]
  rfl
end Vectors

theorem fH_apply (x : FVec Ideal S512x1024 .bf16) (w : FVec Ideal S1024x256 .bf16) (r : Fin 512) (k : Fin 256) :
    fH x w (ix2 r k) = ∑ e : Fin 1024, x (ix2 r e) * w (ix2 e k) := by
  pointwise [fH]
theorem fG_apply (h1 h3 : FVec Ideal S512x256 .f32) (r : Fin 512) (k : Fin 256) :
    fG h1 h3 (ix2 r k) = h1 (ix2 r k) * Ideal.logistic (h1 (ix2 r k)) * h3 (ix2 r k) := by
  pointwise [fG]
theorem fW_apply (h : FVec Ideal S512x256 .bf16) (w : FVec Ideal S256x1024 .bf16) (r : Fin 512) (c : Fin 1024) :
    fW h w (ix2 r c) = ∑ k : Fin 256, h (ix2 r k) * w (ix2 k c) := by
  pointwise [fW]

/-- One hidden unit of a row: the gated product of the row with two columns. -/
def unit (x w1 w3 : Fin 1024 → EReal) : EReal :=
  (∑ e, x e * w1 e) * Ideal.logistic (∑ e, x e * w1 e) * ∑ e, x e * w3 e

theorem fP_apply (x : FVec Ideal S512x1024 .bf16) (w1 w3 : FVec Ideal S1024x256 .bf16) (w2 : FVec Ideal S256x1024 .bf16) (r : Fin 512) (c : Fin 1024) :
    fP x w1 w3 w2 (ix2 r c) = ∑ k : Fin 256, unit (fun e => x (ix2 r e)) (fun e => w1 (ix2 e k)) (fun e => w3 (ix2 e k)) * w2 (ix2 k c) := by
  unfold fP
  rw [fW_apply]
  simp only [fG_apply, fH_apply, unit]

theorem fA_apply (p : ℕ → FVec Ideal S512x1024 .f32) (r : Fin 512) (c : Fin 1024) :
    fA (p 0) (p 1) (p 2) (p 3) (p 4) (p 5) (p 6) (p 7) (p 8) (p 9) (p 10) (ix2 r c) = ∑ j ∈ Finset.range 11, p j (ix2 r c) := by
  simp only [Finset.sum_range_succ, Finset.sum_range_zero]
  pointwise [fA]

/-- The residual of one element. -/
def resid (x a : EReal) : EReal := Ideal.ofBits FTy.f32 0x3FB504F3#32 * x + Ideal.ofBits FTy.f32 0x3F000000#32 * a
/-- A row's mean. -/
def mean (y : Fin 1024 → EReal) : EReal := Ideal.div (∑ e, y e) (Ideal.ofBits FTy.f32 0x44800000#32)
/-- One element of a centred row, normalized. -/
def norm (y : Fin 1024 → EReal) (c : Fin 1024) (g b : EReal) : EReal :=
  y c * Ideal.rsqrt (mean (fun e => y e * y e) + Ideal.ofBits FTy.f32 0x3727C5AC#32) * g + b

theorem fY_apply (x a : FVec Ideal S512x1024 .f32) (r : Fin 512) (c : Fin 1024) :
    fY x a (ix2 r c) = resid (x (ix2 r c)) (a (ix2 r c)) := by
  pointwise [fY, resid]
theorem fM_apply (y : FVec Ideal S512x1024 .f32) (r : Fin 512) :
    fM y (ix2 r 0) = mean fun e => y (ix2 r e) := by
  pointwise [fM, mean]
theorem fC_apply (y : FVec Ideal S512x1024 .f32) (r : Fin 512) (c : Fin 1024) :
    fC y (ix2 r c) = y (ix2 r c) - mean fun e => y (ix2 r e) := by
  pointwise [fC, fM_apply]
theorem fN_apply (y : FVec Ideal S512x1024 .f32) (g b : FVec Ideal S1x1024 .f32) (r : Fin 512) (c : Fin 1024) :
    fN y g b (ix2 r c) = norm (fun e => y (ix2 r e)) c (g (ix2 0 c)) (b (ix2 0 c)) := by
  pointwise [fN, norm, fM_apply]

/-! ## The blocks read -/
theorem ld_x (x : Vec Ideal S512x1024 .f32) : View.ld x r0_0 = x := by
  funext p
  apply View.ld_unit_apply_of
  intro a; fin_cases a <;> simp
theorem ld_g (x : Vec Ideal S1x1024 .f32) : View.ld x r0_23 = x := by
  funext p
  apply View.ld_unit_apply_of
  intro a; fin_cases a <;> simp
/-- Chunk `n` of a weight's columns, and zero past the last. -/
def cols (w : Vec Ideal S1024x2816 .bf16) (n : ℕ) : FVec Ideal S1024x256 .bf16 :=
  fun p => if h : n * 256 + (p 1).val < 2816 then w (ix2 (p 0) ⟨n * 256 + (p 1).val, h⟩) else 0
/-- Chunk `n` of a weight's rows, and zero past the last. -/
def rows (w : Vec Ideal S2816x1024 .bf16) (n : ℕ) : FVec Ideal S256x1024 .bf16 :=
  fun p => if h : n * 256 + (p 0).val < 2816 then w (ix2 ⟨n * 256 + (p 0).val, h⟩ (p 1)) else 0
theorem ld_cols (w : Vec Ideal S1024x2816 .bf16) (n : ℕ) (hn : n < 11) (off : Fin 2 → ℕ) (ho : off = ![0, n * 256]) (h) :
    View.ld w (Rect.unit off ![1024, 256] h) = cols w n := by
  subst ho
  funext p
  have hp : (p 1).val < 256 := (p 1).isLt
  unfold cols
  rw [dif_pos (by omega)]
  apply View.ld_unit_apply_of
  intro a; fin_cases a <;> simp
theorem ld_rows (w : Vec Ideal S2816x1024 .bf16) (n : ℕ) (hn : n < 11) (off : Fin 2 → ℕ) (ho : off = ![n * 256, 0]) (h) :
    View.ld w (Rect.unit off ![256, 1024] h) = rows w n := by
  subst ho
  funext p
  have hp : (p 0).val < 256 := (p 0).isLt
  unfold rows
  rw [dif_pos (by omega)]
  apply View.ld_unit_apply_of
  intro a; fin_cases a <;> simp

/-- A row of the product: every hidden unit against its row of the last weights. -/
def prod (x : Fin 1024 → EReal) (w1 w3 : Fin 1024 → Fin 2816 → EReal) (w2 : Fin 2816 → EReal) : EReal :=
  ∑ k, unit x (fun e => w1 e k) (fun e => w3 e k) * w2 k
/-- One element of the call's output from its row, the weights and the norm's parameters. -/
def elem (x : Fin 1024 → EReal) (w1 w3 : Fin 1024 → Fin 2816 → EReal) (w2 : Fin 2816 → Fin 1024 → EReal) (c : Fin 1024) (g b : EReal) : EReal :=
  norm (fun c' => resid (x c') (prod x w1 w3 fun k => w2 k c') - mean fun c' => resid (x c') (prod x w1 w3 fun k => w2 k c')) c g b

theorem acc_apply (x : FVec Ideal S512x1024 .bf16) (x1 x2 : Vec Ideal S1024x2816 .bf16) (x3 : Vec Ideal S2816x1024 .bf16) (r : Fin 512) (c : Fin 1024) :
    fA (fP x (cols x1 0) (cols x2 0) (rows x3 0)) (fP x (cols x1 1) (cols x2 1) (rows x3 1)) (fP x (cols x1 2) (cols x2 2) (rows x3 2)) (fP x (cols x1 3) (cols x2 3) (rows x3 3)) (fP x (cols x1 4) (cols x2 4) (rows x3 4)) (fP x (cols x1 5) (cols x2 5) (rows x3 5)) (fP x (cols x1 6) (cols x2 6) (rows x3 6)) (fP x (cols x1 7) (cols x2 7) (rows x3 7)) (fP x (cols x1 8) (cols x2 8) (rows x3 8)) (fP x (cols x1 9) (cols x2 9) (rows x3 9)) (fP x (cols x1 10) (cols x2 10) (rows x3 10)) (ix2 r c)
      = prod (fun e => x (ix2 r e)) (fun e k => x1 (ix2 e k)) (fun e k => x2 (ix2 e k)) (fun k => x3 (ix2 k c)) := by
  refine (fA_apply (fun n => fP x (cols x1 n) (cols x2 n) (rows x3 n)) r c).trans ?_
  unfold prod
  refine Eq.trans ?_ (FlashMath.sum_blocks (B := 256) 11 (fun k : Fin 2816 => unit (fun e => x (ix2 r e)) (fun e => x1 (ix2 e k)) (fun e => x2 (ix2 e k)) * x3 (ix2 k c))
    (fun n k => unit (fun e => x (ix2 r e)) (fun e => cols x1 n (ix2 e k)) (fun e => cols x2 n (ix2 e k)) * rows x3 n (ix2 k c)) ?_).symm
  · exact Finset.sum_congr rfl fun n _ => fP_apply _ _ _ _ r c
  · intro j hj k h
    have h' : j * 256 + k.val < 2816 := h
    have e1 : ∀ (w : Vec Ideal S1024x2816 .bf16) (e : Fin 1024), cols w j (ix2 e k) = w (ix2 e ⟨j * 256 + k.val, h'⟩) := fun w e => dif_pos h'
    have e2 : rows x3 j (ix2 k c) = x3 (ix2 ⟨j * 256 + k.val, h'⟩ c) := dif_pos h'
    simp only [e1, e2]

theorem out_apply (x0 : Vec Ideal S512x1024 .f32) (x1 : Vec Ideal S1024x2816 .bf16) (x2 : Vec Ideal S1024x2816 .bf16) (x3 : Vec Ideal S2816x1024 .bf16) (x4 : Vec Ideal S1x1024 .f32) (x5 : Vec Ideal S1x1024 .f32) (r : Fin 512) (c : Fin 1024) :
    out0_6 x0 x1 x2 x3 x4 x5 (ix2 r c) = elem (fun e => x0 (ix2 r e)) (fun e k => x1 (ix2 e k)) (fun e k => x2 (ix2 e k)) (fun k c => x3 (ix2 k c)) c (x4 (ix2 0 c)) (x5 (ix2 0 c)) := by
  rw [out_eq, ld_x, ld_g, ld_g]
  rw [ld_cols x1 0 (by omega) _ rfl inb_S1024x2816_S1024x256_0_0, ld_cols x2 0 (by omega) _ rfl inb_S1024x2816_S1024x256_0_0, ld_rows x3 0 (by omega) _ rfl inb_S2816x1024_S256x1024_0_0, ld_cols x1 1 (by omega) _ rfl inb_S1024x2816_S1024x256_0_256, ld_cols x2 1 (by omega) _ rfl inb_S1024x2816_S1024x256_0_256, ld_rows x3 1 (by omega) _ rfl inb_S2816x1024_S256x1024_256_0, ld_cols x1 2 (by omega) _ rfl inb_S1024x2816_S1024x256_0_512, ld_cols x2 2 (by omega) _ rfl inb_S1024x2816_S1024x256_0_512, ld_rows x3 2 (by omega) _ rfl inb_S2816x1024_S256x1024_512_0, ld_cols x1 3 (by omega) _ rfl inb_S1024x2816_S1024x256_0_768, ld_cols x2 3 (by omega) _ rfl inb_S1024x2816_S1024x256_0_768, ld_rows x3 3 (by omega) _ rfl inb_S2816x1024_S256x1024_768_0, ld_cols x1 4 (by omega) _ rfl inb_S1024x2816_S1024x256_0_1024, ld_cols x2 4 (by omega) _ rfl inb_S1024x2816_S1024x256_0_1024, ld_rows x3 4 (by omega) _ rfl inb_S2816x1024_S256x1024_1024_0, ld_cols x1 5 (by omega) _ rfl inb_S1024x2816_S1024x256_0_1280, ld_cols x2 5 (by omega) _ rfl inb_S1024x2816_S1024x256_0_1280, ld_rows x3 5 (by omega) _ rfl inb_S2816x1024_S256x1024_1280_0, ld_cols x1 6 (by omega) _ rfl inb_S1024x2816_S1024x256_0_1536, ld_cols x2 6 (by omega) _ rfl inb_S1024x2816_S1024x256_0_1536, ld_rows x3 6 (by omega) _ rfl inb_S2816x1024_S256x1024_1536_0, ld_cols x1 7 (by omega) _ rfl inb_S1024x2816_S1024x256_0_1792, ld_cols x2 7 (by omega) _ rfl inb_S1024x2816_S1024x256_0_1792, ld_rows x3 7 (by omega) _ rfl inb_S2816x1024_S256x1024_1792_0, ld_cols x1 8 (by omega) _ rfl inb_S1024x2816_S1024x256_0_2048, ld_cols x2 8 (by omega) _ rfl inb_S1024x2816_S1024x256_0_2048, ld_rows x3 8 (by omega) _ rfl inb_S2816x1024_S256x1024_2048_0, ld_cols x1 9 (by omega) _ rfl inb_S1024x2816_S1024x256_0_2304, ld_cols x2 9 (by omega) _ rfl inb_S1024x2816_S1024x256_0_2304, ld_rows x3 9 (by omega) _ rfl inb_S2816x1024_S256x1024_2304_0, ld_cols x1 10 (by omega) _ rfl inb_S1024x2816_S1024x256_0_2560, ld_cols x2 10 (by omega) _ rfl inb_S1024x2816_S1024x256_0_2560, ld_rows x3 10 (by omega) _ rfl inb_S2816x1024_S256x1024_2560_0]
  rw [fN_apply]
  simp only [fC_apply, fY_apply, acc_apply]
  rfl
end Cert.Kernel2Ideal.Ffn
-- ==== Proof.FfnRef.lean ====
/- The feed-forward reference at an index: the same element function of the row, the weights and the norm's parameters. -/
module
public import proofs.«01_k».proof.Proof.FfnTile
public import Idealize.ShloMosaic.Lib.KernelVsHost
public import proofs.«01_k».proof.Proof.Gen.Reference2Ideal.Run
@[expose] public section
set_option maxRecDepth 16384
noncomputable section
namespace Cert.Reference2Ideal.Ffn
open Cert.Reference2Ideal Cert.Reference2Ideal.Gen Idealize.ShloMosaic Idealize.ShloMosaic.TcCoe Idealize.SL.Sem
open Cert.Kernel2Ideal.Ffn (unit prod resid mean norm elem)

section Vectors
variable {F : FTy → Type} [FloatOps F]
/-- The hidden columns before the gate. -/
def rH (x : FVec F S16384x1024 .f32) (w : FVec F S1024x2816 .f32) : FVec F S16384x2816 .f32 :=
  Host.dotGeneral dot_S16384x1024_S1024x2816_S16384x2816_1_0_0_1_n_n none x w
/-- The gated columns. -/
def rG (h1 h3 : FVec F S16384x2816 .f32) : FVec F S16384x2816 .f32 :=
  mulf (mulf h1 (Host.divf (broadcastInDim S16384x2816 ![] bcast_S_S16384x2816 (constant S_ .f32 0x3F800000#32)) (addf (broadcastInDim S16384x2816 ![] bcast_S_S16384x2816 (constant S_ .f32 0x3F800000#32)) (Host.exp (Host.negf h1))))) h3
/-- The gated columns against the last weights. -/
def rW (h : FVec F S16384x2816 .f32) (w : FVec F S2816x1024 .f32) : FVec F S16384x1024 .f32 :=
  Host.dotGeneral dot_S16384x2816_S2816x1024_S16384x1024_1_0_0_1_n_n none h w
/-- The residual. -/
def rY (x a : FVec F S16384x1024 .f32) : FVec F S16384x1024 .f32 :=
  addf (mulf (broadcastInDim S16384x1024 ![] bcast_S_S16384x1024 (constant S_ .f32 0x3FB504F3#32)) x) (mulf (broadcastInDim S16384x1024 ![] bcast_S_S16384x1024 (constant S_ .f32 0x3F000000#32)) a)
/-- The rows' means. -/
def rM (y : FVec F S16384x1024 .f32) : FVec F S16384x1 .f32 :=
  Host.divf (broadcastInDim S16384x1 ![0] bcast_S16384_S16384x1_0 (Host.reduceAdd y (constant S_ .f32 0x00000000#32) reducesTo_S16384x1024_S16384_d1 h_S_)) (broadcastInDim S16384x1 ![] bcast_S_S16384x1 (constant S_ .f32 0x44800000#32))
/-- The rows less their means. -/
def rC (y : FVec F S16384x1024 .f32) : FVec F S16384x1024 .f32 :=
  subf y (broadcastInDim S16384x1024 ![0, 1] bcast_S16384x1_S16384x1024_0_1 (rM y))
/-- The centred rows over their deviations, scaled and shifted. -/
def rN (y : FVec F S16384x1024 .f32) (g b : FVec F S1024 .f32) : FVec F S16384x1024 .f32 :=
  addf (mulf (mulf y (broadcastInDim S16384x1024 ![0, 1] bcast_S16384x1_S16384x1024_0_1 (Host.rsqrt (addf (rM (mulf y y)) (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 b))
/-- The reference's result. -/
def rO (x : FVec F S16384x1024 .f32) (w1 w3 : FVec F S1024x2816 .f32) (w2 : FVec F S2816x1024 .f32) (g b : FVec F S1024 .f32) : FVec F S16384x1024 .f32 :=
  rN (rC (rY x (rW (rG (rH x w1) (rH x w3)) w2))) g b

theorem res_eq (m : (ℓ : Loc nD τ sig) → Buf (Elt F) ℓ) (c : Dev nD) :
    Value.res_out0 m c = rO (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl
end Vectors

theorem rH_apply (x : FVec Ideal S16384x1024 .f32) (w : FVec Ideal S1024x2816 .f32) (r : Fin 16384) (k : Fin 2816) :
    rH x w (ix2 r k) = ∑ e : Fin 1024, x (ix2 r e) * w (ix2 e k) := by
  pointwise [rH]
theorem rG_apply (h1 h3 : FVec Ideal S16384x2816 .f32) (r : Fin 16384) (k : Fin 2816) :
    rG h1 h3 (ix2 r k) = h1 (ix2 r k) * Ideal.logistic (h1 (ix2 r k)) * h3 (ix2 r k) := by
  pointwise [rG, Ideal.logistic]
theorem rW_apply (h : FVec Ideal S16384x2816 .f32) (w : FVec Ideal S2816x1024 .f32) (r : Fin 16384) (c : Fin 1024) :
    rW h w (ix2 r c) = ∑ k : Fin 2816, h (ix2 r k) * w (ix2 k c) := by
  pointwise [rW]
theorem rY_apply (x a : FVec Ideal S16384x1024 .f32) (r : Fin 16384) (c : Fin 1024) :
    rY x a (ix2 r c) = resid (x (ix2 r c)) (a (ix2 r c)) := by
  pointwise [rY, resid]
theorem rM_apply (y : FVec Ideal S16384x1024 .f32) (r : Fin 16384) :
    rM y (ix2 r 0) = mean fun e => y (ix2 r e) := by
  pointwise [rM, mean]
theorem rC_apply (y : FVec Ideal S16384x1024 .f32) (r : Fin 16384) (c : Fin 1024) :
    rC y (ix2 r c) = y (ix2 r c) - mean fun e => y (ix2 r e) := by
  pointwise [rC, rM_apply]
theorem rN_apply (y : FVec Ideal S16384x1024 .f32) (g b : FVec Ideal S1024 .f32) (r : Fin 16384) (c : Fin 1024) :
    rN y g b (ix2 r c) = norm (fun e => y (ix2 r e)) c (g (ix1 c)) (b (ix1 c)) := by
  pointwise [rN, Cert.Kernel2Ideal.Ffn.norm, rM_apply]

theorem rO_apply (x : FVec Ideal S16384x1024 .f32) (w1 w3 : FVec Ideal S1024x2816 .f32) (w2 : FVec Ideal S2816x1024 .f32) (g b : FVec Ideal S1024 .f32)
    (r : Fin 16384) (c : Fin 1024) :
    rO x w1 w3 w2 g b (ix2 r c) = elem (fun e => x (ix2 r e)) (fun e k => w1 (ix2 e k)) (fun e k => w3 (ix2 e k)) (fun k c => w2 (ix2 k c)) c (g (ix1 c)) (b (ix1 c)) := by
  unfold rO
  rw [rN_apply]
  simp only [rC_apply, rY_apply, rW_apply, rG_apply, rH_apply]
  rfl
end Cert.Reference2Ideal.Ffn
-- ==== Proof.FfnValue.lean ====
/- The feed-forward call's output array is the reference's result, whatever the arguments. -/
module
public import proofs.«01_k».proof.Proof.FfnTile
public import proofs.«01_k».proof.Proof.FfnRef
@[expose] public section
set_option maxRecDepth 16384
noncomputable section
namespace Cert.Kernel2Ideal.Ffn
open Cert.Kernel2Ideal Cert.Kernel2Ideal.Gen Idealize.ShloMosaic Idealize.ShloMosaic.TcCoe Idealize.SL.Sem
open Idealize.ShloMosaic.StableHlo

section Vectors
variable {F : FTy → Type} [FloatOps F] (m : (ℓ : Loc nD τ sig) → Buf (Elt F) ℓ) (c : Dev nD)
/-- What the host computes before the call: the weights' casts, and the norm's parameters as rows. -/
theorem V_w1 : V m c main_v0 = truncf .bf16 (m (c, Proc.tc.devRef main_arg1) : FVec F S1024x2816 .f32) bitsLt_bf16_f32 := by
  show StableHlo.after (hostOps0 ++ []) (fun b => m (c, b)) (Proc.tc.devRef main_v0) = _
  simp only [List.cons_append, List.nil_append]
  after_results
theorem V_w3 : V m c main_v1 = truncf .bf16 (m (c, Proc.tc.devRef main_arg2) : FVec F S1024x2816 .f32) bitsLt_bf16_f32 := by
  show StableHlo.after (hostOps0 ++ []) (fun b => m (c, b)) (Proc.tc.devRef main_v1) = _
  simp only [List.cons_append, List.nil_append]
  after_results
theorem V_w2 : V m c main_v2 = truncf .bf16 (m (c, Proc.tc.devRef main_arg3) : FVec F S2816x1024 .f32) bitsLt_bf16_f32 := by
  show StableHlo.after (hostOps0 ++ []) (fun b => m (c, b)) (Proc.tc.devRef main_v2) = _
  simp only [List.cons_append, List.nil_append]
  after_results
theorem V_g : V m c main_v3 = broadcastInDim S1x1024 ![1] bcast_S1024_S1x1024_1 (m (c, Proc.tc.devRef main_arg4) : FVec F S1024 .f32) := by
  show StableHlo.after (hostOps0 ++ []) (fun b => m (c, b)) (Proc.tc.devRef main_v3) = _
  simp only [List.cons_append, List.nil_append]
  after_results
theorem V_b : V m c main_v4 = broadcastInDim S1x1024 ![1] bcast_S1024_S1x1024_1 (m (c, Proc.tc.devRef main_arg5) : FVec F S1024 .f32) := by
  show StableHlo.after (hostOps0 ++ []) (fun b => m (c, b)) (Proc.tc.devRef main_v4) = _
  simp only [List.cons_append, List.nil_append]
  after_results
theorem V_x : V m c main_arg0 = m (c, Proc.tc.devRef main_arg0) := V_main_arg0 m c
end Vectors

theorem row_apply (g : FVec Ideal S1024 .f32) (k : Fin 1024) : broadcastInDim S1x1024 ![1] bcast_S1024_S1x1024_1 g (ix2 0 k) = g (ix1 k) := by
  pointwise []

theorem idx0 : ∀ t : Fin cfg0.N, win0_0.index t = ![(grid0.coords t 0).val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![(grid0.coords t 0).val, 0] := by decide +kernel

/-- Each window's block, read off any array. -/
theorem rd0 (A : FVec Ideal S16384x1024 .f32) (t : Fin cfg0.N) (r : Fin 512) (e : Fin 1024) (R : Fin 16384) (hR : R.val = (grid0.coords t 0).val * 512 + r.val) :
    ((cfg0.win 0).blk t).view.read (Elt Ideal) A (ix2 r e) = A (ix2 R e) := by
  blk_ext [idx0 t]
theorem rd1 (A : FVec Ideal S1024x2816 .bf16) (t : Fin cfg0.N) (e : Fin 1024) (k : Fin 2816) :
    ((cfg0.win 1).blk t).view.read (Elt Ideal) A (ix2 e k) = A (ix2 e k) := by
  blk_ext [idx1 t]
theorem rd2 (A : FVec Ideal S1024x2816 .bf16) (t : Fin cfg0.N) (e : Fin 1024) (k : Fin 2816) :
    ((cfg0.win 2).blk t).view.read (Elt Ideal) A (ix2 e k) = A (ix2 e k) := by
  blk_ext [idx2 t]
theorem rd3 (A : FVec Ideal S2816x1024 .bf16) (t : Fin cfg0.N) (k : Fin 2816) (e : Fin 1024) :
    ((cfg0.win 3).blk t).view.read (Elt Ideal) A (ix2 k e) = A (ix2 k e) := by
  blk_ext [idx3 t]
theorem rd4 (A : FVec Ideal S1x1024 .f32) (t : Fin cfg0.N) (e : Fin 1024) :
    ((cfg0.win 4).blk t).view.read (Elt Ideal) A (ix2 0 e) = A (ix2 0 e) := by
  blk_ext [idx4 t]
theorem rd5 (A : FVec Ideal S1x1024 .f32) (t : Fin cfg0.N) (e : Fin 1024) :
    ((cfg0.win 5).blk t).view.read (Elt Ideal) A (ix2 0 e) = A (ix2 0 e) := by
  blk_ext [idx5 t]

variable (m : (ℓ : Loc nD τ sig) → Buf (Elt Ideal) ℓ) (c : Dev nD)
theorem blk0 (t : Fin cfg0.N) (r : Fin 512) (e : Fin 1024) (R : Fin 16384) (hR : R.val = (grid0.coords t 0).val * 512 + r.val) :
    iblk m c 0 t (ix2 r e) = (m (c, Proc.tc.devRef main_arg0) : FVec Ideal S16384x1024 .f32) (ix2 R e) :=
  (rd0 (V m c main_arg0) t r e R hR).trans (congrFun (V_x m c) _)
theorem blk1 (t : Fin cfg0.N) (e : Fin 1024) (k : Fin 2816) :
    iblk m c 1 t (ix2 e k) = (m (c, Proc.tc.devRef main_arg1) : FVec Ideal S1024x2816 .f32) (ix2 e k) :=
  (rd1 (V m c main_v0) t e k).trans (congrFun (V_w1 m c) _)
theorem blk2 (t : Fin cfg0.N) (e : Fin 1024) (k : Fin 2816) :
    iblk m c 2 t (ix2 e k) = (m (c, Proc.tc.devRef main_arg2) : FVec Ideal S1024x2816 .f32) (ix2 e k) :=
  (rd2 (V m c main_v1) t e k).trans (congrFun (V_w3 m c) _)
theorem blk3 (t : Fin cfg0.N) (k : Fin 2816) (e : Fin 1024) :
    iblk m c 3 t (ix2 k e) = (m (c, Proc.tc.devRef main_arg3) : FVec Ideal S2816x1024 .f32) (ix2 k e) :=
  (rd3 (V m c main_v2) t k e).trans (congrFun (V_w2 m c) _)
theorem blk4 (t : Fin cfg0.N) (e : Fin 1024) :
    iblk m c 4 t (ix2 0 e) = (m (c, Proc.tc.devRef main_arg4) : FVec Ideal S1024 .f32) (ix1 e) :=
  (rd4 (V m c main_v3) t e).trans ((congrFun (V_g m c) _).trans (row_apply _ e))
theorem blk5 (t : Fin cfg0.N) (e : Fin 1024) :
    iblk m c 5 t (ix2 0 e) = (m (c, Proc.tc.devRef main_arg5) : FVec Ideal S1024 .f32) (ix1 e) :=
  (rd5 (V m c main_v4) t e).trans ((congrFun (V_b m c) _).trans (row_apply _ e))

theorem elem_congr {x x' : Fin 1024 → EReal} {w1 w1' w3 w3' : Fin 1024 → Fin 2816 → EReal} {w2 w2' : Fin 2816 → Fin 1024 → EReal} {g g' b b' : EReal} (k : Fin 1024)
    (h0 : ∀ e, x e = x' e) (h1 : ∀ e k, w1 e k = w1' e k) (h2 : ∀ e k, w3 e k = w3' e k) (h3 : ∀ k e, w2 k e = w2' k e) (h4 : g = g') (h5 : b = b') :
    elem x w1 w3 w2 k g b = elem x' w1' w3' w2' k g' b' := by
  obtain rfl : x = x' := funext h0
  obtain rfl : w1 = w1' := funext fun e => funext (h1 e)
  obtain rfl : w3 = w3' := funext fun e => funext (h2 e)
  obtain rfl : w2 = w2' := funext fun e => funext (h3 e)
  rw [h4, h5]

theorem arr_eq :
    (dats m 0 c).arrAt 6 cfg0.N = Reference2Ideal.Ffn.rO (F := Ideal) (m (c, Proc.tc.devRef main_arg0)) (m (c, Proc.tc.devRef main_arg1)) (m (c, Proc.tc.devRef main_arg2))
      (m (c, Proc.tc.devRef main_arg3)) (m (c, Proc.tc.devRef main_arg4)) (m (c, Proc.tc.devRef main_arg5)) := by
  refine (dats m 0 c).arrAt_eq_of_covers 6 _ (by decide +kernel) fun t hf y => ?_
  blk_simp
  rw [after0_6]
  obtain ⟨r, C, rfl⟩ : ∃ (r : Fin 512) (C : Fin 1024), y = ix2 r C := ⟨y 0, y 1, by funext a; fin_cases a <;> rfl⟩
  have b0 : (grid0.coords t 0).val < 32 := (grid0.coords t 0).isLt
  have e : ((cfg0.win 6).blk t).view.emb (ix2 r C) = ix2 (⟨(grid0.coords t 0).val * 512 + r.val, by omega⟩ : Fin 16384) C := by
    blk_ext [idx6 t]
  refine (out_apply _ _ _ _ _ _ r C).trans (Eq.trans ?_ (congrArg _ e.symm))
  rw [Reference2Ideal.Ffn.rO_apply]
  exact elem_congr C (fun k => blk0 m c t r k _ rfl) (fun k l => blk1 m c t k l) (fun k l => blk2 m c t k l) (fun k l => blk3 m c t k l) (blk4 m c t C) (blk5 m c t C)
end Cert.Kernel2Ideal.Ffn
-- ==== Proof.lean ====
module
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Pre_finite4
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Pre_finite3
public import proofs.«01_k».proof.Proof.DiffValue
public import proofs.«01_k».proof.Proof.DiffPre
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Launch
public import proofs.«01_k».proof.Proof.Gen.Kernel6.Skeleton
public import proofs.«01_k».proof.Proof.Gen.Kernel6.Points
public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Reference6Ideal.Run
public import proofs.«01_k».proof.Proof.InFrameBits
public import proofs.«01_k».proof.Proof.InValue
public import proofs.«01_k».proof.Proof.MixValue
public import proofs.«01_k».proof.Proof.FoxValue
public import proofs.«01_k».proof.Proof.FoxPre
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.FlashValue
public import proofs.«01_k».proof.Proof.FlashPre
public import proofs.«01_k».proof.Proof.FfnValue
public import Idealize.ShloMosaic.Adequacy
public import Idealize.ShloMosaic.Init
public import Idealize.ShloMosaic.Lib.Claim

@[expose] public section
noncomputable section

namespace Cert.Proof
open Idealize.ShloMosaic Idealize.SL.Sem

/-- The reference leaves its arguments alone and has no semaphore. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- On finite arguments the call and its reference leave the same array. -/
theorem flash_algebraic : Cert.algebraic_KernelIdeal_ReferenceIdeal_pre_finite := by
  intro m g m' g' hpre hagree
  refine ⟨fun c => (Cert.KernelIdeal.Gen.dats m 0 c).arrAt 3 Cert.KernelIdeal.cfg0.N, ?_, ?_⟩
  · exact Cert.KernelIdeal.Value.run_blocks m g
  · refine (θ_run Cert.ReferenceIdeal.defs _ _).mono (fun r h c => ⟨(h c).1.trans ?_, (h c).2⟩) (Cert.ReferenceIdeal.Value.run (F := Ideal) m' g')
    obtain ⟨⟨f0, h0⟩, ⟨f1, h1⟩, ⟨f2, h2⟩, ⟨f3, h3⟩⟩ := Cert.Pre_finite.Flash.finite_apply _ _ _ _ (fun k => Fin.elim0 k) (congrFun (hpre c) _)
    obtain ⟨a0, a1, a2, a3⟩ := hagree c
    refine Eq.trans ?_ (Cert.KernelIdeal.Flash.arr_eq m c f0 f1 f2 f3 h0 h1 h2 h3).symm
    refine (Cert.ReferenceIdeal.Flash.res_eq (F := Ideal) m' c).trans ?_
    rw [a0, a1, a2, a3, h0, h1, h2, h3]

/-- The feed-forward reference leaves its arguments alone and has no semaphore. -/
theorem ref_frame2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m g)

/-- Whatever the arguments, the feed-forward call and its reference leave the same array. -/
theorem ffn_algebraic : Cert.algebraic_Kernel2Ideal_Reference2Ideal := by
  intro m g m' g' _ hagree
  refine ⟨fun c => (Cert.Kernel2Ideal.Gen.dats m 0 c).arrAt 6 Cert.Kernel2Ideal.cfg0.N, ?_, ?_⟩
  · exact Cert.Kernel2Ideal.Value.run_blocks m g
  · refine (θ_run Cert.Reference2Ideal.defs _ _).mono (fun r h c => ⟨(h c).1.trans ?_, (h c).2⟩) (Cert.Reference2Ideal.Value.run (F := Ideal) m' g')
    obtain ⟨a0, a1, a2, a3, a4, a5⟩ := hagree c
    refine Eq.trans ?_ (Cert.Kernel2Ideal.Ffn.arr_eq m c).symm
    refine (Cert.Reference2Ideal.Ffn.res_eq (F := Ideal) m' c).trans ?_
    rw [a0, a1, a2, a3, a4, a5]

/-- The differential attention's reference leaves its arguments alone and has no semaphore. -/
theorem ref_frame3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m g)

/-- On finite arguments the differential attention's call and its reference leave the same array. -/
theorem diff_algebraic : Cert.algebraic_Kernel3Ideal_Reference3Ideal_pre_finite3 := by
  intro m g m' g' hpre hagree
  refine ⟨fun c => (Cert.Kernel3Ideal.Gen.dats m 0 c).arrAt 3 Cert.Kernel3Ideal.cfg0.N, ?_, ?_⟩
  · exact Cert.Kernel3Ideal.Value.run_blocks m g
  · refine (θ_run Cert.Reference3Ideal.defs _ _).mono (fun r h c => ⟨(h c).1.trans ?_, (h c).2⟩) (Cert.Reference3Ideal.Value.run (F := Ideal) m' g')
    obtain ⟨⟨f0, h0⟩, ⟨f1, h1⟩, ⟨f2, h2⟩⟩ := Cert.Pre_finite3.Diff.finite_apply _ _ _ (fun k => Fin.elim0 k) (congrFun (hpre c) _)
    obtain ⟨a0, a1, a2⟩ := hagree c
    refine Eq.trans ?_ (Cert.Kernel3Ideal.Diff.arr_eq m c f0 f1 f2 h0 h1 h2).symm
    refine (Cert.Reference3Ideal.Diff.res_eq (F := Ideal) m' c).trans ?_
    rw [a0, a1, a2, h0, h1, h2]

/-- The forgetting attention's reference leaves its arguments alone and has no semaphore. -/
theorem ref_frame4 (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0) :=
  (θ_run Cert.Reference4Ideal.defs _ _).mono (fun r h => ⟨fun c => (h c).2, sem_eq_zero_of_no_sems (by decide) r.2⟩)
    (Cert.Reference4Ideal.Value.run (F := Ideal) m g)

/-- On finite arguments the forgetting attention's call and its reference leave the same array. -/
theorem fox_algebraic : Cert.algebraic_Kernel4Ideal_Reference4Ideal_pre_finite4 := by
  intro m g m' g' hpre hagree
  refine ⟨fun c => (Cert.Kernel4Ideal.Gen.dats m 0 c).arrAt 4 Cert.Kernel4Ideal.cfg0.N, ?_, ?_⟩
  · exact Cert.Kernel4Ideal.Value.run_blocks m g
  · refine (θ_run Cert.Reference4Ideal.defs _ _).mono (fun r h c => ⟨(h c).1.trans ?_, (h c).2⟩) (Cert.Reference4Ideal.Value.run (F := Ideal) m' g')
    obtain ⟨⟨f0, h0⟩, ⟨f1, h1⟩, ⟨f2, h2⟩, ⟨f3, h3⟩⟩ := Cert.Pre_finite4.Fox.finite_apply _ _ _ _ (fun k => Fin.elim0 k) (congrFun (hpre c) _)
    obtain ⟨a0, a1, a2, a3⟩ := hagree c
    refine Eq.trans ?_ (Cert.Kernel4Ideal.Fox.arr_eq m c f0 f1 f2 f3 h0 h1 h2 h3).symm
    refine (Cert.Reference4Ideal.Fox.res_eq (F := Ideal) m' c).trans ?_
    rw [a0, a1, a2, a3, h0, h1, h2, h3]

/-- The constant the forgetting attention's kernel names `log2e` stands for the real `1 / log 2`. -/
theorem fox_preserves : Cert.preserves_Kernel4_Kernel4Ideal :=
  IdealRules.named_const.statement Cert.Kernel4Ideal.κ "log2e" .f32 0x3FB8AA3B#32 (((Real.log 2)⁻¹ : ℝ) : EReal) rfl

/-- The output projection's reference leaves its arguments alone and has no semaphore. -/
theorem ref_frame5 (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0) :=
  (θ_run Cert.Reference5Ideal.defs _ _).mono (fun r h => ⟨fun c => (h c).2, sem_eq_zero_of_no_sems (by decide) r.2⟩)
    (Cert.Reference5Ideal.Value.run (F := Ideal) m g)

/-- Whatever the arguments, the output projection's call and its reference leave the same array. -/
theorem mix_algebraic : Cert.algebraic_Kernel5Ideal_Reference5Ideal := by
  intro m g m' g' _ hagree
  refine ⟨fun c => (Cert.Kernel5Ideal.Gen.dats m 0 c).arrAt 15 Cert.Kernel5Ideal.cfg0.N, ?_, ?_⟩
  · exact Cert.Kernel5Ideal.Value.run_blocks m g
  · refine (θ_run Cert.Reference5Ideal.defs _ _).mono (fun r h c => ⟨(h c).1.trans ?_, (h c).2⟩) (Cert.Reference5Ideal.Value.run (F := Ideal) m' g')
    obtain ⟨a0, a1, a2, a3, a4, a5, a6, a7, a8, a9, a10, a11⟩ := hagree c
    refine Eq.trans ?_ (Cert.Kernel5Ideal.Mix.arr_eq m c).symm
    refine (Cert.Reference5Ideal.Mix.res_eq (F := Ideal) m' c).trans ?_
    rw [a0, a1, a2, a3, a4, a5, a6, a7, a8, a9, a10, a11]

/-- The input projections' reference leaves its arguments alone and has no semaphore. -/
theorem ref_frame6 (m : (ℓ : Loc Cert.Reference6Ideal.nD Cert.Reference6Ideal.τ Cert.Reference6Ideal.sig) → Buf (Elt Ideal) ℓ)
    (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0) :=
  (θ_run Cert.Reference6Ideal.defs _ _).mono (fun r h => ⟨fun c => (h c).2.2.2.2.2.2.2.2.2.2.2.2, sem_eq_zero_of_no_sems (by decide) r.2⟩)
    (Cert.Reference6Ideal.Value.run (F := Ideal) m g)

set_option maxHeartbeats 4000000 in
/-- Whatever the arguments, the sample's input projections and their reference leave the same arrays. -/
theorem in_algebraic : Cert.algebraic_Kernel6Ideal_Reference6Ideal := by
  intro m g m' g' _ hagree
  refine ⟨_, _, _, _, _, _, _, _, _, _, _, _, Cert.Kernel6Ideal.In.run_blocks m g, ?_⟩
  · refine (θ_run Cert.Reference6Ideal.defs _ _).mono (fun r h c => ?_) (Cert.Reference6Ideal.In.run (F := Ideal) m' g')
    obtain ⟨a0, a1, a2, a3, a4, a5, a6⟩ := hagree c
    obtain ⟨h0, h1, h2, h3, h4, h5, h6, h7, h8, h9, h10, h11, kept⟩ := h c
    refine ⟨h0.trans ?_, h1.trans ?_, h2.trans ?_, h3.trans ?_, h4.trans ?_, h5.trans ?_, h6.trans ?_, h7.trans ?_, h8.trans ?_, h9.trans ?_, h10.trans ?_, h11.trans ?_, kept⟩
    · refine Eq.trans ?_ (Cert.Kernel6Ideal.In.arr9_eq m c).symm
      rw [a0, a1]
    · refine Eq.trans ?_ (Cert.Kernel6Ideal.In.arr10_eq m c).symm
      rw [a0, a1, a3, a4, a6]
    · refine Eq.trans ?_ (Cert.Kernel6Ideal.In.arr11_eq m c).symm
      rw [a0, a1, a3, a4]
    · refine Eq.trans ?_ (Cert.Kernel6Ideal.In.arr12_eq m c).symm
      rw [a0, a1]
    · refine Eq.trans ?_ (Cert.Kernel6Ideal.In.arr13_eq m c).symm
      rw [a0, a1]
    · refine Eq.trans ?_ (Cert.Kernel6Ideal.In.arr14_eq m c).symm
      rw [a0, a1]
    · refine Eq.trans ?_ (Cert.Kernel6Ideal.In.arr15_eq m c).symm
      rw [a0, a1, a5]
    · refine Eq.trans ?_ (Cert.Kernel6Ideal.In.arr16_eq m c).symm
      rw [a0, a1]
    · refine Eq.trans ?_ (Cert.Kernel6Ideal.In.arr17_eq m c).symm
      rw [a0, a1]
    · refine Eq.trans ?_ (Cert.Kernel6Ideal.In.arr18_eq m c).symm
      rw [a0, a1]
    · refine Eq.trans ?_ (Cert.Kernel6Ideal.In.arr19_eq m c).symm
      rw [a0, a1, a2]
    · refine Eq.trans ?_ (Cert.Kernel6Ideal.In.arr20_eq m c).symm
      rw [a0, a1, a2]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_finite3.Gen.facts, Cert.Pre_finite4.Gen.facts,
  fun m g _ => Cert.Kernel.Gen.frame m g,
  fun m g _ => Cert.KernelIdeal.Gen.frame m g,
  fun m g _ => Cert.KernelIdeal.Gen.frame m g,
  fun m g _ => ref_frame m g,
  fun m g _ => ref_frame m g,
  fun m g _ => Cert.Kernel2.Gen.frame m g,
  fun m g _ => Cert.Kernel2Ideal.Gen.frame m g,
  fun m g _ => ref_frame2 m g,
  fun m g _ => Cert.Kernel3.Gen.frame m g,
  fun m g _ => Cert.Kernel3Ideal.Gen.frame m g,
  fun m g _ => Cert.Kernel3Ideal.Gen.frame m g,
  fun m g _ => ref_frame3 m g,
  fun m g _ => ref_frame3 m g,
  fun m g _ => Cert.Kernel4.Gen.frame m g,
  fun m g _ => Cert.Kernel4Ideal.Gen.frame m g,
  fun m g _ => Cert.Kernel4Ideal.Gen.frame m g,
  fun m g _ => ref_frame4 m g,
  fun m g _ => ref_frame4 m g,
  fun m g _ => Cert.Kernel5.Gen.frame m g,
  fun m g _ => Cert.Kernel5Ideal.Gen.frame m g,
  fun m g _ => ref_frame5 m g,
  fun m g _ => Cert.Kernel6.In.frame m g,
  fun m g _ => Cert.Kernel6Ideal.In.frame m g,
  fun m g _ => ref_frame6 m g,
  trivial,
  flash_algebraic,
  trivial,
  ffn_algebraic,
  trivial,
  diff_algebraic,
  fox_preserves,
  fox_algebraic,
  trivial,
  mix_algebraic,
  trivial,
  in_algebraic⟩

end Cert.Proof
end
